-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v72_0)) (v1 : (c : Dev Cert.KernelIdeal.nD) → Buf (Elt Ideal) ((c.tc : Thread Cert.KernelIdeal.nD Cert.KernelIdeal.τ).loc Cert.KernelIdeal.main_v72_1)) (v2 : (c : Dev Cert.KernelIdeal.nD) → Buf (Elt Ideal) ((c.tc : Thread Cert.KernelIdeal.nD Cert.KernelIdeal.τ).loc Cert.KernelIdeal.main_v72_2)) (v3 : (c : Dev Cert.KernelIdeal.nD) → Buf (Elt Ideal) ((c.tc : Thread Cert.KernelIdeal.nD Cert.KernelIdeal.τ).loc Cert.KernelIdeal.main_v72_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72_0) = v0 c
          ∧ r.2.mem ((c.tc : Thread Cert.KernelIdeal.nD Cert.KernelIdeal.τ).loc Cert.KernelIdeal.main_v72_1) = v1 c
          ∧ r.2.mem ((c.tc : Thread Cert.KernelIdeal.nD Cert.KernelIdeal.τ).loc Cert.KernelIdeal.main_v72_2) = v2 c
          ∧ r.2.mem ((c.tc : Thread Cert.KernelIdeal.nD Cert.KernelIdeal.τ).loc Cert.KernelIdeal.main_v72_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v486) = v0 c
          ∧ r.2.mem ((c.tc : Thread Cert.ReferenceIdeal.nD Cert.ReferenceIdeal.τ).loc Cert.ReferenceIdeal.main_v489) = v1 c
          ∧ r.2.mem ((c.tc : Thread Cert.ReferenceIdeal.nD Cert.ReferenceIdeal.τ).loc Cert.ReferenceIdeal.main_v496) = v2 c
          ∧ r.2.mem ((c.tc : Thread Cert.ReferenceIdeal.nD Cert.ReferenceIdeal.τ).loc Cert.ReferenceIdeal.main_v498) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v76)) (v1 : (c : Dev Cert.Kernel2Ideal.nD) → Buf (Elt Ideal) ((c.tc : Thread Cert.Kernel2Ideal.nD Cert.Kernel2Ideal.τ).loc Cert.Kernel2Ideal.main_v79)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v76) = v0 c
          ∧ r.2.mem ((c.tc : Thread Cert.Kernel2Ideal.nD Cert.Kernel2Ideal.τ).loc Cert.Kernel2Ideal.main_v79) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v105) = v0 c
          ∧ r.2.mem ((c.tc : Thread Cert.Reference2Ideal.nD Cert.Reference2Ideal.τ).loc Cert.Reference2Ideal.main_v106) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v138)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v138) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v135) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v34)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v34) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v138)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v138) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v135) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S20480x16384 : Shape := ⟨2, ![20480, 16384]⟩
abbrev S20480x128 : Shape := ⟨2, ![20480, 128]⟩
abbrev S2x4 : Shape := ⟨2, ![2, 4]⟩
abbrev S16x2x4x128x256 : Shape := ⟨5, ![16, 2, 4, 128, 256]⟩
abbrev S16x2x4x128 : Shape := ⟨4, ![16, 2, 4, 128]⟩
abbrev S16x2x4 : Shape := ⟨3, ![16, 2, 4]⟩
abbrev S256 : Shape := ⟨1, ![256]⟩
abbrev S4096x128 : Shape := ⟨2, ![4096, 128]⟩
abbrev S16x256x128 : Shape := ⟨3, ![16, 256, 128]⟩
abbrev S16x256x8 : Shape := ⟨3, ![16, 256, 8]⟩
abbrev S16x256x2x4 : Shape := ⟨4, ![16, 256, 2, 4]⟩
abbrev S1x1x2x4 : Shape := ⟨4, ![1, 1, 2, 4]⟩
abbrev S_ : Shape := ⟨0, ![]⟩
abbrev S16x256x1x4 : Shape := ⟨4, ![16, 256, 1, 4]⟩
abbrev S16x256x4 : Shape := ⟨3, ![16, 256, 4]⟩
abbrev S16x4x64x4 : Shape := ⟨4, ![16, 4, 64, 4]⟩
abbrev S16x4x4x64 : Shape := ⟨4, ![16, 4, 4, 64]⟩
abbrev S16x4x4x1 : Shape := ⟨4, ![16, 4, 4, 1]⟩
abbrev S16x4x4 : Shape := ⟨3, ![16, 4, 4]⟩
abbrev S16x4x4x128 : Shape := ⟨4, ![16, 4, 4, 128]⟩
abbrev S16x4x4x1x128 : Shape := ⟨5, ![16, 4, 4, 1, 128]⟩
abbrev S16x4x4x8x128 : Shape := ⟨5, ![16, 4, 4, 8, 128]⟩
abbrev S16x2x4x1x1 : Shape := ⟨5, ![16, 2, 4, 1, 1]⟩
abbrev S16x2x4x1x128 : Shape := ⟨5, ![16, 2, 4, 1, 128]⟩
abbrev S1x256 : Shape := ⟨2, ![1, 256]⟩
abbrev S4096x1024 : Shape := ⟨2, ![4096, 1024]⟩
abbrev S256x128 : Shape := ⟨2, ![256, 128]⟩
abbrev S256x256 : Shape := ⟨2, ![256, 256]⟩
abbrev S1x1x4x8x128 : Shape := ⟨5, ![1, 1, 4, 8, 128]⟩
abbrev S1x2x1x128x256 : Shape := ⟨5, ![1, 2, 1, 128, 256]⟩
abbrev S1x2x1x1x128 : Shape := ⟨5, ![1, 2, 1, 1, 128]⟩
abbrev S2x256x256 : Shape := ⟨3, ![2, 256, 256]⟩
abbrev S2x128x256 : Shape := ⟨3, ![2, 128, 256]⟩
abbrev S2x1x128 : Shape := ⟨3, ![2, 1, 128]⟩
abbrev S64x64 : Shape := ⟨2, ![64, 64]⟩
abbrev S64x128 : Shape := ⟨2, ![64, 128]⟩
abbrev S64x256 : Shape := ⟨2, ![64, 256]⟩
abbrev S1x1x1x8x128 : Shape := ⟨5, ![1, 1, 1, 8, 128]⟩
abbrev S8x128 : Shape := ⟨2, ![8, 128]⟩
abbrev S1x64 : Shape := ⟨2, ![1, 64]⟩
abbrev S1x128 : Shape := ⟨2, ![1, 128]⟩
abbrev S64 : Shape := ⟨1, ![64]⟩
abbrev S64x1 : Shape := ⟨2, ![64, 1]⟩
abbrev S1x1 : Shape := ⟨2, ![1, 1]⟩
abbrev S128x256 : Shape := ⟨2, ![128, 256]⟩
abbrev S128 : Shape := ⟨1, ![128]⟩
abbrev S1x128x256 : Shape := ⟨3, ![1, 128, 256]⟩
abbrev S1x1x128 : Shape := ⟨3, ![1, 1, 128]⟩
abbrev S1x64x256 : Shape := ⟨3, ![1, 64, 256]⟩
abbrev S1x256x256 : Shape := ⟨3, ![1, 256, 256]⟩
abbrev S256x1 : Shape := ⟨2, ![256, 1]⟩

abbrev nBuf : Space → Nat
  | .hbm => 113
  | .vmem => 29
  | .smem => 0
  | _ => 0

abbrev bufTy : (tb : Table) → Fin (tcTables nBuf tb) → BufTy
  | .hbm, ⟨0, _⟩ => ⟨S20480x16384, .f32⟩
  | .hbm, ⟨1, _⟩ => ⟨S20480x128, .f32⟩
  | .hbm, ⟨2, _⟩ => ⟨S2x4, .f32⟩
  | .hbm, ⟨3, _⟩ => ⟨S2x4, .f32⟩
  | .hbm, ⟨4, _⟩ => ⟨S16x2x4x128x256, .f32⟩
  | .hbm, ⟨5, _⟩ => ⟨S16x2x4x128, .f32⟩
  | .hbm, ⟨6, _⟩ => ⟨S16x2x4, .f32⟩
  | .hbm, ⟨7, _⟩ => ⟨S256, .f32⟩
  | .hbm, ⟨8, _⟩ => ⟨S4096x128, .f32⟩
  | .hbm, ⟨9, _⟩ => ⟨S16x256x128, .f32⟩
  | .hbm, ⟨10, _⟩ => ⟨S16x256x8, .f32⟩
  | .hbm, ⟨11, _⟩ => ⟨S16x256x8, .f32⟩
  | .hbm, ⟨12, _⟩ => ⟨S16x256x2x4, .f32⟩
  | .hbm, ⟨13, _⟩ => ⟨S1x1x2x4, .f32⟩
  | .hbm, ⟨14, _⟩ => ⟨S16x256x2x4, .f32⟩
  | .hbm, ⟨15, _⟩ => ⟨S16x256x2x4, .f32⟩
  | .hbm, ⟨16, _⟩ => ⟨S16x256x2x4, .f32⟩
  | .hbm, ⟨17, _⟩ => ⟨S1x1x2x4, .f32⟩
  | .hbm, ⟨18, _⟩ => ⟨S16x256x2x4, .f32⟩
  | .hbm, ⟨19, _⟩ => ⟨S16x256x2x4, .f32⟩
  | .hbm, ⟨20, _⟩ => ⟨S16x256x2x4, .f32⟩
  | .hbm, ⟨21, _⟩ => ⟨S_, .f32⟩
  | .hbm, ⟨22, _⟩ => ⟨S16x256x2x4, .f32⟩
  | .hbm, ⟨23, _⟩ => ⟨S16x256x2x4, .f32⟩
  | .hbm, ⟨24, _⟩ => ⟨S16x256x2x4, .f32⟩
  | .hbm, ⟨25, _⟩ => ⟨S16x256x2x4, .f32⟩
  | .hbm, ⟨26, _⟩ => ⟨S16x256x2x4, .i1⟩
  | .hbm, ⟨27, _⟩ => ⟨S16x256x2x4, .f32⟩
  | .hbm, ⟨28, _⟩ => ⟨S16x256x2x4, .f32⟩
  | .hbm, ⟨29, _⟩ => ⟨S16x256x2x4, .f32⟩
  | .hbm, ⟨30, _⟩ => ⟨S16x256x2x4, .f32⟩
  | .hbm, ⟨31, _⟩ => ⟨S16x256x2x4, .f32⟩
  | .hbm, ⟨32, _⟩ => ⟨S16x256x2x4, .f32⟩
  | .hbm, ⟨33, _⟩ => ⟨S16x256x2x4, .f32⟩
  | .hbm, ⟨34, _⟩ => ⟨S16x256x2x4, .f32⟩
  | .hbm, ⟨35, _⟩ => ⟨S16x256x2x4, .f32⟩
  | .hbm, ⟨36, _⟩ => ⟨S16x256x1x4, .f32⟩
  | .hbm, ⟨37, _⟩ => ⟨S16x256x4, .f32⟩
  | .hbm, ⟨38, _⟩ => ⟨S16x4x64x4, .f32⟩
  | .hbm, ⟨39, _⟩ => ⟨S16x4x4x64, .f32⟩
  | .hbm, ⟨40, _⟩ => ⟨S16x256x1x4, .f32⟩
  | .hbm, ⟨41, _⟩ => ⟨S16x256x4, .f32⟩
  | .hbm, ⟨42, _⟩ => ⟨S16x4x64x4, .f32⟩
  | .hbm, ⟨43, _⟩ => ⟨S16x4x4x64, .f32⟩
  | .hbm, ⟨44, _⟩ => ⟨S16x256x1x4, .f32⟩
  | .hbm, ⟨45, _⟩ => ⟨S16x256x4, .f32⟩
  | .hbm, ⟨46, _⟩ => ⟨S16x4x64x4, .f32⟩
  | .hbm, ⟨47, _⟩ => ⟨S16x4x4x64, .f32⟩
  | .hbm, ⟨48, _⟩ => ⟨S_, .f32⟩
  | .hbm, ⟨49, _⟩ => ⟨S_, .f32⟩
  | .hbm, ⟨50, _⟩ => ⟨S16x4x4x64, .f32⟩
  | .hbm, ⟨51, _⟩ => ⟨S16x256x1x4, .f32⟩
  | .hbm, ⟨52, _⟩ => ⟨S16x256x4, .f32⟩
  | .hbm, ⟨53, _⟩ => ⟨S16x4x64x4, .f32⟩
  | .hbm, ⟨54, _⟩ => ⟨S16x4x4x64, .f32⟩
  | .hbm, ⟨55, _⟩ => ⟨S16x4x4x64, .f32⟩
  | .hbm, ⟨56, _⟩ => ⟨S_, .f32⟩
  | .hbm, ⟨57, _⟩ => ⟨S_, .f32⟩
  | .hbm, ⟨58, _⟩ => ⟨S16x4x4x64, .f32⟩
  | .hbm, ⟨59, _⟩ => ⟨S16x4x4x64, .f32⟩
  | .hbm, ⟨60, _⟩ => ⟨S16x4x4x1, .f32⟩
  | .hbm, ⟨61, _⟩ => ⟨S16x4x4, .f32⟩
  | .hbm, ⟨62, _⟩ => ⟨S16x4x4x1, .f32⟩
  | .hbm, ⟨63, _⟩ => ⟨S16x4x4, .f32⟩
  | .hbm, ⟨64, _⟩ => ⟨S16x4x4x1, .f32⟩
  | .hbm, ⟨65, _⟩ => ⟨S16x4x4x64, .f32⟩
  | .hbm, ⟨66, _⟩ => ⟨S16x4x4x64, .f32⟩
  | .hbm, ⟨67, _⟩ => ⟨S16x4x4x64, .f32⟩
  | .hbm, ⟨68, _⟩ => ⟨S_, .f32⟩
  | .hbm, ⟨69, _⟩ => ⟨S16x4x4, .f32⟩
  | .hbm, ⟨70, _⟩ => ⟨S16x4x4x1, .f32⟩
  | .hbm, ⟨71, _⟩ => ⟨S16x4x4x64, .f32⟩
  | .hbm, ⟨72, _⟩ => ⟨S16x4x4x64, .f32⟩
  | .hbm, ⟨73, _⟩ => ⟨S16x4x4x64, .f32⟩
  | .hbm, ⟨74, _⟩ => ⟨S_, .f32⟩
  | .hbm, ⟨75, _⟩ => ⟨S16x4x4, .f32⟩
  | .hbm, ⟨76, _⟩ => ⟨S_, .i32⟩
  | .hbm, ⟨77, _⟩ => ⟨S_, .f32⟩
  | .hbm, ⟨78, _⟩ => ⟨S16x4x4x128, .f32⟩
  | .hbm, ⟨79, _⟩ => ⟨S_, .i32⟩
  | .hbm, ⟨80, _⟩ => ⟨S_, .f32⟩
  | .hbm, ⟨81, _⟩ => ⟨S16x4x4x128, .f32⟩
  | .hbm, ⟨82, _⟩ => ⟨S_, .i32⟩
  | .hbm, ⟨83, _⟩ => ⟨S_, .f32⟩
  | .hbm, ⟨84, _⟩ => ⟨S16x4x4x128, .f32⟩
  | .hbm, ⟨85, _⟩ => ⟨S_, .i32⟩
  | .hbm, ⟨86, _⟩ => ⟨S_, .f32⟩
  | .hbm, ⟨87, _⟩ => ⟨S16x4x4x128, .f32⟩
  | .hbm, ⟨88, _⟩ => ⟨S16x4x4x1, .f32⟩
  | .hbm, ⟨89, _⟩ => ⟨S16x4x4x128, .f32⟩
  | .hbm, ⟨90, _⟩ => ⟨S16x4x4x1, .f32⟩
  | .hbm, ⟨91, _⟩ => ⟨S16x4x4x128, .f32⟩
  | .hbm, ⟨92, _⟩ => ⟨S16x4x4x1, .f32⟩
  | .hbm, ⟨93, _⟩ => ⟨S16x4x4x128, .f32⟩
  | .hbm, ⟨94, _⟩ => ⟨S16x4x4x1, .f32⟩
  | .hbm, ⟨95, _⟩ => ⟨S16x4x4x128, .f32⟩
  | .hbm, ⟨96, _⟩ => ⟨S16x4x4x1x128, .f32⟩
  | .hbm, ⟨97, _⟩ => ⟨S16x4x4x1x128, .f32⟩
  | .hbm, ⟨98, _⟩ => ⟨S16x4x4x1x128, .f32⟩
  | .hbm, ⟨99, _⟩ => ⟨S16x4x4x1x128, .f32⟩
  | .hbm, ⟨100, _⟩ => ⟨S16x4x4x1x128, .f32⟩
  | .hbm, ⟨101, _⟩ => ⟨S16x4x4x1x128, .f32⟩
  | .hbm, ⟨102, _⟩ => ⟨S16x4x4x1x128, .f32⟩
  | .hbm, ⟨103, _⟩ => ⟨S16x4x4x1x128, .f32⟩
  | .hbm, ⟨104, _⟩ => ⟨S16x4x4x8x128, .f32⟩
  | .hbm, ⟨105, _⟩ => ⟨S16x2x4x1x1, .f32⟩
  | .hbm, ⟨106, _⟩ => ⟨S16x2x4x1x128, .f32⟩
  | .hbm, ⟨107, _⟩ => ⟨S16x2x4x1x128, .f32⟩
  | .hbm, ⟨108, _⟩ => ⟨S1x256, .f32⟩
  | .hbm, ⟨109, _⟩ => ⟨S4096x1024, .f32⟩
  | .hbm, ⟨110, _⟩ => ⟨S16x2x4x128x256, .f32⟩
  | .hbm, ⟨111, _⟩ => ⟨S16x2x4x1x128, .f32⟩
  | .hbm, ⟨112, _⟩ => ⟨S16x2x4x1x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S1x1x4x8x128, .f32⟩
  | .local _ .vmem, ⟨9, _⟩ => ⟨S1x1x4x8x128, .f32⟩
  | .local _ .vmem, ⟨10, _⟩ => ⟨S1x2x1x128x256, .f32⟩
  | .local _ .vmem, ⟨11, _⟩ => ⟨S1x2x1x128x256, .f32⟩
  | .local _ .vmem, ⟨12, _⟩ => ⟨S1x2x1x1x128, .f32⟩
  | .local _ .vmem, ⟨13, _⟩ => ⟨S1x2x1x1x128, .f32⟩
  | .local _ .vmem, ⟨14, _⟩ => ⟨S1x2x1x1x128, .f32⟩
  | .local _ .vmem, ⟨15, _⟩ => ⟨S1x2x1x1x128, .f32⟩
  | .local _ .vmem, ⟨16, _⟩ => ⟨S1x256, .f32⟩
  | .local _ .vmem, ⟨17, _⟩ => ⟨S256x256, .f32⟩
  | .local _ .vmem, ⟨18, _⟩ => ⟨S256x256, .f32⟩
  | .local _ .vmem, ⟨19, _⟩ => ⟨S1x2x1x128x256, .f32⟩
  | .local _ .vmem, ⟨20, _⟩ => ⟨S1x2x1x128x256, .f32⟩
  | .local _ .vmem, ⟨21, _⟩ => ⟨S1x2x1x1x128, .f32⟩
  | .local _ .vmem, ⟨22, _⟩ => ⟨S1x2x1x1x128, .f32⟩
  | .local _ .vmem, ⟨23, _⟩ => ⟨S1x2x1x1x128, .f32⟩
  | .local _ .vmem, ⟨24, _⟩ => ⟨S1x2x1x1x128, .f32⟩
  | .local _ .vmem, ⟨25, _⟩ => ⟨S2x256x256, .f32⟩
  | .local _ .vmem, ⟨26, _⟩ => ⟨S2x128x256, .f32⟩
  | .local _ .vmem, ⟨27, _⟩ => ⟨S2x1x128, .f32⟩
  | .local _ .vmem, ⟨28, _⟩ => ⟨S2x1x128, .f32⟩
  | _, _ => ⟨S20480x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_call1_call0_cst : Ref sig .tc := ⟨.hbm, 48, rfl⟩
abbrev main_call1_call0_v0 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_call3_call0_cst : Ref sig .tc := ⟨.hbm, 56, rfl⟩
abbrev main_call3_call0_v0 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_0 : Ref sig .tc := ⟨.hbm, 74, rfl⟩
abbrev main_v46 : Ref sig .tc := ⟨.hbm, 75, rfl⟩
abbrev main_c : Ref sig .tc := ⟨.hbm, 76, rfl⟩
abbrev main_call5_v0 : Ref sig .tc := ⟨.hbm, 77, rfl⟩
abbrev main_v47 : Ref sig .tc := ⟨.hbm, 78, rfl⟩
abbrev main_c_1 : Ref sig .tc := ⟨.hbm, 79, rfl⟩
abbrev main_call6_v0 : Ref sig .tc := ⟨.hbm, 80, rfl⟩
abbrev main_v48 : Ref sig .tc := ⟨.hbm, 81, rfl⟩
abbrev main_c_2 : Ref sig .tc := ⟨.hbm, 82, rfl⟩
abbrev main_call7_v0 : Ref sig .tc := ⟨.hbm, 83, rfl⟩
abbrev main_v49 : Ref sig .tc := ⟨.hbm, 84, rfl⟩
abbrev main_c_3 : Ref sig .tc := ⟨.hbm, 85, rfl⟩
abbrev main_call8_v0 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72_0 : Ref sig .tc := ⟨.hbm, 109, rfl⟩
abbrev main_v72_1 : Ref sig .tc := ⟨.hbm, 110, rfl⟩
abbrev main_v72_2 : Ref sig .tc := ⟨.hbm, 111, rfl⟩
abbrev main_v72_3 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32 : BitVec 32 := 0#32
  let c4_i32 : BitVec 32 := 4#32
  let v20 : BitVec 32 := Scalar.addi c0_i32 c4_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg19 : BitVec 32 := Scf.iv c0_i32 c1_i32 k0_t1
  let c64_i32 : BitVec 32 := 64#32
  let v56 : BitVec 32 := Scalar.muli arg19 c64_i32
  v56
def k0_off1 (k0_t1 : Fin k0_t1_loop.trips) : Fin 2 → Nat :=
  let c0_i32 : BitVec 32 := 0#32
  let c1_i32 : BitVec 32 := 1#32
  let arg19 : BitVec 32 := Scf.iv c0_i32 c1_i32 k0_t1
  let c64_i32 : BitVec 32 := 64#32
  let v56 : BitVec 32 := Scalar.muli arg19 c64_i32
  let v57 : BitVec 32 := v56
  let v58 : Index := Scalar.indexCast v57
  let c0_61 : Index := 0#32
  ![v58.toNat, 0]
def k0_off2 (k0_t1 : Fin k0_t1_loop.trips) : Fin 2 → Nat :=
  let c0_i32 : BitVec 32 := 0#32
  let c1_i32 : BitVec 32 := 1#32
  let arg19 : BitVec 32 := Scf.iv c0_i32 c1_i32 k0_t1
  let c64_i32 : BitVec 32 := 64#32
  let v56 : BitVec 32 := Scalar.muli arg19 c64_i32
  let v57 : BitVec 32 := v56
  let v64 : Index := Scalar.indexCast v57
  let c0_64 : Index := 0#32
  ![v64.toNat, 0]
def k0_off3 (k0_t1 : Fin k0_t1_loop.trips) : Fin 5 → Nat :=
  let c0_65 : Index := 0#32
  let c0_66 : Index := 0#32
  let c0_i32 : BitVec 32 := 0#32
  let c1_i32 : BitVec 32 := 1#32
  let arg19 : BitVec 32 := Scf.iv c0_i32 c1_i32 k0_t1
  let v66 : Index := Scalar.indexCast arg19
  let c0_67 : Index := 0#32
  let c0_68 : Index := 0#32
  ![0, 0, v66.toNat, 0, 0]
def k0_off4 (k0_t1 : Fin k0_t1_loop.trips) : Fin 3 → Nat :=
  let c0_92 : Index := 0#32
  let c0_i32 : BitVec 32 := 0#32
  let c1_i32 : BitVec 32 := 1#32
  let arg19 : BitVec 32 := Scf.iv c0_i32 c1_i32 k0_t1
  let c64_i32 : BitVec 32 := 64#32
  let v56 : BitVec 32 := Scalar.muli arg19 c64_i32
  let v57 : BitVec 32 := v56
  let v162 : Index := Scalar.indexCast v57
  let c0_93 : Index := 0#32
  ![0, v162.toNat, 0]
def k0_mult2 (k0_t1 : Fin k0_t1_loop.trips) : BitVec 32 :=
  let c3_i32 : BitVec 32 := 3#32
  let c0_i32 : BitVec 32 := 0#32
  let c1_i32 : BitVec 32 := 1#32
  let arg19 : BitVec 32 := Scf.iv c0_i32 c1_i32 k0_t1
  let v192 : BitVec 32 := Scalar.subi c3_i32 arg19
  let c64_i32_103 : BitVec 32 := 64#32
  let v193 : BitVec 32 := Scalar.muli v192 c64_i32_103
  v193
def k0_off5 (k0_t1 : Fin k0_t1_loop.trips) : Fin 2 → Nat :=
  let c3_i32 : BitVec 32 := 3#32
  let c0_i32 : BitVec 32 := 0#32
  let c1_i32 : BitVec 32 := 1#32
  let arg19 : BitVec 32 := Scf.iv c0_i32 c1_i32 k0_t1
  let v192 : BitVec 32 := Scalar.subi c3_i32 arg19
  let c64_i32_103 : BitVec 32 := 64#32
  let v193 : BitVec 32 := Scalar.muli v192 c64_i32_103
  let v194 : BitVec 32 := v193
  let v195 : Index := Scalar.indexCast v194
  let c0_104 : Index := 0#32
  ![v195.toNat, 0]
def k0_off6 (k0_t1 : Fin k0_t1_loop.trips) : Fin 2 → Nat :=
  let c3_i32 : BitVec 32 := 3#32
  let c0_i32 : BitVec 32 := 0#32
  let c1_i32 : BitVec 32 := 1#32
  let arg19 : BitVec 32 := Scf.iv c0_i32 c1_i32 k0_t1
  let v192 : BitVec 32 := Scalar.subi c3_i32 arg19
  let c64_i32_103 : BitVec 32 := 64#32
  let v193 : BitVec 32 := Scalar.muli v192 c64_i32_103
  let v194 : BitVec 32 := v193
  let v201 : Index := Scalar.indexCast v194
  let c0_107 : Index := 0#32
  ![v201.toNat, 0]
def k0_off7 (k0_t1 : Fin k0_t1_loop.trips) : Fin 5 → Nat :=
  let c0_108 : Index := 0#32
  let c0_109 : Index := 0#32
  let c3_i32 : BitVec 32 := 3#32
  let c0_i32 : BitVec 32 := 0#32
  let c1_i32 : BitVec 32 := 1#32
  let arg19 : BitVec 32 := Scf.iv c0_i32 c1_i32 k0_t1
  let v192 : BitVec 32 := Scalar.subi c3_i32 arg19
  let v203 : Index := Scalar.indexCast v192
  let c0_110 : Index := 0#32
  let c0_111 : Index := 0#32
  ![0, 0, v203.toNat, 0, 0]
def k0_off8 (k0_t1 : Fin k0_t1_loop.trips) : Fin 3 → Nat :=
  let c1_135 : Index := 1#32
  let c3_i32 : BitVec 32 := 3#32
  let c0_i32 : BitVec 32 := 0#32
  let c1_i32 : BitVec 32 := 1#32
  let arg19 : BitVec 32 := Scf.iv c0_i32 c1_i32 k0_t1
  let v192 : BitVec 32 := Scalar.subi c3_i32 arg19
  let c64_i32_103 : BitVec 32 := 64#32
  let v193 : BitVec 32 := Scalar.muli v192 c64_i32_103
  let v194 : BitVec 32 := v193
  let v299 : Index := Scalar.indexCast v194
  let c0_136 : Index := 0#32
  ![1, v299.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c32_i32 : BitVec 32 := 32#32
  let v1 : BitVec 32 := Scalar.addi c32_i32 arg1
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c36_i32 : BitVec 32 := 36#32
  let v1 : BitVec 32 := Scalar.addi c36_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c20_i32 : BitVec 32 := 20#32
  let v1 : BitVec 32 := Scalar.addi c20_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c24_i32 : BitVec 32 := 24#32
  let v1 : BitVec 32 := Scalar.addi c24_i32 arg1
  let c0_i32_0 : BitVec 32 := 0#32
  ![v0.toNat, v1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x1x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S20480x16384 : Shape := ⟨2, ![20480, 16384]⟩
abbrev S20480x128 : Shape := ⟨2, ![20480, 128]⟩
abbrev S2x4 : Shape := ⟨2, ![2, 4]⟩
abbrev S16x2x4x128x256 : Shape := ⟨5, ![16, 2, 4, 128, 256]⟩
abbrev S16x2x4x128 : Shape := ⟨4, ![16, 2, 4, 128]⟩
abbrev S16x2x4 : Shape := ⟨3, ![16, 2, 4]⟩
abbrev S256 : Shape := ⟨1, ![256]⟩
abbrev S4096x16384 : Shape := ⟨2, ![4096, 16384]⟩
abbrev S16x256x16384 : Shape := ⟨3, ![16, 256, 16384]⟩
abbrev S4096x128 : Shape := ⟨2, ![4096, 128]⟩
abbrev S16x256x128 : Shape := ⟨3, ![16, 256, 128]⟩
abbrev S16x256x512 : Shape := ⟨3, ![16, 256, 512]⟩
abbrev S16x256x1024 : Shape := ⟨3, ![16, 256, 1024]⟩
abbrev S16x256x8 : Shape := ⟨3, ![16, 256, 8]⟩
abbrev S16x256x4x128 : Shape := ⟨4, ![16, 256, 4, 128]⟩
abbrev S_ : Shape := ⟨0, ![]⟩
abbrev S16x256x4x256 : Shape := ⟨4, ![16, 256, 4, 256]⟩
abbrev S16x256x2x4 : Shape := ⟨4, ![16, 256, 2, 4]⟩
abbrev S1x1x2x4 : Shape := ⟨4, ![1, 1, 2, 4]⟩
abbrev S16x256x1x4 : Shape := ⟨4, ![16, 256, 1, 4]⟩
abbrev S16x256x4 : Shape := ⟨3, ![16, 256, 4]⟩
abbrev S16x1x4x128x256 : Shape := ⟨5, ![16, 1, 4, 128, 256]⟩
abbrev S16x4x128x256 : Shape := ⟨4, ![16, 4, 128, 256]⟩
abbrev S16x1x4x128 : Shape := ⟨4, ![16, 1, 4, 128]⟩
abbrev S16x4x128 : Shape := ⟨3, ![16, 4, 128]⟩
abbrev S16x1x4 : Shape := ⟨3, ![16, 1, 4]⟩
abbrev S16x4 : Shape := ⟨2, ![16, 4]⟩
abbrev S16x4x64x4x128 : Shape := ⟨5, ![16, 4, 64, 4, 128]⟩
abbrev S16x4x4x64x128 : Shape := ⟨5, ![16, 4, 4, 64, 128]⟩
abbrev S16x4x64x4x256 : Shape := ⟨5, ![16, 4, 64, 4, 256]⟩
abbrev S16x4x4x64x256 : Shape := ⟨5, ![16, 4, 4, 64, 256]⟩
abbrev S16x4x64x4 : Shape := ⟨4, ![16, 4, 64, 4]⟩
abbrev S16x4x4x64 : Shape := ⟨4, ![16, 4, 4, 64]⟩
abbrev S64x64 : Shape := ⟨2, ![64, 64]⟩
abbrev S16x4x4x64x1 : Shape := ⟨5, ![16, 4, 4, 64, 1]⟩
abbrev S16x4x4x1x64 : Shape := ⟨5, ![16, 4, 4, 1, 64]⟩
abbrev S16x4x4x64x64 : Shape := ⟨5, ![16, 4, 4, 64, 64]⟩
abbrev S16x4x4x1 : Shape := ⟨4, ![16, 4, 4, 1]⟩
abbrev S16x4x4 : Shape := ⟨3, ![16, 4, 4]⟩
abbrev S16x4x4x128x256 : Shape := ⟨5, ![16, 4, 4, 128, 256]⟩
abbrev S16x4x4x128 : Shape := ⟨4, ![16, 4, 4, 128]⟩
abbrev S16x4x1x128x256 : Shape := ⟨5, ![16, 4, 1, 128, 256]⟩
abbrev S16x4x1x128 : Shape := ⟨4, ![16, 4, 1, 128]⟩
abbrev S16x4x1 : Shape := ⟨3, ![16, 4, 1]⟩
abbrev S16x4x1x1 : Shape := ⟨4, ![16, 4, 1, 1]⟩
abbrev S16x256x4x1 : Shape := ⟨4, ![16, 256, 4, 1]⟩
abbrev S1x1x1x256 : Shape := ⟨4, ![1, 1, 1, 256]⟩
abbrev S4096x1024 : Shape := ⟨2, ![4096, 1024]⟩
abbrev S16x2x4x1x128 : Shape := ⟨5, ![16, 2, 4, 1, 128]⟩
abbrev S16x2x4x1x1 : Shape := ⟨5, ![16, 2, 4, 1, 1]⟩

abbrev nBuf : Space → Nat
  | .hbm => 566
  | .vmem => 0
  | .smem => 0
  | _ => 0

abbrev hbmTy0_0 (i : Nat) : BufTy := match i % 128 with
  | 0 => ⟨S20480x16384, .f32⟩
  | 1 => ⟨S20480x128, .f32⟩
  | 2 => ⟨S2x4, .f32⟩
  | 3 => ⟨S2x4, .f32⟩
  | 4 => ⟨S16x2x4x128x256, .f32⟩
  | 5 => ⟨S16x2x4x128, .f32⟩
  | 6 => ⟨S16x2x4, .f32⟩
  | 7 => ⟨S256, .f32⟩
  | 8 => ⟨S4096x16384, .f32⟩
  | 9 => ⟨S16x256x16384, .f32⟩
  | 10 => ⟨S4096x128, .f32⟩
  | 11 => ⟨S16x256x128, .f32⟩
  | 12 => ⟨S16x256x512, .f32⟩
  | 13 => ⟨S16x256x512, .f32⟩
  | 14 => ⟨S16x256x1024, .f32⟩
  | 15 => ⟨S16x256x1024, .f32⟩
  | 16 => ⟨S16x256x8, .f32⟩
  | 17 => ⟨S16x256x8, .f32⟩
  | 18 => ⟨S16x256x4x128, .f32⟩
  | 19 => ⟨S16x256x4x128, .f32⟩
  | 20 => ⟨S_, .f32⟩
  | 21 => ⟨S16x256x4x128, .f32⟩
  | 22 => ⟨S16x256x4x128, .f32⟩
  | 23 => ⟨S16x256x4x256, .f32⟩
  | 24 => ⟨S16x256x2x4, .f32⟩
  | 25 => ⟨S1x1x2x4, .f32⟩
  | 26 => ⟨S16x256x2x4, .f32⟩
  | 27 => ⟨S16x256x2x4, .f32⟩
  | 28 => ⟨S16x256x2x4, .f32⟩
  | 29 => ⟨S1x1x2x4, .f32⟩
  | 30 => ⟨S16x256x2x4, .f32⟩
  | 31 => ⟨S16x256x2x4, .f32⟩
  | 32 => ⟨S16x256x2x4, .f32⟩
  | 33 => ⟨S_, .f32⟩
  | 34 => ⟨S16x256x2x4, .f32⟩
  | 35 => ⟨S16x256x2x4, .f32⟩
  | 36 => ⟨S16x256x2x4, .f32⟩
  | 37 => ⟨S16x256x2x4, .f32⟩
  | 38 => ⟨S16x256x2x4, .i1⟩
  | 39 => ⟨S16x256x2x4, .f32⟩
  | 40 => ⟨S16x256x2x4, .f32⟩
  | 41 => ⟨S16x256x2x4, .f32⟩
  | 42 => ⟨S16x256x2x4, .f32⟩
  | 43 => ⟨S16x256x2x4, .f32⟩
  | 44 => ⟨S16x256x2x4, .f32⟩
  | 45 => ⟨S16x256x2x4, .f32⟩
  | 46 => ⟨S16x256x2x4, .f32⟩
  | 47 => ⟨S16x256x2x4, .f32⟩
  | 48 => ⟨S16x256x1x4, .f32⟩
  | 49 => ⟨S16x256x4, .f32⟩
  | 50 => ⟨S16x256x1x4, .f32⟩
  | 51 => ⟨S16x256x4, .f32⟩
  | 52 => ⟨S16x1x4x128x256, .f32⟩
  | 53 => ⟨S16x4x128x256, .f32⟩
  | 54 => ⟨S16x1x4x128, .f32⟩
  | 55 => ⟨S16x4x128, .f32⟩
  | 56 => ⟨S16x1x4, .f32⟩
  | 57 => ⟨S16x4, .f32⟩
  | 58 => ⟨S16x4x64x4x128, .f32⟩
  | 59 => ⟨S16x4x4x64x128, .f32⟩
  | 60 => ⟨S16x4x64x4x128, .f32⟩
  | 61 => ⟨S16x4x4x64x128, .f32⟩
  | 62 => ⟨S16x4x64x4x256, .f32⟩
  | 63 => ⟨S16x4x4x64x256, .f32⟩
  | 64 => ⟨S16x4x64x4, .f32⟩
  | 65 => ⟨S16x4x4x64, .f32⟩
  | 66 => ⟨S16x4x64x4, .f32⟩
  | 67 => ⟨S16x4x4x64, .f32⟩
  | 68 => ⟨S_, .f32⟩
  | 69 => ⟨S_, .f32⟩
  | 70 => ⟨S16x4x4x64, .f32⟩
  | 71 => ⟨S_, .i1⟩
  | 72 => ⟨S64x64, .i1⟩
  | 73 => ⟨S64x64, .i32⟩
  | 74 => ⟨S_, .i32⟩
  | 75 => ⟨S64x64, .i32⟩
  | 76 => ⟨S64x64, .i32⟩
  | 77 => ⟨S64x64, .i32⟩
  | 78 => ⟨S64x64, .i1⟩
  | 79 => ⟨S_, .i1⟩
  | 80 => ⟨S64x64, .i1⟩
  | 81 => ⟨S64x64, .i1⟩
  | 82 => ⟨S16x4x4x64x1, .f32⟩
  | 83 => ⟨S16x4x4x1x64, .f32⟩
  | 84 => ⟨S16x4x4x64x64, .f32⟩
  | 85 => ⟨S16x4x4x64x64, .f32⟩
  | 86 => ⟨S16x4x4x64x64, .f32⟩
  | 87 => ⟨S16x4x4x1x64, .f32⟩
  | 88 => ⟨S16x4x4x64x64, .f32⟩
  | 89 => ⟨S16x4x4x64x64, .f32⟩
  | 90 => ⟨S_, .f32⟩
  | 91 => ⟨S_, .f32⟩
  | 92 => ⟨S16x4x4x64x64, .i1⟩
  | 93 => ⟨S16x4x4x64x64, .f32⟩
  | 94 => ⟨S16x4x4x64x64, .f32⟩
  | 95 => ⟨S_, .f32⟩
  | 96 => ⟨S16x4x4x64, .f32⟩
  | 97 => ⟨S16x4x4x64x1, .f32⟩
  | 98 => ⟨S16x4x4x64x64, .f32⟩
  | 99 => ⟨S16x4x4x64x64, .f32⟩
  | 100 => ⟨S16x4x4x64x64, .f32⟩
  | 101 => ⟨S16x4x4x64x64, .f32⟩
  | 102 => ⟨S16x4x4x64x64, .f32⟩
  | 103 => ⟨S16x4x4x64x256, .f32⟩
  | 104 => ⟨S_, .f32⟩
  | 105 => ⟨S16x4x4x64, .f32⟩
  | 106 => ⟨S16x4x4x1, .f32⟩
  | 107 => ⟨S16x4x4, .f32⟩
  | 108 => ⟨S16x4x4x1, .f32⟩
  | 109 => ⟨S16x4x4x64, .f32⟩
  | 110 => ⟨S16x4x4x64, .f32⟩
  | 111 => ⟨S16x4x4x64, .f32⟩
  | 112 => ⟨S_, .f32⟩
  | 113 => ⟨S16x4x4, .f32⟩
  | 114 => ⟨S16x4x4x1, .f32⟩
  | 115 => ⟨S16x4x4x64, .f32⟩
  | 116 => ⟨S16x4x4x64, .f32⟩
  | 117 => ⟨S16x4x4x64, .f32⟩
  | 118 => ⟨S16x4x4x64x1, .f32⟩
  | 119 => ⟨S16x4x4x64x128, .f32⟩
  | 120 => ⟨S16x4x4x64x128, .f32⟩
  | 121 => ⟨S16x4x4x128x256, .f32⟩
  | 122 => ⟨S_, .f32⟩
  | 123 => ⟨S16x4x4x128, .f32⟩
  | 124 => ⟨S16x4x1x128x256, .f32⟩
  | 125 => ⟨S16x4x128x256, .f32⟩
  | 126 => ⟨S16x4x1x128, .f32⟩
  | 127 => ⟨S16x4x128, .f32⟩
  | _ => ⟨S20480x16384, .f32⟩

abbrev hbmTy0_1 (i : Nat) : BufTy := match i % 128 with
  | 0 => ⟨S16x4x1, .f32⟩
  | 1 => ⟨S16x4, .f32⟩
  | 2 => ⟨S16x4x1, .f32⟩
  | 3 => ⟨S16x4, .f32⟩
  | 4 => ⟨S16x4, .f32⟩
  | 5 => ⟨S16x4, .f32⟩
  | 6 => ⟨S16x4, .f32⟩
  | 7 => ⟨S16x4, .f32⟩
  | 8 => ⟨S16x4, .f32⟩
  | 9 => ⟨S16x4, .f32⟩
  | 10 => ⟨S16x4, .f32⟩
  | 11 => ⟨S16x4x1x1, .f32⟩
  | 12 => ⟨S16x4x128x256, .f32⟩
  | 13 => ⟨S16x4x128x256, .f32⟩
  | 14 => ⟨S16x4x1x1, .f32⟩
  | 15 => ⟨S16x4x128x256, .f32⟩
  | 16 => ⟨S16x4x128x256, .f32⟩
  | 17 => ⟨S16x4x128x256, .f32⟩
  | 18 => ⟨S16x4x1, .f32⟩
  | 19 => ⟨S16x4x128, .f32⟩
  | 20 => ⟨S16x4x128, .f32⟩
  | 21 => ⟨S16x4x1, .f32⟩
  | 22 => ⟨S16x4x128, .f32⟩
  | 23 => ⟨S16x4x128, .f32⟩
  | 24 => ⟨S16x4x128, .f32⟩
  | 25 => ⟨S16x4x1x128x256, .f32⟩
  | 26 => ⟨S16x4x128x256, .f32⟩
  | 27 => ⟨S16x4x1x128, .f32⟩
  | 28 => ⟨S16x4x128, .f32⟩
  | 29 => ⟨S16x4x1, .f32⟩
  | 30 => ⟨S16x4, .f32⟩
  | 31 => ⟨S16x4x1, .f32⟩
  | 32 => ⟨S16x4, .f32⟩
  | 33 => ⟨S16x4, .f32⟩
  | 34 => ⟨S16x4, .f32⟩
  | 35 => ⟨S16x4, .f32⟩
  | 36 => ⟨S16x4, .f32⟩
  | 37 => ⟨S16x4, .f32⟩
  | 38 => ⟨S16x4, .f32⟩
  | 39 => ⟨S16x4, .f32⟩
  | 40 => ⟨S16x4x1x1, .f32⟩
  | 41 => ⟨S16x4x128x256, .f32⟩
  | 42 => ⟨S16x4x128x256, .f32⟩
  | 43 => ⟨S16x4x1x1, .f32⟩
  | 44 => ⟨S16x4x128x256, .f32⟩
  | 45 => ⟨S16x4x128x256, .f32⟩
  | 46 => ⟨S16x4x128x256, .f32⟩
  | 47 => ⟨S16x4x1, .f32⟩
  | 48 => ⟨S16x4x128, .f32⟩
  | 49 => ⟨S16x4x128, .f32⟩
  | 50 => ⟨S16x4x1, .f32⟩
  | 51 => ⟨S16x4x128, .f32⟩
  | 52 => ⟨S16x4x128, .f32⟩
  | 53 => ⟨S16x4x128, .f32⟩
  | 54 => ⟨S16x4x1x128x256, .f32⟩
  | 55 => ⟨S16x4x128x256, .f32⟩
  | 56 => ⟨S16x4x1x128, .f32⟩
  | 57 => ⟨S16x4x128, .f32⟩
  | 58 => ⟨S16x4x1, .f32⟩
  | 59 => ⟨S16x4, .f32⟩
  | 60 => ⟨S16x4x1, .f32⟩
  | 61 => ⟨S16x4, .f32⟩
  | 62 => ⟨S16x4, .f32⟩
  | 63 => ⟨S16x4, .f32⟩
  | 64 => ⟨S16x4, .f32⟩
  | 65 => ⟨S16x4, .f32⟩
  | 66 => ⟨S16x4, .f32⟩
  | 67 => ⟨S16x4, .f32⟩
  | 68 => ⟨S16x4, .f32⟩
  | 69 => ⟨S16x4x1x1, .f32⟩
  | 70 => ⟨S16x4x128x256, .f32⟩
  | 71 => ⟨S16x4x128x256, .f32⟩
  | 72 => ⟨S16x4x1x1, .f32⟩
  | 73 => ⟨S16x4x128x256, .f32⟩
  | 74 => ⟨S16x4x128x256, .f32⟩
  | 75 => ⟨S16x4x128x256, .f32⟩
  | 76 => ⟨S16x4x1, .f32⟩
  | 77 => ⟨S16x4x128, .f32⟩
  | 78 => ⟨S16x4x128, .f32⟩
  | 79 => ⟨S16x4x1, .f32⟩
  | 80 => ⟨S16x4x128, .f32⟩
  | 81 => ⟨S16x4x128, .f32⟩
  | 82 => ⟨S16x4x128, .f32⟩
  | 83 => ⟨S16x4x1x128x256, .f32⟩
  | 84 => ⟨S16x4x128x256, .f32⟩
  | 85 => ⟨S16x4x1x128, .f32⟩
  | 86 => ⟨S16x4x128, .f32⟩
  | 87 => ⟨S16x4x1, .f32⟩
  | 88 => ⟨S16x4, .f32⟩
  | 89 => ⟨S16x4x1, .f32⟩
  | 90 => ⟨S16x4, .f32⟩
  | 91 => ⟨S16x4, .f32⟩
  | 92 => ⟨S16x4, .f32⟩
  | 93 => ⟨S16x4, .f32⟩
  | 94 => ⟨S16x4, .f32⟩
  | 95 => ⟨S16x4, .f32⟩
  | 96 => ⟨S16x4, .f32⟩
  | 97 => ⟨S16x4, .f32⟩
  | 98 => ⟨S16x4x1x1, .f32⟩
  | 99 => ⟨S16x4x128x256, .f32⟩
  | 100 => ⟨S16x4x128x256, .f32⟩
  | 101 => ⟨S16x4x1x1, .f32⟩
  | 102 => ⟨S16x4x128x256, .f32⟩
  | 103 => ⟨S16x4x128x256, .f32⟩
  | 104 => ⟨S16x4x128x256, .f32⟩
  | 105 => ⟨S16x4x1, .f32⟩
  | 106 => ⟨S16x4x128, .f32⟩
  | 107 => ⟨S16x4x128, .f32⟩
  | 108 => ⟨S16x4x1, .f32⟩
  | 109 => ⟨S16x4x128, .f32⟩
  | 110 => ⟨S16x4x128, .f32⟩
  | 111 => ⟨S16x4x128, .f32⟩
  | 112 => ⟨S16x4x1x128x256, .f32⟩
  | 113 => ⟨S16x4x1x128x256, .f32⟩
  | 114 => ⟨S16x4x1x128x256, .f32⟩
  | 115 => ⟨S16x4x1x128x256, .f32⟩
  | 116 => ⟨S16x4x4x128x256, .f32⟩
  | 117 => ⟨S16x4x1x128, .f32⟩
  | 118 => ⟨S16x4x1x128, .f32⟩
  | 119 => ⟨S16x4x1x128, .f32⟩
  | 120 => ⟨S16x4x1x128, .f32⟩
  | 121 => ⟨S16x4x4x128, .f32⟩
  | 122 => ⟨S16x4x1, .f32⟩
  | 123 => ⟨S16x4x1, .f32⟩
  | 124 => ⟨S16x4x1, .f32⟩
  | 125 => ⟨S16x4x1, .f32⟩
  | 126 => ⟨S16x4x4, .f32⟩
  | 127 => ⟨S16x4x4x1, .f32⟩
  | _ => ⟨S20480x16384, .f32⟩

abbrev hbmTy0_2 (i : Nat) : BufTy := match i % 128 with
  | 0 => ⟨S16x4x4x64, .f32⟩
  | 1 => ⟨S16x4x4x64, .f32⟩
  | 2 => ⟨S16x4x4x64, .f32⟩
  | 3 => ⟨S16x4x4x64, .f32⟩
  | 4 => ⟨S16x4x4x64, .f32⟩
  | 5 => ⟨S16x4x4x64, .f32⟩
  | 6 => ⟨S16x4x4x64, .f32⟩
  | 7 => ⟨S16x4x4x64x1, .f32⟩
  | 8 => ⟨S16x4x4x64x256, .f32⟩
  | 9 => ⟨S16x4x4x64x256, .f32⟩
  | 10 => ⟨S16x4x4x64x256, .f32⟩
  | 11 => ⟨S16x4x4x64x1, .f32⟩
  | 12 => ⟨S16x4x4x64x256, .f32⟩
  | 13 => ⟨S16x4x4x64x256, .f32⟩
  | 14 => ⟨S16x4x4x64x256, .f32⟩
  | 15 => ⟨S16x4x4x64, .f32⟩
  | 16 => ⟨S16x4x4x64, .f32⟩
  | 17 => ⟨S16x4x4x64, .f32⟩
  | 18 => ⟨S16x4x4x64, .f32⟩
  | 19 => ⟨S16x4x4x64, .f32⟩
  | 20 => ⟨S16x4x4x64, .f32⟩
  | 21 => ⟨S16x4x4x64, .f32⟩
  | 22 => ⟨S16x4x4x64, .f32⟩
  | 23 => ⟨S16x4x4x64x1, .f32⟩
  | 24 => ⟨S16x4x4x64x256, .f32⟩
  | 25 => ⟨S16x4x4x64x256, .f32⟩
  | 26 => ⟨S16x4x64x4x256, .f32⟩
  | 27 => ⟨S16x256x4x256, .f32⟩
  | 28 => ⟨S16x256x4x128, .f32⟩
  | 29 => ⟨S16x256x4x128, .f32⟩
  | 30 => ⟨S16x256x4x256, .f32⟩
  | 31 => ⟨S16x256x1x4, .f32⟩
  | 32 => ⟨S16x256x4, .f32⟩
  | 33 => ⟨S16x256x4, .f32⟩
  | 34 => ⟨S16x256x1x4, .f32⟩
  | 35 => ⟨S16x256x4, .f32⟩
  | 36 => ⟨S16x256x4, .f32⟩
  | 37 => ⟨S16x1x4x128x256, .f32⟩
  | 38 => ⟨S16x4x128x256, .f32⟩
  | 39 => ⟨S16x1x4x128, .f32⟩
  | 40 => ⟨S16x4x128, .f32⟩
  | 41 => ⟨S16x1x4, .f32⟩
  | 42 => ⟨S16x4, .f32⟩
  | 43 => ⟨S16x4x64x4x128, .f32⟩
  | 44 => ⟨S16x4x4x64x128, .f32⟩
  | 45 => ⟨S16x4x64x4x128, .f32⟩
  | 46 => ⟨S16x4x4x64x128, .f32⟩
  | 47 => ⟨S16x4x64x4x256, .f32⟩
  | 48 => ⟨S16x4x4x64x256, .f32⟩
  | 49 => ⟨S16x4x64x4, .f32⟩
  | 50 => ⟨S16x4x4x64, .f32⟩
  | 51 => ⟨S16x4x64x4, .f32⟩
  | 52 => ⟨S16x4x4x64, .f32⟩
  | 53 => ⟨S_, .f32⟩
  | 54 => ⟨S_, .f32⟩
  | 55 => ⟨S16x4x4x64, .f32⟩
  | 56 => ⟨S_, .i1⟩
  | 57 => ⟨S64x64, .i1⟩
  | 58 => ⟨S64x64, .i32⟩
  | 59 => ⟨S_, .i32⟩
  | 60 => ⟨S64x64, .i32⟩
  | 61 => ⟨S64x64, .i32⟩
  | 62 => ⟨S64x64, .i32⟩
  | 63 => ⟨S64x64, .i1⟩
  | 64 => ⟨S_, .i1⟩
  | 65 => ⟨S64x64, .i1⟩
  | 66 => ⟨S64x64, .i1⟩
  | 67 => ⟨S16x4x4x64x1, .f32⟩
  | 68 => ⟨S16x4x4x1x64, .f32⟩
  | 69 => ⟨S16x4x4x64x64, .f32⟩
  | 70 => ⟨S16x4x4x64x64, .f32⟩
  | 71 => ⟨S16x4x4x64x64, .f32⟩
  | 72 => ⟨S16x4x4x1x64, .f32⟩
  | 73 => ⟨S16x4x4x64x64, .f32⟩
  | 74 => ⟨S16x4x4x64x64, .f32⟩
  | 75 => ⟨S_, .f32⟩
  | 76 => ⟨S_, .f32⟩
  | 77 => ⟨S16x4x4x64x64, .i1⟩
  | 78 => ⟨S16x4x4x64x64, .f32⟩
  | 79 => ⟨S16x4x4x64x64, .f32⟩
  | 80 => ⟨S_, .f32⟩
  | 81 => ⟨S16x4x4x64, .f32⟩
  | 82 => ⟨S16x4x4x64x1, .f32⟩
  | 83 => ⟨S16x4x4x64x64, .f32⟩
  | 84 => ⟨S16x4x4x64x64, .f32⟩
  | 85 => ⟨S16x4x4x64x64, .f32⟩
  | 86 => ⟨S16x4x4x64x64, .f32⟩
  | 87 => ⟨S16x4x4x64x64, .f32⟩
  | 88 => ⟨S16x4x4x64x256, .f32⟩
  | 89 => ⟨S_, .f32⟩
  | 90 => ⟨S16x4x4x64, .f32⟩
  | 91 => ⟨S16x4x4x1, .f32⟩
  | 92 => ⟨S16x4x4, .f32⟩
  | 93 => ⟨S16x4x4x1, .f32⟩
  | 94 => ⟨S16x4x4x64, .f32⟩
  | 95 => ⟨S16x4x4x64, .f32⟩
  | 96 => ⟨S16x4x4x64, .f32⟩
  | 97 => ⟨S_, .f32⟩
  | 98 => ⟨S16x4x4, .f32⟩
  | 99 => ⟨S16x4x4x1, .f32⟩
  | 100 => ⟨S16x4x4x64, .f32⟩
  | 101 => ⟨S16x4x4x64, .f32⟩
  | 102 => ⟨S16x4x4x64, .f32⟩
  | 103 => ⟨S16x4x4x64x1, .f32⟩
  | 104 => ⟨S16x4x4x64x128, .f32⟩
  | 105 => ⟨S16x4x4x64x128, .f32⟩
  | 106 => ⟨S16x4x4x128x256, .f32⟩
  | 107 => ⟨S_, .f32⟩
  | 108 => ⟨S16x4x4x128, .f32⟩
  | 109 => ⟨S16x4x1x128x256, .f32⟩
  | 110 => ⟨S16x4x128x256, .f32⟩
  | 111 => ⟨S16x4x1x128, .f32⟩
  | 112 => ⟨S16x4x128, .f32⟩
  | 113 => ⟨S16x4x1, .f32⟩
  | 114 => ⟨S16x4, .f32⟩
  | 115 => ⟨S16x4x1, .f32⟩
  | 116 => ⟨S16x4, .f32⟩
  | 117 => ⟨S16x4, .f32⟩
  | 118 => ⟨S16x4, .f32⟩
  | 119 => ⟨S16x4, .f32⟩
  | 120 => ⟨S16x4, .f32⟩
  | 121 => ⟨S16x4, .f32⟩
  | 122 => ⟨S16x4, .f32⟩
  | 123 => ⟨S16x4, .f32⟩
  | 124 => ⟨S16x4x1x1, .f32⟩
  | 125 => ⟨S16x4x128x256, .f32⟩
  | 126 => ⟨S16x4x128x256, .f32⟩
  | 127 => ⟨S16x4x1x1, .f32⟩
  | _ => ⟨S20480x16384, .f32⟩

abbrev hbmTy0_3 (i : Nat) : BufTy := match i % 128 with
  | 0 => ⟨S16x4x128x256, .f32⟩
  | 1 => ⟨S16x4x128x256, .f32⟩
  | 2 => ⟨S16x4x128x256, .f32⟩
  | 3 => ⟨S16x4x1, .f32⟩
  | 4 => ⟨S16x4x128, .f32⟩
  | 5 => ⟨S16x4x128, .f32⟩
  | 6 => ⟨S16x4x1, .f32⟩
  | 7 => ⟨S16x4x128, .f32⟩
  | 8 => ⟨S16x4x128, .f32⟩
  | 9 => ⟨S16x4x128, .f32⟩
  | 10 => ⟨S16x4x1x128x256, .f32⟩
  | 11 => ⟨S16x4x128x256, .f32⟩
  | 12 => ⟨S16x4x1x128, .f32⟩
  | 13 => ⟨S16x4x128, .f32⟩
  | 14 => ⟨S16x4x1, .f32⟩
  | 15 => ⟨S16x4, .f32⟩
  | 16 => ⟨S16x4x1, .f32⟩
  | 17 => ⟨S16x4, .f32⟩
  | 18 => ⟨S16x4, .f32⟩
  | 19 => ⟨S16x4, .f32⟩
  | 20 => ⟨S16x4, .f32⟩
  | 21 => ⟨S16x4, .f32⟩
  | 22 => ⟨S16x4, .f32⟩
  | 23 => ⟨S16x4, .f32⟩
  | 24 => ⟨S16x4, .f32⟩
  | 25 => ⟨S16x4x1x1, .f32⟩
  | 26 => ⟨S16x4x128x256, .f32⟩
  | 27 => ⟨S16x4x128x256, .f32⟩
  | 28 => ⟨S16x4x1x1, .f32⟩
  | 29 => ⟨S16x4x128x256, .f32⟩
  | 30 => ⟨S16x4x128x256, .f32⟩
  | 31 => ⟨S16x4x128x256, .f32⟩
  | 32 => ⟨S16x4x1, .f32⟩
  | 33 => ⟨S16x4x128, .f32⟩
  | 34 => ⟨S16x4x128, .f32⟩
  | 35 => ⟨S16x4x1, .f32⟩
  | 36 => ⟨S16x4x128, .f32⟩
  | 37 => ⟨S16x4x128, .f32⟩
  | 38 => ⟨S16x4x128, .f32⟩
  | 39 => ⟨S16x4x1x128x256, .f32⟩
  | 40 => ⟨S16x4x128x256, .f32⟩
  | 41 => ⟨S16x4x1x128, .f32⟩
  | 42 => ⟨S16x4x128, .f32⟩
  | 43 => ⟨S16x4x1, .f32⟩
  | 44 => ⟨S16x4, .f32⟩
  | 45 => ⟨S16x4x1, .f32⟩
  | 46 => ⟨S16x4, .f32⟩
  | 47 => ⟨S16x4, .f32⟩
  | 48 => ⟨S16x4, .f32⟩
  | 49 => ⟨S16x4, .f32⟩
  | 50 => ⟨S16x4, .f32⟩
  | 51 => ⟨S16x4, .f32⟩
  | 52 => ⟨S16x4, .f32⟩
  | 53 => ⟨S16x4, .f32⟩
  | 54 => ⟨S16x4x1x1, .f32⟩
  | 55 => ⟨S16x4x128x256, .f32⟩
  | 56 => ⟨S16x4x128x256, .f32⟩
  | 57 => ⟨S16x4x1x1, .f32⟩
  | 58 => ⟨S16x4x128x256, .f32⟩
  | 59 => ⟨S16x4x128x256, .f32⟩
  | 60 => ⟨S16x4x128x256, .f32⟩
  | 61 => ⟨S16x4x1, .f32⟩
  | 62 => ⟨S16x4x128, .f32⟩
  | 63 => ⟨S16x4x128, .f32⟩
  | 64 => ⟨S16x4x1, .f32⟩
  | 65 => ⟨S16x4x128, .f32⟩
  | 66 => ⟨S16x4x128, .f32⟩
  | 67 => ⟨S16x4x128, .f32⟩
  | 68 => ⟨S16x4x1x128x256, .f32⟩
  | 69 => ⟨S16x4x128x256, .f32⟩
  | 70 => ⟨S16x4x1x128, .f32⟩
  | 71 => ⟨S16x4x128, .f32⟩
  | 72 => ⟨S16x4x1, .f32⟩
  | 73 => ⟨S16x4, .f32⟩
  | 74 => ⟨S16x4x1, .f32⟩
  | 75 => ⟨S16x4, .f32⟩
  | 76 => ⟨S16x4, .f32⟩
  | 77 => ⟨S16x4, .f32⟩
  | 78 => ⟨S16x4, .f32⟩
  | 79 => ⟨S16x4, .f32⟩
  | 80 => ⟨S16x4, .f32⟩
  | 81 => ⟨S16x4, .f32⟩
  | 82 => ⟨S16x4, .f32⟩
  | 83 => ⟨S16x4x1x1, .f32⟩
  | 84 => ⟨S16x4x128x256, .f32⟩
  | 85 => ⟨S16x4x128x256, .f32⟩
  | 86 => ⟨S16x4x1x1, .f32⟩
  | 87 => ⟨S16x4x128x256, .f32⟩
  | 88 => ⟨S16x4x128x256, .f32⟩
  | 89 => ⟨S16x4x128x256, .f32⟩
  | 90 => ⟨S16x4x1, .f32⟩
  | 91 => ⟨S16x4x128, .f32⟩
  | 92 => ⟨S16x4x128, .f32⟩
  | 93 => ⟨S16x4x1, .f32⟩
  | 94 => ⟨S16x4x128, .f32⟩
  | 95 => ⟨S16x4x128, .f32⟩
  | 96 => ⟨S16x4x128, .f32⟩
  | 97 => ⟨S16x4x1x128x256, .f32⟩
  | 98 => ⟨S16x4x1x128x256, .f32⟩
  | 99 => ⟨S16x4x1x128x256, .f32⟩
  | 100 => ⟨S16x4x1x128x256, .f32⟩
  | 101 => ⟨S16x4x4x128x256, .f32⟩
  | 102 => ⟨S16x4x1x128, .f32⟩
  | 103 => ⟨S16x4x1x128, .f32⟩
  | 104 => ⟨S16x4x1x128, .f32⟩
  | 105 => ⟨S16x4x1x128, .f32⟩
  | 106 => ⟨S16x4x4x128, .f32⟩
  | 107 => ⟨S16x4x1, .f32⟩
  | 108 => ⟨S16x4x1, .f32⟩
  | 109 => ⟨S16x4x1, .f32⟩
  | 110 => ⟨S16x4x1, .f32⟩
  | 111 => ⟨S16x4x4, .f32⟩
  | 112 => ⟨S16x4x4x1, .f32⟩
  | 113 => ⟨S16x4x4x64, .f32⟩
  | 114 => ⟨S16x4x4x64, .f32⟩
  | 115 => ⟨S16x4x4x64, .f32⟩
  | 116 => ⟨S16x4x4x64, .f32⟩
  | 117 => ⟨S16x4x4x64, .f32⟩
  | 118 => ⟨S16x4x4x64, .f32⟩
  | 119 => ⟨S16x4x4x64, .f32⟩
  | 120 => ⟨S16x4x4x64x1, .f32⟩
  | 121 => ⟨S16x4x4x64x256, .f32⟩
  | 122 => ⟨S16x4x4x64x256, .f32⟩
  | 123 => ⟨S16x4x4x64x256, .f32⟩
  | 124 => ⟨S16x4x4x64x1, .f32⟩
  | 125 => ⟨S16x4x4x64x256, .f32⟩
  | 126 => ⟨S16x4x4x64x256, .f32⟩
  | 127 => ⟨S16x4x4x64x256, .f32⟩
  | _ => ⟨S20480x16384, .f32⟩

abbrev hbmTy0_4 (i : Nat) : BufTy := match i % 128 with
  | 0 => ⟨S16x4x4x64, .f32⟩
  | 1 => ⟨S16x4x4x64, .f32⟩
  | 2 => ⟨S16x4x4x64, .f32⟩
  | 3 => ⟨S16x4x4x64, .f32⟩
  | 4 => ⟨S16x4x4x64, .f32⟩
  | 5 => ⟨S16x4x4x64, .f32⟩
  | 6 => ⟨S16x4x4x64, .f32⟩
  | 7 => ⟨S16x4x4x64, .f32⟩
  | 8 => ⟨S16x4x4x64x1, .f32⟩
  | 9 => ⟨S16x4x4x64x256, .f32⟩
  | 10 => ⟨S16x4x4x64x256, .f32⟩
  | 11 => ⟨S16x4x64x4x256, .f32⟩
  | 12 => ⟨S16x256x4x256, .f32⟩
  | 13 => ⟨S16x256x4x256, .f32⟩
  | 14 => ⟨S16x256x4x256, .f32⟩
  | 15 => ⟨S16x256x4x256, .f32⟩
  | 16 => ⟨S_, .f32⟩
  | 17 => ⟨S16x256x4, .f32⟩
  | 18 => ⟨S16x256x4x1, .f32⟩
  | 19 => ⟨S_, .f32⟩
  | 20 => ⟨S16x256x4x1, .f32⟩
  | 21 => ⟨S16x256x4x1, .f32⟩
  | 22 => ⟨S_, .f32⟩
  | 23 => ⟨S16x256x4x1, .f32⟩
  | 24 => ⟨S16x256x4x1, .f32⟩
  | 25 => ⟨S16x256x4x1, .f32⟩
  | 26 => ⟨S16x256x4x256, .f32⟩
  | 27 => ⟨S16x256x4x256, .f32⟩
  | 28 => ⟨S1x1x1x256, .f32⟩
  | 29 => ⟨S16x256x4x256, .f32⟩
  | 30 => ⟨S16x256x4x256, .f32⟩
  | 31 => ⟨S16x256x4x256, .f32⟩
  | 32 => ⟨S16x256x4x256, .f32⟩
  | 33 => ⟨S16x256x4x256, .f32⟩
  | 34 => ⟨S_, .f32⟩
  | 35 => ⟨S16x256x4x256, .f32⟩
  | 36 => ⟨S16x256x4x256, .f32⟩
  | 37 => ⟨S_, .f32⟩
  | 38 => ⟨S16x256x4x256, .f32⟩
  | 39 => ⟨S16x256x4x256, .f32⟩
  | 40 => ⟨S16x256x4x256, .f32⟩
  | 41 => ⟨S4096x1024, .f32⟩
  | 42 => ⟨S16x1x4x128x256, .f32⟩
  | 43 => ⟨S16x1x4x128x256, .f32⟩
  | 44 => ⟨S16x2x4x128x256, .f32⟩
  | 45 => ⟨S16x1x4x128, .f32⟩
  | 46 => ⟨S16x1x4x128, .f32⟩
  | 47 => ⟨S16x2x4x128, .f32⟩
  | 48 => ⟨S16x1x4, .f32⟩
  | 49 => ⟨S16x1x4, .f32⟩
  | 50 => ⟨S16x2x4, .f32⟩
  | 51 => ⟨S16x2x4x1x128, .f32⟩
  | 52 => ⟨S16x2x4x1x1, .f32⟩
  | 53 => ⟨S16x2x4x1x128, .f32⟩
  | _ => ⟨S20480x16384, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S20480x16384, .f32⟩

abbrev bufTy : (tb : Table) → Fin (tcTables nBuf tb) → BufTy
  | .hbm, ⟨i, _⟩ => hbmTy i
  | _, _ => ⟨S20480x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_call0_cst : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_v7 : Ref sig .tc := ⟨.hbm, 41, rfl⟩
abbrev main_call0_call0_v8 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_v1 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_call1_call0_cst : Ref sig .tc := ⟨.hbm, 68, rfl⟩
abbrev main_call1_call0_v0 : Ref sig .tc := ⟨.hbm, 69, rfl⟩
abbrev main_v44 : Ref sig .tc := ⟨.hbm, 70, rfl⟩
abbrev main_c : Ref sig .tc := ⟨.hbm, 71, rfl⟩
abbrev main_v45 : Ref sig .tc := ⟨.hbm, 72, rfl⟩
abbrev main_call2_v0 : Ref sig .tc := ⟨.hbm, 73, rfl⟩
abbrev main_call2_c : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_c_0 : Ref sig .tc := ⟨.hbm, 79, rfl⟩
abbrev main_call2_v5 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_0 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v55 : Ref sig .tc := ⟨.hbm, 94, rfl⟩
abbrev main_cst_1 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_2 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_3 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_4 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_v225 : Ref sig .tc := ⟨.hbm, 268, rfl⟩
abbrev main_v226 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩
abbrev main_v243 : Ref sig .tc := ⟨.hbm, 286, rfl⟩
abbrev main_v244 : Ref sig .tc := ⟨.hbm, 287, rfl⟩
abbrev main_v245 : Ref sig .tc := ⟨.hbm, 288, rfl⟩
abbrev main_v246 : Ref sig .tc := ⟨.hbm, 289, rfl⟩
abbrev main_v247 : Ref sig .tc := ⟨.hbm, 290, rfl⟩
abbrev main_v248 : Ref sig .tc := ⟨.hbm, 291, rfl⟩
abbrev main_v249 : Ref sig .tc := ⟨.hbm, 292, rfl⟩
abbrev main_v250 : Ref sig .tc := ⟨.hbm, 293, rfl⟩
abbrev main_v251 : Ref sig .tc := ⟨.hbm, 294, rfl⟩
abbrev main_v252 : Ref sig .tc := ⟨.hbm, 295, rfl⟩
abbrev main_v253 : Ref sig .tc := ⟨.hbm, 296, rfl⟩
abbrev main_v254 : Ref sig .tc := ⟨.hbm, 297, rfl⟩
abbrev main_v255 : Ref sig .tc := ⟨.hbm, 298, rfl⟩
abbrev main_v256 : Ref sig .tc := ⟨.hbm, 299, rfl⟩
abbrev main_v257 : Ref sig .tc := ⟨.hbm, 300, rfl⟩
abbrev main_v258 : Ref sig .tc := ⟨.hbm, 301, rfl⟩
abbrev main_v259 : Ref sig .tc := ⟨.hbm, 302, rfl⟩
abbrev main_v260 : Ref sig .tc := ⟨.hbm, 303, rfl⟩
abbrev main_v261 : Ref sig .tc := ⟨.hbm, 304, rfl⟩
abbrev main_v262 : Ref sig .tc := ⟨.hbm, 305, rfl⟩
abbrev main_v263 : Ref sig .tc := ⟨.hbm, 306, rfl⟩
abbrev main_v264 : Ref sig .tc := ⟨.hbm, 307, rfl⟩
abbrev main_v265 : Ref sig .tc := ⟨.hbm, 308, rfl⟩
abbrev main_call9_call0_cst : Ref sig .tc := ⟨.hbm, 309, rfl⟩
abbrev main_call9_call0_v0 : Ref sig .tc := ⟨.hbm, 310, rfl⟩
abbrev main_v266 : Ref sig .tc := ⟨.hbm, 311, rfl⟩
abbrev main_c_5 : Ref sig .tc := ⟨.hbm, 312, rfl⟩
abbrev main_v267 : Ref sig .tc := ⟨.hbm, 313, rfl⟩
abbrev main_call10_v0 : Ref sig .tc := ⟨.hbm, 314, rfl⟩
abbrev main_call10_c : Ref sig .tc := ⟨.hbm, 315, rfl⟩
abbrev main_call10_v1 : Ref sig .tc := ⟨.hbm, 316, rfl⟩
abbrev main_call10_v2 : Ref sig .tc := ⟨.hbm, 317, rfl⟩
abbrev main_call10_v3 : Ref sig .tc := ⟨.hbm, 318, rfl⟩
abbrev main_call10_v4 : Ref sig .tc := ⟨.hbm, 319, rfl⟩
abbrev main_call10_c_0 : Ref sig .tc := ⟨.hbm, 320, rfl⟩
abbrev main_call10_v5 : Ref sig .tc := ⟨.hbm, 321, rfl⟩
abbrev main_v268 : Ref sig .tc := ⟨.hbm, 322, rfl⟩
abbrev main_v269 : Ref sig .tc := ⟨.hbm, 323, rfl⟩
abbrev main_v270 : Ref sig .tc := ⟨.hbm, 324, rfl⟩
abbrev main_v271 : Ref sig .tc := ⟨.hbm, 325, rfl⟩
abbrev main_v272 : Ref sig .tc := ⟨.hbm, 326, rfl⟩
abbrev main_v273 : Ref sig .tc := ⟨.hbm, 327, rfl⟩
abbrev main_v274 : Ref sig .tc := ⟨.hbm, 328, rfl⟩
abbrev main_v275 : Ref sig .tc := ⟨.hbm, 329, rfl⟩
abbrev main_v276 : Ref sig .tc := ⟨.hbm, 330, rfl⟩
abbrev main_cst_6 : Ref sig .tc := ⟨.hbm, 331, rfl⟩
abbrev main_call11_v0 : Ref sig .tc := ⟨.hbm, 332, rfl⟩
abbrev main_call11_v1 : Ref sig .tc := ⟨.hbm, 333, rfl⟩
abbrev main_call11_v2 : Ref sig .tc := ⟨.hbm, 334, rfl⟩
abbrev main_v277 : Ref sig .tc := ⟨.hbm, 335, rfl⟩
abbrev main_cst_7 : Ref sig .tc := ⟨.hbm, 336, rfl⟩
abbrev main_v278 : Ref sig .tc := ⟨.hbm, 337, rfl⟩
abbrev main_v279 : Ref sig .tc := ⟨.hbm, 338, rfl⟩
abbrev main_v280 : Ref sig .tc := ⟨.hbm, 339, rfl⟩
abbrev main_v281 : Ref sig .tc := ⟨.hbm, 340, rfl⟩
abbrev main_v282 : Ref sig .tc := ⟨.hbm, 341, rfl⟩
abbrev main_v283 : Ref sig .tc := ⟨.hbm, 342, rfl⟩
abbrev main_v284 : Ref sig .tc := ⟨.hbm, 343, rfl⟩
abbrev main_v285 : Ref sig .tc := ⟨.hbm, 344, rfl⟩
abbrev main_cst_8 : Ref sig .tc := ⟨.hbm, 345, rfl⟩
abbrev main_v286 : Ref sig .tc := ⟨.hbm, 346, rfl⟩
abbrev main_v287 : Ref sig .tc := ⟨.hbm, 347, rfl⟩
abbrev main_v288 : Ref sig .tc := ⟨.hbm, 348, rfl⟩
abbrev main_v289 : Ref sig .tc := ⟨.hbm, 349, rfl⟩
abbrev main_v290 : Ref sig .tc := ⟨.hbm, 350, rfl⟩
abbrev main_v291 : Ref sig .tc := ⟨.hbm, 351, rfl⟩
abbrev main_v292 : Ref sig .tc := ⟨.hbm, 352, rfl⟩
abbrev main_cst_9 : Ref sig .tc := ⟨.hbm, 353, rfl⟩
abbrev main_v293 : Ref sig .tc := ⟨.hbm, 354, rfl⟩
abbrev main_v294 : Ref sig .tc := ⟨.hbm, 355, rfl⟩
abbrev main_v295 : Ref sig .tc := ⟨.hbm, 356, rfl⟩
abbrev main_v296 : Ref sig .tc := ⟨.hbm, 357, rfl⟩
abbrev main_v297 : Ref sig .tc := ⟨.hbm, 358, rfl⟩
abbrev main_v298 : Ref sig .tc := ⟨.hbm, 359, rfl⟩
abbrev main_v299 : Ref sig .tc := ⟨.hbm, 360, rfl⟩
abbrev main_v300 : Ref sig .tc := ⟨.hbm, 361, rfl⟩
abbrev main_v301 : Ref sig .tc := ⟨.hbm, 362, rfl⟩
abbrev main_cst_10 : Ref sig .tc := ⟨.hbm, 363, rfl⟩
abbrev main_v302 : Ref sig .tc := ⟨.hbm, 364, rfl⟩
abbrev main_v303 : Ref sig .tc := ⟨.hbm, 365, rfl⟩
abbrev main_v304 : Ref sig .tc := ⟨.hbm, 366, rfl⟩
abbrev main_v305 : Ref sig .tc := ⟨.hbm, 367, rfl⟩
abbrev main_v306 : Ref sig .tc := ⟨.hbm, 368, rfl⟩
abbrev main_v307 : Ref sig .tc := ⟨.hbm, 369, rfl⟩
abbrev main_v308 : Ref sig .tc := ⟨.hbm, 370, rfl⟩
abbrev main_v309 : Ref sig .tc := ⟨.hbm, 371, rfl⟩
abbrev main_v310 : Ref sig .tc := ⟨.hbm, 372, rfl⟩
abbrev main_v311 : Ref sig .tc := ⟨.hbm, 373, rfl⟩
abbrev main_v312 : Ref sig .tc := ⟨.hbm, 374, rfl⟩
abbrev main_v313 : Ref sig .tc := ⟨.hbm, 375, rfl⟩
abbrev main_v314 : Ref sig .tc := ⟨.hbm, 376, rfl⟩
abbrev main_v315 : Ref sig .tc := ⟨.hbm, 377, rfl⟩
abbrev main_v316 : Ref sig .tc := ⟨.hbm, 378, rfl⟩
abbrev main_v317 : Ref sig .tc := ⟨.hbm, 379, rfl⟩
abbrev main_v318 : Ref sig .tc := ⟨.hbm, 380, rfl⟩
abbrev main_v319 : Ref sig .tc := ⟨.hbm, 381, rfl⟩
abbrev main_v320 : Ref sig .tc := ⟨.hbm, 382, rfl⟩
abbrev main_v321 : Ref sig .tc := ⟨.hbm, 383, rfl⟩
abbrev main_v322 : Ref sig .tc := ⟨.hbm, 384, rfl⟩
abbrev main_v323 : Ref sig .tc := ⟨.hbm, 385, rfl⟩
abbrev main_v324 : Ref sig .tc := ⟨.hbm, 386, rfl⟩
abbrev main_v325 : Ref sig .tc := ⟨.hbm, 387, rfl⟩
abbrev main_v326 : Ref sig .tc := ⟨.hbm, 388, rfl⟩
abbrev main_v327 : Ref sig .tc := ⟨.hbm, 389, rfl⟩
abbrev main_v328 : Ref sig .tc := ⟨.hbm, 390, rfl⟩
abbrev main_v329 : Ref sig .tc := ⟨.hbm, 391, rfl⟩
abbrev main_v330 : Ref sig .tc := ⟨.hbm, 392, rfl⟩
abbrev main_v331 : Ref sig .tc := ⟨.hbm, 393, rfl⟩
abbrev main_v332 : Ref sig .tc := ⟨.hbm, 394, rfl⟩
abbrev main_v333 : Ref sig .tc := ⟨.hbm, 395, rfl⟩
abbrev main_v334 : Ref sig .tc := ⟨.hbm, 396, rfl⟩
abbrev main_v335 : Ref sig .tc := ⟨.hbm, 397, rfl⟩
abbrev main_v336 : Ref sig .tc := ⟨.hbm, 398, rfl⟩
abbrev main_v337 : Ref sig .tc := ⟨.hbm, 399, rfl⟩
abbrev main_v338 : Ref sig .tc := ⟨.hbm, 400, rfl⟩
abbrev main_v339 : Ref sig .tc := ⟨.hbm, 401, rfl⟩
abbrev main_v340 : Ref sig .tc := ⟨.hbm, 402, rfl⟩
abbrev main_v341 : Ref sig .tc := ⟨.hbm, 403, rfl⟩
abbrev main_v342 : Ref sig .tc := ⟨.hbm, 404, rfl⟩
abbrev main_v343 : Ref sig .tc := ⟨.hbm, 405, rfl⟩
abbrev main_v344 : Ref sig .tc := ⟨.hbm, 406, rfl⟩
abbrev main_v345 : Ref sig .tc := ⟨.hbm, 407, rfl⟩
abbrev main_v346 : Ref sig .tc := ⟨.hbm, 408, rfl⟩
abbrev main_v347 : Ref sig .tc := ⟨.hbm, 409, rfl⟩
abbrev main_v348 : Ref sig .tc := ⟨.hbm, 410, rfl⟩
abbrev main_v349 : Ref sig .tc := ⟨.hbm, 411, rfl⟩
abbrev main_v350 : Ref sig .tc := ⟨.hbm, 412, rfl⟩
abbrev main_v351 : Ref sig .tc := ⟨.hbm, 413, rfl⟩
abbrev main_v352 : Ref sig .tc := ⟨.hbm, 414, rfl⟩
abbrev main_v353 : Ref sig .tc := ⟨.hbm, 415, rfl⟩
abbrev main_v354 : Ref sig .tc := ⟨.hbm, 416, rfl⟩
abbrev main_v355 : Ref sig .tc := ⟨.hbm, 417, rfl⟩
abbrev main_v356 : Ref sig .tc := ⟨.hbm, 418, rfl⟩
abbrev main_v357 : Ref sig .tc := ⟨.hbm, 419, rfl⟩
abbrev main_v358 : Ref sig .tc := ⟨.hbm, 420, rfl⟩
abbrev main_v359 : Ref sig .tc := ⟨.hbm, 421, rfl⟩
abbrev main_v360 : Ref sig .tc := ⟨.hbm, 422, rfl⟩
abbrev main_v361 : Ref sig .tc := ⟨.hbm, 423, rfl⟩
abbrev main_v362 : Ref sig .tc := ⟨.hbm, 424, rfl⟩
abbrev main_v363 : Ref sig .tc := ⟨.hbm, 425, rfl⟩
abbrev main_v364 : Ref sig .tc := ⟨.hbm, 426, rfl⟩
abbrev main_v365 : Ref sig .tc := ⟨.hbm, 427, rfl⟩
abbrev main_v366 : Ref sig .tc := ⟨.hbm, 428, rfl⟩
abbrev main_v367 : Ref sig .tc := ⟨.hbm, 429, rfl⟩
abbrev main_v368 : Ref sig .tc := ⟨.hbm, 430, rfl⟩
abbrev main_v369 : Ref sig .tc := ⟨.hbm, 431, rfl⟩
abbrev main_v370 : Ref sig .tc := ⟨.hbm, 432, rfl⟩
abbrev main_v371 : Ref sig .tc := ⟨.hbm, 433, rfl⟩
abbrev main_v372 : Ref sig .tc := ⟨.hbm, 434, rfl⟩
abbrev main_v373 : Ref sig .tc := ⟨.hbm, 435, rfl⟩
abbrev main_v374 : Ref sig .tc := ⟨.hbm, 436, rfl⟩
abbrev main_v375 : Ref sig .tc := ⟨.hbm, 437, rfl⟩
abbrev main_v376 : Ref sig .tc := ⟨.hbm, 438, rfl⟩
abbrev main_v377 : Ref sig .tc := ⟨.hbm, 439, rfl⟩
abbrev main_v378 : Ref sig .tc := ⟨.hbm, 440, rfl⟩
abbrev main_v379 : Ref sig .tc := ⟨.hbm, 441, rfl⟩
abbrev main_v380 : Ref sig .tc := ⟨.hbm, 442, rfl⟩
abbrev main_v381 : Ref sig .tc := ⟨.hbm, 443, rfl⟩
abbrev main_v382 : Ref sig .tc := ⟨.hbm, 444, rfl⟩
abbrev main_v383 : Ref sig .tc := ⟨.hbm, 445, rfl⟩
abbrev main_v384 : Ref sig .tc := ⟨.hbm, 446, rfl⟩
abbrev main_v385 : Ref sig .tc := ⟨.hbm, 447, rfl⟩
abbrev main_v386 : Ref sig .tc := ⟨.hbm, 448, rfl⟩
abbrev main_v387 : Ref sig .tc := ⟨.hbm, 449, rfl⟩
abbrev main_v388 : Ref sig .tc := ⟨.hbm, 450, rfl⟩
abbrev main_v389 : Ref sig .tc := ⟨.hbm, 451, rfl⟩
abbrev main_v390 : Ref sig .tc := ⟨.hbm, 452, rfl⟩
abbrev main_v391 : Ref sig .tc := ⟨.hbm, 453, rfl⟩
abbrev main_v392 : Ref sig .tc := ⟨.hbm, 454, rfl⟩
abbrev main_v393 : Ref sig .tc := ⟨.hbm, 455, rfl⟩
abbrev main_v394 : Ref sig .tc := ⟨.hbm, 456, rfl⟩
abbrev main_v395 : Ref sig .tc := ⟨.hbm, 457, rfl⟩
abbrev main_v396 : Ref sig .tc := ⟨.hbm, 458, rfl⟩
abbrev main_v397 : Ref sig .tc := ⟨.hbm, 459, rfl⟩
abbrev main_v398 : Ref sig .tc := ⟨.hbm, 460, rfl⟩
abbrev main_v399 : Ref sig .tc := ⟨.hbm, 461, rfl⟩
abbrev main_v400 : Ref sig .tc := ⟨.hbm, 462, rfl⟩
abbrev main_v401 : Ref sig .tc := ⟨.hbm, 463, rfl⟩
abbrev main_v402 : Ref sig .tc := ⟨.hbm, 464, rfl⟩
abbrev main_v403 : Ref sig .tc := ⟨.hbm, 465, rfl⟩
abbrev main_v404 : Ref sig .tc := ⟨.hbm, 466, rfl⟩
abbrev main_v405 : Ref sig .tc := ⟨.hbm, 467, rfl⟩
abbrev main_v406 : Ref sig .tc := ⟨.hbm, 468, rfl⟩
abbrev main_v407 : Ref sig .tc := ⟨.hbm, 469, rfl⟩
abbrev main_v408 : Ref sig .tc := ⟨.hbm, 470, rfl⟩
abbrev main_v409 : Ref sig .tc := ⟨.hbm, 471, rfl⟩
abbrev main_v410 : Ref sig .tc := ⟨.hbm, 472, rfl⟩
abbrev main_v411 : Ref sig .tc := ⟨.hbm, 473, rfl⟩
abbrev main_v412 : Ref sig .tc := ⟨.hbm, 474, rfl⟩
abbrev main_v413 : Ref sig .tc := ⟨.hbm, 475, rfl⟩
abbrev main_v414 : Ref sig .tc := ⟨.hbm, 476, rfl⟩
abbrev main_v415 : Ref sig .tc := ⟨.hbm, 477, rfl⟩
abbrev main_v416 : Ref sig .tc := ⟨.hbm, 478, rfl⟩
abbrev main_v417 : Ref sig .tc := ⟨.hbm, 479, rfl⟩
abbrev main_v418 : Ref sig .tc := ⟨.hbm, 480, rfl⟩
abbrev main_v419 : Ref sig .tc := ⟨.hbm, 481, rfl⟩
abbrev main_v420 : Ref sig .tc := ⟨.hbm, 482, rfl⟩
abbrev main_v421 : Ref sig .tc := ⟨.hbm, 483, rfl⟩
abbrev main_v422 : Ref sig .tc := ⟨.hbm, 484, rfl⟩
abbrev main_v423 : Ref sig .tc := ⟨.hbm, 485, rfl⟩
abbrev main_v424 : Ref sig .tc := ⟨.hbm, 486, rfl⟩
abbrev main_v425 : Ref sig .tc := ⟨.hbm, 487, rfl⟩
abbrev main_v426 : Ref sig .tc := ⟨.hbm, 488, rfl⟩
abbrev main_v427 : Ref sig .tc := ⟨.hbm, 489, rfl⟩
abbrev main_v428 : Ref sig .tc := ⟨.hbm, 490, rfl⟩
abbrev main_v429 : Ref sig .tc := ⟨.hbm, 491, rfl⟩
abbrev main_v430 : Ref sig .tc := ⟨.hbm, 492, rfl⟩
abbrev main_v431 : Ref sig .tc := ⟨.hbm, 493, rfl⟩
abbrev main_v432 : Ref sig .tc := ⟨.hbm, 494, rfl⟩
abbrev main_v433 : Ref sig .tc := ⟨.hbm, 495, rfl⟩
abbrev main_v434 : Ref sig .tc := ⟨.hbm, 496, rfl⟩
abbrev main_v435 : Ref sig .tc := ⟨.hbm, 497, rfl⟩
abbrev main_v436 : Ref sig .tc := ⟨.hbm, 498, rfl⟩
abbrev main_v437 : Ref sig .tc := ⟨.hbm, 499, rfl⟩
abbrev main_v438 : Ref sig .tc := ⟨.hbm, 500, rfl⟩
abbrev main_v439 : Ref sig .tc := ⟨.hbm, 501, rfl⟩
abbrev main_v440 : Ref sig .tc := ⟨.hbm, 502, rfl⟩
abbrev main_v441 : Ref sig .tc := ⟨.hbm, 503, rfl⟩
abbrev main_v442 : Ref sig .tc := ⟨.hbm, 504, rfl⟩
abbrev main_v443 : Ref sig .tc := ⟨.hbm, 505, rfl⟩
abbrev main_v444 : Ref sig .tc := ⟨.hbm, 506, rfl⟩
abbrev main_v445 : Ref sig .tc := ⟨.hbm, 507, rfl⟩
abbrev main_v446 : Ref sig .tc := ⟨.hbm, 508, rfl⟩
abbrev main_v447 : Ref sig .tc := ⟨.hbm, 509, rfl⟩
abbrev main_v448 : Ref sig .tc := ⟨.hbm, 510, rfl⟩
abbrev main_v449 : Ref sig .tc := ⟨.hbm, 511, rfl⟩
abbrev main_v450 : Ref sig .tc := ⟨.hbm, 512, rfl⟩
abbrev main_v451 : Ref sig .tc := ⟨.hbm, 513, rfl⟩
abbrev main_v452 : Ref sig .tc := ⟨.hbm, 514, rfl⟩
abbrev main_v453 : Ref sig .tc := ⟨.hbm, 515, rfl⟩
abbrev main_v454 : Ref sig .tc := ⟨.hbm, 516, rfl⟩
abbrev main_v455 : Ref sig .tc := ⟨.hbm, 517, rfl⟩
abbrev main_v456 : Ref sig .tc := ⟨.hbm, 518, rfl⟩
abbrev main_v457 : Ref sig .tc := ⟨.hbm, 519, rfl⟩
abbrev main_v458 : Ref sig .tc := ⟨.hbm, 520, rfl⟩
abbrev main_v459 : Ref sig .tc := ⟨.hbm, 521, rfl⟩
abbrev main_v460 : Ref sig .tc := ⟨.hbm, 522, rfl⟩
abbrev main_v461 : Ref sig .tc := ⟨.hbm, 523, rfl⟩
abbrev main_v462 : Ref sig .tc := ⟨.hbm, 524, rfl⟩
abbrev main_v463 : Ref sig .tc := ⟨.hbm, 525, rfl⟩
abbrev main_v464 : Ref sig .tc := ⟨.hbm, 526, rfl⟩
abbrev main_v465 : Ref sig .tc := ⟨.hbm, 527, rfl⟩
abbrev main_cst_11 : Ref sig .tc := ⟨.hbm, 528, rfl⟩
abbrev main_v466 : Ref sig .tc := ⟨.hbm, 529, rfl⟩
abbrev main_v467 : Ref sig .tc := ⟨.hbm, 530, rfl⟩
abbrev main_cst_12 : Ref sig .tc := ⟨.hbm, 531, rfl⟩
abbrev main_v468 : Ref sig .tc := ⟨.hbm, 532, rfl⟩
abbrev main_v469 : Ref sig .tc := ⟨.hbm, 533, rfl⟩
abbrev main_cst_13 : Ref sig .tc := ⟨.hbm, 534, rfl⟩
abbrev main_v470 : Ref sig .tc := ⟨.hbm, 535, rfl⟩
abbrev main_v471 : Ref sig .tc := ⟨.hbm, 536, rfl⟩
abbrev main_v472 : Ref sig .tc := ⟨.hbm, 537, rfl⟩
abbrev main_v473 : Ref sig .tc := ⟨.hbm, 538, rfl⟩
abbrev main_v474 : Ref sig .tc := ⟨.hbm, 539, rfl⟩
abbrev main_v475 : Ref sig .tc := ⟨.hbm, 540, rfl⟩
abbrev main_v476 : Ref sig .tc := ⟨.hbm, 541, rfl⟩
abbrev main_v477 : Ref sig .tc := ⟨.hbm, 542, rfl⟩
abbrev main_v478 : Ref sig .tc := ⟨.hbm, 543, rfl⟩
abbrev main_v479 : Ref sig .tc := ⟨.hbm, 544, rfl⟩
abbrev main_v480 : Ref sig .tc := ⟨.hbm, 545, rfl⟩
abbrev main_cst_14 : Ref sig .tc := ⟨.hbm, 546, rfl⟩
abbrev main_v481 : Ref sig .tc := ⟨.hbm, 547, rfl⟩
abbrev main_v482 : Ref sig .tc := ⟨.hbm, 548, rfl⟩
abbrev main_cst_15 : Ref sig .tc := ⟨.hbm, 549, rfl⟩
abbrev main_v483 : Ref sig .tc := ⟨.hbm, 550, rfl⟩
abbrev main_v484 : Ref sig .tc := ⟨.hbm, 551, rfl⟩
abbrev main_v485 : Ref sig .tc := ⟨.hbm, 552, rfl⟩
abbrev main_v486 : Ref sig .tc := ⟨.hbm, 553, rfl⟩
abbrev main_v487 : Ref sig .tc := ⟨.hbm, 554, rfl⟩
abbrev main_v488 : Ref sig .tc := ⟨.hbm, 555, rfl⟩
abbrev main_v489 : Ref sig .tc := ⟨.hbm, 556, rfl⟩
abbrev main_v490 : Ref sig .tc := ⟨.hbm, 557, rfl⟩
abbrev main_v491 : Ref sig .tc := ⟨.hbm, 558, rfl⟩
abbrev main_v492 : Ref sig .tc := ⟨.hbm, 559, rfl⟩
abbrev main_v493 : Ref sig .tc := ⟨.hbm, 560, rfl⟩
abbrev main_v494 : Ref sig .tc := ⟨.hbm, 561, rfl⟩
abbrev main_v495 : Ref sig .tc := ⟨.hbm, 562, rfl⟩
abbrev main_v496 : Ref sig .tc := ⟨.hbm, 563, rfl⟩
abbrev main_v497 : Ref sig .tc := ⟨.hbm, 564, rfl⟩
abbrev main_v498 : Ref sig .tc := ⟨.hbm, 565, rfl⟩

abbrev nD : Nat := 1
abbrev τ : Topo := Topo.v7x

variable {F : FTy → Type} [FloatOps F]
-- ==== Kernel2.lean ====
abbrev S16x256x2048 : Shape := ⟨3, ![16, 256, 2048]⟩
abbrev S8x2048x2048 : Shape := ⟨3, ![8, 2048, 2048]⟩
abbrev S1x1x12288 : Shape := ⟨3, ![1, 1, 12288]⟩
abbrev S8x1x12288 : Shape := ⟨3, ![8, 1, 12288]⟩
abbrev S2048x16432 : Shape := ⟨2, ![2048, 16432]⟩
abbrev S1x1x2048 : Shape := ⟨3, ![1, 1, 2048]⟩
abbrev S_ : Shape := ⟨0, ![]⟩
abbrev S16x256 : Shape := ⟨2, ![16, 256]⟩
abbrev S16x256x1 : Shape := ⟨3, ![16, 256, 1]⟩
abbrev S4096x2048 : Shape := ⟨2, ![4096, 2048]⟩
abbrev S8x1x2048 : Shape := ⟨3, ![8, 1, 2048]⟩
abbrev S8x2048 : Shape := ⟨2, ![8, 2048]⟩
abbrev S8x2048x1 : Shape := ⟨3, ![8, 2048, 1]⟩
abbrev S16384x2048 : Shape := ⟨2, ![16384, 2048]⟩
abbrev S20480x2048 : Shape := ⟨2, ![20480, 2048]⟩
abbrev S2048x1024 : Shape := ⟨2, ![2048, 1024]⟩
abbrev S2048x512 : Shape := ⟨2, ![2048, 512]⟩
abbrev S2048x3072 : Shape := ⟨2, ![2048, 3072]⟩
abbrev S2048x2048 : Shape := ⟨2, ![2048, 2048]⟩
abbrev S2048x16384 : Shape := ⟨2, ![2048, 16384]⟩
abbrev S2048x16 : Shape := ⟨2, ![2048, 16]⟩
abbrev S2048x8 : Shape := ⟨2, ![2048, 8]⟩
abbrev S2048x48 : Shape := ⟨2, ![2048, 48]⟩
abbrev S2048x128 : Shape := ⟨2, ![2048, 128]⟩
abbrev S20480x16384 : Shape := ⟨2, ![20480, 16384]⟩
abbrev S1024x2048 : Shape := ⟨2, ![1024, 2048]⟩
abbrev S1024x512 : Shape := ⟨2, ![1024, 512]⟩
abbrev S20480x128 : Shape := ⟨2, ![20480, 128]⟩
abbrev S1024x128 : Shape := ⟨2, ![1024, 128]⟩

abbrev nBuf : Space → Nat
  | .hbm => 99
  | .vmem => 11
  | .smem => 0
  | _ => 0

abbrev bufTy : (tb : Table) → Fin (tcTables nBuf tb) → BufTy
  | .hbm, ⟨0, _⟩ => ⟨S16x256x2048, .f32⟩
  | .hbm, ⟨1, _⟩ => ⟨S8x2048x2048, .f32⟩
  | .hbm, ⟨2, _⟩ => ⟨S1x1x12288, .f32⟩
  | .hbm, ⟨3, _⟩ => ⟨S8x1x12288, .f32⟩
  | .hbm, ⟨4, _⟩ => ⟨S2048x16432, .f32⟩
  | .hbm, ⟨5, _⟩ => ⟨S1x1x2048, .f32⟩
  | .hbm, ⟨6, _⟩ => ⟨S1x1x2048, .f32⟩
  | .hbm, ⟨7, _⟩ => ⟨S_, .f32⟩
  | .hbm, ⟨8, _⟩ => ⟨S16x256, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S16x256x2048, .f32⟩
  | .hbm, ⟨14, _⟩ => ⟨S16x256x2048, .f32⟩
  | .hbm, ⟨15, _⟩ => ⟨S16x256x2048, .f32⟩
  | .hbm, ⟨16, _⟩ => ⟨S_, .f32⟩
  | .hbm, ⟨17, _⟩ => ⟨S16x256, .f32⟩
  | .hbm, ⟨18, _⟩ => ⟨S16x256x1, .f32⟩
  | .hbm, ⟨19, _⟩ => ⟨S_, .f32⟩
  | .hbm, ⟨20, _⟩ => ⟨S16x256x1, .f32⟩
  | .hbm, ⟨21, _⟩ => ⟨S16x256x1, .f32⟩
  | .hbm, ⟨22, _⟩ => ⟨S16x256x2048, .f32⟩
  | .hbm, ⟨23, _⟩ => ⟨S16x256x2048, .f32⟩
  | .hbm, ⟨24, _⟩ => ⟨S_, .f32⟩
  | .hbm, ⟨25, _⟩ => ⟨S16x256x1, .f32⟩
  | .hbm, ⟨26, _⟩ => ⟨S16x256x1, .f32⟩
  | .hbm, ⟨27, _⟩ => ⟨S16x256x1, .f32⟩
  | .hbm, ⟨28, _⟩ => ⟨S16x256x2048, .f32⟩
  | .hbm, ⟨29, _⟩ => ⟨S16x256x2048, .f32⟩
  | .hbm, ⟨30, _⟩ => ⟨S_, .f32⟩
  | .hbm, ⟨31, _⟩ => ⟨S1x1x2048, .f32⟩
  | .hbm, ⟨32, _⟩ => ⟨S1x1x2048, .f32⟩
  | .hbm, ⟨33, _⟩ => ⟨S16x256x2048, .f32⟩
  | .hbm, ⟨34, _⟩ => ⟨S16x256x2048, .f32⟩
  | .hbm, ⟨35, _⟩ => ⟨S16x256x2048, .f32⟩
  | .hbm, ⟨36, _⟩ => ⟨S16x256x2048, .f32⟩
  | .hbm, ⟨37, _⟩ => ⟨S4096x2048, .f32⟩
  | .hbm, ⟨38, _⟩ => ⟨S8x1x2048, .f32⟩
  | .hbm, ⟨39, _⟩ => ⟨S8x1x2048, .f32⟩
  | .hbm, ⟨40, _⟩ => ⟨S_, .f32⟩
  | .hbm, ⟨41, _⟩ => ⟨S8x2048, .f32⟩
  | .hbm, ⟨42, _⟩ => ⟨S8x2048x1, .f32⟩
  | .hbm, ⟨43, _⟩ => ⟨S_, .f32⟩
  | .hbm, ⟨44, _⟩ => ⟨S8x2048x1, .f32⟩
  | .hbm, ⟨45, _⟩ => ⟨S8x2048x1, .f32⟩
  | .hbm, ⟨46, _⟩ => ⟨S8x2048x2048, .f32⟩
  | .hbm, ⟨47, _⟩ => ⟨S8x2048x2048, .f32⟩
  | .hbm, ⟨48, _⟩ => ⟨S8x2048x2048, .f32⟩
  | .hbm, ⟨49, _⟩ => ⟨S_, .f32⟩
  | .hbm, ⟨50, _⟩ => ⟨S8x2048, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S8x2048x2048, .f32⟩
  | .hbm, ⟨56, _⟩ => ⟨S8x2048x2048, .f32⟩
  | .hbm, ⟨57, _⟩ => ⟨S_, .f32⟩
  | .hbm, ⟨58, _⟩ => ⟨S8x2048x1, .f32⟩
  | .hbm, ⟨59, _⟩ => ⟨S8x2048x1, .f32⟩
  | .hbm, ⟨60, _⟩ => ⟨S8x2048x1, .f32⟩
  | .hbm, ⟨61, _⟩ => ⟨S8x2048x2048, .f32⟩
  | .hbm, ⟨62, _⟩ => ⟨S8x2048x2048, .f32⟩
  | .hbm, ⟨63, _⟩ => ⟨S_, .f32⟩
  | .hbm, ⟨64, _⟩ => ⟨S8x1x2048, .f32⟩
  | .hbm, ⟨65, _⟩ => ⟨S8x1x2048, .f32⟩
  | .hbm, ⟨66, _⟩ => ⟨S8x2048x2048, .f32⟩
  | .hbm, ⟨67, _⟩ => ⟨S8x2048x2048, .f32⟩
  | .hbm, ⟨68, _⟩ => ⟨S8x2048x2048, .f32⟩
  | .hbm, ⟨69, _⟩ => ⟨S8x2048x2048, .f32⟩
  | .hbm, ⟨70, _⟩ => ⟨S16384x2048, .f32⟩
  | .hbm, ⟨71, _⟩ => ⟨S20480x2048, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x512, .f32⟩
  | .hbm, ⟨77, _⟩ => ⟨S2048x512, .f32⟩
  | .hbm, ⟨78, _⟩ => ⟨S2048x1024, .f32⟩
  | .hbm, ⟨79, _⟩ => ⟨S2048x1024, .f32⟩
  | .hbm, ⟨80, _⟩ => ⟨S2048x3072, .f32⟩
  | .hbm, ⟨81, _⟩ => ⟨S2048x2048, .f32⟩
  | .hbm, ⟨82, _⟩ => ⟨S2048x2048, .f32⟩
  | .hbm, ⟨83, _⟩ => ⟨S2048x2048, .f32⟩
  | .hbm, ⟨84, _⟩ => ⟨S2048x16384, .f32⟩
  | .hbm, ⟨85, _⟩ => ⟨S2048x16, .f32⟩
  | .hbm, ⟨86, _⟩ => ⟨S2048x16, .f32⟩
  | .hbm, ⟨87, _⟩ => ⟨S2048x8, .f32⟩
  | .hbm, ⟨88, _⟩ => ⟨S2048x8, .f32⟩
  | .hbm, ⟨89, _⟩ => ⟨S2048x48, .f32⟩
  | .hbm, ⟨90, _⟩ => ⟨S_, .i32⟩
  | .hbm, ⟨91, _⟩ => ⟨S_, .f32⟩
  | .hbm, ⟨92, _⟩ => ⟨S2048x128, .f32⟩
  | .hbm, ⟨93, _⟩ => ⟨S20480x2048, .bf16⟩
  | .hbm, ⟨94, _⟩ => ⟨S2048x16384, .bf16⟩
  | .hbm, ⟨95, _⟩ => ⟨S20480x16384, .f32⟩
  | .hbm, ⟨96, _⟩ => ⟨S20480x2048, .bf16⟩
  | .hbm, ⟨97, _⟩ => ⟨S2048x128, .bf16⟩
  | .hbm, ⟨98, _⟩ => ⟨S20480x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x2048, .bf16⟩
  | .local _ .vmem, ⟨7, _⟩ => ⟨S1024x2048, .bf16⟩
  | .local _ .vmem, ⟨8, _⟩ => ⟨S2048x128, .bf16⟩
  | .local _ .vmem, ⟨9, _⟩ => ⟨S1024x128, .f32⟩
  | .local _ .vmem, ⟨10, _⟩ => ⟨S1024x128, .f32⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_c : Ref sig .tc := ⟨.hbm, 90, rfl⟩
abbrev main_call0_v0 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨2, ![20, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![20, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2048x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference2Ideal.lean ====
abbrev S16x256x2048 : Shape := ⟨3, ![16, 256, 2048]⟩
abbrev S8x2048x2048 : Shape := ⟨3, ![8, 2048, 2048]⟩
abbrev S1x1x12288 : Shape := ⟨3, ![1, 1, 12288]⟩
abbrev S8x1x12288 : Shape := ⟨3, ![8, 1, 12288]⟩
abbrev S2048x16432 : Shape := ⟨2, ![2048, 16432]⟩
abbrev S1x1x2048 : Shape := ⟨3, ![1, 1, 2048]⟩
abbrev S_ : Shape := ⟨0, ![]⟩
abbrev S16x256 : Shape := ⟨2, ![16, 256]⟩
abbrev S16x256x1 : Shape := ⟨3, ![16, 256, 1]⟩
abbrev S16x256x16432 : Shape := ⟨3, ![16, 256, 16432]⟩
abbrev S4096x16432 : Shape := ⟨2, ![4096, 16432]⟩
abbrev S4096x1024 : Shape := ⟨2, ![4096, 1024]⟩
abbrev S4096x16 : Shape := ⟨2, ![4096, 16]⟩
abbrev S4096x512 : Shape := ⟨2, ![4096, 512]⟩
abbrev S4096x8 : Shape := ⟨2, ![4096, 8]⟩
abbrev S4096x2048 : Shape := ⟨2, ![4096, 2048]⟩
abbrev S4096x16384 : Shape := ⟨2, ![4096, 16384]⟩
abbrev S4096x48 : Shape := ⟨2, ![4096, 48]⟩
abbrev S8x1x2048 : Shape := ⟨3, ![8, 1, 2048]⟩
abbrev S8x2048 : Shape := ⟨2, ![8, 2048]⟩
abbrev S8x2048x1 : Shape := ⟨3, ![8, 2048, 1]⟩
abbrev S8x2048x16432 : Shape := ⟨3, ![8, 2048, 16432]⟩
abbrev S16384x16432 : Shape := ⟨2, ![16384, 16432]⟩
abbrev S16384x1024 : Shape := ⟨2, ![16384, 1024]⟩
abbrev S16384x16 : Shape := ⟨2, ![16384, 16]⟩
abbrev S16384x512 : Shape := ⟨2, ![16384, 512]⟩
abbrev S16384x8 : Shape := ⟨2, ![16384, 8]⟩
abbrev S16384x2048 : Shape := ⟨2, ![16384, 2048]⟩
abbrev S16384x16384 : Shape := ⟨2, ![16384, 16384]⟩
abbrev S16384x48 : Shape := ⟨2, ![16384, 48]⟩
abbrev S20480x48 : Shape := ⟨2, ![20480, 48]⟩
abbrev S20480x16384 : Shape := ⟨2, ![20480, 16384]⟩
abbrev S20480x128 : Shape := ⟨2, ![20480, 128]⟩

abbrev nBuf : Space → Nat
  | .hbm => 126
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S8x2048x2048, .f32⟩
  | .hbm, ⟨2, _⟩ => ⟨S1x1x12288, .f32⟩
  | .hbm, ⟨3, _⟩ => ⟨S8x1x12288, .f32⟩
  | .hbm, ⟨4, _⟩ => ⟨S2048x16432, .f32⟩
  | .hbm, ⟨5, _⟩ => ⟨S1x1x2048, .f32⟩
  | .hbm, ⟨6, _⟩ => ⟨S1x1x2048, .f32⟩
  | .hbm, ⟨7, _⟩ => ⟨S1x1x2048, .f32⟩
  | .hbm, ⟨8, _⟩ => ⟨S1x1x2048, .f32⟩
  | .hbm, ⟨9, _⟩ => ⟨S1x1x2048, .f32⟩
  | .hbm, ⟨10, _⟩ => ⟨S1x1x2048, .f32⟩
  | .hbm, ⟨11, _⟩ => ⟨S_, .f32⟩
  | .hbm, ⟨12, _⟩ => ⟨S16x256, .f32⟩
  | .hbm, ⟨13, _⟩ => ⟨S16x256x1, .f32⟩
  | .hbm, ⟨14, _⟩ => ⟨S_, .f32⟩
  | .hbm, ⟨15, _⟩ => ⟨S16x256x1, .f32⟩
  | .hbm, ⟨16, _⟩ => ⟨S16x256x1, .f32⟩
  | .hbm, ⟨17, _⟩ => ⟨S16x256x2048, .f32⟩
  | .hbm, ⟨18, _⟩ => ⟨S16x256x2048, .f32⟩
  | .hbm, ⟨19, _⟩ => ⟨S16x256x2048, .f32⟩
  | .hbm, ⟨20, _⟩ => ⟨S_, .f32⟩
  | .hbm, ⟨21, _⟩ => ⟨S16x256, .f32⟩
  | .hbm, ⟨22, _⟩ => ⟨S16x256x1, .f32⟩
  | .hbm, ⟨23, _⟩ => ⟨S_, .f32⟩
  | .hbm, ⟨24, _⟩ => ⟨S16x256x1, .f32⟩
  | .hbm, ⟨25, _⟩ => ⟨S16x256x1, .f32⟩
  | .hbm, ⟨26, _⟩ => ⟨S16x256x2048, .f32⟩
  | .hbm, ⟨27, _⟩ => ⟨S16x256x2048, .f32⟩
  | .hbm, ⟨28, _⟩ => ⟨S_, .f32⟩
  | .hbm, ⟨29, _⟩ => ⟨S16x256x1, .f32⟩
  | .hbm, ⟨30, _⟩ => ⟨S16x256x1, .f32⟩
  | .hbm, ⟨31, _⟩ => ⟨S16x256x1, .f32⟩
  | .hbm, ⟨32, _⟩ => ⟨S16x256x2048, .f32⟩
  | .hbm, ⟨33, _⟩ => ⟨S16x256x2048, .f32⟩
  | .hbm, ⟨34, _⟩ => ⟨S_, .f32⟩
  | .hbm, ⟨35, _⟩ => ⟨S1x1x2048, .f32⟩
  | .hbm, ⟨36, _⟩ => ⟨S1x1x2048, .f32⟩
  | .hbm, ⟨37, _⟩ => ⟨S16x256x2048, .f32⟩
  | .hbm, ⟨38, _⟩ => ⟨S16x256x2048, .f32⟩
  | .hbm, ⟨39, _⟩ => ⟨S16x256x2048, .f32⟩
  | .hbm, ⟨40, _⟩ => ⟨S16x256x2048, .f32⟩
  | .hbm, ⟨41, _⟩ => ⟨S16x256x16432, .f32⟩
  | .hbm, ⟨42, _⟩ => ⟨S4096x16432, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x16, .f32⟩
  | .hbm, ⟨48, _⟩ => ⟨S4096x16, .f32⟩
  | .hbm, ⟨49, _⟩ => ⟨S4096x512, .f32⟩
  | .hbm, ⟨50, _⟩ => ⟨S4096x512, .f32⟩
  | .hbm, ⟨51, _⟩ => ⟨S4096x1024, .f32⟩
  | .hbm, ⟨52, _⟩ => ⟨S4096x1024, .f32⟩
  | .hbm, ⟨53, _⟩ => ⟨S4096x8, .f32⟩
  | .hbm, ⟨54, _⟩ => ⟨S4096x8, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x16384, .f32⟩
  | .hbm, ⟨62, _⟩ => ⟨S4096x48, .f32⟩
  | .hbm, ⟨63, _⟩ => ⟨S8x1x2048, .f32⟩
  | .hbm, ⟨64, _⟩ => ⟨S8x1x2048, .f32⟩
  | .hbm, ⟨65, _⟩ => ⟨S8x1x2048, .f32⟩
  | .hbm, ⟨66, _⟩ => ⟨S8x1x2048, .f32⟩
  | .hbm, ⟨67, _⟩ => ⟨S8x1x2048, .f32⟩
  | .hbm, ⟨68, _⟩ => ⟨S8x1x2048, .f32⟩
  | .hbm, ⟨69, _⟩ => ⟨S_, .f32⟩
  | .hbm, ⟨70, _⟩ => ⟨S8x2048, .f32⟩
  | .hbm, ⟨71, _⟩ => ⟨S8x2048x1, .f32⟩
  | .hbm, ⟨72, _⟩ => ⟨S_, .f32⟩
  | .hbm, ⟨73, _⟩ => ⟨S8x2048x1, .f32⟩
  | .hbm, ⟨74, _⟩ => ⟨S8x2048x1, .f32⟩
  | .hbm, ⟨75, _⟩ => ⟨S8x2048x2048, .f32⟩
  | .hbm, ⟨76, _⟩ => ⟨S8x2048x2048, .f32⟩
  | .hbm, ⟨77, _⟩ => ⟨S8x2048x2048, .f32⟩
  | .hbm, ⟨78, _⟩ => ⟨S_, .f32⟩
  | .hbm, ⟨79, _⟩ => ⟨S8x2048, .f32⟩
  | .hbm, ⟨80, _⟩ => ⟨S8x2048x1, .f32⟩
  | .hbm, ⟨81, _⟩ => ⟨S_, .f32⟩
  | .hbm, ⟨82, _⟩ => ⟨S8x2048x1, .f32⟩
  | .hbm, ⟨83, _⟩ => ⟨S8x2048x1, .f32⟩
  | .hbm, ⟨84, _⟩ => ⟨S8x2048x2048, .f32⟩
  | .hbm, ⟨85, _⟩ => ⟨S8x2048x2048, .f32⟩
  | .hbm, ⟨86, _⟩ => ⟨S_, .f32⟩
  | .hbm, ⟨87, _⟩ => ⟨S8x2048x1, .f32⟩
  | .hbm, ⟨88, _⟩ => ⟨S8x2048x1, .f32⟩
  | .hbm, ⟨89, _⟩ => ⟨S8x2048x1, .f32⟩
  | .hbm, ⟨90, _⟩ => ⟨S8x2048x2048, .f32⟩
  | .hbm, ⟨91, _⟩ => ⟨S8x2048x2048, .f32⟩
  | .hbm, ⟨92, _⟩ => ⟨S_, .f32⟩
  | .hbm, ⟨93, _⟩ => ⟨S8x1x2048, .f32⟩
  | .hbm, ⟨94, _⟩ => ⟨S8x1x2048, .f32⟩
  | .hbm, ⟨95, _⟩ => ⟨S8x2048x2048, .f32⟩
  | .hbm, ⟨96, _⟩ => ⟨S8x2048x2048, .f32⟩
  | .hbm, ⟨97, _⟩ => ⟨S8x2048x2048, .f32⟩
  | .hbm, ⟨98, _⟩ => ⟨S8x2048x2048, .f32⟩
  | .hbm, ⟨99, _⟩ => ⟨S8x2048x16432, .f32⟩
  | .hbm, ⟨100, _⟩ => ⟨S16384x16432, .f32⟩
  | .hbm, ⟨101, _⟩ => ⟨S16384x1024, .f32⟩
  | .hbm, ⟨102, _⟩ => ⟨S16384x1024, .f32⟩
  | .hbm, ⟨103, _⟩ => ⟨S16384x1024, .f32⟩
  | .hbm, ⟨104, _⟩ => ⟨S16384x1024, .f32⟩
  | .hbm, ⟨105, _⟩ => ⟨S16384x16, .f32⟩
  | .hbm, ⟨106, _⟩ => ⟨S16384x16, .f32⟩
  | .hbm, ⟨107, _⟩ => ⟨S16384x512, .f32⟩
  | .hbm, ⟨108, _⟩ => ⟨S16384x512, .f32⟩
  | .hbm, ⟨109, _⟩ => ⟨S16384x1024, .f32⟩
  | .hbm, ⟨110, _⟩ => ⟨S16384x1024, .f32⟩
  | .hbm, ⟨111, _⟩ => ⟨S16384x8, .f32⟩
  | .hbm, ⟨112, _⟩ => ⟨S16384x8, .f32⟩
  | .hbm, ⟨113, _⟩ => ⟨S16384x1024, .f32⟩
  | .hbm, ⟨114, _⟩ => ⟨S16384x1024, .f32⟩
  | .hbm, ⟨115, _⟩ => ⟨S16384x1024, .f32⟩
  | .hbm, ⟨116, _⟩ => ⟨S16384x2048, .f32⟩
  | .hbm, ⟨117, _⟩ => ⟨S16384x2048, .f32⟩
  | .hbm, ⟨118, _⟩ => ⟨S16384x2048, .f32⟩
  | .hbm, ⟨119, _⟩ => ⟨S16384x16384, .f32⟩
  | .hbm, ⟨120, _⟩ => ⟨S16384x48, .f32⟩
  | .hbm, ⟨121, _⟩ => ⟨S20480x48, .f32⟩
  | .hbm, ⟨122, _⟩ => ⟨S20480x16384, .f32⟩
  | .hbm, ⟨123, _⟩ => ⟨S_, .i32⟩
  | .hbm, ⟨124, _⟩ => ⟨S_, .f32⟩
  | .hbm, ⟨125, _⟩ => ⟨S20480x128, .f32⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_5 : Ref sig .tc := ⟨.hbm, 69, rfl⟩
abbrev main_v58 : Ref sig .tc := ⟨.hbm, 70, rfl⟩
abbrev main_v59 : Ref sig .tc := ⟨.hbm, 71, rfl⟩
abbrev main_cst_6 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_7 : Ref sig .tc := ⟨.hbm, 78, rfl⟩
abbrev main_v65 : Ref sig .tc := ⟨.hbm, 79, rfl⟩
abbrev main_v66 : Ref sig .tc := ⟨.hbm, 80, rfl⟩
abbrev main_cst_8 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_9 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_10 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_c : Ref sig .tc := ⟨.hbm, 123, rfl⟩
abbrev main_call0_v0 : Ref sig .tc := ⟨.hbm, 124, rfl⟩
abbrev main_v106 : Ref sig .tc := ⟨.hbm, 125, rfl⟩

abbrev nD : Nat := 1
abbrev τ : Topo := Topo.v7x

variable {F : FTy → Type} [FloatOps F]
-- ==== Kernel3.lean ====
abbrev S16x256x2048 : Shape := ⟨3, ![16, 256, 2048]⟩
abbrev S4096x2048 : Shape := ⟨2, ![4096, 2048]⟩
abbrev S1x1x12288 : Shape := ⟨3, ![1, 1, 12288]⟩
abbrev S2048 : Shape := ⟨1, ![2048]⟩
abbrev S2048x16 : Shape := ⟨2, ![2048, 16]⟩
abbrev S16 : Shape := ⟨1, ![16]⟩
abbrev S16x2048x1024 : Shape := ⟨3, ![16, 2048, 1024]⟩
abbrev S16x1024x2048 : Shape := ⟨3, ![16, 1024, 2048]⟩
abbrev S1x1x2048 : Shape := ⟨3, ![1, 1, 2048]⟩
abbrev S_ : Shape := ⟨0, ![]⟩
abbrev S16x256 : Shape := ⟨2, ![16, 256]⟩
abbrev S16x256x1 : Shape := ⟨3, ![16, 256, 1]⟩
abbrev S4096x16 : Shape := ⟨2, ![4096, 16]⟩
abbrev S1x16 : Shape := ⟨2, ![1, 16]⟩
abbrev S4096 : Shape := ⟨1, ![4096]⟩
abbrev S4096x1 : Shape := ⟨2, ![4096, 1]⟩
abbrev S16x4096 : Shape := ⟨2, ![16, 4096]⟩
abbrev S16x512 : Shape := ⟨2, ![16, 512]⟩
abbrev S16x512x1 : Shape := ⟨3, ![16, 512, 1]⟩
abbrev S16x512x2048 : Shape := ⟨3, ![16, 512, 2048]⟩
abbrev S16x512x1024 : Shape := ⟨3, ![16, 512, 1024]⟩
abbrev S1x512x2048 : Shape := ⟨3, ![1, 512, 2048]⟩
abbrev S1x2048x512 : Shape := ⟨3, ![1, 2048, 512]⟩
abbrev S1x512x512 : Shape := ⟨3, ![1, 512, 512]⟩
abbrev S512x2048 : Shape := ⟨2, ![512, 2048]⟩
abbrev S2048x512 : Shape := ⟨2, ![2048, 512]⟩
abbrev S512x512 : Shape := ⟨2, ![512, 512]⟩
abbrev S1x512x1024 : Shape := ⟨3, ![1, 512, 1024]⟩
abbrev S1x1024x512 : Shape := ⟨3, ![1, 1024, 512]⟩
abbrev S512x1024 : Shape := ⟨2, ![512, 1024]⟩
abbrev S1024x512 : Shape := ⟨2, ![1024, 512]⟩
abbrev S8192 : Shape := ⟨1, ![8192]⟩
abbrev S8192x2048 : Shape := ⟨2, ![8192, 2048]⟩
abbrev S8192x1 : Shape := ⟨2, ![8192, 1]⟩

abbrev nBuf : Space → Nat
  | .hbm => 189
  | .vmem => 18
  | .smem => 0
  | _ => 0

abbrev hbmTy0_0 (i : Nat) : BufTy := match i % 128 with
  | 0 => ⟨S16x256x2048, .f32⟩
  | 1 => ⟨S4096x2048, .f32⟩
  | 2 => ⟨S1x1x12288, .f32⟩
  | 3 => ⟨S2048, .f32⟩
  | 4 => ⟨S2048, .f32⟩
  | 5 => ⟨S2048, .f32⟩
  | 6 => ⟨S2048, .f32⟩
  | 7 => ⟨S2048x16, .f32⟩
  | 8 => ⟨S16, .f32⟩
  | 9 => ⟨S16x2048x1024, .f32⟩
  | 10 => ⟨S16x2048x1024, .f32⟩
  | 11 => ⟨S16x1024x2048, .f32⟩
  | 12 => ⟨S1x1x2048, .f32⟩
  | 13 => ⟨S1x1x2048, .f32⟩
  | 14 => ⟨S1x1x2048, .f32⟩
  | 15 => ⟨S1x1x2048, .f32⟩
  | 16 => ⟨S16x256x2048, .f32⟩
  | 17 => ⟨S_, .f32⟩
  | 18 => ⟨S16x256x2048, .f32⟩
  | 19 => ⟨S16x256x2048, .f32⟩
  | 20 => ⟨S_, .f32⟩
  | 21 => ⟨S1x1x2048, .f32⟩
  | 22 => ⟨S1x1x2048, .f32⟩
  | 23 => ⟨S16x256x2048, .f32⟩
  | 24 => ⟨S16x256x2048, .f32⟩
  | 25 => ⟨S16x256x2048, .f32⟩
  | 26 => ⟨S_, .f32⟩
  | 27 => ⟨S16x256, .f32⟩
  | 28 => ⟨S16x256x1, .f32⟩
  | 29 => ⟨S_, .f32⟩
  | 30 => ⟨S16x256x1, .f32⟩
  | 31 => ⟨S16x256x1, .f32⟩
  | 32 => ⟨S16x256x2048, .f32⟩
  | 33 => ⟨S16x256x2048, .f32⟩
  | 34 => ⟨S16x256x2048, .f32⟩
  | 35 => ⟨S_, .f32⟩
  | 36 => ⟨S16x256, .f32⟩
  | 37 => ⟨S16x256x1, .f32⟩
  | 38 => ⟨S_, .f32⟩
  | 39 => ⟨S16x256x1, .f32⟩
  | 40 => ⟨S16x256x1, .f32⟩
  | 41 => ⟨S16x256x2048, .f32⟩
  | 42 => ⟨S16x256x2048, .f32⟩
  | 43 => ⟨S_, .f32⟩
  | 44 => ⟨S16x256x1, .f32⟩
  | 45 => ⟨S16x256x1, .f32⟩
  | 46 => ⟨S16x256x1, .f32⟩
  | 47 => ⟨S16x256x2048, .f32⟩
  | 48 => ⟨S16x256x2048, .f32⟩
  | 49 => ⟨S1x1x2048, .f32⟩
  | 50 => ⟨S16x256x2048, .f32⟩
  | 51 => ⟨S16x256x2048, .f32⟩
  | 52 => ⟨S1x1x2048, .f32⟩
  | 53 => ⟨S16x256x2048, .f32⟩
  | 54 => ⟨S16x256x2048, .f32⟩
  | 55 => ⟨S_, .f32⟩
  | 56 => ⟨S16x256, .f32⟩
  | 57 => ⟨S16x256x1, .f32⟩
  | 58 => ⟨S_, .f32⟩
  | 59 => ⟨S16x256x1, .f32⟩
  | 60 => ⟨S16x256x1, .f32⟩
  | 61 => ⟨S16x256x2048, .f32⟩
  | 62 => ⟨S16x256x2048, .f32⟩
  | 63 => ⟨S16x256x2048, .f32⟩
  | 64 => ⟨S_, .f32⟩
  | 65 => ⟨S16x256, .f32⟩
  | 66 => ⟨S16x256x1, .f32⟩
  | 67 => ⟨S_, .f32⟩
  | 68 => ⟨S16x256x1, .f32⟩
  | 69 => ⟨S16x256x1, .f32⟩
  | 70 => ⟨S16x256x2048, .f32⟩
  | 71 => ⟨S16x256x2048, .f32⟩
  | 72 => ⟨S_, .f32⟩
  | 73 => ⟨S16x256x1, .f32⟩
  | 74 => ⟨S16x256x1, .f32⟩
  | 75 => ⟨S16x256x1, .f32⟩
  | 76 => ⟨S16x256x2048, .f32⟩
  | 77 => ⟨S16x256x2048, .f32⟩
  | 78 => ⟨S_, .f32⟩
  | 79 => ⟨S1x1x2048, .f32⟩
  | 80 => ⟨S1x1x2048, .f32⟩
  | 81 => ⟨S16x256x2048, .f32⟩
  | 82 => ⟨S16x256x2048, .f32⟩
  | 83 => ⟨S16x256x2048, .f32⟩
  | 84 => ⟨S16x256x2048, .f32⟩
  | 85 => ⟨S4096x2048, .f32⟩
  | 86 => ⟨S4096x16, .f32⟩
  | 87 => ⟨S1x16, .f32⟩
  | 88 => ⟨S4096x16, .f32⟩
  | 89 => ⟨S4096x16, .f32⟩
  | 90 => ⟨S_, .f32⟩
  | 91 => ⟨S4096, .f32⟩
  | 92 => ⟨S_, .f32⟩
  | 93 => ⟨S4096, .f32⟩
  | 94 => ⟨S4096, .f32⟩
  | 95 => ⟨S4096x1, .f32⟩
  | 96 => ⟨S4096x16, .f32⟩
  | 97 => ⟨S4096x16, .f32⟩
  | 98 => ⟨S4096x16, .f32⟩
  | 99 => ⟨S_, .f32⟩
  | 100 => ⟨S4096, .f32⟩
  | 101 => ⟨S4096x1, .f32⟩
  | 102 => ⟨S4096x16, .f32⟩
  | 103 => ⟨S4096x16, .f32⟩
  | 104 => ⟨S16x4096, .f32⟩
  | 105 => ⟨S16x512, .f32⟩
  | 106 => ⟨S16x512, .i32⟩
  | 107 => ⟨S4096x2048, .bf16⟩
  | 108 => ⟨S_, .i32⟩
  | 109 => ⟨S16x512, .i32⟩
  | 110 => ⟨S16x512, .i1⟩
  | 111 => ⟨S_, .i32⟩
  | 112 => ⟨S16x512, .i32⟩
  | 113 => ⟨S16x512, .i32⟩
  | 114 => ⟨S16x512, .i32⟩
  | 115 => ⟨S16x512x1, .i32⟩
  | 116 => ⟨S16x512x2048, .bf16⟩
  | 117 => ⟨S16x2048x1024, .bf16⟩
  | 118 => ⟨S16x512x1024, .f32⟩
  | 119 => ⟨S16x512x1024, .f32⟩
  | 120 => ⟨S16x512x1024, .f32⟩
  | 121 => ⟨S_, .f32⟩
  | 122 => ⟨S16x512x1024, .f32⟩
  | 123 => ⟨S16x512x1024, .f32⟩
  | 124 => ⟨S_, .f32⟩
  | 125 => ⟨S16x512x1024, .f32⟩
  | 126 => ⟨S16x512x1024, .f32⟩
  | 127 => ⟨S16x512x1024, .f32⟩
  | _ => ⟨S16x256x2048, .f32⟩

abbrev hbmTy0_1 (i : Nat) : BufTy := match i % 128 with
  | 0 => ⟨S16x2048x1024, .bf16⟩
  | 1 => ⟨S16x512x1024, .f32⟩
  | 2 => ⟨S16x512x1024, .f32⟩
  | 3 => ⟨S16x512x1024, .bf16⟩
  | 4 => ⟨S16x1024x2048, .bf16⟩
  | 5 => ⟨S16x512x2048, .f32⟩
  | 6 => ⟨S16x512x1, .f32⟩
  | 7 => ⟨S16x512x2048, .f32⟩
  | 8 => ⟨S16x512x2048, .f32⟩
  | 9 => ⟨S_, .f32⟩
  | 10 => ⟨S4096x2048, .f32⟩
  | 11 => ⟨S8192, .i32⟩
  | 12 => ⟨S8192x2048, .f32⟩
  | 13 => ⟨S_, .i32⟩
  | 14 => ⟨S8192, .i32⟩
  | 15 => ⟨S8192, .i1⟩
  | 16 => ⟨S_, .i32⟩
  | 17 => ⟨S8192, .i32⟩
  | 18 => ⟨S8192, .i32⟩
  | 19 => ⟨S8192, .i32⟩
  | 20 => ⟨S8192x1, .i32⟩
  | 21 => ⟨S4096x2048, .f32⟩
  | 22 => ⟨S16x256x2048, .f32⟩
  | 23 => ⟨S_, .f32⟩
  | 24 => ⟨S16x256x2048, .f32⟩
  | 25 => ⟨S16x256x2048, .f32⟩
  | 26 => ⟨S_, .f32⟩
  | 27 => ⟨S1x1x2048, .f32⟩
  | 28 => ⟨S1x1x2048, .f32⟩
  | 29 => ⟨S16x256x2048, .f32⟩
  | 30 => ⟨S16x256x2048, .f32⟩
  | 31 => ⟨S16x256x2048, .f32⟩
  | 32 => ⟨S_, .f32⟩
  | 33 => ⟨S16x256, .f32⟩
  | 34 => ⟨S16x256x1, .f32⟩
  | 35 => ⟨S_, .f32⟩
  | 36 => ⟨S16x256x1, .f32⟩
  | 37 => ⟨S16x256x1, .f32⟩
  | 38 => ⟨S16x256x2048, .f32⟩
  | 39 => ⟨S16x256x2048, .f32⟩
  | 40 => ⟨S16x256x2048, .f32⟩
  | 41 => ⟨S_, .f32⟩
  | 42 => ⟨S16x256, .f32⟩
  | 43 => ⟨S16x256x1, .f32⟩
  | 44 => ⟨S_, .f32⟩
  | 45 => ⟨S16x256x1, .f32⟩
  | 46 => ⟨S16x256x1, .f32⟩
  | 47 => ⟨S16x256x2048, .f32⟩
  | 48 => ⟨S16x256x2048, .f32⟩
  | 49 => ⟨S_, .f32⟩
  | 50 => ⟨S16x256x1, .f32⟩
  | 51 => ⟨S16x256x1, .f32⟩
  | 52 => ⟨S16x256x1, .f32⟩
  | 53 => ⟨S16x256x2048, .f32⟩
  | 54 => ⟨S16x256x2048, .f32⟩
  | 55 => ⟨S1x1x2048, .f32⟩
  | 56 => ⟨S16x256x2048, .f32⟩
  | 57 => ⟨S16x256x2048, .f32⟩
  | 58 => ⟨S1x1x2048, .f32⟩
  | 59 => ⟨S16x256x2048, .f32⟩
  | 60 => ⟨S16x256x2048, .f32⟩
  | _ => ⟨S16x256x2048, .f32⟩

abbrev hbmTy (i : Nat) : BufTy := match i / 128 with
  | 0 => hbmTy0_0 i
  | 1 => hbmTy0_1 i
  | _ => ⟨S16x256x2048, .f32⟩

abbrev bufTy : (tb : Table) → Fin (tcTables nBuf tb) → BufTy
  | .hbm, ⟨i, _⟩ => hbmTy i
  | .local _ .vmem, ⟨0, _⟩ => ⟨S1x512x2048, .bf16⟩
  | .local _ .vmem, ⟨1, _⟩ => ⟨S1x512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x512x512, .f32⟩
  | .local _ .vmem, ⟨5, _⟩ => ⟨S1x512x512, .f32⟩
  | .local _ .vmem, ⟨6, _⟩ => ⟨S1x512x2048, .bf16⟩
  | .local _ .vmem, ⟨7, _⟩ => ⟨S1x512x2048, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x512x512, .f32⟩
  | .local _ .vmem, ⟨11, _⟩ => ⟨S1x512x512, .f32⟩
  | .local _ .vmem, ⟨12, _⟩ => ⟨S1x512x1024, .bf16⟩
  | .local _ .vmem, ⟨13, _⟩ => ⟨S1x512x1024, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x512x512, .f32⟩
  | .local _ .vmem, ⟨17, _⟩ => ⟨S1x512x512, .f32⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_values : Ref sig .tc := ⟨.hbm, 105, rfl⟩
abbrev main_indices : Ref sig .tc := ⟨.hbm, 106, rfl⟩
abbrev main_v77 : Ref sig .tc := ⟨.hbm, 107, rfl⟩
abbrev main_c : Ref sig .tc := ⟨.hbm, 108, rfl⟩
abbrev main_v78 : Ref sig .tc := ⟨.hbm, 109, rfl⟩
abbrev main_v79 : Ref sig .tc := ⟨.hbm, 110, rfl⟩
abbrev main_c_15 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_call0_v0 : Ref sig .tc := ⟨.hbm, 119, rfl⟩
abbrev main_call0_v1 : Ref sig .tc := ⟨.hbm, 120, rfl⟩
abbrev main_call0_cst : Ref sig .tc := ⟨.hbm, 121, rfl⟩
abbrev main_call0_v2 : Ref sig .tc := ⟨.hbm, 122, rfl⟩
abbrev main_call0_v3 : Ref sig .tc := ⟨.hbm, 123, rfl⟩
abbrev main_call0_cst_0 : Ref sig .tc := ⟨.hbm, 124, rfl⟩
abbrev main_call0_v4 : Ref sig .tc := ⟨.hbm, 125, rfl⟩
abbrev main_call0_v5 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_16 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_c_17 : Ref sig .tc := ⟨.hbm, 141, rfl⟩
abbrev main_v100 : Ref sig .tc := ⟨.hbm, 142, rfl⟩
abbrev main_v101 : Ref sig .tc := ⟨.hbm, 143, rfl⟩
abbrev main_c_18 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_19 : Ref sig .tc := ⟨.hbm, 151, rfl⟩
abbrev main_v108 : Ref sig .tc := ⟨.hbm, 152, rfl⟩
abbrev main_v109 : Ref sig .tc := ⟨.hbm, 153, rfl⟩
abbrev main_cst_20 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_21 : Ref sig .tc := ⟨.hbm, 160, rfl⟩
abbrev main_v115 : Ref sig .tc := ⟨.hbm, 161, rfl⟩
abbrev main_v116 : Ref sig .tc := ⟨.hbm, 162, rfl⟩
abbrev main_cst_22 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_cst_23 : Ref sig .tc := ⟨.hbm, 169, rfl⟩
abbrev main_v122 : Ref sig .tc := ⟨.hbm, 170, rfl⟩
abbrev main_v123 : Ref sig .tc := ⟨.hbm, 171, rfl⟩
abbrev main_cst_24 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_25 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨3, ![16, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev grid1 : Pipeline.Grid := ⟨3, ![16, 1, 2], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev grid2 : Pipeline.Grid := ⟨3, ![16, 1, 4], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage2_0 : Fin 2 → Memref sig .tc .vmem S1x512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]
-- ==== Kernel3Ideal.lean ====
abbrev S16x256x2048 : Shape := ⟨3, ![16, 256, 2048]⟩
abbrev S4096x2048 : Shape := ⟨2, ![4096, 2048]⟩
abbrev S1x1x12288 : Shape := ⟨3, ![1, 1, 12288]⟩
abbrev S2048 : Shape := ⟨1, ![2048]⟩
abbrev S2048x16 : Shape := ⟨2, ![2048, 16]⟩
abbrev S16 : Shape := ⟨1, ![16]⟩
abbrev S16x2048x1024 : Shape := ⟨3, ![16, 2048, 1024]⟩
abbrev S16x1024x2048 : Shape := ⟨3, ![16, 1024, 2048]⟩
abbrev S1x1x2048 : Shape := ⟨3, ![1, 1, 2048]⟩
abbrev S_ : Shape := ⟨0, ![]⟩
abbrev S16x256 : Shape := ⟨2, ![16, 256]⟩
abbrev S16x256x1 : Shape := ⟨3, ![16, 256, 1]⟩
abbrev S4096x16 : Shape := ⟨2, ![4096, 16]⟩
abbrev S1x16 : Shape := ⟨2, ![1, 16]⟩
abbrev S4096 : Shape := ⟨1, ![4096]⟩
abbrev S4096x1 : Shape := ⟨2, ![4096, 1]⟩
abbrev S16x4096 : Shape := ⟨2, ![16, 4096]⟩
abbrev S16x512 : Shape := ⟨2, ![16, 512]⟩
abbrev S16x512x1 : Shape := ⟨3, ![16, 512, 1]⟩
abbrev S16x512x2048 : Shape := ⟨3, ![16, 512, 2048]⟩
abbrev S16x512x1024 : Shape := ⟨3, ![16, 512, 1024]⟩
abbrev S1x512x2048 : Shape := ⟨3, ![1, 512, 2048]⟩
abbrev S1x2048x512 : Shape := ⟨3, ![1, 2048, 512]⟩
abbrev S1x512x512 : Shape := ⟨3, ![1, 512, 512]⟩
abbrev S512x2048 : Shape := ⟨2, ![512, 2048]⟩
abbrev S2048x512 : Shape := ⟨2, ![2048, 512]⟩
abbrev S512x512 : Shape := ⟨2, ![512, 512]⟩
abbrev S1x512x1024 : Shape := ⟨3, ![1, 512, 1024]⟩
abbrev S1x1024x512 : Shape := ⟨3, ![1, 1024, 512]⟩
abbrev S512x1024 : Shape := ⟨2, ![512, 1024]⟩
abbrev S1024x512 : Shape := ⟨2, ![1024, 512]⟩
abbrev S8192 : Shape := ⟨1, ![8192]⟩
abbrev S8192x2048 : Shape := ⟨2, ![8192, 2048]⟩
abbrev S8192x1 : Shape := ⟨2, ![8192, 1]⟩

abbrev nBuf : Space → Nat
  | .hbm => 189
  | .vmem => 18
  | .smem => 0
  | _ => 0

abbrev hbmTy0_0 (i : Nat) : BufTy := match i % 128 with
  | 0 => ⟨S16x256x2048, .f32⟩
  | 1 => ⟨S4096x2048, .f32⟩
  | 2 => ⟨S1x1x12288, .f32⟩
  | 3 => ⟨S2048, .f32⟩
  | 4 => ⟨S2048, .f32⟩
  | 5 => ⟨S2048, .f32⟩
  | 6 => ⟨S2048, .f32⟩
  | 7 => ⟨S2048x16, .f32⟩
  | 8 => ⟨S16, .f32⟩
  | 9 => ⟨S16x2048x1024, .f32⟩
  | 10 => ⟨S16x2048x1024, .f32⟩
  | 11 => ⟨S16x1024x2048, .f32⟩
  | 12 => ⟨S1x1x2048, .f32⟩
  | 13 => ⟨S1x1x2048, .f32⟩
  | 14 => ⟨S1x1x2048, .f32⟩
  | 15 => ⟨S1x1x2048, .f32⟩
  | 16 => ⟨S16x256x2048, .f32⟩
  | 17 => ⟨S_, .f32⟩
  | 18 => ⟨S16x256x2048, .f32⟩
  | 19 => ⟨S16x256x2048, .f32⟩
  | 20 => ⟨S_, .f32⟩
  | 21 => ⟨S1x1x2048, .f32⟩
  | 22 => ⟨S1x1x2048, .f32⟩
  | 23 => ⟨S16x256x2048, .f32⟩
  | 24 => ⟨S16x256x2048, .f32⟩
  | 25 => ⟨S16x256x2048, .f32⟩
  | 26 => ⟨S_, .f32⟩
  | 27 => ⟨S16x256, .f32⟩
  | 28 => ⟨S16x256x1, .f32⟩
  | 29 => ⟨S_, .f32⟩
  | 30 => ⟨S16x256x1, .f32⟩
  | 31 => ⟨S16x256x1, .f32⟩
  | 32 => ⟨S16x256x2048, .f32⟩
  | 33 => ⟨S16x256x2048, .f32⟩
  | 34 => ⟨S16x256x2048, .f32⟩
  | 35 => ⟨S_, .f32⟩
  | 36 => ⟨S16x256, .f32⟩
  | 37 => ⟨S16x256x1, .f32⟩
  | 38 => ⟨S_, .f32⟩
  | 39 => ⟨S16x256x1, .f32⟩
  | 40 => ⟨S16x256x1, .f32⟩
  | 41 => ⟨S16x256x2048, .f32⟩
  | 42 => ⟨S16x256x2048, .f32⟩
  | 43 => ⟨S_, .f32⟩
  | 44 => ⟨S16x256x1, .f32⟩
  | 45 => ⟨S16x256x1, .f32⟩
  | 46 => ⟨S16x256x1, .f32⟩
  | 47 => ⟨S16x256x2048, .f32⟩
  | 48 => ⟨S16x256x2048, .f32⟩
  | 49 => ⟨S1x1x2048, .f32⟩
  | 50 => ⟨S16x256x2048, .f32⟩
  | 51 => ⟨S16x256x2048, .f32⟩
  | 52 => ⟨S1x1x2048, .f32⟩
  | 53 => ⟨S16x256x2048, .f32⟩
  | 54 => ⟨S16x256x2048, .f32⟩
  | 55 => ⟨S_, .f32⟩
  | 56 => ⟨S16x256, .f32⟩
  | 57 => ⟨S16x256x1, .f32⟩
  | 58 => ⟨S_, .f32⟩
  | 59 => ⟨S16x256x1, .f32⟩
  | 60 => ⟨S16x256x1, .f32⟩
  | 61 => ⟨S16x256x2048, .f32⟩
  | 62 => ⟨S16x256x2048, .f32⟩
  | 63 => ⟨S16x256x2048, .f32⟩
  | 64 => ⟨S_, .f32⟩
  | 65 => ⟨S16x256, .f32⟩
  | 66 => ⟨S16x256x1, .f32⟩
  | 67 => ⟨S_, .f32⟩
  | 68 => ⟨S16x256x1, .f32⟩
  | 69 => ⟨S16x256x1, .f32⟩
  | 70 => ⟨S16x256x2048, .f32⟩
  | 71 => ⟨S16x256x2048, .f32⟩
  | 72 => ⟨S_, .f32⟩
  | 73 => ⟨S16x256x1, .f32⟩
  | 74 => ⟨S16x256x1, .f32⟩
  | 75 => ⟨S16x256x1, .f32⟩
  | 76 => ⟨S16x256x2048, .f32⟩
  | 77 => ⟨S16x256x2048, .f32⟩
  | 78 => ⟨S_, .f32⟩
  | 79 => ⟨S1x1x2048, .f32⟩
  | 80 => ⟨S1x1x2048, .f32⟩
  | 81 => ⟨S16x256x2048, .f32⟩
  | 82 => ⟨S16x256x2048, .f32⟩
  | 83 => ⟨S16x256x2048, .f32⟩
  | 84 => ⟨S16x256x2048, .f32⟩
  | 85 => ⟨S4096x2048, .f32⟩
  | 86 => ⟨S4096x16, .f32⟩
  | 87 => ⟨S1x16, .f32⟩
  | 88 => ⟨S4096x16, .f32⟩
  | 89 => ⟨S4096x16, .f32⟩
  | 90 => ⟨S_, .f32⟩
  | 91 => ⟨S4096, .f32⟩
  | 92 => ⟨S_, .f32⟩
  | 93 => ⟨S4096, .f32⟩
  | 94 => ⟨S4096, .f32⟩
  | 95 => ⟨S4096x1, .f32⟩
  | 96 => ⟨S4096x16, .f32⟩
  | 97 => ⟨S4096x16, .f32⟩
  | 98 => ⟨S4096x16, .f32⟩
  | 99 => ⟨S_, .f32⟩
  | 100 => ⟨S4096, .f32⟩
  | 101 => ⟨S4096x1, .f32⟩
  | 102 => ⟨S4096x16, .f32⟩
  | 103 => ⟨S4096x16, .f32⟩
  | 104 => ⟨S16x4096, .f32⟩
  | 105 => ⟨S16x512, .f32⟩
  | 106 => ⟨S16x512, .i32⟩
  | 107 => ⟨S4096x2048, .bf16⟩
  | 108 => ⟨S_, .i32⟩
  | 109 => ⟨S16x512, .i32⟩
  | 110 => ⟨S16x512, .i1⟩
  | 111 => ⟨S_, .i32⟩
  | 112 => ⟨S16x512, .i32⟩
  | 113 => ⟨S16x512, .i32⟩
  | 114 => ⟨S16x512, .i32⟩
  | 115 => ⟨S16x512x1, .i32⟩
  | 116 => ⟨S16x512x2048, .bf16⟩
  | 117 => ⟨S16x2048x1024, .bf16⟩
  | 118 => ⟨S16x512x1024, .f32⟩
  | 119 => ⟨S16x512x1024, .f32⟩
  | 120 => ⟨S16x512x1024, .f32⟩
  | 121 => ⟨S_, .f32⟩
  | 122 => ⟨S16x512x1024, .f32⟩
  | 123 => ⟨S16x512x1024, .f32⟩
  | 124 => ⟨S_, .f32⟩
  | 125 => ⟨S16x512x1024, .f32⟩
  | 126 => ⟨S16x512x1024, .f32⟩
  | 127 => ⟨S16x512x1024, .f32⟩
  | _ => ⟨S16x256x2048, .f32⟩

abbrev hbmTy0_1 (i : Nat) : BufTy := match i % 128 with
  | 0 => ⟨S16x2048x1024, .bf16⟩
  | 1 => ⟨S16x512x1024, .f32⟩
  | 2 => ⟨S16x512x1024, .f32⟩
  | 3 => ⟨S16x512x1024, .bf16⟩
  | 4 => ⟨S16x1024x2048, .bf16⟩
  | 5 => ⟨S16x512x2048, .f32⟩
  | 6 => ⟨S16x512x1, .f32⟩
  | 7 => ⟨S16x512x2048, .f32⟩
  | 8 => ⟨S16x512x2048, .f32⟩
  | 9 => ⟨S_, .f32⟩
  | 10 => ⟨S4096x2048, .f32⟩
  | 11 => ⟨S8192, .i32⟩
  | 12 => ⟨S8192x2048, .f32⟩
  | 13 => ⟨S_, .i32⟩
  | 14 => ⟨S8192, .i32⟩
  | 15 => ⟨S8192, .i1⟩
  | 16 => ⟨S_, .i32⟩
  | 17 => ⟨S8192, .i32⟩
  | 18 => ⟨S8192, .i32⟩
  | 19 => ⟨S8192, .i32⟩
  | 20 => ⟨S8192x1, .i32⟩
  | 21 => ⟨S4096x2048, .f32⟩
  | 22 => ⟨S16x256x2048, .f32⟩
  | 23 => ⟨S_, .f32⟩
  | 24 => ⟨S16x256x2048, .f32⟩
  | 25 => ⟨S16x256x2048, .f32⟩
  | 26 => ⟨S_, .f32⟩
  | 27 => ⟨S1x1x2048, .f32⟩
  | 28 => ⟨S1x1x2048, .f32⟩
  | 29 => ⟨S16x256x2048, .f32⟩
  | 30 => ⟨S16x256x2048, .f32⟩
  | 31 => ⟨S16x256x2048, .f32⟩
  | 32 => ⟨S_, .f32⟩
  | 33 => ⟨S16x256, .f32⟩
  | 34 => ⟨S16x256x1, .f32⟩
  | 35 => ⟨S_, .f32⟩
  | 36 => ⟨S16x256x1, .f32⟩
  | 37 => ⟨S16x256x1, .f32⟩
  | 38 => ⟨S16x256x2048, .f32⟩
  | 39 => ⟨S16x256x2048, .f32⟩
  | 40 => ⟨S16x256x2048, .f32⟩
  | 41 => ⟨S_, .f32⟩
  | 42 => ⟨S16x256, .f32⟩
  | 43 => ⟨S16x256x1, .f32⟩
  | 44 => ⟨S_, .f32⟩
  | 45 => ⟨S16x256x1, .f32⟩
  | 46 => ⟨S16x256x1, .f32⟩
  | 47 => ⟨S16x256x2048, .f32⟩
  | 48 => ⟨S16x256x2048, .f32⟩
  | 49 => ⟨S_, .f32⟩
  | 50 => ⟨S16x256x1, .f32⟩
  | 51 => ⟨S16x256x1, .f32⟩
  | 52 => ⟨S16x256x1, .f32⟩
  | 53 => ⟨S16x256x2048, .f32⟩
  | 54 => ⟨S16x256x2048, .f32⟩
  | 55 => ⟨S1x1x2048, .f32⟩
  | 56 => ⟨S16x256x2048, .f32⟩
  | 57 => ⟨S16x256x2048, .f32⟩
  | 58 => ⟨S1x1x2048, .f32⟩
  | 59 => ⟨S16x256x2048, .f32⟩
  | 60 => ⟨S16x256x2048, .f32⟩
  | _ => ⟨S16x256x2048, .f32⟩

abbrev hbmTy (i : Nat) : BufTy := match i / 128 with
  | 0 => hbmTy0_0 i
  | 1 => hbmTy0_1 i
  | _ => ⟨S16x256x2048, .f32⟩

abbrev bufTy : (tb : Table) → Fin (tcTables nBuf tb) → BufTy
  | .hbm, ⟨i, _⟩ => hbmTy i
  | .local _ .vmem, ⟨0, _⟩ => ⟨S1x512x2048, .bf16⟩
  | .local _ .vmem, ⟨1, _⟩ => ⟨S1x512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x512x512, .f32⟩
  | .local _ .vmem, ⟨5, _⟩ => ⟨S1x512x512, .f32⟩
  | .local _ .vmem, ⟨6, _⟩ => ⟨S1x512x2048, .bf16⟩
  | .local _ .vmem, ⟨7, _⟩ => ⟨S1x512x2048, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x512x512, .f32⟩
  | .local _ .vmem, ⟨11, _⟩ => ⟨S1x512x512, .f32⟩
  | .local _ .vmem, ⟨12, _⟩ => ⟨S1x512x1024, .bf16⟩
  | .local _ .vmem, ⟨13, _⟩ => ⟨S1x512x1024, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x512x512, .f32⟩
  | .local _ .vmem, ⟨17, _⟩ => ⟨S1x512x512, .f32⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_values : Ref sig .tc := ⟨.hbm, 105, rfl⟩
abbrev main_indices : Ref sig .tc := ⟨.hbm, 106, rfl⟩
abbrev main_v77 : Ref sig .tc := ⟨.hbm, 107, rfl⟩
abbrev main_c : Ref sig .tc := ⟨.hbm, 108, rfl⟩
abbrev main_v78 : Ref sig .tc := ⟨.hbm, 109, rfl⟩
abbrev main_v79 : Ref sig .tc := ⟨.hbm, 110, rfl⟩
abbrev main_c_15 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_call0_v0 : Ref sig .tc := ⟨.hbm, 119, rfl⟩
abbrev main_call0_v1 : Ref sig .tc := ⟨.hbm, 120, rfl⟩
abbrev main_call0_cst : Ref sig .tc := ⟨.hbm, 121, rfl⟩
abbrev main_call0_v2 : Ref sig .tc := ⟨.hbm, 122, rfl⟩
abbrev main_call0_v3 : Ref sig .tc := ⟨.hbm, 123, rfl⟩
abbrev main_call0_cst_0 : Ref sig .tc := ⟨.hbm, 124, rfl⟩
abbrev main_call0_v4 : Ref sig .tc := ⟨.hbm, 125, rfl⟩
abbrev main_call0_v5 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_16 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_c_17 : Ref sig .tc := ⟨.hbm, 141, rfl⟩
abbrev main_v100 : Ref sig .tc := ⟨.hbm, 142, rfl⟩
abbrev main_v101 : Ref sig .tc := ⟨.hbm, 143, rfl⟩
abbrev main_c_18 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_19 : Ref sig .tc := ⟨.hbm, 151, rfl⟩
abbrev main_v108 : Ref sig .tc := ⟨.hbm, 152, rfl⟩
abbrev main_v109 : Ref sig .tc := ⟨.hbm, 153, rfl⟩
abbrev main_cst_20 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_21 : Ref sig .tc := ⟨.hbm, 160, rfl⟩
abbrev main_v115 : Ref sig .tc := ⟨.hbm, 161, rfl⟩
abbrev main_v116 : Ref sig .tc := ⟨.hbm, 162, rfl⟩
abbrev main_cst_22 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_cst_23 : Ref sig .tc := ⟨.hbm, 169, rfl⟩
abbrev main_v122 : Ref sig .tc := ⟨.hbm, 170, rfl⟩
abbrev main_v123 : Ref sig .tc := ⟨.hbm, 171, rfl⟩
abbrev main_cst_24 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_25 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨3, ![16, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev grid1 : Pipeline.Grid := ⟨3, ![16, 1, 2], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev grid2 : Pipeline.Grid := ⟨3, ![16, 1, 4], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage2_0 : Fin 2 → Memref sig .tc .vmem S1x512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]
-- ==== Reference3Ideal.lean ====
abbrev S16x256x2048 : Shape := ⟨3, ![16, 256, 2048]⟩
abbrev S4096x2048 : Shape := ⟨2, ![4096, 2048]⟩
abbrev S1x1x12288 : Shape := ⟨3, ![1, 1, 12288]⟩
abbrev S2048 : Shape := ⟨1, ![2048]⟩
abbrev S2048x16 : Shape := ⟨2, ![2048, 16]⟩
abbrev S16 : Shape := ⟨1, ![16]⟩
abbrev S16x2048x1024 : Shape := ⟨3, ![16, 2048, 1024]⟩
abbrev S16x1024x2048 : Shape := ⟨3, ![16, 1024, 2048]⟩
abbrev S1x1x2048 : Shape := ⟨3, ![1, 1, 2048]⟩
abbrev S_ : Shape := ⟨0, ![]⟩
abbrev S16x256 : Shape := ⟨2, ![16, 256]⟩
abbrev S16x256x1 : Shape := ⟨3, ![16, 256, 1]⟩
abbrev S4096x16 : Shape := ⟨2, ![4096, 16]⟩
abbrev S1x16 : Shape := ⟨2, ![1, 16]⟩
abbrev S4096 : Shape := ⟨1, ![4096]⟩
abbrev S4096x1 : Shape := ⟨2, ![4096, 1]⟩
abbrev S16x4096 : Shape := ⟨2, ![16, 4096]⟩
abbrev S16x512 : Shape := ⟨2, ![16, 512]⟩
abbrev S16x512x1 : Shape := ⟨3, ![16, 512, 1]⟩
abbrev S16x512x2048 : Shape := ⟨3, ![16, 512, 2048]⟩
abbrev S16x512x1024 : Shape := ⟨3, ![16, 512, 1024]⟩
abbrev S8192 : Shape := ⟨1, ![8192]⟩
abbrev S8192x2048 : Shape := ⟨2, ![8192, 2048]⟩
abbrev S8192x1 : Shape := ⟨2, ![8192, 1]⟩

abbrev nBuf : Space → Nat
  | .hbm => 186
  | .vmem => 0
  | .smem => 0
  | _ => 0

abbrev hbmTy0_0 (i : Nat) : BufTy := match i % 128 with
  | 0 => ⟨S16x256x2048, .f32⟩
  | 1 => ⟨S4096x2048, .f32⟩
  | 2 => ⟨S1x1x12288, .f32⟩
  | 3 => ⟨S2048, .f32⟩
  | 4 => ⟨S2048, .f32⟩
  | 5 => ⟨S2048, .f32⟩
  | 6 => ⟨S2048, .f32⟩
  | 7 => ⟨S2048x16, .f32⟩
  | 8 => ⟨S16, .f32⟩
  | 9 => ⟨S16x2048x1024, .f32⟩
  | 10 => ⟨S16x2048x1024, .f32⟩
  | 11 => ⟨S16x1024x2048, .f32⟩
  | 12 => ⟨S1x1x2048, .f32⟩
  | 13 => ⟨S1x1x2048, .f32⟩
  | 14 => ⟨S1x1x2048, .f32⟩
  | 15 => ⟨S1x1x2048, .f32⟩
  | 16 => ⟨S1x1x2048, .f32⟩
  | 17 => ⟨S1x1x2048, .f32⟩
  | 18 => ⟨S_, .f32⟩
  | 19 => ⟨S16x256x2048, .f32⟩
  | 20 => ⟨S16x256x2048, .f32⟩
  | 21 => ⟨S_, .f32⟩
  | 22 => ⟨S1x1x2048, .f32⟩
  | 23 => ⟨S1x1x2048, .f32⟩
  | 24 => ⟨S16x256x2048, .f32⟩
  | 25 => ⟨S16x256x2048, .f32⟩
  | 26 => ⟨S16x256x2048, .f32⟩
  | 27 => ⟨S16x256x2048, .f32⟩
  | 28 => ⟨S_, .f32⟩
  | 29 => ⟨S16x256, .f32⟩
  | 30 => ⟨S16x256x1, .f32⟩
  | 31 => ⟨S_, .f32⟩
  | 32 => ⟨S16x256x1, .f32⟩
  | 33 => ⟨S16x256x1, .f32⟩
  | 34 => ⟨S16x256x2048, .f32⟩
  | 35 => ⟨S16x256x2048, .f32⟩
  | 36 => ⟨S16x256x2048, .f32⟩
  | 37 => ⟨S_, .f32⟩
  | 38 => ⟨S16x256, .f32⟩
  | 39 => ⟨S16x256x1, .f32⟩
  | 40 => ⟨S_, .f32⟩
  | 41 => ⟨S16x256x1, .f32⟩
  | 42 => ⟨S16x256x1, .f32⟩
  | 43 => ⟨S16x256x2048, .f32⟩
  | 44 => ⟨S16x256x2048, .f32⟩
  | 45 => ⟨S_, .f32⟩
  | 46 => ⟨S16x256x1, .f32⟩
  | 47 => ⟨S16x256x1, .f32⟩
  | 48 => ⟨S16x256x1, .f32⟩
  | 49 => ⟨S16x256x2048, .f32⟩
  | 50 => ⟨S16x256x2048, .f32⟩
  | 51 => ⟨S1x1x2048, .f32⟩
  | 52 => ⟨S16x256x2048, .f32⟩
  | 53 => ⟨S16x256x2048, .f32⟩
  | 54 => ⟨S1x1x2048, .f32⟩
  | 55 => ⟨S16x256x2048, .f32⟩
  | 56 => ⟨S16x256x2048, .f32⟩
  | 57 => ⟨S_, .f32⟩
  | 58 => ⟨S16x256, .f32⟩
  | 59 => ⟨S16x256x1, .f32⟩
  | 60 => ⟨S_, .f32⟩
  | 61 => ⟨S16x256x1, .f32⟩
  | 62 => ⟨S16x256x1, .f32⟩
  | 63 => ⟨S16x256x2048, .f32⟩
  | 64 => ⟨S16x256x2048, .f32⟩
  | 65 => ⟨S16x256x2048, .f32⟩
  | 66 => ⟨S_, .f32⟩
  | 67 => ⟨S16x256, .f32⟩
  | 68 => ⟨S16x256x1, .f32⟩
  | 69 => ⟨S_, .f32⟩
  | 70 => ⟨S16x256x1, .f32⟩
  | 71 => ⟨S16x256x1, .f32⟩
  | 72 => ⟨S16x256x2048, .f32⟩
  | 73 => ⟨S16x256x2048, .f32⟩
  | 74 => ⟨S_, .f32⟩
  | 75 => ⟨S16x256x1, .f32⟩
  | 76 => ⟨S16x256x1, .f32⟩
  | 77 => ⟨S16x256x1, .f32⟩
  | 78 => ⟨S16x256x2048, .f32⟩
  | 79 => ⟨S16x256x2048, .f32⟩
  | 80 => ⟨S_, .f32⟩
  | 81 => ⟨S1x1x2048, .f32⟩
  | 82 => ⟨S1x1x2048, .f32⟩
  | 83 => ⟨S16x256x2048, .f32⟩
  | 84 => ⟨S16x256x2048, .f32⟩
  | 85 => ⟨S16x256x2048, .f32⟩
  | 86 => ⟨S16x256x2048, .f32⟩
  | 87 => ⟨S4096x2048, .f32⟩
  | 88 => ⟨S4096x16, .f32⟩
  | 89 => ⟨S1x16, .f32⟩
  | 90 => ⟨S4096x16, .f32⟩
  | 91 => ⟨S4096x16, .f32⟩
  | 92 => ⟨S_, .f32⟩
  | 93 => ⟨S4096, .f32⟩
  | 94 => ⟨S_, .f32⟩
  | 95 => ⟨S4096, .f32⟩
  | 96 => ⟨S4096, .f32⟩
  | 97 => ⟨S4096x1, .f32⟩
  | 98 => ⟨S4096x16, .f32⟩
  | 99 => ⟨S4096x16, .f32⟩
  | 100 => ⟨S4096x16, .f32⟩
  | 101 => ⟨S_, .f32⟩
  | 102 => ⟨S4096, .f32⟩
  | 103 => ⟨S4096x1, .f32⟩
  | 104 => ⟨S4096x16, .f32⟩
  | 105 => ⟨S4096x16, .f32⟩
  | 106 => ⟨S16x4096, .f32⟩
  | 107 => ⟨S16x512, .f32⟩
  | 108 => ⟨S16x512, .i32⟩
  | 109 => ⟨S_, .i32⟩
  | 110 => ⟨S16x512, .i32⟩
  | 111 => ⟨S16x512, .i1⟩
  | 112 => ⟨S_, .i32⟩
  | 113 => ⟨S16x512, .i32⟩
  | 114 => ⟨S16x512, .i32⟩
  | 115 => ⟨S16x512, .i32⟩
  | 116 => ⟨S16x512x1, .i32⟩
  | 117 => ⟨S16x512x2048, .f32⟩
  | 118 => ⟨S16x512x1024, .f32⟩
  | 119 => ⟨S16x512x1024, .f32⟩
  | 120 => ⟨S16x512x1024, .f32⟩
  | 121 => ⟨S_, .f32⟩
  | 122 => ⟨S16x512x1024, .f32⟩
  | 123 => ⟨S16x512x1024, .f32⟩
  | 124 => ⟨S_, .f32⟩
  | 125 => ⟨S16x512x1024, .f32⟩
  | 126 => ⟨S16x512x1024, .f32⟩
  | 127 => ⟨S16x512x1024, .f32⟩
  | _ => ⟨S16x256x2048, .f32⟩

abbrev hbmTy0_1 (i : Nat) : BufTy := match i % 128 with
  | 0 => ⟨S16x512x1024, .f32⟩
  | 1 => ⟨S16x512x1024, .f32⟩
  | 2 => ⟨S16x512x2048, .f32⟩
  | 3 => ⟨S16x512x1, .f32⟩
  | 4 => ⟨S16x512x2048, .f32⟩
  | 5 => ⟨S16x512x2048, .f32⟩
  | 6 => ⟨S_, .f32⟩
  | 7 => ⟨S4096x2048, .f32⟩
  | 8 => ⟨S8192, .i32⟩
  | 9 => ⟨S8192x2048, .f32⟩
  | 10 => ⟨S_, .i32⟩
  | 11 => ⟨S8192, .i32⟩
  | 12 => ⟨S8192, .i1⟩
  | 13 => ⟨S_, .i32⟩
  | 14 => ⟨S8192, .i32⟩
  | 15 => ⟨S8192, .i32⟩
  | 16 => ⟨S8192, .i32⟩
  | 17 => ⟨S8192x1, .i32⟩
  | 18 => ⟨S4096x2048, .f32⟩
  | 19 => ⟨S16x256x2048, .f32⟩
  | 20 => ⟨S_, .f32⟩
  | 21 => ⟨S16x256x2048, .f32⟩
  | 22 => ⟨S16x256x2048, .f32⟩
  | 23 => ⟨S_, .f32⟩
  | 24 => ⟨S1x1x2048, .f32⟩
  | 25 => ⟨S1x1x2048, .f32⟩
  | 26 => ⟨S16x256x2048, .f32⟩
  | 27 => ⟨S16x256x2048, .f32⟩
  | 28 => ⟨S16x256x2048, .f32⟩
  | 29 => ⟨S_, .f32⟩
  | 30 => ⟨S16x256, .f32⟩
  | 31 => ⟨S16x256x1, .f32⟩
  | 32 => ⟨S_, .f32⟩
  | 33 => ⟨S16x256x1, .f32⟩
  | 34 => ⟨S16x256x1, .f32⟩
  | 35 => ⟨S16x256x2048, .f32⟩
  | 36 => ⟨S16x256x2048, .f32⟩
  | 37 => ⟨S16x256x2048, .f32⟩
  | 38 => ⟨S_, .f32⟩
  | 39 => ⟨S16x256, .f32⟩
  | 40 => ⟨S16x256x1, .f32⟩
  | 41 => ⟨S_, .f32⟩
  | 42 => ⟨S16x256x1, .f32⟩
  | 43 => ⟨S16x256x1, .f32⟩
  | 44 => ⟨S16x256x2048, .f32⟩
  | 45 => ⟨S16x256x2048, .f32⟩
  | 46 => ⟨S_, .f32⟩
  | 47 => ⟨S16x256x1, .f32⟩
  | 48 => ⟨S16x256x1, .f32⟩
  | 49 => ⟨S16x256x1, .f32⟩
  | 50 => ⟨S16x256x2048, .f32⟩
  | 51 => ⟨S16x256x2048, .f32⟩
  | 52 => ⟨S1x1x2048, .f32⟩
  | 53 => ⟨S16x256x2048, .f32⟩
  | 54 => ⟨S16x256x2048, .f32⟩
  | 55 => ⟨S1x1x2048, .f32⟩
  | 56 => ⟨S16x256x2048, .f32⟩
  | 57 => ⟨S16x256x2048, .f32⟩
  | _ => ⟨S16x256x2048, .f32⟩

abbrev hbmTy (i : Nat) : BufTy := match i / 128 with
  | 0 => hbmTy0_0 i
  | 1 => hbmTy0_1 i
  | _ => ⟨S16x256x2048, .f32⟩

abbrev bufTy : (tb : Table) → Fin (tcTables nBuf tb) → BufTy
  | .hbm, ⟨i, _⟩ => hbmTy i
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_12 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_values : Ref sig .tc := ⟨.hbm, 107, rfl⟩
abbrev main_indices : Ref sig .tc := ⟨.hbm, 108, rfl⟩
abbrev main_c : Ref sig .tc := ⟨.hbm, 109, rfl⟩
abbrev main_v79 : Ref sig .tc := ⟨.hbm, 110, rfl⟩
abbrev main_v80 : Ref sig .tc := ⟨.hbm, 111, rfl⟩
abbrev main_c_15 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_call0_v0 : Ref sig .tc := ⟨.hbm, 119, rfl⟩
abbrev main_call0_v1 : Ref sig .tc := ⟨.hbm, 120, rfl⟩
abbrev main_call0_cst : Ref sig .tc := ⟨.hbm, 121, rfl⟩
abbrev main_call0_v2 : Ref sig .tc := ⟨.hbm, 122, rfl⟩
abbrev main_call0_v3 : Ref sig .tc := ⟨.hbm, 123, rfl⟩
abbrev main_call0_cst_0 : Ref sig .tc := ⟨.hbm, 124, rfl⟩
abbrev main_call0_v4 : Ref sig .tc := ⟨.hbm, 125, rfl⟩
abbrev main_call0_v5 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_16 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_c_17 : Ref sig .tc := ⟨.hbm, 138, rfl⟩
abbrev main_v97 : Ref sig .tc := ⟨.hbm, 139, rfl⟩
abbrev main_v98 : Ref sig .tc := ⟨.hbm, 140, rfl⟩
abbrev main_c_18 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_19 : Ref sig .tc := ⟨.hbm, 148, rfl⟩
abbrev main_v105 : Ref sig .tc := ⟨.hbm, 149, rfl⟩
abbrev main_v106 : Ref sig .tc := ⟨.hbm, 150, rfl⟩
abbrev main_cst_20 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_21 : Ref sig .tc := ⟨.hbm, 157, rfl⟩
abbrev main_v112 : Ref sig .tc := ⟨.hbm, 158, rfl⟩
abbrev main_v113 : Ref sig .tc := ⟨.hbm, 159, rfl⟩
abbrev main_cst_22 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_cst_23 : Ref sig .tc := ⟨.hbm, 166, rfl⟩
abbrev main_v119 : Ref sig .tc := ⟨.hbm, 167, rfl⟩
abbrev main_v120 : Ref sig .tc := ⟨.hbm, 168, rfl⟩
abbrev main_cst_24 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_25 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩

abbrev nD : Nat := 1
abbrev τ : Topo := Topo.v7x

variable {F : FTy → Type} [FloatOps F]
-- ==== Kernel4.lean ====
abbrev S20480x2048 : Shape := ⟨2, ![20480, 2048]⟩
abbrev S20480x1024 : Shape := ⟨2, ![20480, 1024]⟩
abbrev S1024x2048 : Shape := ⟨2, ![1024, 2048]⟩
abbrev S2048x2048 : Shape := ⟨2, ![2048, 2048]⟩
abbrev S_ : Shape := ⟨0, ![]⟩
abbrev S1024x1024 : Shape := ⟨2, ![1024, 1024]⟩
abbrev S1024x512 : Shape := ⟨2, ![1024, 512]⟩
abbrev S2048x512 : Shape := ⟨2, ![2048, 512]⟩

abbrev nBuf : Space → Nat
  | .hbm => 51
  | .vmem => 24
  | .smem => 0
  | _ => 0

abbrev bufTy : (tb : Table) → Fin (tcTables nBuf tb) → BufTy
  | .hbm, ⟨0, _⟩ => ⟨S20480x2048, .f32⟩
  | .hbm, ⟨1, _⟩ => ⟨S20480x2048, .f32⟩
  | .hbm, ⟨2, _⟩ => ⟨S20480x2048, .f32⟩
  | .hbm, ⟨3, _⟩ => ⟨S20480x1024, .f32⟩
  | .hbm, ⟨4, _⟩ => ⟨S20480x1024, .f32⟩
  | .hbm, ⟨5, _⟩ => ⟨S20480x1024, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S2048x2048, .f32⟩
  | .hbm, ⟨10, _⟩ => ⟨S20480x2048, .f32⟩
  | .hbm, ⟨11, _⟩ => ⟨S20480x2048, .f32⟩
  | .hbm, ⟨12, _⟩ => ⟨S_, .f32⟩
  | .hbm, ⟨13, _⟩ => ⟨S20480x2048, .f32⟩
  | .hbm, ⟨14, _⟩ => ⟨S20480x2048, .f32⟩
  | .hbm, ⟨15, _⟩ => ⟨S_, .f32⟩
  | .hbm, ⟨16, _⟩ => ⟨S20480x2048, .f32⟩
  | .hbm, ⟨17, _⟩ => ⟨S20480x2048, .f32⟩
  | .hbm, ⟨18, _⟩ => ⟨S20480x1024, .bf16⟩
  | .hbm, ⟨19, _⟩ => ⟨S1024x2048, .bf16⟩
  | .hbm, ⟨20, _⟩ => ⟨S20480x2048, .f32⟩
  | .hbm, ⟨21, _⟩ => ⟨S20480x2048, .f32⟩
  | .hbm, ⟨22, _⟩ => ⟨S20480x2048, .f32⟩
  | .hbm, ⟨23, _⟩ => ⟨S20480x2048, .f32⟩
  | .hbm, ⟨24, _⟩ => ⟨S_, .f32⟩
  | .hbm, ⟨25, _⟩ => ⟨S20480x2048, .f32⟩
  | .hbm, ⟨26, _⟩ => ⟨S20480x2048, .f32⟩
  | .hbm, ⟨27, _⟩ => ⟨S_, .f32⟩
  | .hbm, ⟨28, _⟩ => ⟨S20480x2048, .f32⟩
  | .hbm, ⟨29, _⟩ => ⟨S20480x2048, .f32⟩
  | .hbm, ⟨30, _⟩ => ⟨S20480x1024, .bf16⟩
  | .hbm, ⟨31, _⟩ => ⟨S1024x2048, .bf16⟩
  | .hbm, ⟨32, _⟩ => ⟨S20480x2048, .f32⟩
  | .hbm, ⟨33, _⟩ => ⟨S20480x2048, .f32⟩
  | .hbm, ⟨34, _⟩ => ⟨S20480x2048, .f32⟩
  | .hbm, ⟨35, _⟩ => ⟨S20480x2048, .f32⟩
  | .hbm, ⟨36, _⟩ => ⟨S20480x2048, .f32⟩
  | .hbm, ⟨37, _⟩ => ⟨S_, .f32⟩
  | .hbm, ⟨38, _⟩ => ⟨S20480x2048, .f32⟩
  | .hbm, ⟨39, _⟩ => ⟨S20480x2048, .f32⟩
  | .hbm, ⟨40, _⟩ => ⟨S_, .f32⟩
  | .hbm, ⟨41, _⟩ => ⟨S20480x2048, .f32⟩
  | .hbm, ⟨42, _⟩ => ⟨S20480x2048, .f32⟩
  | .hbm, ⟨43, _⟩ => ⟨S20480x1024, .bf16⟩
  | .hbm, ⟨44, _⟩ => ⟨S1024x2048, .bf16⟩
  | .hbm, ⟨45, _⟩ => ⟨S20480x2048, .f32⟩
  | .hbm, ⟨46, _⟩ => ⟨S20480x2048, .f32⟩
  | .hbm, ⟨47, _⟩ => ⟨S20480x2048, .f32⟩
  | .hbm, ⟨48, _⟩ => ⟨S20480x2048, .bf16⟩
  | .hbm, ⟨49, _⟩ => ⟨S2048x2048, .bf16⟩
  | .hbm, ⟨50, _⟩ => ⟨S20480x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x1024, .bf16⟩
  | .local _ .vmem, ⟨7, _⟩ => ⟨S1024x1024, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | .local _ .vmem, ⟨12, _⟩ => ⟨S1024x1024, .bf16⟩
  | .local _ .vmem, ⟨13, _⟩ => ⟨S1024x1024, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .f32⟩
  | .local _ .vmem, ⟨17, _⟩ => ⟨S1024x512, .f32⟩
  | .local _ .vmem, ⟨18, _⟩ => ⟨S1024x2048, .bf16⟩
  | .local _ .vmem, ⟨19, _⟩ => ⟨S1024x2048, .bf16⟩
  | .local _ .vmem, ⟨20, _⟩ => ⟨S2048x512, .bf16⟩
  | .local _ .vmem, ⟨21, _⟩ => ⟨S2048x512, .bf16⟩
  | .local _ .vmem, ⟨22, _⟩ => ⟨S1024x512, .f32⟩
  | .local _ .vmem, ⟨23, _⟩ => ⟨S1024x512, .f32⟩
  | _, _ => ⟨S20480x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨2, ![20, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![20, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![20, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![20, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== Reference4Ideal.lean ====
abbrev S20480x2048 : Shape := ⟨2, ![20480, 2048]⟩
abbrev S20480x1024 : Shape := ⟨2, ![20480, 1024]⟩
abbrev S1024x2048 : Shape := ⟨2, ![1024, 2048]⟩
abbrev S2048x2048 : Shape := ⟨2, ![2048, 2048]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S20480x2048, .f32⟩
  | .hbm, ⟨1, _⟩ => ⟨S20480x2048, .f32⟩
  | .hbm, ⟨2, _⟩ => ⟨S20480x2048, .f32⟩
  | .hbm, ⟨3, _⟩ => ⟨S20480x1024, .f32⟩
  | .hbm, ⟨4, _⟩ => ⟨S20480x1024, .f32⟩
  | .hbm, ⟨5, _⟩ => ⟨S20480x1024, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S2048x2048, .f32⟩
  | .hbm, ⟨10, _⟩ => ⟨S20480x2048, .f32⟩
  | .hbm, ⟨11, _⟩ => ⟨S20480x2048, .f32⟩
  | .hbm, ⟨12, _⟩ => ⟨S_, .f32⟩
  | .hbm, ⟨13, _⟩ => ⟨S20480x2048, .f32⟩
  | .hbm, ⟨14, _⟩ => ⟨S20480x2048, .f32⟩
  | .hbm, ⟨15, _⟩ => ⟨S_, .f32⟩
  | .hbm, ⟨16, _⟩ => ⟨S20480x2048, .f32⟩
  | .hbm, ⟨17, _⟩ => ⟨S20480x2048, .f32⟩
  | .hbm, ⟨18, _⟩ => ⟨S20480x2048, .f32⟩
  | .hbm, ⟨19, _⟩ => ⟨S20480x2048, .f32⟩
  | .hbm, ⟨20, _⟩ => ⟨S20480x2048, .f32⟩
  | .hbm, ⟨21, _⟩ => ⟨S20480x2048, .f32⟩
  | .hbm, ⟨22, _⟩ => ⟨S_, .f32⟩
  | .hbm, ⟨23, _⟩ => ⟨S20480x2048, .f32⟩
  | .hbm, ⟨24, _⟩ => ⟨S20480x2048, .f32⟩
  | .hbm, ⟨25, _⟩ => ⟨S_, .f32⟩
  | .hbm, ⟨26, _⟩ => ⟨S20480x2048, .f32⟩
  | .hbm, ⟨27, _⟩ => ⟨S20480x2048, .f32⟩
  | .hbm, ⟨28, _⟩ => ⟨S20480x2048, .f32⟩
  | .hbm, ⟨29, _⟩ => ⟨S20480x2048, .f32⟩
  | .hbm, ⟨30, _⟩ => ⟨S20480x2048, .f32⟩
  | .hbm, ⟨31, _⟩ => ⟨S20480x2048, .f32⟩
  | .hbm, ⟨32, _⟩ => ⟨S20480x2048, .f32⟩
  | .hbm, ⟨33, _⟩ => ⟨S_, .f32⟩
  | .hbm, ⟨34, _⟩ => ⟨S20480x2048, .f32⟩
  | .hbm, ⟨35, _⟩ => ⟨S20480x2048, .f32⟩
  | .hbm, ⟨36, _⟩ => ⟨S_, .f32⟩
  | .hbm, ⟨37, _⟩ => ⟨S20480x2048, .f32⟩
  | .hbm, ⟨38, _⟩ => ⟨S20480x2048, .f32⟩
  | .hbm, ⟨39, _⟩ => ⟨S20480x2048, .f32⟩
  | .hbm, ⟨40, _⟩ => ⟨S20480x2048, .f32⟩
  | .hbm, ⟨41, _⟩ => ⟨S20480x2048, .f32⟩
  | .hbm, ⟨42, _⟩ => ⟨S20480x2048, .f32⟩
  | _, _ => ⟨S20480x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== Kernel5.lean ====
abbrev S8x2048x2048 : Shape := ⟨3, ![8, 2048, 2048]⟩
abbrev S16384x2048 : Shape := ⟨2, ![16384, 2048]⟩
abbrev S8x1x12288 : Shape := ⟨3, ![8, 1, 12288]⟩
abbrev S2048 : Shape := ⟨1, ![2048]⟩
abbrev S2048x16 : Shape := ⟨2, ![2048, 16]⟩
abbrev S16 : Shape := ⟨1, ![16]⟩
abbrev S16x2048x1024 : Shape := ⟨3, ![16, 2048, 1024]⟩
abbrev S16x1024x2048 : Shape := ⟨3, ![16, 1024, 2048]⟩
abbrev S8x1x2048 : Shape := ⟨3, ![8, 1, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S16384x16 : Shape := ⟨2, ![16384, 16]⟩
abbrev S1x16 : Shape := ⟨2, ![1, 16]⟩
abbrev S16384 : Shape := ⟨1, ![16384]⟩
abbrev S16384x1 : Shape := ⟨2, ![16384, 1]⟩
abbrev S16x16384 : Shape := ⟨2, ![16, 16384]⟩
abbrev S16x2048 : Shape := ⟨2, ![16, 2048]⟩
abbrev S16x2048x1 : Shape := ⟨3, ![16, 2048, 1]⟩
abbrev S16x2048x2048 : Shape := ⟨3, ![16, 2048, 2048]⟩
abbrev S1x1024x2048 : Shape := ⟨3, ![1, 1024, 2048]⟩
abbrev S1x2048x512 : Shape := ⟨3, ![1, 2048, 512]⟩
abbrev S1x1024x512 : Shape := ⟨3, ![1, 1024, 512]⟩
abbrev S1024x2048 : Shape := ⟨2, ![1024, 2048]⟩
abbrev S2048x512 : Shape := ⟨2, ![2048, 512]⟩
abbrev S1024x512 : Shape := ⟨2, ![1024, 512]⟩
abbrev S1x1024x1024 : Shape := ⟨3, ![1, 1024, 1024]⟩
abbrev S1024x1024 : Shape := ⟨2, ![1024, 1024]⟩
abbrev S32768 : Shape := ⟨1, ![32768]⟩
abbrev S32768x2048 : Shape := ⟨2, ![32768, 2048]⟩
abbrev S32768x1 : Shape := ⟨2, ![32768, 1]⟩

abbrev nBuf : Space → Nat
  | .hbm => 189
  | .vmem => 18
  | .smem => 0
  | _ => 0

abbrev hbmTy0_0 (i : Nat) : BufTy := match i % 128 with
  | 0 => ⟨S8x2048x2048, .f32⟩
  | 1 => ⟨S16384x2048, .f32⟩
  | 2 => ⟨S8x1x12288, .f32⟩
  | 3 => ⟨S2048, .f32⟩
  | 4 => ⟨S2048, .f32⟩
  | 5 => ⟨S2048, .f32⟩
  | 6 => ⟨S2048, .f32⟩
  | 7 => ⟨S2048x16, .f32⟩
  | 8 => ⟨S16, .f32⟩
  | 9 => ⟨S16x2048x1024, .f32⟩
  | 10 => ⟨S16x2048x1024, .f32⟩
  | 11 => ⟨S16x1024x2048, .f32⟩
  | 12 => ⟨S8x1x2048, .f32⟩
  | 13 => ⟨S8x1x2048, .f32⟩
  | 14 => ⟨S8x1x2048, .f32⟩
  | 15 => ⟨S8x1x2048, .f32⟩
  | 16 => ⟨S8x2048x2048, .f32⟩
  | 17 => ⟨S_, .f32⟩
  | 18 => ⟨S8x2048x2048, .f32⟩
  | 19 => ⟨S8x2048x2048, .f32⟩
  | 20 => ⟨S_, .f32⟩
  | 21 => ⟨S8x1x2048, .f32⟩
  | 22 => ⟨S8x1x2048, .f32⟩
  | 23 => ⟨S8x2048x2048, .f32⟩
  | 24 => ⟨S8x2048x2048, .f32⟩
  | 25 => ⟨S8x2048x2048, .f32⟩
  | 26 => ⟨S_, .f32⟩
  | 27 => ⟨S8x2048, .f32⟩
  | 28 => ⟨S8x2048x1, .f32⟩
  | 29 => ⟨S_, .f32⟩
  | 30 => ⟨S8x2048x1, .f32⟩
  | 31 => ⟨S8x2048x1, .f32⟩
  | 32 => ⟨S8x2048x2048, .f32⟩
  | 33 => ⟨S8x2048x2048, .f32⟩
  | 34 => ⟨S8x2048x2048, .f32⟩
  | 35 => ⟨S_, .f32⟩
  | 36 => ⟨S8x2048, .f32⟩
  | 37 => ⟨S8x2048x1, .f32⟩
  | 38 => ⟨S_, .f32⟩
  | 39 => ⟨S8x2048x1, .f32⟩
  | 40 => ⟨S8x2048x1, .f32⟩
  | 41 => ⟨S8x2048x2048, .f32⟩
  | 42 => ⟨S8x2048x2048, .f32⟩
  | 43 => ⟨S_, .f32⟩
  | 44 => ⟨S8x2048x1, .f32⟩
  | 45 => ⟨S8x2048x1, .f32⟩
  | 46 => ⟨S8x2048x1, .f32⟩
  | 47 => ⟨S8x2048x2048, .f32⟩
  | 48 => ⟨S8x2048x2048, .f32⟩
  | 49 => ⟨S1x1x2048, .f32⟩
  | 50 => ⟨S8x2048x2048, .f32⟩
  | 51 => ⟨S8x2048x2048, .f32⟩
  | 52 => ⟨S1x1x2048, .f32⟩
  | 53 => ⟨S8x2048x2048, .f32⟩
  | 54 => ⟨S8x2048x2048, .f32⟩
  | 55 => ⟨S_, .f32⟩
  | 56 => ⟨S8x2048, .f32⟩
  | 57 => ⟨S8x2048x1, .f32⟩
  | 58 => ⟨S_, .f32⟩
  | 59 => ⟨S8x2048x1, .f32⟩
  | 60 => ⟨S8x2048x1, .f32⟩
  | 61 => ⟨S8x2048x2048, .f32⟩
  | 62 => ⟨S8x2048x2048, .f32⟩
  | 63 => ⟨S8x2048x2048, .f32⟩
  | 64 => ⟨S_, .f32⟩
  | 65 => ⟨S8x2048, .f32⟩
  | 66 => ⟨S8x2048x1, .f32⟩
  | 67 => ⟨S_, .f32⟩
  | 68 => ⟨S8x2048x1, .f32⟩
  | 69 => ⟨S8x2048x1, .f32⟩
  | 70 => ⟨S8x2048x2048, .f32⟩
  | 71 => ⟨S8x2048x2048, .f32⟩
  | 72 => ⟨S_, .f32⟩
  | 73 => ⟨S8x2048x1, .f32⟩
  | 74 => ⟨S8x2048x1, .f32⟩
  | 75 => ⟨S8x2048x1, .f32⟩
  | 76 => ⟨S8x2048x2048, .f32⟩
  | 77 => ⟨S8x2048x2048, .f32⟩
  | 78 => ⟨S_, .f32⟩
  | 79 => ⟨S8x1x2048, .f32⟩
  | 80 => ⟨S8x1x2048, .f32⟩
  | 81 => ⟨S8x2048x2048, .f32⟩
  | 82 => ⟨S8x2048x2048, .f32⟩
  | 83 => ⟨S8x2048x2048, .f32⟩
  | 84 => ⟨S8x2048x2048, .f32⟩
  | 85 => ⟨S16384x2048, .f32⟩
  | 86 => ⟨S16384x16, .f32⟩
  | 87 => ⟨S1x16, .f32⟩
  | 88 => ⟨S16384x16, .f32⟩
  | 89 => ⟨S16384x16, .f32⟩
  | 90 => ⟨S_, .f32⟩
  | 91 => ⟨S16384, .f32⟩
  | 92 => ⟨S_, .f32⟩
  | 93 => ⟨S16384, .f32⟩
  | 94 => ⟨S16384, .f32⟩
  | 95 => ⟨S16384x1, .f32⟩
  | 96 => ⟨S16384x16, .f32⟩
  | 97 => ⟨S16384x16, .f32⟩
  | 98 => ⟨S16384x16, .f32⟩
  | 99 => ⟨S_, .f32⟩
  | 100 => ⟨S16384, .f32⟩
  | 101 => ⟨S16384x1, .f32⟩
  | 102 => ⟨S16384x16, .f32⟩
  | 103 => ⟨S16384x16, .f32⟩
  | 104 => ⟨S16x16384, .f32⟩
  | 105 => ⟨S16x2048, .f32⟩
  | 106 => ⟨S16x2048, .i32⟩
  | 107 => ⟨S16384x2048, .bf16⟩
  | 108 => ⟨S_, .i32⟩
  | 109 => ⟨S16x2048, .i32⟩
  | 110 => ⟨S16x2048, .i1⟩
  | 111 => ⟨S_, .i32⟩
  | 112 => ⟨S16x2048, .i32⟩
  | 113 => ⟨S16x2048, .i32⟩
  | 114 => ⟨S16x2048, .i32⟩
  | 115 => ⟨S16x2048x1, .i32⟩
  | 116 => ⟨S16x2048x2048, .bf16⟩
  | 117 => ⟨S16x2048x1024, .bf16⟩
  | 118 => ⟨S16x2048x1024, .f32⟩
  | 119 => ⟨S16x2048x1024, .f32⟩
  | 120 => ⟨S16x2048x1024, .f32⟩
  | 121 => ⟨S_, .f32⟩
  | 122 => ⟨S16x2048x1024, .f32⟩
  | 123 => ⟨S16x2048x1024, .f32⟩
  | 124 => ⟨S_, .f32⟩
  | 125 => ⟨S16x2048x1024, .f32⟩
  | 126 => ⟨S16x2048x1024, .f32⟩
  | 127 => ⟨S16x2048x1024, .f32⟩
  | _ => ⟨S8x2048x2048, .f32⟩

abbrev hbmTy0_1 (i : Nat) : BufTy := match i % 128 with
  | 0 => ⟨S16x2048x1024, .bf16⟩
  | 1 => ⟨S16x2048x1024, .f32⟩
  | 2 => ⟨S16x2048x1024, .f32⟩
  | 3 => ⟨S16x2048x1024, .bf16⟩
  | 4 => ⟨S16x1024x2048, .bf16⟩
  | 5 => ⟨S16x2048x2048, .f32⟩
  | 6 => ⟨S16x2048x1, .f32⟩
  | 7 => ⟨S16x2048x2048, .f32⟩
  | 8 => ⟨S16x2048x2048, .f32⟩
  | 9 => ⟨S_, .f32⟩
  | 10 => ⟨S16384x2048, .f32⟩
  | 11 => ⟨S32768, .i32⟩
  | 12 => ⟨S32768x2048, .f32⟩
  | 13 => ⟨S_, .i32⟩
  | 14 => ⟨S32768, .i32⟩
  | 15 => ⟨S32768, .i1⟩
  | 16 => ⟨S_, .i32⟩
  | 17 => ⟨S32768, .i32⟩
  | 18 => ⟨S32768, .i32⟩
  | 19 => ⟨S32768, .i32⟩
  | 20 => ⟨S32768x1, .i32⟩
  | 21 => ⟨S16384x2048, .f32⟩
  | 22 => ⟨S8x2048x2048, .f32⟩
  | 23 => ⟨S_, .f32⟩
  | 24 => ⟨S8x2048x2048, .f32⟩
  | 25 => ⟨S8x2048x2048, .f32⟩
  | 26 => ⟨S_, .f32⟩
  | 27 => ⟨S8x1x2048, .f32⟩
  | 28 => ⟨S8x1x2048, .f32⟩
  | 29 => ⟨S8x2048x2048, .f32⟩
  | 30 => ⟨S8x2048x2048, .f32⟩
  | 31 => ⟨S8x2048x2048, .f32⟩
  | 32 => ⟨S_, .f32⟩
  | 33 => ⟨S8x2048, .f32⟩
  | 34 => ⟨S8x2048x1, .f32⟩
  | 35 => ⟨S_, .f32⟩
  | 36 => ⟨S8x2048x1, .f32⟩
  | 37 => ⟨S8x2048x1, .f32⟩
  | 38 => ⟨S8x2048x2048, .f32⟩
  | 39 => ⟨S8x2048x2048, .f32⟩
  | 40 => ⟨S8x2048x2048, .f32⟩
  | 41 => ⟨S_, .f32⟩
  | 42 => ⟨S8x2048, .f32⟩
  | 43 => ⟨S8x2048x1, .f32⟩
  | 44 => ⟨S_, .f32⟩
  | 45 => ⟨S8x2048x1, .f32⟩
  | 46 => ⟨S8x2048x1, .f32⟩
  | 47 => ⟨S8x2048x2048, .f32⟩
  | 48 => ⟨S8x2048x2048, .f32⟩
  | 49 => ⟨S_, .f32⟩
  | 50 => ⟨S8x2048x1, .f32⟩
  | 51 => ⟨S8x2048x1, .f32⟩
  | 52 => ⟨S8x2048x1, .f32⟩
  | 53 => ⟨S8x2048x2048, .f32⟩
  | 54 => ⟨S8x2048x2048, .f32⟩
  | 55 => ⟨S1x1x2048, .f32⟩
  | 56 => ⟨S8x2048x2048, .f32⟩
  | 57 => ⟨S8x2048x2048, .f32⟩
  | 58 => ⟨S1x1x2048, .f32⟩
  | 59 => ⟨S8x2048x2048, .f32⟩
  | 60 => ⟨S8x2048x2048, .f32⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | .local _ .vmem, ⟨0, _⟩ => ⟨S1x1024x2048, .bf16⟩
  | .local _ .vmem, ⟨1, _⟩ => ⟨S1x1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1024x512, .f32⟩
  | .local _ .vmem, ⟨5, _⟩ => ⟨S1x1024x512, .f32⟩
  | .local _ .vmem, ⟨6, _⟩ => ⟨S1x1024x2048, .bf16⟩
  | .local _ .vmem, ⟨7, _⟩ => ⟨S1x1024x2048, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x1024x512, .f32⟩
  | .local _ .vmem, ⟨11, _⟩ => ⟨S1x1024x512, .f32⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .f32⟩
  | .local _ .vmem, ⟨17, _⟩ => ⟨S1x1024x512, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_values : Ref sig .tc := ⟨.hbm, 105, rfl⟩
abbrev main_indices : Ref sig .tc := ⟨.hbm, 106, rfl⟩
abbrev main_v77 : Ref sig .tc := ⟨.hbm, 107, rfl⟩
abbrev main_c : Ref sig .tc := ⟨.hbm, 108, rfl⟩
abbrev main_v78 : Ref sig .tc := ⟨.hbm, 109, rfl⟩
abbrev main_v79 : Ref sig .tc := ⟨.hbm, 110, rfl⟩
abbrev main_c_15 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_call0_v0 : Ref sig .tc := ⟨.hbm, 119, rfl⟩
abbrev main_call0_v1 : Ref sig .tc := ⟨.hbm, 120, rfl⟩
abbrev main_call0_cst : Ref sig .tc := ⟨.hbm, 121, rfl⟩
abbrev main_call0_v2 : Ref sig .tc := ⟨.hbm, 122, rfl⟩
abbrev main_call0_v3 : Ref sig .tc := ⟨.hbm, 123, rfl⟩
abbrev main_call0_cst_0 : Ref sig .tc := ⟨.hbm, 124, rfl⟩
abbrev main_call0_v4 : Ref sig .tc := ⟨.hbm, 125, rfl⟩
abbrev main_call0_v5 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_16 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_c_17 : Ref sig .tc := ⟨.hbm, 141, rfl⟩
abbrev main_v100 : Ref sig .tc := ⟨.hbm, 142, rfl⟩
abbrev main_v101 : Ref sig .tc := ⟨.hbm, 143, rfl⟩
abbrev main_c_18 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_19 : Ref sig .tc := ⟨.hbm, 151, rfl⟩
abbrev main_v108 : Ref sig .tc := ⟨.hbm, 152, rfl⟩
abbrev main_v109 : Ref sig .tc := ⟨.hbm, 153, rfl⟩
abbrev main_cst_20 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_21 : Ref sig .tc := ⟨.hbm, 160, rfl⟩
abbrev main_v115 : Ref sig .tc := ⟨.hbm, 161, rfl⟩
abbrev main_v116 : Ref sig .tc := ⟨.hbm, 162, rfl⟩
abbrev main_cst_22 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_cst_23 : Ref sig .tc := ⟨.hbm, 169, rfl⟩
abbrev main_v122 : Ref sig .tc := ⟨.hbm, 170, rfl⟩
abbrev main_v123 : Ref sig .tc := ⟨.hbm, 171, rfl⟩
abbrev main_cst_24 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_25 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨3, ![16, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev grid1 : Pipeline.Grid := ⟨3, ![16, 2, 2], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev grid2 : Pipeline.Grid := ⟨3, ![16, 2, 4], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage2_0 : Fin 2 → Memref sig .tc .vmem S1x1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]
-- ==== Reference5Ideal.lean ====
abbrev S8x2048x2048 : Shape := ⟨3, ![8, 2048, 2048]⟩
abbrev S16384x2048 : Shape := ⟨2, ![16384, 2048]⟩
abbrev S8x1x12288 : Shape := ⟨3, ![8, 1, 12288]⟩
abbrev S2048 : Shape := ⟨1, ![2048]⟩
abbrev S2048x16 : Shape := ⟨2, ![2048, 16]⟩
abbrev S16 : Shape := ⟨1, ![16]⟩
abbrev S16x2048x1024 : Shape := ⟨3, ![16, 2048, 1024]⟩
abbrev S16x1024x2048 : Shape := ⟨3, ![16, 1024, 2048]⟩
abbrev S8x1x2048 : Shape := ⟨3, ![8, 1, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S16384x16 : Shape := ⟨2, ![16384, 16]⟩
abbrev S1x16 : Shape := ⟨2, ![1, 16]⟩
abbrev S16384 : Shape := ⟨1, ![16384]⟩
abbrev S16384x1 : Shape := ⟨2, ![16384, 1]⟩
abbrev S16x16384 : Shape := ⟨2, ![16, 16384]⟩
abbrev S16x2048 : Shape := ⟨2, ![16, 2048]⟩
abbrev S16x2048x1 : Shape := ⟨3, ![16, 2048, 1]⟩
abbrev S16x2048x2048 : Shape := ⟨3, ![16, 2048, 2048]⟩
abbrev S32768 : Shape := ⟨1, ![32768]⟩
abbrev S32768x2048 : Shape := ⟨2, ![32768, 2048]⟩
abbrev S32768x1 : Shape := ⟨2, ![32768, 1]⟩

abbrev nBuf : Space → Nat
  | .hbm => 186
  | .vmem => 0
  | .smem => 0
  | _ => 0

abbrev hbmTy0_0 (i : Nat) : BufTy := match i % 128 with
  | 0 => ⟨S8x2048x2048, .f32⟩
  | 1 => ⟨S16384x2048, .f32⟩
  | 2 => ⟨S8x1x12288, .f32⟩
  | 3 => ⟨S2048, .f32⟩
  | 4 => ⟨S2048, .f32⟩
  | 5 => ⟨S2048, .f32⟩
  | 6 => ⟨S2048, .f32⟩
  | 7 => ⟨S2048x16, .f32⟩
  | 8 => ⟨S16, .f32⟩
  | 9 => ⟨S16x2048x1024, .f32⟩
  | 10 => ⟨S16x2048x1024, .f32⟩
  | 11 => ⟨S16x1024x2048, .f32⟩
  | 12 => ⟨S8x1x2048, .f32⟩
  | 13 => ⟨S8x1x2048, .f32⟩
  | 14 => ⟨S8x1x2048, .f32⟩
  | 15 => ⟨S8x1x2048, .f32⟩
  | 16 => ⟨S8x1x2048, .f32⟩
  | 17 => ⟨S8x1x2048, .f32⟩
  | 18 => ⟨S_, .f32⟩
  | 19 => ⟨S8x2048x2048, .f32⟩
  | 20 => ⟨S8x2048x2048, .f32⟩
  | 21 => ⟨S_, .f32⟩
  | 22 => ⟨S8x1x2048, .f32⟩
  | 23 => ⟨S8x1x2048, .f32⟩
  | 24 => ⟨S8x2048x2048, .f32⟩
  | 25 => ⟨S8x2048x2048, .f32⟩
  | 26 => ⟨S8x2048x2048, .f32⟩
  | 27 => ⟨S8x2048x2048, .f32⟩
  | 28 => ⟨S_, .f32⟩
  | 29 => ⟨S8x2048, .f32⟩
  | 30 => ⟨S8x2048x1, .f32⟩
  | 31 => ⟨S_, .f32⟩
  | 32 => ⟨S8x2048x1, .f32⟩
  | 33 => ⟨S8x2048x1, .f32⟩
  | 34 => ⟨S8x2048x2048, .f32⟩
  | 35 => ⟨S8x2048x2048, .f32⟩
  | 36 => ⟨S8x2048x2048, .f32⟩
  | 37 => ⟨S_, .f32⟩
  | 38 => ⟨S8x2048, .f32⟩
  | 39 => ⟨S8x2048x1, .f32⟩
  | 40 => ⟨S_, .f32⟩
  | 41 => ⟨S8x2048x1, .f32⟩
  | 42 => ⟨S8x2048x1, .f32⟩
  | 43 => ⟨S8x2048x2048, .f32⟩
  | 44 => ⟨S8x2048x2048, .f32⟩
  | 45 => ⟨S_, .f32⟩
  | 46 => ⟨S8x2048x1, .f32⟩
  | 47 => ⟨S8x2048x1, .f32⟩
  | 48 => ⟨S8x2048x1, .f32⟩
  | 49 => ⟨S8x2048x2048, .f32⟩
  | 50 => ⟨S8x2048x2048, .f32⟩
  | 51 => ⟨S1x1x2048, .f32⟩
  | 52 => ⟨S8x2048x2048, .f32⟩
  | 53 => ⟨S8x2048x2048, .f32⟩
  | 54 => ⟨S1x1x2048, .f32⟩
  | 55 => ⟨S8x2048x2048, .f32⟩
  | 56 => ⟨S8x2048x2048, .f32⟩
  | 57 => ⟨S_, .f32⟩
  | 58 => ⟨S8x2048, .f32⟩
  | 59 => ⟨S8x2048x1, .f32⟩
  | 60 => ⟨S_, .f32⟩
  | 61 => ⟨S8x2048x1, .f32⟩
  | 62 => ⟨S8x2048x1, .f32⟩
  | 63 => ⟨S8x2048x2048, .f32⟩
  | 64 => ⟨S8x2048x2048, .f32⟩
  | 65 => ⟨S8x2048x2048, .f32⟩
  | 66 => ⟨S_, .f32⟩
  | 67 => ⟨S8x2048, .f32⟩
  | 68 => ⟨S8x2048x1, .f32⟩
  | 69 => ⟨S_, .f32⟩
  | 70 => ⟨S8x2048x1, .f32⟩
  | 71 => ⟨S8x2048x1, .f32⟩
  | 72 => ⟨S8x2048x2048, .f32⟩
  | 73 => ⟨S8x2048x2048, .f32⟩
  | 74 => ⟨S_, .f32⟩
  | 75 => ⟨S8x2048x1, .f32⟩
  | 76 => ⟨S8x2048x1, .f32⟩
  | 77 => ⟨S8x2048x1, .f32⟩
  | 78 => ⟨S8x2048x2048, .f32⟩
  | 79 => ⟨S8x2048x2048, .f32⟩
  | 80 => ⟨S_, .f32⟩
  | 81 => ⟨S8x1x2048, .f32⟩
  | 82 => ⟨S8x1x2048, .f32⟩
  | 83 => ⟨S8x2048x2048, .f32⟩
  | 84 => ⟨S8x2048x2048, .f32⟩
  | 85 => ⟨S8x2048x2048, .f32⟩
  | 86 => ⟨S8x2048x2048, .f32⟩
  | 87 => ⟨S16384x2048, .f32⟩
  | 88 => ⟨S16384x16, .f32⟩
  | 89 => ⟨S1x16, .f32⟩
  | 90 => ⟨S16384x16, .f32⟩
  | 91 => ⟨S16384x16, .f32⟩
  | 92 => ⟨S_, .f32⟩
  | 93 => ⟨S16384, .f32⟩
  | 94 => ⟨S_, .f32⟩
  | 95 => ⟨S16384, .f32⟩
  | 96 => ⟨S16384, .f32⟩
  | 97 => ⟨S16384x1, .f32⟩
  | 98 => ⟨S16384x16, .f32⟩
  | 99 => ⟨S16384x16, .f32⟩
  | 100 => ⟨S16384x16, .f32⟩
  | 101 => ⟨S_, .f32⟩
  | 102 => ⟨S16384, .f32⟩
  | 103 => ⟨S16384x1, .f32⟩
  | 104 => ⟨S16384x16, .f32⟩
  | 105 => ⟨S16384x16, .f32⟩
  | 106 => ⟨S16x16384, .f32⟩
  | 107 => ⟨S16x2048, .f32⟩
  | 108 => ⟨S16x2048, .i32⟩
  | 109 => ⟨S_, .i32⟩
  | 110 => ⟨S16x2048, .i32⟩
  | 111 => ⟨S16x2048, .i1⟩
  | 112 => ⟨S_, .i32⟩
  | 113 => ⟨S16x2048, .i32⟩
  | 114 => ⟨S16x2048, .i32⟩
  | 115 => ⟨S16x2048, .i32⟩
  | 116 => ⟨S16x2048x1, .i32⟩
  | 117 => ⟨S16x2048x2048, .f32⟩
  | 118 => ⟨S16x2048x1024, .f32⟩
  | 119 => ⟨S16x2048x1024, .f32⟩
  | 120 => ⟨S16x2048x1024, .f32⟩
  | 121 => ⟨S_, .f32⟩
  | 122 => ⟨S16x2048x1024, .f32⟩
  | 123 => ⟨S16x2048x1024, .f32⟩
  | 124 => ⟨S_, .f32⟩
  | 125 => ⟨S16x2048x1024, .f32⟩
  | 126 => ⟨S16x2048x1024, .f32⟩
  | 127 => ⟨S16x2048x1024, .f32⟩
  | _ => ⟨S8x2048x2048, .f32⟩

abbrev hbmTy0_1 (i : Nat) : BufTy := match i % 128 with
  | 0 => ⟨S16x2048x1024, .f32⟩
  | 1 => ⟨S16x2048x1024, .f32⟩
  | 2 => ⟨S16x2048x2048, .f32⟩
  | 3 => ⟨S16x2048x1, .f32⟩
  | 4 => ⟨S16x2048x2048, .f32⟩
  | 5 => ⟨S16x2048x2048, .f32⟩
  | 6 => ⟨S_, .f32⟩
  | 7 => ⟨S16384x2048, .f32⟩
  | 8 => ⟨S32768, .i32⟩
  | 9 => ⟨S32768x2048, .f32⟩
  | 10 => ⟨S_, .i32⟩
  | 11 => ⟨S32768, .i32⟩
  | 12 => ⟨S32768, .i1⟩
  | 13 => ⟨S_, .i32⟩
  | 14 => ⟨S32768, .i32⟩
  | 15 => ⟨S32768, .i32⟩
  | 16 => ⟨S32768, .i32⟩
  | 17 => ⟨S32768x1, .i32⟩
  | 18 => ⟨S16384x2048, .f32⟩
  | 19 => ⟨S8x2048x2048, .f32⟩
  | 20 => ⟨S_, .f32⟩
  | 21 => ⟨S8x2048x2048, .f32⟩
  | 22 => ⟨S8x2048x2048, .f32⟩
  | 23 => ⟨S_, .f32⟩
  | 24 => ⟨S8x1x2048, .f32⟩
  | 25 => ⟨S8x1x2048, .f32⟩
  | 26 => ⟨S8x2048x2048, .f32⟩
  | 27 => ⟨S8x2048x2048, .f32⟩
  | 28 => ⟨S8x2048x2048, .f32⟩
  | 29 => ⟨S_, .f32⟩
  | 30 => ⟨S8x2048, .f32⟩
  | 31 => ⟨S8x2048x1, .f32⟩
  | 32 => ⟨S_, .f32⟩
  | 33 => ⟨S8x2048x1, .f32⟩
  | 34 => ⟨S8x2048x1, .f32⟩
  | 35 => ⟨S8x2048x2048, .f32⟩
  | 36 => ⟨S8x2048x2048, .f32⟩
  | 37 => ⟨S8x2048x2048, .f32⟩
  | 38 => ⟨S_, .f32⟩
  | 39 => ⟨S8x2048, .f32⟩
  | 40 => ⟨S8x2048x1, .f32⟩
  | 41 => ⟨S_, .f32⟩
  | 42 => ⟨S8x2048x1, .f32⟩
  | 43 => ⟨S8x2048x1, .f32⟩
  | 44 => ⟨S8x2048x2048, .f32⟩
  | 45 => ⟨S8x2048x2048, .f32⟩
  | 46 => ⟨S_, .f32⟩
  | 47 => ⟨S8x2048x1, .f32⟩
  | 48 => ⟨S8x2048x1, .f32⟩
  | 49 => ⟨S8x2048x1, .f32⟩
  | 50 => ⟨S8x2048x2048, .f32⟩
  | 51 => ⟨S8x2048x2048, .f32⟩
  | 52 => ⟨S1x1x2048, .f32⟩
  | 53 => ⟨S8x2048x2048, .f32⟩
  | 54 => ⟨S8x2048x2048, .f32⟩
  | 55 => ⟨S1x1x2048, .f32⟩
  | 56 => ⟨S8x2048x2048, .f32⟩
  | 57 => ⟨S8x2048x2048, .f32⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_12 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_values : Ref sig .tc := ⟨.hbm, 107, rfl⟩
abbrev main_indices : Ref sig .tc := ⟨.hbm, 108, rfl⟩
abbrev main_c : Ref sig .tc := ⟨.hbm, 109, rfl⟩
abbrev main_v79 : Ref sig .tc := ⟨.hbm, 110, rfl⟩
abbrev main_v80 : Ref sig .tc := ⟨.hbm, 111, rfl⟩
abbrev main_c_15 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_call0_v0 : Ref sig .tc := ⟨.hbm, 119, rfl⟩
abbrev main_call0_v1 : Ref sig .tc := ⟨.hbm, 120, rfl⟩
abbrev main_call0_cst : Ref sig .tc := ⟨.hbm, 121, rfl⟩
abbrev main_call0_v2 : Ref sig .tc := ⟨.hbm, 122, rfl⟩
abbrev main_call0_v3 : Ref sig .tc := ⟨.hbm, 123, rfl⟩
abbrev main_call0_cst_0 : Ref sig .tc := ⟨.hbm, 124, rfl⟩
abbrev main_call0_v4 : Ref sig .tc := ⟨.hbm, 125, rfl⟩
abbrev main_call0_v5 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_16 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_c_17 : Ref sig .tc := ⟨.hbm, 138, rfl⟩
abbrev main_v97 : Ref sig .tc := ⟨.hbm, 139, rfl⟩
abbrev main_v98 : Ref sig .tc := ⟨.hbm, 140, rfl⟩
abbrev main_c_18 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_19 : Ref sig .tc := ⟨.hbm, 148, rfl⟩
abbrev main_v105 : Ref sig .tc := ⟨.hbm, 149, rfl⟩
abbrev main_v106 : Ref sig .tc := ⟨.hbm, 150, rfl⟩
abbrev main_cst_20 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_21 : Ref sig .tc := ⟨.hbm, 157, rfl⟩
abbrev main_v112 : Ref sig .tc := ⟨.hbm, 158, rfl⟩
abbrev main_v113 : Ref sig .tc := ⟨.hbm, 159, rfl⟩
abbrev main_cst_22 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_cst_23 : Ref sig .tc := ⟨.hbm, 166, rfl⟩
abbrev main_v119 : Ref sig .tc := ⟨.hbm, 167, rfl⟩
abbrev main_v120 : Ref sig .tc := ⟨.hbm, 168, rfl⟩
abbrev main_cst_24 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_25 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩

abbrev nD : Nat := 1
abbrev τ : Topo := Topo.v7x

variable {F : FTy → Type} [FloatOps F]
-- ==== Proof.InProjRun.lean ====
/- The launch of `Kernel2Ideal`, its two regions among the host operations: every execution ends with every buffer at the
   contents of the last boundary (`W6`), at any float values. The generated frame keeps of this only the arguments. -/
module

public import proofs.«01_k».proof.Proof.Gen.Kernel2Ideal.Frame

@[expose] public section

noncomputable section

namespace Cert.InProjRun

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The resources the launch runs over. -/
abbrev Res (F : FTy → Type) [FloatOps F] := MT nD τ sig Unit (Elt F) ℕ (UR sig nD τ) ℕ

set_option backward.isDefEq.respectTransparency.types false in
/-- Every weakly fair execution ends with every buffer at the last boundary's contents and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (Res F))
            ⊢ BI.own (emb₁ (initOf (Pipeline.cells cfgs cellOf_inj) (Pipeline.launchToks cfgs cellOf_inj))) from .rfl)
        iexact Hu
      iapply (show (BI.emp : sProp (Res F)) ⊢ bigSep Finset.univ (fun _ : Dev nD => (BI.emp : sProp (Res F))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

end Cert.InProjRun

end
-- ==== Proof.Residual.lean ====
/- The host's lines of the layer's second half, named: the residual and its norm, the modulation, the routing's affinities, the
   picks and their weights, the picked tokens, and the scatter of the experts' outputs. -/
module

public import proofs.«01_k».proof.Proof.Gen.Kernel3Ideal.Frame
public import Idealize.ShloMosaic.Lib.Pointwise
public import Idealize.ShloMosaic.Lib.ValueIdx
public import Idealize.ShloMosaic.PureOps.Ideal.Laws

@[expose] public section

set_option maxRecDepth 16384

noncomputable section

namespace Cert.Residual

open Cert.Kernel3Ideal Cert.Kernel3Ideal.Gen Idealize.ShloMosaic Idealize.ShloMosaic.TcCoe Idealize.SL.Sem

/-! ## Over the tokens of each sequence -/

/-- A token's mean over its channels. -/
def mean (x : Vec Ideal S16x256x2048 .f32) : Vec Ideal S16x256x1 .f32 :=
  Host.divf (F := Ideal) (φ := .f32) (broadcastInDim S16x256x1 ![0, 1] bcast_S16x256_S16x256x1_0_1
      (Host.reduceAdd (F := Ideal) (φ := .f32) x (constant (F := Ideal) S_ .f32 0x00000000#32) reducesTo_S16x256x2048_S16x256_d2 h_S_))
    (broadcastInDim S16x256x1 ![] bcast_S_S16x256x1 (constant (F := Ideal) S_ .f32 0x45000000#32))

/-- A token's number in each of its channels. -/
def perToken (x : Vec Ideal S16x256x1 .f32) : Vec Ideal S16x256x2048 .f32 :=
  broadcastInDim S16x256x2048 ![0, 1, 2] bcast_S16x256x1_S16x256x2048_0_1_2 x

/-- A channel's number at each token. -/
def perChannel (x : Vec Ideal S1x1x2048 .f32) : Vec Ideal S16x256x2048 .f32 :=
  broadcastInDim S16x256x2048 ![0, 1, 2] bcast_S1x1x2048_S16x256x2048_0_1_2 x

/-- A weight as one row of channels. -/
def channels (x : Vec Ideal S2048 .f32) : Vec Ideal S1x1x2048 .f32 := broadcastInDim S1x1x2048 ![2] bcast_S2048_S1x1x2048_2 x

/-- One more than a channel's number. -/
def onePlus (x : Vec Ideal S1x1x2048 .f32) : Vec Ideal S1x1x2048 .f32 :=
  addf (F := Ideal) (φ := .f32) (broadcastInDim S1x1x2048 ![] bcast_S_S1x1x2048 (constant (F := Ideal) S_ .f32 0x3F800000#32)) x

def centred (x : Vec Ideal S16x256x2048 .f32) : Vec Ideal S16x256x2048 .f32 := subf (F := Ideal) (φ := .f32) x (perToken (mean x))

/-- The layer norm without weights. -/
def norm (x : Vec Ideal S16x256x2048 .f32) : Vec Ideal S16x256x2048 .f32 :=
  mulf (F := Ideal) (φ := .f32) (centred x) (perToken (Host.rsqrt (F := Ideal) (φ := .f32) (addf (F := Ideal) (φ := .f32)
    (mean (mulf (F := Ideal) (φ := .f32) (centred x) (centred x)))
    (broadcastInDim S16x256x1 ![] bcast_S_S16x256x1 (constant (F := Ideal) S_ .f32 0x358637BD#32)))))

/-- The layer norm with its weights. -/
def affine (x : Vec Ideal S16x256x2048 .f32) (g b : Vec Ideal S2048 .f32) : Vec Ideal S16x256x2048 .f32 :=
  addf (F := Ideal) (φ := .f32) (mulf (F := Ideal) (φ := .f32) (norm x) (perChannel (channels g))) (perChannel (channels b))

/-- The stream, scaled, plus a sub-layer's output by its gate. -/
def residual (x y : Vec Ideal S16x256x2048 .f32) (g : Vec Ideal S1x1x2048 .f32) : Vec Ideal S16x256x2048 .f32 :=
  addf (F := Ideal) (φ := .f32)
    (mulf (F := Ideal) (φ := .f32) (broadcastInDim S16x256x2048 ![] bcast_S_S16x256x2048 (constant (F := Ideal) S_ .f32 0x3FD744FD#32)) x)
    (mulf (F := Ideal) (φ := .f32) (perChannel (onePlus g)) y)

/-- A sub-layer's input: the norm, scaled and shifted. -/
def modulated (x : Vec Ideal S16x256x2048 .f32) (scale shift : Vec Ideal S1x1x2048 .f32) : Vec Ideal S16x256x2048 .f32 :=
  addf (F := Ideal) (φ := .f32) (mulf (F := Ideal) (φ := .f32) (norm x) (perChannel (onePlus scale))) (perChannel shift)

/-- The parts of the modulation: the gate of the first sub-layer, the shift, scale and gate of the second. -/
def gate1 (x : Vec Ideal S1x1x12288 .f32) : Vec Ideal S1x1x2048 .f32 := extractStridedSlice S1x1x2048 ![0, 0, 4096] x slices_S1x1x12288_S1x1x2048_0_0_4096
def shift2 (x : Vec Ideal S1x1x12288 .f32) : Vec Ideal S1x1x2048 .f32 := extractStridedSlice S1x1x2048 ![0, 0, 6144] x slices_S1x1x12288_S1x1x2048_0_0_6144
def scale2 (x : Vec Ideal S1x1x12288 .f32) : Vec Ideal S1x1x2048 .f32 := extractStridedSlice S1x1x2048 ![0, 0, 8192] x slices_S1x1x12288_S1x1x2048_0_0_8192
def gate2 (x : Vec Ideal S1x1x12288 .f32) : Vec Ideal S1x1x2048 .f32 := extractStridedSlice S1x1x2048 ![0, 0, 10240] x slices_S1x1x12288_S1x1x2048_0_0_10240

/-- The tokens of all sequences in one row of tokens, and back. -/
def flat (x : Vec Ideal S16x256x2048 .f32) : Vec Ideal S4096x2048 .f32 := shapeCast S4096x2048 x shapeCasts_S16x256x2048_S4096x2048
def unflat (x : Vec Ideal S4096x2048 .f32) : Vec Ideal S16x256x2048 .f32 := shapeCast S16x256x2048 x shapeCasts_S4096x2048_S16x256x2048

/-! ## The routing -/

/-- Every token's score for every expert. -/
def scores (h : Vec Ideal S4096x2048 .f32) (w : Vec Ideal S2048x16 .f32) (b : Vec Ideal S16 .f32) : Vec Ideal S4096x16 .f32 :=
  addf (F := Ideal) (φ := .f32) (Host.dotGeneral (F := Ideal) (φ₁ := .f32) (φ₂ := .f32) dot_S4096x2048_S2048x16_S4096x16_1_0_0_1_n_n none h w)
    (broadcastInDim S4096x16 ![0, 1] bcast_S1x16_S4096x16_0_1 (broadcastInDim S1x16 ![1] bcast_S16_S1x16_1 b))

/-- A token's number for each expert. -/
def perExpert (x : Vec Ideal S4096 .f32) : Vec Ideal S4096x16 .f32 :=
  broadcastInDim S4096x16 ![0, 1] bcast_S4096x1_S4096x16_0_1 (broadcastInDim S4096x1 ![0] bcast_S4096_S4096x1_0 x)

/-- The exponentials of the scores less the greatest. -/
def raised (s : Vec Ideal S4096x16 .f32) : Vec Ideal S4096x16 .f32 :=
  Host.exp (F := Ideal) (φ := .f32) (subf (F := Ideal) (φ := .f32) s (perExpert (maximumf (F := Ideal) (φ := .f32)
    (broadcastInDim S4096 ![] bcast_S_S4096 (constant (F := Ideal) S_ .f32 0xFF800000#32))
    (Host.reduce (FloatOps.maximumf (F := Ideal) (φ := .f32)) s (constant (F := Ideal) S_ .f32 0xFF800000#32) reducesTo_S4096x16_S4096_d1 h_S_))))

/-- Every expert's affinity for every token: the softmax of the scores over the experts. -/
def affinities (s : Vec Ideal S4096x16 .f32) : Vec Ideal S16x4096 .f32 :=
  transpose S16x4096 [1, 0] (Host.divf (F := Ideal) (φ := .f32) (raised s) (perExpert
    (Host.reduceAdd (F := Ideal) (φ := .f32) (raised s) (constant (F := Ideal) S_ .f32 0x00000000#32) reducesTo_S4096x16_S4096_d1 h_S_)))
    transposes_S4096x16_S16x4096_1_0

/-- Each expert's greatest affinities, and the tokens they belong to. -/
def greatest (a : Vec Ideal S16x4096 .f32) : Vec Ideal S16x512 .f32 :=
  (Host.topK S16x512 1 (FloatOps.cmpfTotal (F := Ideal) (φ := .f32) .gt) a sliceFits_S16x4096_S16x512).1
def picks (a : Vec Ideal S16x4096 .f32) : Vec Ideal S16x512 .i32 :=
  (Host.topK S16x512 1 (FloatOps.cmpfTotal (F := Ideal) (φ := .f32) .gt) a sliceFits_S16x4096_S16x512).2

/-- The picked tokens of each expert. -/
def gathered (h : Vec Ideal S4096x2048 .f32) (p : Vec Ideal S16x512 .i32) : Vec Ideal S16x512x2048 .f32 :=
  Host.gather gather_S4096x2048_S16x512x1_S16x512x2048_2_0_n_n_0_2_12048 h
    (broadcastInDim S16x512x1 ![0, 1] bcast_S16x512_S16x512x1_0_1
      (select (cmpi .slt p (broadcastInDim S16x512 ![] bcast_S_S16x512 (constantI S_ 32 0#32)))
        (addi p (broadcastInDim S16x512 ![] bcast_S_S16x512 (constantI S_ 32 4096#32))) p))

/-- An expert's outputs by its affinities. -/
def weighted (y : Vec Ideal S16x512x2048 .f32) (g : Vec Ideal S16x512 .f32) : Vec Ideal S16x512x2048 .f32 :=
  mulf (F := Ideal) (φ := .f32) y (broadcastInDim S16x512x2048 ![0, 1, 2] bcast_S16x512x1_S16x512x2048_0_1_2
    (broadcastInDim S16x512x1 ![0, 1] bcast_S16x512_S16x512x1_0_1 g))

/-- The picks of all experts in one row. -/
def flatPicks (p : Vec Ideal S16x512 .i32) : Vec Ideal S8192 .i32 := shapeCast S8192 p shapeCasts_S16x512_S8192

/-- The experts' outputs added up at the tokens they belong to. -/
def scattered (y : Vec Ideal S16x512x2048 .f32) (p : Vec Ideal S16x512 .i32) : Vec Ideal S4096x2048 .f32 :=
  Host.scatterAdd (F := Ideal) (φ := .f32) scatter_S4096x2048_S8192x1_S8192x2048_1_0_0_1
    (broadcastInDim S4096x2048 ![] bcast_S_S4096x2048 (constant (F := Ideal) S_ .f32 0x00000000#32))
    (broadcastInDim S8192x1 ![0] bcast_S8192_S8192x1_0
      (select (cmpi .slt (flatPicks p) (broadcastInDim S8192 ![] bcast_S_S8192 (constantI S_ 32 0#32)))
        (addi (flatPicks p) (broadcastInDim S8192 ![] bcast_S_S8192 (constantI S_ 32 4096#32))) (flatPicks p)))
    (shapeCast S8192x2048 y shapeCasts_S16x512x2048_S8192x2048)

/-! ## The lines before the experts, a stretch at a time -/

variable (X : Valuation τ sig (Elt Ideal))

/-- The lines up to the first residual; its norm; the second sub-layer's input; its scores; the affinities and picks; the picked
    tokens. -/
abbrev lines1 : List (HloOp τ sig (Elt Ideal)) := hostOps0.take 14
abbrev lines2 : List (HloOp τ sig (Elt Ideal)) := (hostOps0.drop 14).take 29
abbrev lines3 : List (HloOp τ sig (Elt Ideal)) := (hostOps0.drop 43).take 31
abbrev lines4 : List (HloOp τ sig (Elt Ideal)) := (hostOps0.drop 74).take 4
abbrev lines5 : List (HloOp τ sig (Elt Ideal)) := (hostOps0.drop 78).take 17
abbrev lines6 : List (HloOp τ sig (Elt Ideal)) := hostOps0.drop 95

theorem lines_eq : StableHlo.after hostOps0 X
    = StableHlo.after lines6 (StableHlo.after lines5 (StableHlo.after lines4 (StableHlo.after lines3 (StableHlo.after lines2 (StableHlo.after lines1 X))))) := by
  simp only [← StableHlo.after_append]
  rfl

theorem lines1_v11 : StableHlo.after lines1 X (Proc.devRef .tc main_v11)
    = residual (X (Proc.devRef .tc main_arg0)) (unflat (X (Proc.devRef .tc main_arg1))) (gate1 (X (Proc.devRef .tc main_arg2))) := by
  simp only [lines1, hostOps0, List.take_succ_cons, List.take_zero, List.drop_succ_cons, List.drop_zero]
  after_results
  rfl

theorem lines1_v1 : StableHlo.after lines1 X (Proc.devRef .tc main_v1)
    = shift2 (X (Proc.devRef .tc main_arg2)) := by
  simp only [lines1, hostOps0, List.take_succ_cons, List.take_zero, List.drop_succ_cons, List.drop_zero]
  after_results
  rfl

theorem lines1_v2 : StableHlo.after lines1 X (Proc.devRef .tc main_v2)
    = scale2 (X (Proc.devRef .tc main_arg2)) := by
  simp only [lines1, hostOps0, List.take_succ_cons, List.take_zero, List.drop_succ_cons, List.drop_zero]
  after_results
  rfl

theorem lines1_v3 : StableHlo.after lines1 X (Proc.devRef .tc main_v3)
    = gate2 (X (Proc.devRef .tc main_arg2)) := by
  simp only [lines1, hostOps0, List.take_succ_cons, List.take_zero, List.drop_succ_cons, List.drop_zero]
  after_results
  rfl

theorem lines1_keep : StableHlo.after lines1 X (Proc.devRef .tc main_arg3) = X (Proc.devRef .tc main_arg3)
    ∧ StableHlo.after lines1 X (Proc.devRef .tc main_arg4) = X (Proc.devRef .tc main_arg4)
    ∧ StableHlo.after lines1 X (Proc.devRef .tc main_arg7) = X (Proc.devRef .tc main_arg7)
    ∧ StableHlo.after lines1 X (Proc.devRef .tc main_arg8) = X (Proc.devRef .tc main_arg8)
    ∧ StableHlo.after lines1 X (Proc.devRef .tc main_arg9) = X (Proc.devRef .tc main_arg9) := by
  simp only [lines1, hostOps0, List.take_succ_cons, List.take_zero, List.drop_succ_cons, List.drop_zero]
  refine ⟨?_, ?_, ?_, ?_, ?_⟩ <;> after_results

theorem lines2_v35 : StableHlo.after lines2 X (Proc.devRef .tc main_v35)
    = affine (X (Proc.devRef .tc main_v11)) (X (Proc.devRef .tc main_arg3)) (X (Proc.devRef .tc main_arg4)) := by
  simp only [lines2, hostOps0, List.take_succ_cons, List.take_zero, List.drop_succ_cons, List.drop_zero]
  after_results
  rfl

theorem lines2_keep : StableHlo.after lines2 X (Proc.devRef .tc main_v1) = X (Proc.devRef .tc main_v1)
    ∧ StableHlo.after lines2 X (Proc.devRef .tc main_v2) = X (Proc.devRef .tc main_v2)
    ∧ StableHlo.after lines2 X (Proc.devRef .tc main_v3) = X (Proc.devRef .tc main_v3)
    ∧ StableHlo.after lines2 X (Proc.devRef .tc main_arg7) = X (Proc.devRef .tc main_arg7)
    ∧ StableHlo.after lines2 X (Proc.devRef .tc main_arg8) = X (Proc.devRef .tc main_arg8)
    ∧ StableHlo.after lines2 X (Proc.devRef .tc main_arg9) = X (Proc.devRef .tc main_arg9) := by
  simp only [lines2, hostOps0, List.take_succ_cons, List.take_zero, List.drop_succ_cons, List.drop_zero]
  refine ⟨?_, ?_, ?_, ?_, ?_, ?_⟩ <;> after_results

theorem lines3_v60 : StableHlo.after lines3 X (Proc.devRef .tc main_v60)
    = flat (modulated (X (Proc.devRef .tc main_v35)) (X (Proc.devRef .tc main_v2)) (X (Proc.devRef .tc main_v1))) := by
  simp only [lines3, hostOps0, List.take_succ_cons, List.take_zero, List.drop_succ_cons, List.drop_zero]
  after_results
  rfl

theorem lines3_keep : StableHlo.after lines3 X (Proc.devRef .tc main_v35) = X (Proc.devRef .tc main_v35)
    ∧ StableHlo.after lines3 X (Proc.devRef .tc main_v3) = X (Proc.devRef .tc main_v3)
    ∧ StableHlo.after lines3 X (Proc.devRef .tc main_arg7) = X (Proc.devRef .tc main_arg7)
    ∧ StableHlo.after lines3 X (Proc.devRef .tc main_arg8) = X (Proc.devRef .tc main_arg8)
    ∧ StableHlo.after lines3 X (Proc.devRef .tc main_arg9) = X (Proc.devRef .tc main_arg9) := by
  simp only [lines3, hostOps0, List.take_succ_cons, List.take_zero, List.drop_succ_cons, List.drop_zero]
  refine ⟨?_, ?_, ?_, ?_, ?_⟩ <;> after_results

theorem lines4_v64 : StableHlo.after lines4 X (Proc.devRef .tc main_v64)
    = scores (X (Proc.devRef .tc main_v60)) (X (Proc.devRef .tc main_arg7)) (X (Proc.devRef .tc main_arg8)) := by
  simp only [lines4, hostOps0, List.take_succ_cons, List.take_zero, List.drop_succ_cons, List.drop_zero]
  after_results
  rfl

theorem lines4_keep : StableHlo.after lines4 X (Proc.devRef .tc main_v35) = X (Proc.devRef .tc main_v35)
    ∧ StableHlo.after lines4 X (Proc.devRef .tc main_v3) = X (Proc.devRef .tc main_v3)
    ∧ StableHlo.after lines4 X (Proc.devRef .tc main_v60) = X (Proc.devRef .tc main_v60)
    ∧ StableHlo.after lines4 X (Proc.devRef .tc main_arg9) = X (Proc.devRef .tc main_arg9) := by
  simp only [lines4, hostOps0, List.take_succ_cons, List.take_zero, List.drop_succ_cons, List.drop_zero]
  refine ⟨?_, ?_, ?_, ?_⟩ <;> after_results

theorem lines5_values : StableHlo.after lines5 X (Proc.devRef .tc main_values)
    = greatest (affinities (X (Proc.devRef .tc main_v64))) := by
  simp only [lines5, hostOps0, List.take_succ_cons, List.take_zero, List.drop_succ_cons, List.drop_zero]
  after_results
  rfl

theorem lines5_indices : StableHlo.after lines5 X (Proc.devRef .tc main_indices)
    = picks (affinities (X (Proc.devRef .tc main_v64))) := by
  simp only [lines5, hostOps0, List.take_succ_cons, List.take_zero, List.drop_succ_cons, List.drop_zero]
  after_results
  rfl

theorem lines5_keep : StableHlo.after lines5 X (Proc.devRef .tc main_v35) = X (Proc.devRef .tc main_v35)
    ∧ StableHlo.after lines5 X (Proc.devRef .tc main_v3) = X (Proc.devRef .tc main_v3)
    ∧ StableHlo.after lines5 X (Proc.devRef .tc main_v60) = X (Proc.devRef .tc main_v60)
    ∧ StableHlo.after lines5 X (Proc.devRef .tc main_arg9) = X (Proc.devRef .tc main_arg9) := by
  simp only [lines5, hostOps0, List.take_succ_cons, List.take_zero, List.drop_succ_cons, List.drop_zero]
  refine ⟨?_, ?_, ?_, ?_⟩ <;> after_results

theorem lines6_v84 : StableHlo.after lines6 X (Proc.devRef .tc main_v84)
    = gathered (X (Proc.devRef .tc main_v60)) (X (Proc.devRef .tc main_indices)) := by
  simp only [lines6, hostOps0, List.take_succ_cons, List.take_zero, List.drop_succ_cons, List.drop_zero]
  after_results
  rfl

theorem lines6_v85 : StableHlo.after lines6 X (Proc.devRef .tc main_v85)
    = X (Proc.devRef .tc main_arg9) := by
  simp only [lines6, hostOps0, List.take_succ_cons, List.take_zero, List.drop_succ_cons, List.drop_zero]
  after_results
  rfl

theorem lines6_keep : StableHlo.after lines6 X (Proc.devRef .tc main_v35) = X (Proc.devRef .tc main_v35)
    ∧ StableHlo.after lines6 X (Proc.devRef .tc main_v3) = X (Proc.devRef .tc main_v3)
    ∧ StableHlo.after lines6 X (Proc.devRef .tc main_values) = X (Proc.devRef .tc main_values)
    ∧ StableHlo.after lines6 X (Proc.devRef .tc main_indices) = X (Proc.devRef .tc main_indices) := by
  simp only [lines6, hostOps0, List.take_succ_cons, List.take_zero, List.drop_succ_cons, List.drop_zero]
  refine ⟨?_, ?_, ?_, ?_⟩ <;> after_results

/-! ## What the lines before the experts leave, of the arguments -/

/-- The stream after the first sub-layer. -/
def stream (x : Vec Ideal S16x256x2048 .f32) (y : Vec Ideal S4096x2048 .f32) (mod : Vec Ideal S1x1x12288 .f32) (g b : Vec Ideal S2048 .f32) :
    Vec Ideal S16x256x2048 .f32 := affine (residual x (unflat y) (gate1 mod)) g b

/-- The second sub-layer's input. -/
def input (s : Vec Ideal S16x256x2048 .f32) (mod : Vec Ideal S1x1x12288 .f32) : Vec Ideal S4096x2048 .f32 := flat (modulated s (scale2 mod) (shift2 mod))

/-- The experts' affinities for the tokens. -/
def routing (h : Vec Ideal S4096x2048 .f32) (w : Vec Ideal S2048x16 .f32) (b : Vec Ideal S16 .f32) : Vec Ideal S16x4096 .f32 := affinities (scores h w b)

theorem before : StableHlo.after hostOps0 X (Proc.devRef .tc main_v35) = stream (X (Proc.devRef .tc main_arg0)) (X (Proc.devRef .tc main_arg1)) (X (Proc.devRef .tc main_arg2)) (X (Proc.devRef .tc main_arg3)) (X (Proc.devRef .tc main_arg4))
    ∧ StableHlo.after hostOps0 X (Proc.devRef .tc main_v3) = gate2 (X (Proc.devRef .tc main_arg2))
    ∧ StableHlo.after hostOps0 X (Proc.devRef .tc main_values) = greatest (routing (input (stream (X (Proc.devRef .tc main_arg0)) (X (Proc.devRef .tc main_arg1)) (X (Proc.devRef .tc main_arg2)) (X (Proc.devRef .tc main_arg3)) (X (Proc.devRef .tc main_arg4))) (X (Proc.devRef .tc main_arg2))) (X (Proc.devRef .tc main_arg7)) (X (Proc.devRef .tc main_arg8)))
    ∧ StableHlo.after hostOps0 X (Proc.devRef .tc main_indices) = picks (routing (input (stream (X (Proc.devRef .tc main_arg0)) (X (Proc.devRef .tc main_arg1)) (X (Proc.devRef .tc main_arg2)) (X (Proc.devRef .tc main_arg3)) (X (Proc.devRef .tc main_arg4))) (X (Proc.devRef .tc main_arg2))) (X (Proc.devRef .tc main_arg7)) (X (Proc.devRef .tc main_arg8)))
    ∧ StableHlo.after hostOps0 X (Proc.devRef .tc main_v84) = gathered (input (stream (X (Proc.devRef .tc main_arg0)) (X (Proc.devRef .tc main_arg1)) (X (Proc.devRef .tc main_arg2)) (X (Proc.devRef .tc main_arg3)) (X (Proc.devRef .tc main_arg4))) (X (Proc.devRef .tc main_arg2))) (picks (routing (input (stream (X (Proc.devRef .tc main_arg0)) (X (Proc.devRef .tc main_arg1)) (X (Proc.devRef .tc main_arg2)) (X (Proc.devRef .tc main_arg3)) (X (Proc.devRef .tc main_arg4))) (X (Proc.devRef .tc main_arg2))) (X (Proc.devRef .tc main_arg7)) (X (Proc.devRef .tc main_arg8))))
    ∧ StableHlo.after hostOps0 X (Proc.devRef .tc main_v85) = X (Proc.devRef .tc main_arg9) := by
  rw [lines_eq]
  generalize hX1 : StableHlo.after lines1 X = X1
  generalize hX2 : StableHlo.after lines2 X1 = X2
  generalize hX3 : StableHlo.after lines3 X2 = X3
  generalize hX4 : StableHlo.after lines4 X3 = X4
  generalize hX5 : StableHlo.after lines5 X4 = X5
  obtain ⟨a3, a4, a7, a8, a9⟩ := lines1_keep X
  obtain ⟨b1, b2, b3, b7, b8, b9⟩ := lines2_keep X1
  obtain ⟨c35, c3, c7, c8, c9⟩ := lines3_keep X2
  obtain ⟨d35, d3, d60, d9⟩ := lines4_keep X3
  obtain ⟨e35, e3, e60, e9⟩ := lines5_keep X4
  obtain ⟨f35, f3, fv, fi⟩ := lines6_keep X5
  have l11 := lines1_v11 X
  have l1 := lines1_v1 X
  have l2 := lines1_v2 X
  have l3 := lines1_v3 X
  have l35 := lines2_v35 X1
  have l60 := lines3_v60 X2
  have l64 := lines4_v64 X3
  have lv := lines5_values X4
  have li := lines5_indices X4
  have l84 := lines6_v84 X5
  have l85 := lines6_v85 X5
  rw [hX1] at a3 a4 a7 a8 a9 l11 l1 l2 l3
  rw [hX2] at b1 b2 b3 b7 b8 b9 l35
  rw [hX3] at c35 c3 c7 c8 c9 l60
  rw [hX4] at d35 d3 d60 d9 l64
  rw [hX5] at e35 e3 e60 e9 lv li
  rw [l11, a3, a4] at l35
  rw [l35, b2, l2, b1, l1] at l60
  rw [l60, c7, b7, a7, c8, b8, a8] at l64
  rw [l64] at lv li
  rw [e60, d60, l60, li] at l84
  rw [e9, d9, c9, b9, a9] at l85
  exact ⟨by rw [f35, e35, d35, c35, l35]; rfl, by rw [f3, e3, d3, c3, b3, l3], by rw [fv, lv]; rfl, by rw [fi, li]; rfl, by rw [l84]; rfl, l85⟩

/-! ## The lines after the experts -/

abbrev lines7 : List (HloOp τ sig (Elt Ideal)) := hostOps3.take 16
abbrev lines8 : List (HloOp τ sig (Elt Ideal)) := (hostOps3.drop 16).take 10
abbrev lines9 : List (HloOp τ sig (Elt Ideal)) := hostOps3.drop 26

theorem lines_eq' : StableHlo.after hostOps3 X = StableHlo.after lines9 (StableHlo.after lines8 (StableHlo.after lines7 X)) := by
  simp only [← StableHlo.after_append]
  rfl

theorem lines7_v106 : StableHlo.after lines7 X (Proc.devRef .tc main_v106)
    = scattered (weighted (X (Proc.devRef .tc main_v93)) (X (Proc.devRef .tc main_values))) (X (Proc.devRef .tc main_indices)) := by
  simp only [lines7, hostOps3, List.take_succ_cons, List.take_zero, List.drop_succ_cons, List.drop_zero]
  after_results
  rfl

theorem lines7_keep : StableHlo.after lines7 X (Proc.devRef .tc main_v35) = X (Proc.devRef .tc main_v35)
    ∧ StableHlo.after lines7 X (Proc.devRef .tc main_v3) = X (Proc.devRef .tc main_v3)
    ∧ StableHlo.after lines7 X (Proc.devRef .tc main_arg5) = X (Proc.devRef .tc main_arg5)
    ∧ StableHlo.after lines7 X (Proc.devRef .tc main_arg6) = X (Proc.devRef .tc main_arg6) := by
  simp only [lines7, hostOps3, List.take_succ_cons, List.take_zero, List.drop_succ_cons, List.drop_zero]
  refine ⟨?_, ?_, ?_, ?_⟩ <;> after_results

theorem lines8_v114 : StableHlo.after lines8 X (Proc.devRef .tc main_v114)
    = residual (X (Proc.devRef .tc main_v35)) (unflat (X (Proc.devRef .tc main_v106))) (X (Proc.devRef .tc main_v3)) := by
  simp only [lines8, hostOps3, List.take_succ_cons, List.take_zero, List.drop_succ_cons, List.drop_zero]
  after_results
  rfl

theorem lines8_keep : StableHlo.after lines8 X (Proc.devRef .tc main_arg5) = X (Proc.devRef .tc main_arg5)
    ∧ StableHlo.after lines8 X (Proc.devRef .tc main_arg6) = X (Proc.devRef .tc main_arg6) := by
  simp only [lines8, hostOps3, List.take_succ_cons, List.take_zero, List.drop_succ_cons, List.drop_zero]
  refine ⟨?_, ?_⟩ <;> after_results

theorem lines9_v138 : StableHlo.after lines9 X (Proc.devRef .tc main_v138)
    = affine (X (Proc.devRef .tc main_v114)) (X (Proc.devRef .tc main_arg5)) (X (Proc.devRef .tc main_arg6)) := by
  simp only [lines9, hostOps3, List.take_succ_cons, List.take_zero, List.drop_succ_cons, List.drop_zero]
  after_results
  rfl

/-- The layer's output, of the stream, the experts' outputs, their weights and their picks. -/
theorem after : StableHlo.after hostOps3 X (Proc.devRef .tc main_v138)
    = affine (residual (X (Proc.devRef .tc main_v35)) (unflat (scattered (weighted (X (Proc.devRef .tc main_v93)) (X (Proc.devRef .tc main_values))) (X (Proc.devRef .tc main_indices)))) (X (Proc.devRef .tc main_v3))) (X (Proc.devRef .tc main_arg5)) (X (Proc.devRef .tc main_arg6)) := by
  rw [lines_eq', lines9_v138, (lines8_keep _).1, (lines8_keep _).2, lines8_v114, lines7_v106]
  obtain ⟨h35, h3, h5, h6⟩ := lines7_keep X
  rw [h35, h3, h5, h6]

end Cert.Residual

end
-- ==== Proof.SampleResidual.lean ====
/- The host's lines of the layer's second half for the sample batch, named: the residual and its norm, the modulation, the routing's affinities, the
   picks and their weights, the picked tokens, and the scatter of the experts' outputs. -/
module

public import proofs.«01_k».proof.Proof.Gen.Kernel5Ideal.Frame
public import Idealize.ShloMosaic.Lib.Pointwise
public import Idealize.ShloMosaic.Lib.ValueIdx
public import Idealize.ShloMosaic.PureOps.Ideal.Laws

@[expose] public section

set_option maxRecDepth 16384

noncomputable section

namespace Cert.SampleResidual

open Cert.Kernel5Ideal Cert.Kernel5Ideal.Gen Idealize.ShloMosaic Idealize.ShloMosaic.TcCoe Idealize.SL.Sem

/-! ## Over the tokens of each sequence -/

/-- A token's mean over its channels. -/
def mean (x : Vec Ideal S8x2048x2048 .f32) : Vec Ideal S8x2048x1 .f32 :=
  Host.divf (F := Ideal) (φ := .f32) (broadcastInDim S8x2048x1 ![0, 1] bcast_S8x2048_S8x2048x1_0_1
      (Host.reduceAdd (F := Ideal) (φ := .f32) x (constant (F := Ideal) S_ .f32 0x00000000#32) reducesTo_S8x2048x2048_S8x2048_d2 h_S_))
    (broadcastInDim S8x2048x1 ![] bcast_S_S8x2048x1 (constant (F := Ideal) S_ .f32 0x45000000#32))

/-- A token's number in each of its channels. -/
def perToken (x : Vec Ideal S8x2048x1 .f32) : Vec Ideal S8x2048x2048 .f32 :=
  broadcastInDim S8x2048x2048 ![0, 1, 2] bcast_S8x2048x1_S8x2048x2048_0_1_2 x

/-- A channel's number of each sequence, at each of its tokens. -/
def perSequence (x : Vec Ideal S8x1x2048 .f32) : Vec Ideal S8x2048x2048 .f32 :=
  broadcastInDim S8x2048x2048 ![0, 1, 2] bcast_S8x1x2048_S8x2048x2048_0_1_2 x

/-- A channel's number at each token. -/
def perChannel (x : Vec Ideal S1x1x2048 .f32) : Vec Ideal S8x2048x2048 .f32 :=
  broadcastInDim S8x2048x2048 ![0, 1, 2] bcast_S1x1x2048_S8x2048x2048_0_1_2 x

/-- A weight as one row of channels. -/
def channels (x : Vec Ideal S2048 .f32) : Vec Ideal S1x1x2048 .f32 := broadcastInDim S1x1x2048 ![2] bcast_S2048_S1x1x2048_2 x

/-- One more than a channel's number. -/
def onePlus (x : Vec Ideal S8x1x2048 .f32) : Vec Ideal S8x1x2048 .f32 :=
  addf (F := Ideal) (φ := .f32) (broadcastInDim S8x1x2048 ![] bcast_S_S8x1x2048 (constant (F := Ideal) S_ .f32 0x3F800000#32)) x

def centred (x : Vec Ideal S8x2048x2048 .f32) : Vec Ideal S8x2048x2048 .f32 := subf (F := Ideal) (φ := .f32) x (perToken (mean x))

/-- The layer norm without weights. -/
def norm (x : Vec Ideal S8x2048x2048 .f32) : Vec Ideal S8x2048x2048 .f32 :=
  mulf (F := Ideal) (φ := .f32) (centred x) (perToken (Host.rsqrt (F := Ideal) (φ := .f32) (addf (F := Ideal) (φ := .f32)
    (mean (mulf (F := Ideal) (φ := .f32) (centred x) (centred x)))
    (broadcastInDim S8x2048x1 ![] bcast_S_S8x2048x1 (constant (F := Ideal) S_ .f32 0x358637BD#32)))))

/-- The layer norm with its weights. -/
def affine (x : Vec Ideal S8x2048x2048 .f32) (g b : Vec Ideal S2048 .f32) : Vec Ideal S8x2048x2048 .f32 :=
  addf (F := Ideal) (φ := .f32) (mulf (F := Ideal) (φ := .f32) (norm x) (perChannel (channels g))) (perChannel (channels b))

/-- The stream, scaled, plus a sub-layer's output by its gate. -/
def residual (x y : Vec Ideal S8x2048x2048 .f32) (g : Vec Ideal S8x1x2048 .f32) : Vec Ideal S8x2048x2048 .f32 :=
  addf (F := Ideal) (φ := .f32)
    (mulf (F := Ideal) (φ := .f32) (broadcastInDim S8x2048x2048 ![] bcast_S_S8x2048x2048 (constant (F := Ideal) S_ .f32 0x3FD744FD#32)) x)
    (mulf (F := Ideal) (φ := .f32) (perSequence (onePlus g)) y)

/-- A sub-layer's input: the norm, scaled and shifted. -/
def modulated (x : Vec Ideal S8x2048x2048 .f32) (scale shift : Vec Ideal S8x1x2048 .f32) : Vec Ideal S8x2048x2048 .f32 :=
  addf (F := Ideal) (φ := .f32) (mulf (F := Ideal) (φ := .f32) (norm x) (perSequence (onePlus scale))) (perSequence shift)

/-- The parts of the modulation: the gate of the first sub-layer, the shift, scale and gate of the second. -/
def gate1 (x : Vec Ideal S8x1x12288 .f32) : Vec Ideal S8x1x2048 .f32 := extractStridedSlice S8x1x2048 ![0, 0, 4096] x slices_S8x1x12288_S8x1x2048_0_0_4096
def shift2 (x : Vec Ideal S8x1x12288 .f32) : Vec Ideal S8x1x2048 .f32 := extractStridedSlice S8x1x2048 ![0, 0, 6144] x slices_S8x1x12288_S8x1x2048_0_0_6144
def scale2 (x : Vec Ideal S8x1x12288 .f32) : Vec Ideal S8x1x2048 .f32 := extractStridedSlice S8x1x2048 ![0, 0, 8192] x slices_S8x1x12288_S8x1x2048_0_0_8192
def gate2 (x : Vec Ideal S8x1x12288 .f32) : Vec Ideal S8x1x2048 .f32 := extractStridedSlice S8x1x2048 ![0, 0, 10240] x slices_S8x1x12288_S8x1x2048_0_0_10240

/-- The tokens of all sequences in one row of tokens, and back. -/
def flat (x : Vec Ideal S8x2048x2048 .f32) : Vec Ideal S16384x2048 .f32 := shapeCast S16384x2048 x shapeCasts_S8x2048x2048_S16384x2048
def unflat (x : Vec Ideal S16384x2048 .f32) : Vec Ideal S8x2048x2048 .f32 := shapeCast S8x2048x2048 x shapeCasts_S16384x2048_S8x2048x2048

/-! ## The routing -/

/-- Every token's score for every expert. -/
def scores (h : Vec Ideal S16384x2048 .f32) (w : Vec Ideal S2048x16 .f32) (b : Vec Ideal S16 .f32) : Vec Ideal S16384x16 .f32 :=
  addf (F := Ideal) (φ := .f32) (Host.dotGeneral (F := Ideal) (φ₁ := .f32) (φ₂ := .f32) dot_S16384x2048_S2048x16_S16384x16_1_0_0_1_n_n none h w)
    (broadcastInDim S16384x16 ![0, 1] bcast_S1x16_S16384x16_0_1 (broadcastInDim S1x16 ![1] bcast_S16_S1x16_1 b))

/-- A token's number for each expert. -/
def perExpert (x : Vec Ideal S16384 .f32) : Vec Ideal S16384x16 .f32 :=
  broadcastInDim S16384x16 ![0, 1] bcast_S16384x1_S16384x16_0_1 (broadcastInDim S16384x1 ![0] bcast_S16384_S16384x1_0 x)

/-- The exponentials of the scores less the greatest. -/
def raised (s : Vec Ideal S16384x16 .f32) : Vec Ideal S16384x16 .f32 :=
  Host.exp (F := Ideal) (φ := .f32) (subf (F := Ideal) (φ := .f32) s (perExpert (maximumf (F := Ideal) (φ := .f32)
    (broadcastInDim S16384 ![] bcast_S_S16384 (constant (F := Ideal) S_ .f32 0xFF800000#32))
    (Host.reduce (FloatOps.maximumf (F := Ideal) (φ := .f32)) s (constant (F := Ideal) S_ .f32 0xFF800000#32) reducesTo_S16384x16_S16384_d1 h_S_))))

/-- Every expert's affinity for every token: the softmax of the scores over the experts. -/
def affinities (s : Vec Ideal S16384x16 .f32) : Vec Ideal S16x16384 .f32 :=
  transpose S16x16384 [1, 0] (Host.divf (F := Ideal) (φ := .f32) (raised s) (perExpert
    (Host.reduceAdd (F := Ideal) (φ := .f32) (raised s) (constant (F := Ideal) S_ .f32 0x00000000#32) reducesTo_S16384x16_S16384_d1 h_S_)))
    transposes_S16384x16_S16x16384_1_0

/-- Each expert's greatest affinities, and the tokens they belong to. -/
def greatest (a : Vec Ideal S16x16384 .f32) : Vec Ideal S16x2048 .f32 :=
  (Host.topK S16x2048 1 (FloatOps.cmpfTotal (F := Ideal) (φ := .f32) .gt) a sliceFits_S16x16384_S16x2048).1
def picks (a : Vec Ideal S16x16384 .f32) : Vec Ideal S16x2048 .i32 :=
  (Host.topK S16x2048 1 (FloatOps.cmpfTotal (F := Ideal) (φ := .f32) .gt) a sliceFits_S16x16384_S16x2048).2

/-- The picked tokens of each expert. -/
def gathered (h : Vec Ideal S16384x2048 .f32) (p : Vec Ideal S16x2048 .i32) : Vec Ideal S16x2048x2048 .f32 :=
  Host.gather gather_S16384x2048_S16x2048x1_S16x2048x2048_2_0_n_n_0_2_12048 h
    (broadcastInDim S16x2048x1 ![0, 1] bcast_S16x2048_S16x2048x1_0_1
      (select (cmpi .slt p (broadcastInDim S16x2048 ![] bcast_S_S16x2048 (constantI S_ 32 0#32)))
        (addi p (broadcastInDim S16x2048 ![] bcast_S_S16x2048 (constantI S_ 32 16384#32))) p))

/-- An expert's outputs by its affinities. -/
def weighted (y : Vec Ideal S16x2048x2048 .f32) (g : Vec Ideal S16x2048 .f32) : Vec Ideal S16x2048x2048 .f32 :=
  mulf (F := Ideal) (φ := .f32) y (broadcastInDim S16x2048x2048 ![0, 1, 2] bcast_S16x2048x1_S16x2048x2048_0_1_2
    (broadcastInDim S16x2048x1 ![0, 1] bcast_S16x2048_S16x2048x1_0_1 g))

/-- The picks of all experts in one row. -/
def flatPicks (p : Vec Ideal S16x2048 .i32) : Vec Ideal S32768 .i32 := shapeCast S32768 p shapeCasts_S16x2048_S32768

/-- The experts' outputs added up at the tokens they belong to. -/
def scattered (y : Vec Ideal S16x2048x2048 .f32) (p : Vec Ideal S16x2048 .i32) : Vec Ideal S16384x2048 .f32 :=
  Host.scatterAdd (F := Ideal) (φ := .f32) scatter_S16384x2048_S32768x1_S32768x2048_1_0_0_1
    (broadcastInDim S16384x2048 ![] bcast_S_S16384x2048 (constant (F := Ideal) S_ .f32 0x00000000#32))
    (broadcastInDim S32768x1 ![0] bcast_S32768_S32768x1_0
      (select (cmpi .slt (flatPicks p) (broadcastInDim S32768 ![] bcast_S_S32768 (constantI S_ 32 0#32)))
        (addi (flatPicks p) (broadcastInDim S32768 ![] bcast_S_S32768 (constantI S_ 32 16384#32))) (flatPicks p)))
    (shapeCast S32768x2048 y shapeCasts_S16x2048x2048_S32768x2048)

/-! ## The lines before the experts, a stretch at a time -/

variable (X : Valuation τ sig (Elt Ideal))

/-- The lines up to the first residual; its norm; the second sub-layer's input; its scores; the affinities and picks; the picked
    tokens. -/
abbrev lines1 : List (HloOp τ sig (Elt Ideal)) := hostOps0.take 14
abbrev lines2 : List (HloOp τ sig (Elt Ideal)) := (hostOps0.drop 14).take 29
abbrev lines3 : List (HloOp τ sig (Elt Ideal)) := (hostOps0.drop 43).take 31
abbrev lines4 : List (HloOp τ sig (Elt Ideal)) := (hostOps0.drop 74).take 4
abbrev lines5 : List (HloOp τ sig (Elt Ideal)) := (hostOps0.drop 78).take 17
abbrev lines6 : List (HloOp τ sig (Elt Ideal)) := hostOps0.drop 95

theorem lines_eq : StableHlo.after hostOps0 X
    = StableHlo.after lines6 (StableHlo.after lines5 (StableHlo.after lines4 (StableHlo.after lines3 (StableHlo.after lines2 (StableHlo.after lines1 X))))) := by
  simp only [← StableHlo.after_append]
  rfl

theorem lines1_v11 : StableHlo.after lines1 X (Proc.devRef .tc main_v11)
    = residual (X (Proc.devRef .tc main_arg0)) (unflat (X (Proc.devRef .tc main_arg1))) (gate1 (X (Proc.devRef .tc main_arg2))) := by
  simp only [lines1, hostOps0, List.take_succ_cons, List.take_zero, List.drop_succ_cons, List.drop_zero]
  after_results
  rfl

theorem lines1_v1 : StableHlo.after lines1 X (Proc.devRef .tc main_v1)
    = shift2 (X (Proc.devRef .tc main_arg2)) := by
  simp only [lines1, hostOps0, List.take_succ_cons, List.take_zero, List.drop_succ_cons, List.drop_zero]
  after_results
  rfl

theorem lines1_v2 : StableHlo.after lines1 X (Proc.devRef .tc main_v2)
    = scale2 (X (Proc.devRef .tc main_arg2)) := by
  simp only [lines1, hostOps0, List.take_succ_cons, List.take_zero, List.drop_succ_cons, List.drop_zero]
  after_results
  rfl

theorem lines1_v3 : StableHlo.after lines1 X (Proc.devRef .tc main_v3)
    = gate2 (X (Proc.devRef .tc main_arg2)) := by
  simp only [lines1, hostOps0, List.take_succ_cons, List.take_zero, List.drop_succ_cons, List.drop_zero]
  after_results
  rfl

theorem lines1_keep : StableHlo.after lines1 X (Proc.devRef .tc main_arg3) = X (Proc.devRef .tc main_arg3)
    ∧ StableHlo.after lines1 X (Proc.devRef .tc main_arg4) = X (Proc.devRef .tc main_arg4)
    ∧ StableHlo.after lines1 X (Proc.devRef .tc main_arg7) = X (Proc.devRef .tc main_arg7)
    ∧ StableHlo.after lines1 X (Proc.devRef .tc main_arg8) = X (Proc.devRef .tc main_arg8)
    ∧ StableHlo.after lines1 X (Proc.devRef .tc main_arg9) = X (Proc.devRef .tc main_arg9) := by
  simp only [lines1, hostOps0, List.take_succ_cons, List.take_zero, List.drop_succ_cons, List.drop_zero]
  refine ⟨?_, ?_, ?_, ?_, ?_⟩ <;> after_results

theorem lines2_v35 : StableHlo.after lines2 X (Proc.devRef .tc main_v35)
    = affine (X (Proc.devRef .tc main_v11)) (X (Proc.devRef .tc main_arg3)) (X (Proc.devRef .tc main_arg4)) := by
  simp only [lines2, hostOps0, List.take_succ_cons, List.take_zero, List.drop_succ_cons, List.drop_zero]
  after_results
  rfl

theorem lines2_keep : StableHlo.after lines2 X (Proc.devRef .tc main_v1) = X (Proc.devRef .tc main_v1)
    ∧ StableHlo.after lines2 X (Proc.devRef .tc main_v2) = X (Proc.devRef .tc main_v2)
    ∧ StableHlo.after lines2 X (Proc.devRef .tc main_v3) = X (Proc.devRef .tc main_v3)
    ∧ StableHlo.after lines2 X (Proc.devRef .tc main_arg7) = X (Proc.devRef .tc main_arg7)
    ∧ StableHlo.after lines2 X (Proc.devRef .tc main_arg8) = X (Proc.devRef .tc main_arg8)
    ∧ StableHlo.after lines2 X (Proc.devRef .tc main_arg9) = X (Proc.devRef .tc main_arg9) := by
  simp only [lines2, hostOps0, List.take_succ_cons, List.take_zero, List.drop_succ_cons, List.drop_zero]
  refine ⟨?_, ?_, ?_, ?_, ?_, ?_⟩ <;> after_results

theorem lines3_v60 : StableHlo.after lines3 X (Proc.devRef .tc main_v60)
    = flat (modulated (X (Proc.devRef .tc main_v35)) (X (Proc.devRef .tc main_v2)) (X (Proc.devRef .tc main_v1))) := by
  simp only [lines3, hostOps0, List.take_succ_cons, List.take_zero, List.drop_succ_cons, List.drop_zero]
  after_results
  rfl

theorem lines3_keep : StableHlo.after lines3 X (Proc.devRef .tc main_v35) = X (Proc.devRef .tc main_v35)
    ∧ StableHlo.after lines3 X (Proc.devRef .tc main_v3) = X (Proc.devRef .tc main_v3)
    ∧ StableHlo.after lines3 X (Proc.devRef .tc main_arg7) = X (Proc.devRef .tc main_arg7)
    ∧ StableHlo.after lines3 X (Proc.devRef .tc main_arg8) = X (Proc.devRef .tc main_arg8)
    ∧ StableHlo.after lines3 X (Proc.devRef .tc main_arg9) = X (Proc.devRef .tc main_arg9) := by
  simp only [lines3, hostOps0, List.take_succ_cons, List.take_zero, List.drop_succ_cons, List.drop_zero]
  refine ⟨?_, ?_, ?_, ?_, ?_⟩ <;> after_results

theorem lines4_v64 : StableHlo.after lines4 X (Proc.devRef .tc main_v64)
    = scores (X (Proc.devRef .tc main_v60)) (X (Proc.devRef .tc main_arg7)) (X (Proc.devRef .tc main_arg8)) := by
  simp only [lines4, hostOps0, List.take_succ_cons, List.take_zero, List.drop_succ_cons, List.drop_zero]
  after_results
  rfl

theorem lines4_keep : StableHlo.after lines4 X (Proc.devRef .tc main_v35) = X (Proc.devRef .tc main_v35)
    ∧ StableHlo.after lines4 X (Proc.devRef .tc main_v3) = X (Proc.devRef .tc main_v3)
    ∧ StableHlo.after lines4 X (Proc.devRef .tc main_v60) = X (Proc.devRef .tc main_v60)
    ∧ StableHlo.after lines4 X (Proc.devRef .tc main_arg9) = X (Proc.devRef .tc main_arg9) := by
  simp only [lines4, hostOps0, List.take_succ_cons, List.take_zero, List.drop_succ_cons, List.drop_zero]
  refine ⟨?_, ?_, ?_, ?_⟩ <;> after_results

theorem lines5_values : StableHlo.after lines5 X (Proc.devRef .tc main_values)
    = greatest (affinities (X (Proc.devRef .tc main_v64))) := by
  simp only [lines5, hostOps0, List.take_succ_cons, List.take_zero, List.drop_succ_cons, List.drop_zero]
  after_results
  rfl

theorem lines5_indices : StableHlo.after lines5 X (Proc.devRef .tc main_indices)
    = picks (affinities (X (Proc.devRef .tc main_v64))) := by
  simp only [lines5, hostOps0, List.take_succ_cons, List.take_zero, List.drop_succ_cons, List.drop_zero]
  after_results
  rfl

theorem lines5_keep : StableHlo.after lines5 X (Proc.devRef .tc main_v35) = X (Proc.devRef .tc main_v35)
    ∧ StableHlo.after lines5 X (Proc.devRef .tc main_v3) = X (Proc.devRef .tc main_v3)
    ∧ StableHlo.after lines5 X (Proc.devRef .tc main_v60) = X (Proc.devRef .tc main_v60)
    ∧ StableHlo.after lines5 X (Proc.devRef .tc main_arg9) = X (Proc.devRef .tc main_arg9) := by
  simp only [lines5, hostOps0, List.take_succ_cons, List.take_zero, List.drop_succ_cons, List.drop_zero]
  refine ⟨?_, ?_, ?_, ?_⟩ <;> after_results

theorem lines6_v84 : StableHlo.after lines6 X (Proc.devRef .tc main_v84)
    = gathered (X (Proc.devRef .tc main_v60)) (X (Proc.devRef .tc main_indices)) := by
  simp only [lines6, hostOps0, List.take_succ_cons, List.take_zero, List.drop_succ_cons, List.drop_zero]
  after_results
  rfl

theorem lines6_v85 : StableHlo.after lines6 X (Proc.devRef .tc main_v85)
    = X (Proc.devRef .tc main_arg9) := by
  simp only [lines6, hostOps0, List.take_succ_cons, List.take_zero, List.drop_succ_cons, List.drop_zero]
  after_results
  rfl

theorem lines6_keep : StableHlo.after lines6 X (Proc.devRef .tc main_v35) = X (Proc.devRef .tc main_v35)
    ∧ StableHlo.after lines6 X (Proc.devRef .tc main_v3) = X (Proc.devRef .tc main_v3)
    ∧ StableHlo.after lines6 X (Proc.devRef .tc main_values) = X (Proc.devRef .tc main_values)
    ∧ StableHlo.after lines6 X (Proc.devRef .tc main_indices) = X (Proc.devRef .tc main_indices) := by
  simp only [lines6, hostOps0, List.take_succ_cons, List.take_zero, List.drop_succ_cons, List.drop_zero]
  refine ⟨?_, ?_, ?_, ?_⟩ <;> after_results

/-! ## What the lines before the experts leave, of the arguments -/

/-- The stream after the first sub-layer. -/
def stream (x : Vec Ideal S8x2048x2048 .f32) (y : Vec Ideal S16384x2048 .f32) (mod : Vec Ideal S8x1x12288 .f32) (g b : Vec Ideal S2048 .f32) :
    Vec Ideal S8x2048x2048 .f32 := affine (residual x (unflat y) (gate1 mod)) g b

/-- The second sub-layer's input. -/
def input (s : Vec Ideal S8x2048x2048 .f32) (mod : Vec Ideal S8x1x12288 .f32) : Vec Ideal S16384x2048 .f32 := flat (modulated s (scale2 mod) (shift2 mod))

/-- The experts' affinities for the tokens. -/
def routing (h : Vec Ideal S16384x2048 .f32) (w : Vec Ideal S2048x16 .f32) (b : Vec Ideal S16 .f32) : Vec Ideal S16x16384 .f32 := affinities (scores h w b)

theorem before : StableHlo.after hostOps0 X (Proc.devRef .tc main_v35) = stream (X (Proc.devRef .tc main_arg0)) (X (Proc.devRef .tc main_arg1)) (X (Proc.devRef .tc main_arg2)) (X (Proc.devRef .tc main_arg3)) (X (Proc.devRef .tc main_arg4))
    ∧ StableHlo.after hostOps0 X (Proc.devRef .tc main_v3) = gate2 (X (Proc.devRef .tc main_arg2))
    ∧ StableHlo.after hostOps0 X (Proc.devRef .tc main_values) = greatest (routing (input (stream (X (Proc.devRef .tc main_arg0)) (X (Proc.devRef .tc main_arg1)) (X (Proc.devRef .tc main_arg2)) (X (Proc.devRef .tc main_arg3)) (X (Proc.devRef .tc main_arg4))) (X (Proc.devRef .tc main_arg2))) (X (Proc.devRef .tc main_arg7)) (X (Proc.devRef .tc main_arg8)))
    ∧ StableHlo.after hostOps0 X (Proc.devRef .tc main_indices) = picks (routing (input (stream (X (Proc.devRef .tc main_arg0)) (X (Proc.devRef .tc main_arg1)) (X (Proc.devRef .tc main_arg2)) (X (Proc.devRef .tc main_arg3)) (X (Proc.devRef .tc main_arg4))) (X (Proc.devRef .tc main_arg2))) (X (Proc.devRef .tc main_arg7)) (X (Proc.devRef .tc main_arg8)))
    ∧ StableHlo.after hostOps0 X (Proc.devRef .tc main_v84) = gathered (input (stream (X (Proc.devRef .tc main_arg0)) (X (Proc.devRef .tc main_arg1)) (X (Proc.devRef .tc main_arg2)) (X (Proc.devRef .tc main_arg3)) (X (Proc.devRef .tc main_arg4))) (X (Proc.devRef .tc main_arg2))) (picks (routing (input (stream (X (Proc.devRef .tc main_arg0)) (X (Proc.devRef .tc main_arg1)) (X (Proc.devRef .tc main_arg2)) (X (Proc.devRef .tc main_arg3)) (X (Proc.devRef .tc main_arg4))) (X (Proc.devRef .tc main_arg2))) (X (Proc.devRef .tc main_arg7)) (X (Proc.devRef .tc main_arg8))))
    ∧ StableHlo.after hostOps0 X (Proc.devRef .tc main_v85) = X (Proc.devRef .tc main_arg9) := by
  rw [lines_eq]
  generalize hX1 : StableHlo.after lines1 X = X1
  generalize hX2 : StableHlo.after lines2 X1 = X2
  generalize hX3 : StableHlo.after lines3 X2 = X3
  generalize hX4 : StableHlo.after lines4 X3 = X4
  generalize hX5 : StableHlo.after lines5 X4 = X5
  obtain ⟨a3, a4, a7, a8, a9⟩ := lines1_keep X
  obtain ⟨b1, b2, b3, b7, b8, b9⟩ := lines2_keep X1
  obtain ⟨c35, c3, c7, c8, c9⟩ := lines3_keep X2
  obtain ⟨d35, d3, d60, d9⟩ := lines4_keep X3
  obtain ⟨e35, e3, e60, e9⟩ := lines5_keep X4
  obtain ⟨f35, f3, fv, fi⟩ := lines6_keep X5
  have l11 := lines1_v11 X
  have l1 := lines1_v1 X
  have l2 := lines1_v2 X
  have l3 := lines1_v3 X
  have l35 := lines2_v35 X1
  have l60 := lines3_v60 X2
  have l64 := lines4_v64 X3
  have lv := lines5_values X4
  have li := lines5_indices X4
  have l84 := lines6_v84 X5
  have l85 := lines6_v85 X5
  rw [hX1] at a3 a4 a7 a8 a9 l11 l1 l2 l3
  rw [hX2] at b1 b2 b3 b7 b8 b9 l35
  rw [hX3] at c35 c3 c7 c8 c9 l60
  rw [hX4] at d35 d3 d60 d9 l64
  rw [hX5] at e35 e3 e60 e9 lv li
  rw [l11, a3, a4] at l35
  rw [l35, b2, l2, b1, l1] at l60
  rw [l60, c7, b7, a7, c8, b8, a8] at l64
  rw [l64] at lv li
  rw [e60, d60, l60, li] at l84
  rw [e9, d9, c9, b9, a9] at l85
  exact ⟨by rw [f35, e35, d35, c35, l35]; rfl, by rw [f3, e3, d3, c3, b3, l3], by rw [fv, lv]; rfl, by rw [fi, li]; rfl, by rw [l84]; rfl, l85⟩

/-! ## The lines after the experts -/

abbrev lines7 : List (HloOp τ sig (Elt Ideal)) := hostOps3.take 16
abbrev lines8 : List (HloOp τ sig (Elt Ideal)) := (hostOps3.drop 16).take 10
abbrev lines9 : List (HloOp τ sig (Elt Ideal)) := hostOps3.drop 26

theorem lines_eq' : StableHlo.after hostOps3 X = StableHlo.after lines9 (StableHlo.after lines8 (StableHlo.after lines7 X)) := by
  simp only [← StableHlo.after_append]
  rfl

theorem lines7_v106 : StableHlo.after lines7 X (Proc.devRef .tc main_v106)
    = scattered (weighted (X (Proc.devRef .tc main_v93)) (X (Proc.devRef .tc main_values))) (X (Proc.devRef .tc main_indices)) := by
  simp only [lines7, hostOps3, List.take_succ_cons, List.take_zero, List.drop_succ_cons, List.drop_zero]
  after_results
  rfl

theorem lines7_keep : StableHlo.after lines7 X (Proc.devRef .tc main_v35) = X (Proc.devRef .tc main_v35)
    ∧ StableHlo.after lines7 X (Proc.devRef .tc main_v3) = X (Proc.devRef .tc main_v3)
    ∧ StableHlo.after lines7 X (Proc.devRef .tc main_arg5) = X (Proc.devRef .tc main_arg5)
    ∧ StableHlo.after lines7 X (Proc.devRef .tc main_arg6) = X (Proc.devRef .tc main_arg6) := by
  simp only [lines7, hostOps3, List.take_succ_cons, List.take_zero, List.drop_succ_cons, List.drop_zero]
  refine ⟨?_, ?_, ?_, ?_⟩ <;> after_results

theorem lines8_v114 : StableHlo.after lines8 X (Proc.devRef .tc main_v114)
    = residual (X (Proc.devRef .tc main_v35)) (unflat (X (Proc.devRef .tc main_v106))) (X (Proc.devRef .tc main_v3)) := by
  simp only [lines8, hostOps3, List.take_succ_cons, List.take_zero, List.drop_succ_cons, List.drop_zero]
  after_results
  rfl

theorem lines8_keep : StableHlo.after lines8 X (Proc.devRef .tc main_arg5) = X (Proc.devRef .tc main_arg5)
    ∧ StableHlo.after lines8 X (Proc.devRef .tc main_arg6) = X (Proc.devRef .tc main_arg6) := by
  simp only [lines8, hostOps3, List.take_succ_cons, List.take_zero, List.drop_succ_cons, List.drop_zero]
  refine ⟨?_, ?_⟩ <;> after_results

theorem lines9_v138 : StableHlo.after lines9 X (Proc.devRef .tc main_v138)
    = affine (X (Proc.devRef .tc main_v114)) (X (Proc.devRef .tc main_arg5)) (X (Proc.devRef .tc main_arg6)) := by
  simp only [lines9, hostOps3, List.take_succ_cons, List.take_zero, List.drop_succ_cons, List.drop_zero]
  after_results
  rfl

/-- The layer's output, of the stream, the experts' outputs, their weights and their picks. -/
theorem after : StableHlo.after hostOps3 X (Proc.devRef .tc main_v138)
    = affine (residual (X (Proc.devRef .tc main_v35)) (unflat (scattered (weighted (X (Proc.devRef .tc main_v93)) (X (Proc.devRef .tc main_values))) (X (Proc.devRef .tc main_indices)))) (X (Proc.devRef .tc main_v3))) (X (Proc.devRef .tc main_arg5)) (X (Proc.devRef .tc main_arg6)) := by
  rw [lines_eq', lines9_v138, (lines8_keep _).1, (lines8_keep _).2, lines8_v114, lines7_v106]
  obtain ⟨h35, h3, h5, h6⟩ := lines7_keep X
  rw [h35, h3, h5, h6]

end Cert.SampleResidual

end
-- ==== Proof.InProjHost.lean ====
/- The way into the mixer on the host: the modulated norms of both batches, one under the other, and the two groups of the
   projection's columns, read at an index. -/
module

public import proofs.«01_k».proof.Proof.Gen.Kernel2Ideal.Frame
public import proofs.«01_k».proof.Proof.Gen.Reference2Ideal.Run
public import proofs.«01_k».proof.Proof.Residual
public import proofs.«01_k».proof.Proof.SampleResidual
public import Idealize.ShloMosaic.Lib.Pointwise
public import Idealize.ShloMosaic.Lib.ValueIdx
public import Idealize.ShloMosaic.PureOps.Ideal.Laws

@[expose] public section

set_option maxRecDepth 16384

noncomputable section

namespace Cert.InProjHost

open Idealize.ShloMosaic Idealize.ShloMosaic.TcCoe Idealize.SL.Sem

/-! ## The kernel's arrays -/

section Kernel
open Cert.Kernel2Ideal Cert.Kernel2Ideal.Gen

/-- The tokens of the prompt and the sample batch at the mixer's entry. -/
def promptRows (x : Vec Ideal S16x256x2048 .f32) (mod : Vec Ideal S1x1x12288 .f32) : Vec Ideal S16x256x2048 .f32 :=
  Cert.Residual.modulated x (extractStridedSlice S1x1x2048 ![0, 0, 2048] mod slices_S1x1x12288_S1x1x2048_0_0_2048)
    (extractStridedSlice S1x1x2048 ![0, 0, 0] mod slices_S1x1x12288_S1x1x2048_0_0_0)
def sampleRows (x : Vec Ideal S8x2048x2048 .f32) (mod : Vec Ideal S8x1x12288 .f32) : Vec Ideal S8x2048x2048 .f32 :=
  Cert.SampleResidual.modulated x (extractStridedSlice S8x1x2048 ![0, 0, 2048] mod slices_S8x1x12288_S8x1x2048_0_0_2048)
    (extractStridedSlice S8x1x2048 ![0, 0, 0] mod slices_S8x1x12288_S8x1x2048_0_0_0)

/-- Both batches' tokens, one under the other. -/
def rows (p : Vec Ideal S16x256x2048 .f32) (s : Vec Ideal S8x2048x2048 .f32) : Vec Ideal S20480x2048 .f32 :=
  concatenate S20480x2048 0 [⟨S4096x2048, Cert.Residual.flat p⟩, ⟨S16384x2048, Cert.SampleResidual.flat s⟩] concatenates_S4096x2048_S16384x2048_S20480x2048_d0

/-- The weights of the parts per channel, and of the parts per head, the latter with columns of zeros up to 128. -/
def wBig (w : Vec Ideal S2048x16432 .f32) : Vec Ideal S2048x16384 .f32 :=
  concatenate S2048x16384 1 [⟨S2048x1024, extractStridedSlice S2048x1024 ![0, 0] w slices_S2048x16432_S2048x1024_0_0⟩, ⟨S2048x1024, extractStridedSlice S2048x1024 ![0, 1024] w slices_S2048x16432_S2048x1024_0_1024⟩, ⟨S2048x1024, extractStridedSlice S2048x1024 ![0, 2048] w slices_S2048x16432_S2048x1024_0_2048⟩, ⟨S2048x1024, extractStridedSlice S2048x1024 ![0, 3072] w slices_S2048x16432_S2048x1024_0_3072⟩, ⟨S2048x512, extractStridedSlice S2048x512 ![0, 4128] w slices_S2048x16432_S2048x512_0_4128⟩, ⟨S2048x512, extractStridedSlice S2048x512 ![0, 4640] w slices_S2048x16432_S2048x512_0_4640⟩, ⟨S2048x1024, extractStridedSlice S2048x1024 ![0, 5152] w slices_S2048x16432_S2048x1024_0_5152⟩, ⟨S2048x1024, extractStridedSlice S2048x1024 ![0, 6176] w slices_S2048x16432_S2048x1024_0_6176⟩, ⟨S2048x3072, extractStridedSlice S2048x3072 ![0, 7216] w slices_S2048x16432_S2048x3072_0_7216⟩, ⟨S2048x2048, extractStridedSlice S2048x2048 ![0, 10288] w slices_S2048x16432_S2048x2048_0_10288⟩, ⟨S2048x2048, extractStridedSlice S2048x2048 ![0, 12336] w slices_S2048x16432_S2048x2048_0_12336⟩, ⟨S2048x2048, extractStridedSlice S2048x2048 ![0, 14384] w slices_S2048x16432_S2048x2048_0_14384⟩] concatenates_S2048x1024_S2048x1024_S2048x1024_S2048x1024_S2048x512_S2048x512_S2048x1024_S2048x1024_S2048x3072_S2048x2048_S2048x2048_S2048x2048_S2048x16384_d1
def wHeads (w : Vec Ideal S2048x16432 .f32) : Vec Ideal S2048x48 .f32 :=
  concatenate S2048x48 1 [⟨S2048x16, extractStridedSlice S2048x16 ![0, 4096] w slices_S2048x16432_S2048x16_0_4096⟩, ⟨S2048x16, extractStridedSlice S2048x16 ![0, 4112] w slices_S2048x16432_S2048x16_0_4112⟩, ⟨S2048x8, extractStridedSlice S2048x8 ![0, 7200] w slices_S2048x16432_S2048x8_0_7200⟩, ⟨S2048x8, extractStridedSlice S2048x8 ![0, 7208] w slices_S2048x16432_S2048x8_0_7208⟩] concatenates_S2048x16_S2048x16_S2048x8_S2048x8_S2048x48_d1
def wSmall (w : Vec Ideal S2048x16432 .f32) : Vec Ideal S2048x128 .f32 :=
  pad S2048x128 ![0, 0] ![0, 80] ![0, 0] (wHeads w)
    (sitofp (F := Ideal) .f32 (constantI S_ 32 0#32)) pads_S2048x48_S2048x128_000_0800 h_S_

end Kernel

/-! ## The reference's arrays -/

section Reference
open Cert.Reference2Ideal Cert.Reference2Ideal.Gen

/-- One batch's projection, its tokens in one row. -/
def promptProj (p : Vec Ideal S16x256x2048 .f32) (w : Vec Ideal S2048x16432 .f32) : Vec Ideal S4096x16432 .f32 :=
  shapeCast S4096x16432 (Host.dotGeneral (F := Ideal) (φ₁ := .f32) (φ₂ := .f32) dot_S16x256x2048_S2048x16432_S16x256x16432_2_0_01_1_n_n none p w) shapeCasts_S16x256x16432_S4096x16432
def sampleProj (s : Vec Ideal S8x2048x2048 .f32) (w : Vec Ideal S2048x16432 .f32) : Vec Ideal S16384x16432 .f32 :=
  shapeCast S16384x16432 (Host.dotGeneral (F := Ideal) (φ₁ := .f32) (φ₂ := .f32) dot_S8x2048x2048_S2048x16432_S8x2048x16432_2_0_01_1_n_n none s w) shapeCasts_S8x2048x16432_S16384x16432

/-- The two groups of a batch's columns. -/
def promptBig (p : Vec Ideal S4096x16432 .f32) : Vec Ideal S4096x16384 .f32 :=
  concatenate S4096x16384 1 [⟨S4096x1024, extractStridedSlice S4096x1024 ![0, 0] p slices_S4096x16432_S4096x1024_0_0⟩, ⟨S4096x1024, extractStridedSlice S4096x1024 ![0, 1024] p slices_S4096x16432_S4096x1024_0_1024⟩, ⟨S4096x1024, extractStridedSlice S4096x1024 ![0, 2048] p slices_S4096x16432_S4096x1024_0_2048⟩, ⟨S4096x1024, extractStridedSlice S4096x1024 ![0, 3072] p slices_S4096x16432_S4096x1024_0_3072⟩, ⟨S4096x512, extractStridedSlice S4096x512 ![0, 4128] p slices_S4096x16432_S4096x512_0_4128⟩, ⟨S4096x512, extractStridedSlice S4096x512 ![0, 4640] p slices_S4096x16432_S4096x512_0_4640⟩, ⟨S4096x1024, extractStridedSlice S4096x1024 ![0, 5152] p slices_S4096x16432_S4096x1024_0_5152⟩, ⟨S4096x1024, extractStridedSlice S4096x1024 ![0, 6176] p slices_S4096x16432_S4096x1024_0_6176⟩, ⟨S4096x1024, extractStridedSlice S4096x1024 ![0, 7216] p slices_S4096x16432_S4096x1024_0_7216⟩, ⟨S4096x1024, extractStridedSlice S4096x1024 ![0, 8240] p slices_S4096x16432_S4096x1024_0_8240⟩, ⟨S4096x1024, extractStridedSlice S4096x1024 ![0, 9264] p slices_S4096x16432_S4096x1024_0_9264⟩, ⟨S4096x2048, extractStridedSlice S4096x2048 ![0, 10288] p slices_S4096x16432_S4096x2048_0_10288⟩, ⟨S4096x2048, extractStridedSlice S4096x2048 ![0, 12336] p slices_S4096x16432_S4096x2048_0_12336⟩, ⟨S4096x2048, extractStridedSlice S4096x2048 ![0, 14384] p slices_S4096x16432_S4096x2048_0_14384⟩] concatenates_S4096x1024_S4096x1024_S4096x1024_S4096x1024_S4096x512_S4096x512_S4096x1024_S4096x1024_S4096x1024_S4096x1024_S4096x1024_S4096x2048_S4096x2048_S4096x2048_S4096x16384_d1
def sampleBig (s : Vec Ideal S16384x16432 .f32) : Vec Ideal S16384x16384 .f32 :=
  concatenate S16384x16384 1 [⟨S16384x1024, extractStridedSlice S16384x1024 ![0, 0] s slices_S16384x16432_S16384x1024_0_0⟩, ⟨S16384x1024, extractStridedSlice S16384x1024 ![0, 1024] s slices_S16384x16432_S16384x1024_0_1024⟩, ⟨S16384x1024, extractStridedSlice S16384x1024 ![0, 2048] s slices_S16384x16432_S16384x1024_0_2048⟩, ⟨S16384x1024, extractStridedSlice S16384x1024 ![0, 3072] s slices_S16384x16432_S16384x1024_0_3072⟩, ⟨S16384x512, extractStridedSlice S16384x512 ![0, 4128] s slices_S16384x16432_S16384x512_0_4128⟩, ⟨S16384x512, extractStridedSlice S16384x512 ![0, 4640] s slices_S16384x16432_S16384x512_0_4640⟩, ⟨S16384x1024, extractStridedSlice S16384x1024 ![0, 5152] s slices_S16384x16432_S16384x1024_0_5152⟩, ⟨S16384x1024, extractStridedSlice S16384x1024 ![0, 6176] s slices_S16384x16432_S16384x1024_0_6176⟩, ⟨S16384x1024, extractStridedSlice S16384x1024 ![0, 7216] s slices_S16384x16432_S16384x1024_0_7216⟩, ⟨S16384x1024, extractStridedSlice S16384x1024 ![0, 8240] s slices_S16384x16432_S16384x1024_0_8240⟩, ⟨S16384x1024, extractStridedSlice S16384x1024 ![0, 9264] s slices_S16384x16432_S16384x1024_0_9264⟩, ⟨S16384x2048, extractStridedSlice S16384x2048 ![0, 10288] s slices_S16384x16432_S16384x2048_0_10288⟩, ⟨S16384x2048, extractStridedSlice S16384x2048 ![0, 12336] s slices_S16384x16432_S16384x2048_0_12336⟩, ⟨S16384x2048, extractStridedSlice S16384x2048 ![0, 14384] s slices_S16384x16432_S16384x2048_0_14384⟩] concatenates_S16384x1024_S16384x1024_S16384x1024_S16384x1024_S16384x512_S16384x512_S16384x1024_S16384x1024_S16384x1024_S16384x1024_S16384x1024_S16384x2048_S16384x2048_S16384x2048_S16384x16384_d1
def promptSmall (p : Vec Ideal S4096x16432 .f32) : Vec Ideal S4096x48 .f32 :=
  concatenate S4096x48 1 [⟨S4096x16, extractStridedSlice S4096x16 ![0, 4096] p slices_S4096x16432_S4096x16_0_4096⟩, ⟨S4096x16, extractStridedSlice S4096x16 ![0, 4112] p slices_S4096x16432_S4096x16_0_4112⟩, ⟨S4096x8, extractStridedSlice S4096x8 ![0, 7200] p slices_S4096x16432_S4096x8_0_7200⟩, ⟨S4096x8, extractStridedSlice S4096x8 ![0, 7208] p slices_S4096x16432_S4096x8_0_7208⟩] concatenates_S4096x16_S4096x16_S4096x8_S4096x8_S4096x48_d1
def sampleSmall (s : Vec Ideal S16384x16432 .f32) : Vec Ideal S16384x48 .f32 :=
  concatenate S16384x48 1 [⟨S16384x16, extractStridedSlice S16384x16 ![0, 4096] s slices_S16384x16432_S16384x16_0_4096⟩, ⟨S16384x16, extractStridedSlice S16384x16 ![0, 4112] s slices_S16384x16432_S16384x16_0_4112⟩, ⟨S16384x8, extractStridedSlice S16384x8 ![0, 7200] s slices_S16384x16432_S16384x8_0_7200⟩, ⟨S16384x8, extractStridedSlice S16384x8 ![0, 7208] s slices_S16384x16432_S16384x8_0_7208⟩] concatenates_S16384x16_S16384x16_S16384x8_S16384x8_S16384x48_d1

/-- The projection's two groups over both batches. -/
def big (p : Vec Ideal S4096x16432 .f32) (s : Vec Ideal S16384x16432 .f32) : Vec Ideal S20480x16384 .f32 :=
  concatenate S20480x16384 0 [⟨S4096x16384, promptBig p⟩, ⟨S16384x16384, sampleBig s⟩] concatenates_S4096x16384_S16384x16384_S20480x16384_d0
def small (p : Vec Ideal S4096x16432 .f32) (s : Vec Ideal S16384x16432 .f32) : Vec Ideal S20480x128 .f32 :=
  pad S20480x128 ![0, 0] ![0, 80] ![0, 0]
    (concatenate S20480x48 0 [⟨S4096x48, promptSmall p⟩, ⟨S16384x48, sampleSmall s⟩] concatenates_S4096x48_S16384x48_S20480x48_d0)
    (sitofp (F := Ideal) .f32 (constantI S_ 32 0#32)) pads_S20480x48_S20480x128_000_0800 h_S_

end Reference

/-! ## Where a column comes from -/

/-- The projection's column that is column `j` of the parts per channel, or of the parts per head. -/
def col (j : Fin 16384) : Fin 16432 := if h : j.val < 4096 then ⟨j.val, by omega⟩ else if h : j.val < 7168 then ⟨j.val + 32, by omega⟩ else ⟨j.val + 48, by omega⟩
def colSmall (j : Fin 48) : Fin 16432 := if h : j.val < 32 then ⟨4096 + j.val, by omega⟩ else ⟨7168 + j.val, by omega⟩

theorem col_low (j : Fin 16384) (h : j.val < 4096) : (col j).val = j.val := by
  unfold col
  rw [dif_pos h]

theorem col_middle (j : Fin 16384) (h : 4096 ≤ j.val) (h' : j.val < 7168) : (col j).val = j.val + 32 := by
  unfold col
  rw [dif_neg (by omega), dif_pos h']

theorem col_high (j : Fin 16384) (h : 7168 ≤ j.val) : (col j).val = j.val + 48 := by
  unfold col
  rw [dif_neg (by omega), dif_neg (by omega)]

theorem colSmall_low (j : Fin 48) (h : j.val < 32) : (colSmall j).val = 4096 + j.val := by
  unfold colSmall
  rw [dif_pos h]

theorem colSmall_high (j : Fin 48) (h : 32 ≤ j.val) : (colSmall j).val = 7168 + j.val := by
  unfold colSmall
  rw [dif_neg (by omega)]

/-- A choice whose two sides are one value. -/
theorem either {α : Type} {p : Prop} [Decidable p] {a : p → α} {b : ¬p → α} {c : α} (h₁ : ∀ h, a h = c) (h₂ : ∀ h, b h = c) : dite p a b = c := by
  split
  · exact h₁ _
  · exact h₂ _

/-- An array's elements in one row are equal when their columns are. -/
theorem at_col {n : ℕ} (x : Vec Ideal ⟨2, ![n, 16432]⟩ .f32) (i : Fin n) (a b : Fin 16432) (h : a.val = b.val) : x (ix2 i a) = x (ix2 i b) := by
  rw [Fin.ext h]

theorem wBig_apply (w : Vec Ideal ⟨2, ![2048, 16432]⟩ .f32) (k : Fin 2048) (j : Fin 16384) : wBig w (ix2 k j) = w (ix2 k (col j)) := by
  unfold wBig
  pointwise
  have hj := j.isLt
  repeat' refine either (fun h => ?_) (fun h => ?_)
  all_goals
    refine at_col w k _ _ ?_
    first
      | rw [col_low _ (by omega)]
      | rw [col_middle _ (by omega) (by omega)]
      | rw [col_high _ (by omega)]
    try (dsimp only; omega)

/-- A concatenation of slices of an array along its columns, read in the slice that holds the column. -/
theorem slice_piece {n N : ℕ} (x : Vec Ideal ⟨2, ![n, 16432]⟩ .f32) (xs : List ((s : Shape) × (s.Idx → Ideal .f32))) (h : Shape.Concatenates (xs.map (·.1)) ⟨2, ![n, N]⟩ 1)
    (i : Fin n) (j : Fin N) (k : ℕ) (hk : k < xs.length) (wd off pre : ℕ) (hs : Shape.Slices ⟨2, ![n, 16432]⟩ ![0, off] ⟨2, ![n, wd]⟩)
    (hxk : xs[k] = ⟨⟨2, ![n, wd]⟩, extractStridedSlice ⟨2, ![n, wd]⟩ ![0, off] x hs⟩)
    (ws : List ℕ) (hws : xs.map (·.1) = ws.map fun w => ⟨2, ![n, w]⟩) (hpre : (ws.take k).sum = pre)
    (low : pre ≤ j.val) (high : j.val < pre + wd) (c : Fin 16432) (hc : c.val = off + (j.val - pre)) :
    concatenate ⟨2, ![n, N]⟩ 1 xs h (ix2 i j) = x (ix2 i c) := by
  have before : (((xs.take k).map (·.1)).map fun s => if h : s.rank = 2 then s.size ((1 : Fin 2).cast h.symm) else 0).sum = pre := by
    rw [List.map_take, hws, ← List.map_take, List.map_map, ← hpre]
    congr 1
    exact List.map_id _
  refine (concatenate_apply_piece (t := ⟨2, ![n, N]⟩) 1 xs h (ix2 i j) k hk ⟨2, ![n, wd]⟩ _ hxk rfl pre before (ix2 i ⟨j.val - pre, by omega⟩)
    (fun b hb => ?_) ?_).trans ?_
  · match b with
    | ⟨0, _⟩ => rfl
    | ⟨1, _⟩ => exact absurd rfl hb
  · show pre + (j.val - pre) = j.val
    omega
  · unfold extractStridedSlice
    refine congrArg x (funext fun b => ?_)
    match b with
    | ⟨0, _⟩ => exact Fin.ext (Nat.zero_add _)
    | ⟨1, _⟩ => exact Fin.ext hc.symm

/-- The parts per channel of an array's columns. -/
theorem big_columns {n : ℕ} (x : Vec Ideal ⟨2, ![n, 16432]⟩ .f32)
    (h0 : Shape.Slices ⟨2, ![n, 16432]⟩ ![0, 0] ⟨2, ![n, 1024]⟩) (h1 : Shape.Slices ⟨2, ![n, 16432]⟩ ![0, 1024] ⟨2, ![n, 1024]⟩) (h2 : Shape.Slices ⟨2, ![n, 16432]⟩ ![0, 2048] ⟨2, ![n, 1024]⟩) (h3 : Shape.Slices ⟨2, ![n, 16432]⟩ ![0, 3072] ⟨2, ![n, 1024]⟩) (h4 : Shape.Slices ⟨2, ![n, 16432]⟩ ![0, 4128] ⟨2, ![n, 512]⟩) (h5 : Shape.Slices ⟨2, ![n, 16432]⟩ ![0, 4640] ⟨2, ![n, 512]⟩) (h6 : Shape.Slices ⟨2, ![n, 16432]⟩ ![0, 5152] ⟨2, ![n, 1024]⟩) (h7 : Shape.Slices ⟨2, ![n, 16432]⟩ ![0, 6176] ⟨2, ![n, 1024]⟩) (h8 : Shape.Slices ⟨2, ![n, 16432]⟩ ![0, 7216] ⟨2, ![n, 1024]⟩) (h9 : Shape.Slices ⟨2, ![n, 16432]⟩ ![0, 8240] ⟨2, ![n, 1024]⟩) (h10 : Shape.Slices ⟨2, ![n, 16432]⟩ ![0, 9264] ⟨2, ![n, 1024]⟩) (h11 : Shape.Slices ⟨2, ![n, 16432]⟩ ![0, 10288] ⟨2, ![n, 2048]⟩) (h12 : Shape.Slices ⟨2, ![n, 16432]⟩ ![0, 12336] ⟨2, ![n, 2048]⟩) (h13 : Shape.Slices ⟨2, ![n, 16432]⟩ ![0, 14384] ⟨2, ![n, 2048]⟩)
    (xs : List ((s : Shape) × (s.Idx → Ideal .f32)))
    (e : xs = [⟨⟨2, ![n, 1024]⟩, extractStridedSlice ⟨2, ![n, 1024]⟩ ![0, 0] x h0⟩, ⟨⟨2, ![n, 1024]⟩, extractStridedSlice ⟨2, ![n, 1024]⟩ ![0, 1024] x h1⟩, ⟨⟨2, ![n, 1024]⟩, extractStridedSlice ⟨2, ![n, 1024]⟩ ![0, 2048] x h2⟩, ⟨⟨2, ![n, 1024]⟩, extractStridedSlice ⟨2, ![n, 1024]⟩ ![0, 3072] x h3⟩, ⟨⟨2, ![n, 512]⟩, extractStridedSlice ⟨2, ![n, 512]⟩ ![0, 4128] x h4⟩, ⟨⟨2, ![n, 512]⟩, extractStridedSlice ⟨2, ![n, 512]⟩ ![0, 4640] x h5⟩, ⟨⟨2, ![n, 1024]⟩, extractStridedSlice ⟨2, ![n, 1024]⟩ ![0, 5152] x h6⟩, ⟨⟨2, ![n, 1024]⟩, extractStridedSlice ⟨2, ![n, 1024]⟩ ![0, 6176] x h7⟩, ⟨⟨2, ![n, 1024]⟩, extractStridedSlice ⟨2, ![n, 1024]⟩ ![0, 7216] x h8⟩, ⟨⟨2, ![n, 1024]⟩, extractStridedSlice ⟨2, ![n, 1024]⟩ ![0, 8240] x h9⟩, ⟨⟨2, ![n, 1024]⟩, extractStridedSlice ⟨2, ![n, 1024]⟩ ![0, 9264] x h10⟩, ⟨⟨2, ![n, 2048]⟩, extractStridedSlice ⟨2, ![n, 2048]⟩ ![0, 10288] x h11⟩, ⟨⟨2, ![n, 2048]⟩, extractStridedSlice ⟨2, ![n, 2048]⟩ ![0, 12336] x h12⟩, ⟨⟨2, ![n, 2048]⟩, extractStridedSlice ⟨2, ![n, 2048]⟩ ![0, 14384] x h13⟩])
    (hc : Shape.Concatenates (xs.map (·.1)) ⟨2, ![n, 16384]⟩ 1) (i : Fin n) (j : Fin 16384) :
    concatenate ⟨2, ![n, 16384]⟩ 1 xs hc (ix2 i j) = x (ix2 i (col j)) := by
  have hj := j.isLt
  have len : xs.length = 14 := by rw [e]; rfl
  have sizes : xs.map (·.1) = [1024, 1024, 1024, 1024, 512, 512, 1024, 1024, 1024, 1024, 1024, 2048, 2048, 2048].map fun w => ⟨2, ![n, w]⟩ := by rw [e]; rfl
  rcases lt_or_ge j.val 1024 with g | g
  · exact slice_piece x xs hc i j 0 (by rw [len]; decide) 1024 0 0 h0 (by subst e; rfl) _ sizes (by decide) (by omega) (by omega) _ (by rw [col_low _ (by omega)]; omega)
  rcases lt_or_ge j.val 2048 with g | g
  · exact slice_piece x xs hc i j 1 (by rw [len]; decide) 1024 1024 1024 h1 (by subst e; rfl) _ sizes (by decide) (by omega) (by omega) _ (by rw [col_low _ (by omega)]; omega)
  rcases lt_or_ge j.val 3072 with g | g
  · exact slice_piece x xs hc i j 2 (by rw [len]; decide) 1024 2048 2048 h2 (by subst e; rfl) _ sizes (by decide) (by omega) (by omega) _ (by rw [col_low _ (by omega)]; omega)
  rcases lt_or_ge j.val 4096 with g | g
  · exact slice_piece x xs hc i j 3 (by rw [len]; decide) 1024 3072 3072 h3 (by subst e; rfl) _ sizes (by decide) (by omega) (by omega) _ (by rw [col_low _ (by omega)]; omega)
  rcases lt_or_ge j.val 4608 with g | g
  · exact slice_piece x xs hc i j 4 (by rw [len]; decide) 512 4128 4096 h4 (by subst e; rfl) _ sizes (by decide) (by omega) (by omega) _ (by rw [col_middle _ (by omega) (by omega)]; omega)
  rcases lt_or_ge j.val 5120 with g | g
  · exact slice_piece x xs hc i j 5 (by rw [len]; decide) 512 4640 4608 h5 (by subst e; rfl) _ sizes (by decide) (by omega) (by omega) _ (by rw [col_middle _ (by omega) (by omega)]; omega)
  rcases lt_or_ge j.val 6144 with g | g
  · exact slice_piece x xs hc i j 6 (by rw [len]; decide) 1024 5152 5120 h6 (by subst e; rfl) _ sizes (by decide) (by omega) (by omega) _ (by rw [col_middle _ (by omega) (by omega)]; omega)
  rcases lt_or_ge j.val 7168 with g | g
  · exact slice_piece x xs hc i j 7 (by rw [len]; decide) 1024 6176 6144 h7 (by subst e; rfl) _ sizes (by decide) (by omega) (by omega) _ (by rw [col_middle _ (by omega) (by omega)]; omega)
  rcases lt_or_ge j.val 8192 with g | g
  · exact slice_piece x xs hc i j 8 (by rw [len]; decide) 1024 7216 7168 h8 (by subst e; rfl) _ sizes (by decide) (by omega) (by omega) _ (by rw [col_high _ (by omega)]; omega)
  rcases lt_or_ge j.val 9216 with g | g
  · exact slice_piece x xs hc i j 9 (by rw [len]; decide) 1024 8240 8192 h9 (by subst e; rfl) _ sizes (by decide) (by omega) (by omega) _ (by rw [col_high _ (by omega)]; omega)
  rcases lt_or_ge j.val 10240 with g | g
  · exact slice_piece x xs hc i j 10 (by rw [len]; decide) 1024 9264 9216 h10 (by subst e; rfl) _ sizes (by decide) (by omega) (by omega) _ (by rw [col_high _ (by omega)]; omega)
  rcases lt_or_ge j.val 12288 with g | g
  · exact slice_piece x xs hc i j 11 (by rw [len]; decide) 2048 10288 10240 h11 (by subst e; rfl) _ sizes (by decide) (by omega) (by omega) _ (by rw [col_high _ (by omega)]; omega)
  rcases lt_or_ge j.val 14336 with g | g
  · exact slice_piece x xs hc i j 12 (by rw [len]; decide) 2048 12336 12288 h12 (by subst e; rfl) _ sizes (by decide) (by omega) (by omega) _ (by rw [col_high _ (by omega)]; omega)
  exact slice_piece x xs hc i j 13 (by rw [len]; decide) 2048 14384 14336 h13 (by subst e; rfl) _ sizes (by decide) (by omega) (by omega) _ (by rw [col_high _ (by omega)]; omega)

theorem promptBig_apply (p : Vec Ideal ⟨2, ![4096, 16432]⟩ .f32) (k : Fin 4096) (j : Fin 16384) : promptBig p (ix2 k j) = p (ix2 k (col j)) :=
  big_columns p _ _ _ _ _ _ _ _ _ _ _ _ _ _ _ rfl _ k j

theorem sampleBig_apply (s : Vec Ideal ⟨2, ![16384, 16432]⟩ .f32) (k : Fin 16384) (j : Fin 16384) : sampleBig s (ix2 k j) = s (ix2 k (col j)) :=
  big_columns s _ _ _ _ _ _ _ _ _ _ _ _ _ _ _ rfl _ k j

theorem wHeads_apply (w : Vec Ideal ⟨2, ![2048, 16432]⟩ .f32) (k : Fin 2048) (j : Fin 48) : wHeads w (ix2 k j) = w (ix2 k (colSmall j)) := by
  unfold wHeads
  pointwise
  have hj := j.isLt
  repeat' refine either (fun h => ?_) (fun h => ?_)
  all_goals
    refine at_col w k _ _ ?_
    first
      | rw [colSmall_low _ (by omega)]
      | rw [colSmall_high _ (by omega)]
    try (dsimp only; omega)

theorem promptSmall_apply (p : Vec Ideal ⟨2, ![4096, 16432]⟩ .f32) (k : Fin 4096) (j : Fin 48) : promptSmall p (ix2 k j) = p (ix2 k (colSmall j)) := by
  unfold promptSmall
  pointwise
  have hj := j.isLt
  repeat' refine either (fun h => ?_) (fun h => ?_)
  all_goals
    refine at_col p k _ _ ?_
    first
      | rw [colSmall_low _ (by omega)]
      | rw [colSmall_high _ (by omega)]
    try (dsimp only; omega)

theorem sampleSmall_apply (s : Vec Ideal ⟨2, ![16384, 16432]⟩ .f32) (k : Fin 16384) (j : Fin 48) : sampleSmall s (ix2 k j) = s (ix2 k (colSmall j)) := by
  unfold sampleSmall
  pointwise
  have hj := j.isLt
  repeat' refine either (fun h => ?_) (fun h => ?_)
  all_goals
    refine at_col s k _ _ ?_
    first
      | rw [colSmall_low _ (by omega)]
      | rw [colSmall_high _ (by omega)]
    try (dsimp only; omega)

/-- The number that fills up the columns. -/
theorem zero_fill : FloatOps.sitofp (F := Ideal) .f32 0#32 = 0 := by
  show ((((0#32 : BitVec 32).toInt : ℝ) : EReal)) = 0
  simp

theorem wSmall_apply (w : Vec Ideal ⟨2, ![2048, 16432]⟩ .f32) (k : Fin 2048) (j : Fin 128) :
    wSmall w (ix2 k j) = if h : j.val < 48 then w (ix2 k (colSmall ⟨j.val, h⟩)) else 0 := by
  simp only [← wHeads_apply]
  unfold wSmall
  generalize wHeads w = w'
  pointwise
  rw [zero_fill]

theorem promptProj_apply (p : Vec Ideal ⟨3, ![16, 256, 2048]⟩ .f32) (w : Vec Ideal ⟨2, ![2048, 16432]⟩ .f32) (i : Fin 4096) (j : Fin 16432) :
    promptProj p w (ix2 i j) = ∑ k : Fin 2048, Cert.Residual.flat p (ix2 i k) * w (ix2 k j) := by
  unfold promptProj Cert.Residual.flat
  pointwise

theorem sampleProj_apply (s : Vec Ideal ⟨3, ![8, 2048, 2048]⟩ .f32) (w : Vec Ideal ⟨2, ![2048, 16432]⟩ .f32) (i : Fin 16384) (j : Fin 16432) :
    sampleProj s w (ix2 i j) = ∑ k : Fin 2048, Cert.SampleResidual.flat s (ix2 i k) * w (ix2 k j) := by
  unfold sampleProj Cert.SampleResidual.flat
  pointwise

theorem rows_apply (p : Vec Ideal ⟨3, ![16, 256, 2048]⟩ .f32) (s : Vec Ideal ⟨3, ![8, 2048, 2048]⟩ .f32) (i : Fin 20480) (k : Fin 2048) :
    rows p s (ix2 i k) = if h : i.val < 4096 then Cert.Residual.flat p (ix2 ⟨i.val, h⟩ k) else Cert.SampleResidual.flat s (ix2 ⟨i.val - 4096, by omega⟩ k) := by
  unfold rows
  generalize Cert.Residual.flat p = p'
  generalize Cert.SampleResidual.flat s = s'
  pointwise

theorem big_apply (p : Vec Ideal ⟨2, ![4096, 16432]⟩ .f32) (s : Vec Ideal ⟨2, ![16384, 16432]⟩ .f32) (i : Fin 20480) (j : Fin 16384) :
    big p s (ix2 i j) = if h : i.val < 4096 then p (ix2 ⟨i.val, h⟩ (col j)) else s (ix2 ⟨i.val - 4096, by omega⟩ (col j)) := by
  simp only [← promptBig_apply, ← sampleBig_apply]
  unfold big
  generalize promptBig p = p'
  generalize sampleBig s = s'
  pointwise

theorem small_apply (p : Vec Ideal ⟨2, ![4096, 16432]⟩ .f32) (s : Vec Ideal ⟨2, ![16384, 16432]⟩ .f32) (i : Fin 20480) (j : Fin 128) :
    small p s (ix2 i j) = if hj : j.val < 48 then if h : i.val < 4096 then p (ix2 ⟨i.val, h⟩ (colSmall ⟨j.val, hj⟩)) else s (ix2 ⟨i.val - 4096, by omega⟩ (colSmall ⟨j.val, hj⟩)) else 0 := by
  simp only [← promptSmall_apply, ← sampleSmall_apply]
  unfold small
  generalize promptSmall p = p'
  generalize sampleSmall s = s'
  pointwise
  rw [zero_fill]

/-! ## The products -/

/-- The product of all tokens by the columns of one group. -/
def prod {n : ℕ} (h : Vec Ideal ⟨2, ![20480, 2048]⟩ .f32) (w : Vec Ideal ⟨2, ![2048, n]⟩ .f32) : Vec Ideal ⟨2, ![20480, n]⟩ .f32 :=
  fun i => ∑ k : Fin 2048, h (ix2 (i 0) k) * w (ix2 k (i 1))

theorem prod_big (p : Vec Ideal ⟨3, ![16, 256, 2048]⟩ .f32) (s : Vec Ideal ⟨3, ![8, 2048, 2048]⟩ .f32) (w : Vec Ideal ⟨2, ![2048, 16432]⟩ .f32) :
    prod (rows p s) (wBig w) = big (promptProj p w) (sampleProj s w) := by
  funext i
  obtain ⟨i, j, rfl⟩ : ∃ a b, i = ix2 a b := ⟨i 0, i 1, by funext d; fin_cases d <;> rfl⟩
  rw [big_apply]
  show ∑ k : Fin 2048, rows p s (ix2 i k) * wBig w (ix2 k j) = _
  simp only [rows_apply, wBig_apply]
  split
  · rw [promptProj_apply]
  · rw [sampleProj_apply]

theorem prod_small (p : Vec Ideal ⟨3, ![16, 256, 2048]⟩ .f32) (s : Vec Ideal ⟨3, ![8, 2048, 2048]⟩ .f32) (w : Vec Ideal ⟨2, ![2048, 16432]⟩ .f32) :
    prod (rows p s) (wSmall w) = small (promptProj p w) (sampleProj s w) := by
  funext i
  obtain ⟨i, j, rfl⟩ : ∃ a b, i = ix2 a b := ⟨i 0, i 1, by funext d; fin_cases d <;> rfl⟩
  rw [small_apply]
  show ∑ k : Fin 2048, rows p s (ix2 i k) * wSmall w (ix2 k j) = _
  simp only [rows_apply, wSmall_apply]
  by_cases hj : j.val < 48
  · simp only [hj, dite_true]
    split
    · rw [promptProj_apply]
    · rw [sampleProj_apply]
  · simp only [hj, dite_false]
    exact Finset.sum_eq_zero fun k _ => mul_zero _

end Cert.InProjHost

end
-- ==== Proof.InProj.lean ====
/- The way into the mixer: `Kernel2Ideal` norms and modulates the tokens of both batches, takes the columns of the
   weights apart and multiplies by each group block by block over the whole inner axis. So each group's result is the plain
   product of all tokens by the group's columns, and with `InProjHost` it is `Reference2Ideal`'s. -/
module

public import proofs.«01_k».proof.Proof.InProjRun
public import proofs.«01_k».proof.Proof.InProjHost
public import Idealize.ShloMosaic.Lib.Pipeline.ValueKit
public import Idealize.ShloMosaic.Lib.Pointwise
public import Idealize.ShloMosaic.Lib.ValueIdx
public import Idealize.ShloMosaic.PureOps.Ideal.Laws

@[expose] public section

noncomputable section

namespace Cert.InProj

open Idealize.ShloMosaic Idealize.ShloMosaic.TcCoe Idealize.SL.Sem
open Idealize.ShloMosaic.Pipeline (Dat)
open Cert.InProjHost

section Kernel
open Cert.Kernel2Ideal Cert.Kernel2Ideal.Gen

/-! ## One block's product -/

theorem pay0_apply (x : Vec Ideal S1024x2048 .bf16) (w : Vec Ideal S2048x512 .bf16) (y : S1024x512.Idx) :
    k0_pay1 (F := Ideal) x w y = ∑ k : Fin 2048, x (ix2 (y 0) k) * w (ix2 k (y 1)) := by
  unfold k0_pay1
  pointwise

theorem pay1_apply (x : Vec Ideal S1024x2048 .bf16) (w : Vec Ideal S2048x128 .bf16) (y : S1024x128.Idx) :
    k1_pay1 (F := Ideal) x w y = ∑ k : Fin 2048, x (ix2 (y 0) k) * w (ix2 k (y 1)) := by
  unfold k1_pay1
  pointwise

/-! ## Which block each window is on at a point: in the first region the rows advance every 32 points and the columns at
    every point, in the second the rows at every point -/

theorem index0 (t : Fin grid0.N) : win0_0.index t = ![t.val / 32, 0] ∧ win0_1.index t = ![0, t.val % 32]
    ∧ win0_2.index t = ![t.val / 32, t.val % 32] := by revert t; decide +kernel
theorem index1 (t : Fin grid1.N) : win1_0.index t = ![t.val, 0] ∧ win1_1.index t = ![0, 0]
    ∧ win1_2.index t = ![t.val, 0] := by revert t; decide +kernel

/-! ## What each region leaves in its output array, from any contents `V` at its entry -/

section Regions
variable (V : (c : Dev nD) → (b : Ref sig .tc) → Buf (Elt Ideal) ((c : Thread nD τ).loc b))

set_option maxHeartbeats 4000000 in
theorem region0 (c : Dev nD) : (dat0 V c).arrAt 2 cfg0.N = prod (V c main_v74) (V c main_v75) := by
  refine (dat0 V c).arrAt_eq_of_covers 2 _ (by decide +kernel) fun t hf y => ?_
  blk_simp
  rw [after0_2]
  frame_out
  rw [pay0_apply]
  unfold prod iblk0
  show @Eq (Ideal .f32) _ _
  refine Finset.sum_congr rfl fun k _ => ?_
  congr 1 <;> blk_ext [(index0 t).1, (index0 t).2.1, (index0 t).2.2]

set_option maxHeartbeats 4000000 in
theorem region1 (c : Dev nD) : (dat1 V c).arrAt 2 cfg1.N = prod (V c main_v77) (V c main_v78) := by
  refine (dat1 V c).arrAt_eq_of_covers 2 _ (by decide +kernel) fun t hf y => ?_
  blk_simp
  rw [after1_2]
  frame_out
  rw [pay1_apply]
  unfold prod iblk1
  show @Eq (Ideal .f32) _ _
  refine Finset.sum_congr rfl fun k _ => ?_
  congr 1 <;> blk_ext [(index1 t).1, (index1 t).2.1, (index1 t).2.2]

end Regions

/-! ## The lines before the products, a stretch at a time -/

section Lines
variable (X : Valuation τ sig (Elt Ideal))

/-- The prompt batch's tokens; the sample batch's; both, and the weights per channel; the weights per head. -/
abbrev lines1 : List (HloOp τ sig (Elt Ideal)) := hostOps0.take 33
abbrev lines2 : List (HloOp τ sig (Elt Ideal)) := (hostOps0.drop 33).take 33
abbrev lines3 : List (HloOp τ sig (Elt Ideal)) := (hostOps0.drop 66).take 14
abbrev lines4 : List (HloOp τ sig (Elt Ideal)) := hostOps0.drop 80

theorem lines_eq : StableHlo.after hostOps0 X
    = StableHlo.after lines4 (StableHlo.after lines3 (StableHlo.after lines2 (StableHlo.after lines1 X))) := by
  simp only [← StableHlo.after_append]
  rfl

theorem lines1_v26 : StableHlo.after lines1 X (Proc.devRef .tc main_v26)
    = Cert.Residual.flat (promptRows (X (Proc.devRef .tc main_arg0)) (X (Proc.devRef .tc main_arg2))) := by
  simp only [lines1, hostOps0, List.take_succ_cons, List.take_zero, List.drop_succ_cons, List.drop_zero]
  after_results
  rfl

theorem lines1_keep : StableHlo.after lines1 X (Proc.devRef .tc main_arg1) = X (Proc.devRef .tc main_arg1)
    ∧ StableHlo.after lines1 X (Proc.devRef .tc main_arg3) = X (Proc.devRef .tc main_arg3)
    ∧ StableHlo.after lines1 X (Proc.devRef .tc main_arg4) = X (Proc.devRef .tc main_arg4) := by
  simp only [lines1, hostOps0, List.take_succ_cons, List.take_zero, List.drop_succ_cons, List.drop_zero]
  refine ⟨?_, ?_, ?_⟩ <;> after_results

theorem lines2_v53 : StableHlo.after lines2 X (Proc.devRef .tc main_v53)
    = Cert.SampleResidual.flat (sampleRows (X (Proc.devRef .tc main_arg1)) (X (Proc.devRef .tc main_arg3))) := by
  simp only [lines2, hostOps0, List.take_succ_cons, List.take_zero, List.drop_succ_cons, List.drop_zero]
  after_results
  rfl

theorem lines2_keep : StableHlo.after lines2 X (Proc.devRef .tc main_v26) = X (Proc.devRef .tc main_v26)
    ∧ StableHlo.after lines2 X (Proc.devRef .tc main_arg4) = X (Proc.devRef .tc main_arg4) := by
  simp only [lines2, hostOps0, List.take_succ_cons, List.take_zero, List.drop_succ_cons, List.drop_zero]
  refine ⟨?_, ?_⟩ <;> after_results

theorem lines3_v54 : StableHlo.after lines3 X (Proc.devRef .tc main_v54)
    = concatenate S20480x2048 0 [⟨S4096x2048, X (Proc.devRef .tc main_v26)⟩, ⟨S16384x2048, X (Proc.devRef .tc main_v53)⟩] concatenates_S4096x2048_S16384x2048_S20480x2048_d0 := by
  simp only [lines3, hostOps0, List.take_succ_cons, List.take_zero, List.drop_succ_cons, List.drop_zero]
  after_results

theorem lines3_v67 : StableHlo.after lines3 X (Proc.devRef .tc main_v67) = wBig (X (Proc.devRef .tc main_arg4)) := by
  simp only [lines3, hostOps0, List.take_succ_cons, List.take_zero, List.drop_succ_cons, List.drop_zero]
  after_results
  rfl

theorem lines3_keep : StableHlo.after lines3 X (Proc.devRef .tc main_arg4) = X (Proc.devRef .tc main_arg4) := by
  simp only [lines3, hostOps0, List.take_succ_cons, List.take_zero, List.drop_succ_cons, List.drop_zero]
  after_results

theorem lines4_v72 : StableHlo.after lines4 X (Proc.devRef .tc main_v72) = wHeads (X (Proc.devRef .tc main_arg4)) := by
  simp only [lines4, hostOps0, List.take_succ_cons, List.take_zero, List.drop_succ_cons, List.drop_zero]
  after_results
  rfl

theorem lines4_c : StableHlo.after lines4 X (Proc.devRef .tc main_c) = constantI S_ 32 0#32 := by
  simp only [lines4, hostOps0, List.take_succ_cons, List.take_zero, List.drop_succ_cons, List.drop_zero]
  after_results

theorem lines4_keep : StableHlo.after lines4 X (Proc.devRef .tc main_v54) = X (Proc.devRef .tc main_v54)
    ∧ StableHlo.after lines4 X (Proc.devRef .tc main_v67) = X (Proc.devRef .tc main_v67) := by
  simp only [lines4, hostOps0, List.take_succ_cons, List.take_zero, List.drop_succ_cons, List.drop_zero]
  refine ⟨?_, ?_⟩ <;> after_results

/-- The lines that fill the weights per head up to 128 columns. -/
theorem fill_v73 : StableHlo.after hostOps0_1 X (Proc.devRef .tc main_v73)
    = pad S2048x128 ![0, 0] ![0, 80] ![0, 0] (X (Proc.devRef .tc main_v72) : Vec Ideal S2048x48 .f32)
        (sitofp (F := Ideal) .f32 (X (Proc.devRef .tc main_c) : IVec S_ 32)) pads_S2048x48_S2048x128_000_0800 h_S_ := by
  unfold hostOps0_1
  simp only [StableHlo.TRef.binary, StableHlo.TRef.unary, StableHlo.TRef.toBuf, StableHlo.TRef.ofBuf, cast_eq]
  after_results

/-- The roundings before each region change nothing. -/
theorem round0 : StableHlo.after hostOps0_2 X (Proc.devRef .tc main_v74) = X (Proc.devRef .tc main_v54)
    ∧ StableHlo.after hostOps0_2 X (Proc.devRef .tc main_v75) = X (Proc.devRef .tc main_v67) := by
  unfold hostOps0_2
  refine ⟨?_, ?_⟩ <;> (after_results; rfl)

theorem round1 : StableHlo.after hostOps1 X (Proc.devRef .tc main_v77) = X (Proc.devRef .tc main_v54)
    ∧ StableHlo.after hostOps1 X (Proc.devRef .tc main_v78) = X (Proc.devRef .tc main_v73) := by
  unfold hostOps1
  refine ⟨?_, ?_⟩ <;> (after_results; rfl)

end Lines

/-! ## The contents between the regions -/

variable (m : (ℓ : Loc nD τ sig) → Buf (Elt Ideal) ℓ) (ρ : Dev nD → PrngReg)

/-- Both batches' tokens, from the arguments. -/
abbrev tokens (c : Dev nD) : Vec Ideal S20480x2048 .f32 :=
  rows (promptRows (m ((c : Thread nD τ).loc main_arg0)) (m ((c : Thread nD τ).loc main_arg2)))
    (sampleRows (m ((c : Thread nD τ).loc main_arg1)) (m ((c : Thread nD τ).loc main_arg3)))

theorem first_v54 (c : Dev nD) : W1 m ρ c (Proc.devRef .tc main_v54) = tokens m c := by
  show StableHlo.after hostOps0 _ _ = _
  rw [lines_eq, (lines4_keep _).1, lines3_v54, lines2_v53, (lines2_keep _).1, lines1_v26, (lines1_keep _).1, (lines1_keep _).2.1]
  rfl

theorem first_v67 (c : Dev nD) : W1 m ρ c (Proc.devRef .tc main_v67) = wBig (m ((c : Thread nD τ).loc main_arg4)) := by
  show StableHlo.after hostOps0 _ _ = _
  rw [lines_eq, (lines4_keep _).2, lines3_v67, (lines2_keep _).2, (lines1_keep _).2.2]

theorem first_v72 (c : Dev nD) : W1 m ρ c (Proc.devRef .tc main_v72) = wHeads (m ((c : Thread nD τ).loc main_arg4)) := by
  show StableHlo.after hostOps0 _ _ = _
  rw [lines_eq, lines4_v72, lines3_keep, (lines2_keep _).2, (lines1_keep _).2.2]

theorem first_c (c : Dev nD) : W1 m ρ c (Proc.devRef .tc main_c) = constantI S_ 32 0#32 := by
  show StableHlo.after hostOps0 _ _ = _
  rw [lines_eq, lines4_c]

theorem second_v73 (c : Dev nD) : W2 m ρ c (Proc.devRef .tc main_v73) = wSmall (m ((c : Thread nD τ).loc main_arg4)) := by
  show StableHlo.after hostOps0_1 _ _ = _
  rw [fill_v73, first_v72, first_c]
  rfl

theorem entry0_rows (c : Dev nD) : V3 m ρ c main_v74 = tokens m c := by
  refine (round0 _).1.trans ?_
  rw [W2_of m ρ c main_v54 (by decide), first_v54]

theorem entry0_weights (c : Dev nD) : V3 m ρ c main_v75 = wBig (m ((c : Thread nD τ).loc main_arg4)) := by
  refine (round0 _).2.trans ?_
  rw [W2_of m ρ c main_v67 (by decide), first_v67]

theorem entry1_rows (c : Dev nD) : V5 m ρ c main_v77 = tokens m c := by
  refine (round1 _).1.trans ?_
  rw [W4_of_ne m ρ c main_v54 (by decide), W3_of m ρ c main_v54 (by decide), W2_of m ρ c main_v54 (by decide), first_v54]

theorem entry1_weights (c : Dev nD) : V5 m ρ c main_v78 = wSmall (m ((c : Thread nD τ).loc main_arg4)) := by
  refine (round1 _).2.trans ?_
  rw [W4_of_ne m ρ c main_v73 (by decide), W3_of m ρ c main_v73 (by decide), second_v73]

theorem result_big (c : Dev nD) : W6 m ρ c (Proc.devRef .tc main_v76) = prod (tokens m c) (wBig (m ((c : Thread nD τ).loc main_arg4))) := by
  rw [W6_of_ne m ρ c main_v76 (by decide), W5_of m ρ c main_v76 (by decide),
    show W4 m ρ c (Proc.devRef .tc main_v76) = (dat0 (V3 m ρ) c).arrAt 2 cfg0.N from W4_arr m ρ c 2, region0, entry0_rows, entry0_weights]

theorem result_small (c : Dev nD) : W6 m ρ c (Proc.devRef .tc main_v79) = prod (tokens m c) (wSmall (m ((c : Thread nD τ).loc main_arg4))) := by
  rw [show W6 m ρ c (Proc.devRef .tc main_v79) = (dat1 (V5 m ρ) c).arrAt 2 cfg1.N from W6_arr m ρ c 2, region1, entry1_rows, entry1_weights]

/-- The run with the results named. -/
theorem run : θ_run defs (onTc (τ := τ) (main (F := Ideal))) ⟨m, fun _ => 0, ρ⟩ (fun r => ∀ c : Dev nD,
      r.2.mem ((c : Thread nD τ).loc main_v76) = prod (tokens m c) (wBig (m ((c : Thread nD τ).loc main_arg4)))
      ∧ r.2.mem ((c : Thread nD τ).loc main_v79) = prod (tokens m c) (wSmall (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨(h.1 c _ (mem_uc main_v76 (by decide))).trans (result_big m ρ c),
    (h.1 c _ (mem_uc main_v79 (by decide))).trans (result_small m ρ c),
    (h.1 c _ (mem_uc main_arg0 (by decide))).trans (W6_main_arg0 m ρ c),
    (h.1 c _ (mem_uc main_arg1 (by decide))).trans (W6_main_arg1 m ρ c),
    (h.1 c _ (mem_uc main_arg2 (by decide))).trans (W6_main_arg2 m ρ c),
    (h.1 c _ (mem_uc main_arg3 (by decide))).trans (W6_main_arg3 m ρ c),
    (h.1 c _ (mem_uc main_arg4 (by decide))).trans (W6_main_arg4 m ρ c)⟩) (Cert.InProjRun.run_all m ρ)

end Kernel

/-! ## The reference -/

section Reference
open Cert.Reference2Ideal Cert.Reference2Ideal.Gen

variable (m : (ℓ : Loc nD τ sig) → Buf (Elt Ideal) ℓ)

theorem reference_big (c : Dev nD) : Cert.Reference2Ideal.Value.res_main_v105 m c
    = big (promptProj (promptRows (m ((c : Thread nD τ).loc main_arg0)) (m ((c : Thread nD τ).loc main_arg2))) (m ((c : Thread nD τ).loc main_arg4)))
        (sampleProj (sampleRows (m ((c : Thread nD τ).loc main_arg1)) (m ((c : Thread nD τ).loc main_arg3))) (m ((c : Thread nD τ).loc main_arg4))) := by
  unfold Cert.Reference2Ideal.Value.res_main_v105
  rfl

theorem reference_small (c : Dev nD) : Cert.Reference2Ideal.Value.res_main_v106 m c
    = small (promptProj (promptRows (m ((c : Thread nD τ).loc main_arg0)) (m ((c : Thread nD τ).loc main_arg2))) (m ((c : Thread nD τ).loc main_arg4)))
        (sampleProj (sampleRows (m ((c : Thread nD τ).loc main_arg1)) (m ((c : Thread nD τ).loc main_arg3))) (m ((c : Thread nD τ).loc main_arg4))) := by
  unfold Cert.Reference2Ideal.Value.res_main_v106
  rfl

end Reference

/-! ## The two together: from equal arguments the reference's results are the kernel's -/

variable (m : (ℓ : Loc Cert.Kernel2Ideal.nD Cert.Kernel2Ideal.τ Cert.Kernel2Ideal.sig) → Buf (Elt Ideal) ℓ)
variable (m' : (ℓ : Loc Cert.Reference2Ideal.nD Cert.Reference2Ideal.τ Cert.Reference2Ideal.sig) → Buf (Elt Ideal) ℓ) (c : Dev Cert.Kernel2Ideal.nD)

theorem agree_big (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
     (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
     (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
     (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
     (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    :
    Cert.Reference2Ideal.Value.res_main_v105 m' c = prod (tokens m c) (wBig (m ((c.tc : Thread Cert.Kernel2Ideal.nD Cert.Kernel2Ideal.τ).loc Cert.Kernel2Ideal.main_arg4))) := by
  unfold tokens
  rw [← h0, ← h1, ← h2, ← h3, ← h4, Cert.InProjHost.prod_big]
  exact reference_big m' c

theorem agree_small (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
     (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
     (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
     (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
     (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    :
    Cert.Reference2Ideal.Value.res_main_v106 m' c = prod (tokens m c) (wSmall (m ((c.tc : Thread Cert.Kernel2Ideal.nD Cert.Kernel2Ideal.τ).loc Cert.Kernel2Ideal.main_arg4))) := by
  unfold tokens
  rw [← h0, ← h1, ← h2, ← h3, ← h4, Cert.InProjHost.prod_small]
  exact reference_small m' c

end Cert.InProj

end
-- ==== Proof.ExpertsRun.lean ====
/- The launch of `Kernel3Ideal`, its three regions among the host operations: every execution ends with every buffer at the
   contents of the last boundary (`W8`), at any float values. The generated frame keeps of this only the arguments. -/
module

public import proofs.«01_k».proof.Proof.Gen.Kernel3Ideal.Frame

@[expose] public section

noncomputable section

namespace Cert.ExpertsRun

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The resources the launch runs over. -/
abbrev Res (F : FTy → Type) [FloatOps F] := MT nD τ sig Unit (Elt F) ℕ (UR sig nD τ) ℕ

set_option backward.isDefEq.respectTransparency.types false in
/-- Every weakly fair execution ends with every buffer at the last boundary's contents and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W8 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (Res F))
            ⊢ BI.own (emb₁ (initOf (Pipeline.cells cfgs cellOf_inj) (Pipeline.launchToks cfgs cellOf_inj))) from .rfl)
        iexact Hu
      iapply (show (BI.emp : sProp (Res F)) ⊢ bigSep Finset.univ (fun _ : Dev nD => (BI.emp : sProp (Res F))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hbufs, Hprng, Howes⟩
      isplitl [Hbufs Hprng]
      · isplitl [Hbufs] <;> iassumption
      · iexact Howes⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

end Cert.ExpertsRun

end
-- ==== Proof.Experts.lean ====
/- The experts: `Kernel3Ideal` runs three batched products (gate, up, down) on the tokens the experts pick, each expert's block a
   product over the whole inner axis, with the SwiGLU gating between them on the host. Every product is the plain batched product,
   element by element, and the lines before and after them are the reference's, so the program's result is `Reference3Ideal`'s. -/
module

public import proofs.«01_k».proof.Proof.ExpertsRun
public import proofs.«01_k».proof.Proof.Residual
public import proofs.«01_k».proof.Proof.Gen.Reference3Ideal.Run
public import Idealize.ShloMosaic.Lib.Pipeline.ValueKit
public import Idealize.ShloMosaic.Lib.Pointwise
public import Idealize.ShloMosaic.Lib.ValueIdx
public import Idealize.ShloMosaic.PureOps.Ideal.Laws

@[expose] public section

noncomputable section

namespace Cert.Experts

open Cert.Kernel3Ideal Cert.Kernel3Ideal.Gen Idealize.ShloMosaic Idealize.ShloMosaic.TcCoe Idealize.SL.Sem
open Idealize.ShloMosaic.Pipeline (Dat)
open Cert.Residual

/-! ## The products -/

/-- The product of an expert's tokens by its weights into the hidden width, expert by expert. -/
def wide (x : Vec Ideal S16x512x2048 .f32) (w : Vec Ideal S16x2048x1024 .f32) : Vec Ideal S16x512x1024 .f32 :=
  fun i => ∑ k : Fin 2048, x (ix3 (i 0) (i 1) k) * w (ix3 (i 0) k (i 2))

/-- The product of an expert's hidden rows by its weights back to the model width. -/
def narrow (x : Vec Ideal S16x512x1024 .f32) (w : Vec Ideal S16x1024x2048 .f32) : Vec Ideal S16x512x2048 .f32 :=
  fun i => ∑ k : Fin 1024, x (ix3 (i 0) (i 1) k) * w (ix3 (i 0) k (i 2))

/-- The gating between them: `silu` of the gate product times the up product. -/
def hidden (a b : Vec Ideal S16x512x1024 .f32) : Vec Ideal S16x512x1024 .f32 :=
  mulf (F := Ideal) (φ := .f32) (mulf a (Host.divf (broadcastInDim S16x512x1024 ![] bcast_S_S16x512x1024 (constant (F := Ideal) S_ .f32 0x3F800000#32))
    (addf (broadcastInDim S16x512x1024 ![] bcast_S_S16x512x1024 (constant (F := Ideal) S_ .f32 0x3F800000#32)) (Host.exp (Host.negf a))))) b

theorem pay0_apply (x : Vec Ideal S1x512x2048 .bf16) (w : Vec Ideal S1x2048x512 .bf16) (y : S1x512x512.Idx) :
    k0_pay1 (F := Ideal) x w y = ∑ k : Fin 2048, x (ix3 0 (y 1) k) * w (ix3 0 k (y 2)) := by
  unfold k0_pay1
  pointwise

theorem pay1_apply (x : Vec Ideal S1x512x2048 .bf16) (w : Vec Ideal S1x2048x512 .bf16) (y : S1x512x512.Idx) :
    k1_pay1 (F := Ideal) x w y = ∑ k : Fin 2048, x (ix3 0 (y 1) k) * w (ix3 0 k (y 2)) := by
  unfold k1_pay1
  pointwise

theorem pay2_apply (x : Vec Ideal S1x512x1024 .bf16) (w : Vec Ideal S1x1024x512 .bf16) (y : S1x512x512.Idx) :
    k2_pay1 (F := Ideal) x w y = ∑ k : Fin 1024, x (ix3 0 (y 1) k) * w (ix3 0 k (y 2)) := by
  unfold k2_pay1
  pointwise

/-! ## Which block each window is on at a point -/

theorem index0 (t : Fin grid0.N) : win0_0.index t = ![t.val / 2, 0, 0] ∧ win0_1.index t = ![t.val / 2, 0, t.val % 2]
    ∧ win0_2.index t = ![t.val / 2, 0, t.val % 2] := by revert t; decide +kernel
theorem index1 (t : Fin grid1.N) : win1_0.index t = ![t.val / 2, 0, 0] ∧ win1_1.index t = ![t.val / 2, 0, t.val % 2]
    ∧ win1_2.index t = ![t.val / 2, 0, t.val % 2] := by revert t; decide +kernel
theorem index2 (t : Fin grid2.N) : win2_0.index t = ![t.val / 4, 0, 0] ∧ win2_1.index t = ![t.val / 4, 0, t.val % 4]
    ∧ win2_2.index t = ![t.val / 4, 0, t.val % 4] := by revert t; decide +kernel

/-! ## What each region leaves in its output array, from any contents `V` at its entry -/

variable (V : (c : Dev nD) → (b : Ref sig .tc) → Buf (Elt Ideal) ((c : Thread nD τ).loc b))

set_option maxHeartbeats 2000000 in
theorem region0 (c : Dev nD) : (dat0 V c).arrAt 2 cfg0.N = wide (V c main_v84) (V c main_v85) := by
  refine (dat0 V c).arrAt_eq_of_covers 2 _ (by decide +kernel) fun t hf y => ?_
  blk_simp
  rw [after0_2]
  frame_out
  rw [pay0_apply]
  unfold wide iblk0
  show @Eq (Ideal .f32) _ _
  refine Finset.sum_congr rfl fun k _ => ?_
  congr 1 <;> blk_ext [(index0 t).1, (index0 t).2.1, (index0 t).2.2]

theorem region1 (c : Dev nD) : (dat1 V c).arrAt 2 cfg1.N = wide (V c main_v84) (V c main_v88) := by
  refine (dat1 V c).arrAt_eq_of_covers 2 _ (by decide +kernel) fun t hf y => ?_
  blk_simp
  rw [after1_2]
  frame_out
  rw [pay1_apply]
  unfold wide iblk1
  show @Eq (Ideal .f32) _ _
  refine Finset.sum_congr rfl fun k _ => ?_
  congr 1 <;> blk_ext [(index1 t).1, (index1 t).2.1, (index1 t).2.2]

theorem region2 (c : Dev nD) : (dat2 V c).arrAt 2 cfg2.N = narrow (V c main_v91) (V c main_v92) := by
  refine (dat2 V c).arrAt_eq_of_covers 2 _ (by decide +kernel) fun t hf y => ?_
  blk_simp
  rw [after2_2]
  frame_out
  rw [pay2_apply]
  unfold narrow iblk2
  show @Eq (Ideal .f32) _ _
  refine Finset.sum_congr rfl fun k _ => ?_
  congr 1 <;> blk_ext [(index2 t).1, (index2 t).2.1, (index2 t).2.2]

/-! ## The contents between the regions -/

variable (m : (ℓ : Loc nD τ sig) → Buf (Elt Ideal) ℓ) (ρ : Dev nD → PrngReg)

/-- The stream after the first sub-layer, the second's input and routing, and the picked tokens, of the arguments. -/
abbrev streamAt (c : Dev nD) : Vec Ideal S16x256x2048 .f32 := stream (m ((c : Thread nD τ).loc main_arg0)) (m ((c : Thread nD τ).loc main_arg1)) (m ((c : Thread nD τ).loc main_arg2)) (m ((c : Thread nD τ).loc main_arg3)) (m ((c : Thread nD τ).loc main_arg4))
abbrev inputAt (c : Dev nD) : Vec Ideal S4096x2048 .f32 := input (streamAt m c) (m ((c : Thread nD τ).loc main_arg2))
abbrev routingAt (c : Dev nD) : Vec Ideal S16x4096 .f32 := routing (inputAt m c) (m ((c : Thread nD τ).loc main_arg7)) (m ((c : Thread nD τ).loc main_arg8))
abbrev pickedAt (c : Dev nD) : Vec Ideal S16x512x2048 .f32 := gathered (inputAt m c) (picks (routingAt m c))

theorem entry0 (c : Dev nD) : V1 m ρ c main_v84 = pickedAt m c ∧ V1 m ρ c main_v85 = m ((c : Thread nD τ).loc main_arg9) := by
  obtain ⟨-, -, -, -, h84, h85⟩ := before (W0 m ρ c)
  exact ⟨h84, h85⟩

theorem gate (c : Dev nD) : W2 m ρ c (Proc.devRef .tc main_v86) = wide (pickedAt m c) (m ((c : Thread nD τ).loc main_arg9)) := by
  rw [show W2 m ρ c (Proc.devRef .tc main_v86) = (dat0 (V1 m ρ) c).arrAt 2 cfg0.N from W2_arr m ρ c 2, region0,
    (entry0 m ρ c).1, (entry0 m ρ c).2]

theorem entry1 (c : Dev nD) : V4 m ρ c main_v84 = pickedAt m c ∧ V4 m ρ c main_v88 = m ((c : Thread nD τ).loc main_arg10) := by
  constructor
  · show W4 m ρ c (Proc.devRef .tc main_v84) = _
    rw [W4_of m ρ c main_v84 (by decide), W3_of m ρ c main_v84 (by decide), W2_of m ρ c main_v84 (by decide)]
    exact (entry0 m ρ c).1
  · show StableHlo.after hostOps1_1 _ _ = _
    unfold hostOps1_1
    after_results
    rw [W2_args m ρ c main_arg10 (by decide)]
    rfl

theorem up (c : Dev nD) : W5 m ρ c (Proc.devRef .tc main_v89) = wide (pickedAt m c) (m ((c : Thread nD τ).loc main_arg10)) := by
  rw [show W5 m ρ c (Proc.devRef .tc main_v89) = (dat1 (V4 m ρ) c).arrAt 2 cfg1.N from W5_arr m ρ c 2, region1,
    (entry1 m ρ c).1, (entry1 m ρ c).2]

theorem silu (c : Dev nD) : W5 m ρ c (Proc.devRef .tc main_v87)
    = mulf (F := Ideal) (φ := .f32) (W2 m ρ c (Proc.devRef .tc main_v86)) (Host.divf (broadcastInDim S16x512x1024 ![] bcast_S_S16x512x1024 (constant (F := Ideal) S_ .f32 0x3F800000#32))
    (addf (broadcastInDim S16x512x1024 ![] bcast_S_S16x512x1024 (constant (F := Ideal) S_ .f32 0x3F800000#32)) (Host.exp (Host.negf (W2 m ρ c (Proc.devRef .tc main_v86)))))) := by
  rw [W5_of_ne m ρ c main_v87 (by decide), W4_of m ρ c main_v87 (by decide)]
  show StableHlo.after hostOps1 _ _ = _
  simp only [hostOps1, StableHlo.TRef.binary, StableHlo.TRef.nullary, StableHlo.TRef.unary, StableHlo.TRef.toBuf, StableHlo.TRef.ofBuf, cast_eq]
  after_results

theorem entry2 (c : Dev nD) : V6 m ρ c main_v91 = hidden (wide (pickedAt m c) (m ((c : Thread nD τ).loc main_arg9))) (wide (pickedAt m c) (m ((c : Thread nD τ).loc main_arg10)))
    ∧ V6 m ρ c main_v92 = m ((c : Thread nD τ).loc main_arg11) := by
  constructor
  · show StableHlo.after hostOps2 _ _ = _
    unfold hostOps2
    after_results
    rw [silu, up, gate]
    rfl
  · show StableHlo.after hostOps2 _ _ = _
    unfold hostOps2
    after_results
    rw [W5_args m ρ c main_arg11 (by decide)]
    rfl

/-- The experts' outputs for their tokens. -/
def outputs (x : Vec Ideal S16x512x2048 .f32) (wg wu : Vec Ideal S16x2048x1024 .f32) (wd : Vec Ideal S16x1024x2048 .f32) : Vec Ideal S16x512x2048 .f32 :=
  narrow (hidden (wide x wg) (wide x wu)) wd

theorem down (c : Dev nD) : W7 m ρ c (Proc.devRef .tc main_v93) = outputs (pickedAt m c) (m ((c : Thread nD τ).loc main_arg9)) (m ((c : Thread nD τ).loc main_arg10)) (m ((c : Thread nD τ).loc main_arg11)) := by
  rw [show W7 m ρ c (Proc.devRef .tc main_v93) = (dat2 (V6 m ρ) c).arrAt 2 cfg2.N from W7_arr m ρ c 2, region2,
    (entry2 m ρ c).1, (entry2 m ρ c).2]
  rfl

/-- What no region and no line between them writes. -/
theorem kept (c : Dev nD) : W7 m ρ c (Proc.devRef .tc main_v35) = W1 m ρ c (Proc.devRef .tc main_v35)
    ∧ W7 m ρ c (Proc.devRef .tc main_v3) = W1 m ρ c (Proc.devRef .tc main_v3)
    ∧ W7 m ρ c (Proc.devRef .tc main_values) = W1 m ρ c (Proc.devRef .tc main_values)
    ∧ W7 m ρ c (Proc.devRef .tc main_indices) = W1 m ρ c (Proc.devRef .tc main_indices) := by
  have h (r : Ref sig .tc) (h0 : ∀ w, Pipeline.arrRef spec0 w ≠ r) (h1 : r ∉ hostOps1_W) (h2 : r ∉ hostOps1_1_W)
      (h3 : ∀ w, Pipeline.arrRef spec1 w ≠ r) (h4 : r ∉ hostOps2_W) (h5 : ∀ w, Pipeline.arrRef spec2 w ≠ r) :
      W7 m ρ c (Proc.devRef .tc r) = W1 m ρ c (Proc.devRef .tc r) := by
    rw [W7_of_ne m ρ c r h5, W6_of m ρ c r h4, W5_of_ne m ρ c r h3, W4_of m ρ c r h2, W3_of m ρ c r h1, W2_of_ne m ρ c r h0]
  exact ⟨h _ (by decide) (by decide) (by decide) (by decide) (by decide) (by decide), h _ (by decide) (by decide) (by decide) (by decide) (by decide) (by decide),
    h _ (by decide) (by decide) (by decide) (by decide) (by decide) (by decide), h _ (by decide) (by decide) (by decide) (by decide) (by decide) (by decide)⟩

/-- The layer's second half on the stream `s` after the first sub-layer. -/
def secondHalf (s : Vec Ideal S16x256x2048 .f32) (mod : Vec Ideal S1x1x12288 .f32) (g b : Vec Ideal S2048 .f32) (wr : Vec Ideal S2048x16 .f32)
    (br : Vec Ideal S16 .f32) (wg wu : Vec Ideal S16x2048x1024 .f32) (wd : Vec Ideal S16x1024x2048 .f32) : Vec Ideal S16x256x2048 .f32 :=
  affine (residual s (unflat (scattered (weighted (outputs (gathered (input s mod) (picks (routing (input s mod) wr br))) wg wu wd)
    (greatest (routing (input s mod) wr br))) (picks (routing (input s mod) wr br)))) (gate2 mod)) g b

/-- The layer's output as a function of the arguments. -/
def value (x : Vec Ideal S16x256x2048 .f32) (y : Vec Ideal S4096x2048 .f32) (mod : Vec Ideal S1x1x12288 .f32) (g1 b1 g2 b2 : Vec Ideal S2048 .f32)
    (wr : Vec Ideal S2048x16 .f32) (br : Vec Ideal S16 .f32) (wg wu : Vec Ideal S16x2048x1024 .f32) (wd : Vec Ideal S16x1024x2048 .f32) : Vec Ideal S16x256x2048 .f32 :=
  secondHalf (stream x y mod g1 b1) mod g2 b2 wr br wg wu wd

theorem result (c : Dev nD) : W8 m ρ c (Proc.devRef .tc main_v138)
    = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  obtain ⟨k35, k3, kv, ki⟩ := kept m ρ c
  obtain ⟨b35, b3, bv, bi, -, -⟩ := before (W0 m ρ c)
  show StableHlo.after hostOps3 (W7 m ρ c) (Proc.devRef .tc main_v138) = _
  rw [Cert.Residual.after, k35, k3, kv, ki, down, W7_args m ρ c main_arg5 (by decide), W7_args m ρ c main_arg6 (by decide),
    show W1 m ρ c (Proc.devRef .tc main_v35) = _ from b35, show W1 m ρ c (Proc.devRef .tc main_v3) = _ from b3,
    show W1 m ρ c (Proc.devRef .tc main_values) = _ from bv, show W1 m ρ c (Proc.devRef .tc main_indices) = _ from bi]
  rfl

/-! ## The run -/

/-- The run with the result named. -/
theorem run : θ_run defs (onTc (τ := τ) (main (F := Ideal))) ⟨m, fun _ => 0, ρ⟩ (fun r => ∀ c : Dev nD,
      r.2.mem ((c : Thread nD τ).loc main_v138)
        = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)) :=
  (θ_run defs _ _).mono (fun _ h c => ⟨(h.1 c _ (mem_uc main_v138 (by decide))).trans (result m ρ c),
    (h.1 c _ (mem_uc main_arg0 (by decide))).trans (W8_main_arg0 m ρ c),
    (h.1 c _ (mem_uc main_arg1 (by decide))).trans (W8_main_arg1 m ρ c),
    (h.1 c _ (mem_uc main_arg2 (by decide))).trans (W8_main_arg2 m ρ c),
    (h.1 c _ (mem_uc main_arg3 (by decide))).trans (W8_main_arg3 m ρ c),
    (h.1 c _ (mem_uc main_arg4 (by decide))).trans (W8_main_arg4 m ρ c),
    (h.1 c _ (mem_uc main_arg5 (by decide))).trans (W8_main_arg5 m ρ c),
    (h.1 c _ (mem_uc main_arg6 (by decide))).trans (W8_main_arg6 m ρ c),
    (h.1 c _ (mem_uc main_arg7 (by decide))).trans (W8_main_arg7 m ρ c),
    (h.1 c _ (mem_uc main_arg8 (by decide))).trans (W8_main_arg8 m ρ c),
    (h.1 c _ (mem_uc main_arg9 (by decide))).trans (W8_main_arg9 m ρ c),
    (h.1 c _ (mem_uc main_arg10 (by decide))).trans (W8_main_arg10 m ρ c),
    (h.1 c _ (mem_uc main_arg11 (by decide))).trans (W8_main_arg11 m ρ c)⟩) (Cert.ExpertsRun.run_all m ρ)

/-! ## The reference -/

theorem wide_reference (x : Vec Ideal S16x512x2048 .f32) (w : Vec Ideal S16x2048x1024 .f32) :
    Host.dotGeneral (F := Ideal) (φ₁ := .f32) (φ₂ := .f32) Cert.Reference3Ideal.dot_S16x512x2048_S16x2048x1024_S16x512x1024_2_1_1_2_0_0 none x w = wide x w := by
  funext i
  unfold wide
  pointwise

theorem narrow_reference (x : Vec Ideal S16x512x1024 .f32) (w : Vec Ideal S16x1024x2048 .f32) :
    Host.dotGeneral (F := Ideal) (φ₁ := .f32) (φ₂ := .f32) Cert.Reference3Ideal.dot_S16x512x1024_S16x1024x2048_S16x512x2048_2_1_1_2_0_0 none x w = narrow x w := by
  funext i
  unfold narrow
  pointwise

variable (V : Valuation Cert.Reference3Ideal.τ Cert.Reference3Ideal.sig (Elt Ideal))

/-- The reference's stages are the same lines. -/
theorem reference_stream : Cert.Reference3Ideal.Value.res_main_v37 V = stream (V (Proc.devRef .tc Cert.Reference3Ideal.main_arg0)) (V (Proc.devRef .tc Cert.Reference3Ideal.main_arg1)) (V (Proc.devRef .tc Cert.Reference3Ideal.main_arg2)) (V (Proc.devRef .tc Cert.Reference3Ideal.main_arg3)) (V (Proc.devRef .tc Cert.Reference3Ideal.main_arg4)) := by
  have h : Cert.Reference3Ideal.Value.res_main_v13 V = residual (V (Proc.devRef .tc Cert.Reference3Ideal.main_arg0)) (unflat (V (Proc.devRef .tc Cert.Reference3Ideal.main_arg1))) (gate1 (V (Proc.devRef .tc Cert.Reference3Ideal.main_arg2))) := rfl
  unfold Cert.Reference3Ideal.Value.res_main_v37 Cert.Reference3Ideal.Value.res_main_v19 Cert.Reference3Ideal.Value.res_main_v17
  rw [h]
  rfl

theorem reference_input : Cert.Reference3Ideal.Value.res_main_v62 V = input (Cert.Reference3Ideal.Value.res_main_v37 V) (V (Proc.devRef .tc Cert.Reference3Ideal.main_arg2)) := by
  unfold Cert.Reference3Ideal.Value.res_main_v62 Cert.Reference3Ideal.Value.res_main_v43 Cert.Reference3Ideal.Value.res_main_v41
  rfl

theorem reference_routing : Cert.Reference3Ideal.Value.res_main_v78 V = routing (Cert.Reference3Ideal.Value.res_main_v62 V) (V (Proc.devRef .tc Cert.Reference3Ideal.main_arg7)) (V (Proc.devRef .tc Cert.Reference3Ideal.main_arg8)) := by
  unfold Cert.Reference3Ideal.Value.res_main_v78 Cert.Reference3Ideal.Value.res_main_v73 Cert.Reference3Ideal.Value.res_main_v66
  rfl

theorem reference_picked : Cert.Reference3Ideal.Value.res_main_v85 V = gathered (Cert.Reference3Ideal.Value.res_main_v62 V) (picks (Cert.Reference3Ideal.Value.res_main_v78 V)) := by
  unfold Cert.Reference3Ideal.Value.res_main_v85 Cert.Reference3Ideal.Value.res_main_indices
  rfl

theorem reference_sum : Cert.Reference3Ideal.Value.res_main_v111 V
    = residual (Cert.Reference3Ideal.Value.res_main_v37 V) (unflat (scattered (weighted (outputs (Cert.Reference3Ideal.Value.res_main_v85 V) (V (Proc.devRef .tc Cert.Reference3Ideal.main_arg9)) (V (Proc.devRef .tc Cert.Reference3Ideal.main_arg10)) (V (Proc.devRef .tc Cert.Reference3Ideal.main_arg11))) (greatest (Cert.Reference3Ideal.Value.res_main_v78 V))) (picks (Cert.Reference3Ideal.Value.res_main_v78 V)))) (gate2 (V (Proc.devRef .tc Cert.Reference3Ideal.main_arg2))) := by
  unfold Cert.Reference3Ideal.Value.res_main_v111 Cert.Reference3Ideal.Value.res_main_v95 Cert.Reference3Ideal.Value.res_main_v86 Cert.Reference3Ideal.Value.res_main_indices
  rw [wide_reference, wide_reference, narrow_reference]
  rfl

/-- So the last normalization of the reference's sum is the layer's output. -/
theorem reference_value : affine (Cert.Reference3Ideal.Value.res_main_v111 V) (V (Proc.devRef .tc Cert.Reference3Ideal.main_arg5)) (V (Proc.devRef .tc Cert.Reference3Ideal.main_arg6)) = value (V (Proc.devRef .tc Cert.Reference3Ideal.main_arg0)) (V (Proc.devRef .tc Cert.Reference3Ideal.main_arg1)) (V (Proc.devRef .tc Cert.Reference3Ideal.main_arg2)) (V (Proc.devRef .tc Cert.Reference3Ideal.main_arg3)) (V (Proc.devRef .tc Cert.Reference3Ideal.main_arg4)) (V (Proc.devRef .tc Cert.Reference3Ideal.main_arg5)) (V (Proc.devRef .tc Cert.Reference3Ideal.main_arg6)) (V (Proc.devRef .tc Cert.Reference3Ideal.main_arg7)) (V (Proc.devRef .tc Cert.Reference3Ideal.main_arg8)) (V (Proc.devRef .tc Cert.Reference3Ideal.main_arg9)) (V (Proc.devRef .tc Cert.Reference3Ideal.main_arg10)) (V (Proc.devRef .tc Cert.Reference3Ideal.main_arg11)) := by
  rw [reference_sum, reference_picked, reference_routing, reference_input, reference_stream]
  rfl

end Cert.Experts

end
-- ==== Proof.SampleExpertsRun.lean ====
/- The launch of `Kernel5Ideal`, its three regions among the host operations: every execution ends with every buffer at the
   contents of the last boundary (`W8`), at any float values. The generated frame keeps of this only the arguments. -/
module

public import proofs.«01_k».proof.Proof.Gen.Kernel5Ideal.Frame

@[expose] public section

noncomputable section

namespace Cert.SampleExpertsRun

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The resources the launch runs over. -/
abbrev Res (F : FTy → Type) [FloatOps F] := MT nD τ sig Unit (Elt F) ℕ (UR sig nD τ) ℕ

set_option backward.isDefEq.respectTransparency.types false in
/-- Every weakly fair execution ends with every buffer at the last boundary's contents and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W8 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (Res F))
            ⊢ BI.own (emb₁ (initOf (Pipeline.cells cfgs cellOf_inj) (Pipeline.launchToks cfgs cellOf_inj))) from .rfl)
        iexact Hu
      iapply (show (BI.emp : sProp (Res F)) ⊢ bigSep Finset.univ (fun _ : Dev nD => (BI.emp : sProp (Res F))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hbufs, Hprng, Howes⟩
      isplitl [Hbufs Hprng]
      · isplitl [Hbufs] <;> iassumption
      · iexact Howes⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

end Cert.SampleExpertsRun

end
-- ==== Proof.SampleExperts.lean ====
/- The experts of the sample batch: each of `Kernel5Ideal`'s three batched products runs over two blocks of an expert's tokens, so a
   point's rows are those of one block. The rest is as for the prompt batch: the program's result is `Reference5Ideal`'s. -/
module

public import proofs.«01_k».proof.Proof.SampleExpertsRun
public import proofs.«01_k».proof.Proof.SampleResidual
public import proofs.«01_k».proof.Proof.Gen.Reference5Ideal.Run
public import Idealize.ShloMosaic.Lib.Pipeline.ValueKit
public import Idealize.ShloMosaic.Lib.Pointwise
public import Idealize.ShloMosaic.Lib.ValueIdx
public import Idealize.ShloMosaic.PureOps.Ideal.Laws

@[expose] public section

noncomputable section

namespace Cert.SampleExperts

open Cert.Kernel5Ideal Cert.Kernel5Ideal.Gen Idealize.ShloMosaic Idealize.ShloMosaic.TcCoe Idealize.SL.Sem
open Idealize.ShloMosaic.Pipeline (Dat)
open Cert.SampleResidual

/-! ## The products -/

/-- The product of an expert's tokens by its weights into the hidden width, expert by expert. -/
def wide (x : Vec Ideal S16x2048x2048 .f32) (w : Vec Ideal S16x2048x1024 .f32) : Vec Ideal S16x2048x1024 .f32 :=
  fun i => ∑ k : Fin 2048, x (ix3 (i 0) (i 1) k) * w (ix3 (i 0) k (i 2))

/-- The product of an expert's hidden rows by its weights back to the model width. -/
def narrow (x : Vec Ideal S16x2048x1024 .f32) (w : Vec Ideal S16x1024x2048 .f32) : Vec Ideal S16x2048x2048 .f32 :=
  fun i => ∑ k : Fin 1024, x (ix3 (i 0) (i 1) k) * w (ix3 (i 0) k (i 2))

/-- The gating between them: `silu` of the gate product times the up product. -/
def hidden (a b : Vec Ideal S16x2048x1024 .f32) : Vec Ideal S16x2048x1024 .f32 :=
  mulf (F := Ideal) (φ := .f32) (mulf a (Host.divf (broadcastInDim S16x2048x1024 ![] bcast_S_S16x2048x1024 (constant (F := Ideal) S_ .f32 0x3F800000#32))
    (addf (broadcastInDim S16x2048x1024 ![] bcast_S_S16x2048x1024 (constant (F := Ideal) S_ .f32 0x3F800000#32)) (Host.exp (Host.negf a))))) b

theorem pay0_apply (x : Vec Ideal S1x1024x2048 .bf16) (w : Vec Ideal S1x2048x512 .bf16) (y : S1x1024x512.Idx) :
    k0_pay1 (F := Ideal) x w y = ∑ k : Fin 2048, x (ix3 0 (y 1) k) * w (ix3 0 k (y 2)) := by
  unfold k0_pay1
  pointwise

theorem pay1_apply (x : Vec Ideal S1x1024x2048 .bf16) (w : Vec Ideal S1x2048x512 .bf16) (y : S1x1024x512.Idx) :
    k1_pay1 (F := Ideal) x w y = ∑ k : Fin 2048, x (ix3 0 (y 1) k) * w (ix3 0 k (y 2)) := by
  unfold k1_pay1
  pointwise

theorem pay2_apply (x : Vec Ideal S1x1024x1024 .bf16) (w : Vec Ideal S1x1024x512 .bf16) (y : S1x1024x512.Idx) :
    k2_pay1 (F := Ideal) x w y = ∑ k : Fin 1024, x (ix3 0 (y 1) k) * w (ix3 0 k (y 2)) := by
  unfold k2_pay1
  pointwise

/-! ## Which block each window is on at a point -/

theorem index0 (t : Fin grid0.N) : win0_0.index t = ![t.val / 4, t.val / 2 % 2, 0] ∧ win0_1.index t = ![t.val / 4, 0, t.val % 2]
    ∧ win0_2.index t = ![t.val / 4, t.val / 2 % 2, t.val % 2] := by revert t; decide +kernel
theorem index1 (t : Fin grid1.N) : win1_0.index t = ![t.val / 4, t.val / 2 % 2, 0] ∧ win1_1.index t = ![t.val / 4, 0, t.val % 2]
    ∧ win1_2.index t = ![t.val / 4, t.val / 2 % 2, t.val % 2] := by revert t; decide +kernel
theorem index2 (t : Fin grid2.N) : win2_0.index t = ![t.val / 8, t.val / 4 % 2, 0] ∧ win2_1.index t = ![t.val / 8, 0, t.val % 4]
    ∧ win2_2.index t = ![t.val / 8, t.val / 4 % 2, t.val % 4] := by revert t; decide +kernel

/-! ## What each region leaves in its output array, from any contents `V` at its entry -/

variable (V : (c : Dev nD) → (b : Ref sig .tc) → Buf (Elt Ideal) ((c : Thread nD τ).loc b))

set_option maxHeartbeats 2000000 in
theorem region0 (c : Dev nD) : (dat0 V c).arrAt 2 cfg0.N = wide (V c main_v84) (V c main_v85) := by
  refine (dat0 V c).arrAt_eq_of_covers 2 _ (by decide +kernel) fun t hf y => ?_
  blk_simp
  rw [after0_2]
  frame_out
  rw [pay0_apply]
  unfold wide iblk0
  show @Eq (Ideal .f32) _ _
  refine Finset.sum_congr rfl fun k _ => ?_
  congr 1 <;> blk_ext [(index0 t).1, (index0 t).2.1, (index0 t).2.2]

theorem region1 (c : Dev nD) : (dat1 V c).arrAt 2 cfg1.N = wide (V c main_v84) (V c main_v88) := by
  refine (dat1 V c).arrAt_eq_of_covers 2 _ (by decide +kernel) fun t hf y => ?_
  blk_simp
  rw [after1_2]
  frame_out
  rw [pay1_apply]
  unfold wide iblk1
  show @Eq (Ideal .f32) _ _
  refine Finset.sum_congr rfl fun k _ => ?_
  congr 1 <;> blk_ext [(index1 t).1, (index1 t).2.1, (index1 t).2.2]

theorem region2 (c : Dev nD) : (dat2 V c).arrAt 2 cfg2.N = narrow (V c main_v91) (V c main_v92) := by
  refine (dat2 V c).arrAt_eq_of_covers 2 _ (by decide +kernel) fun t hf y => ?_
  blk_simp
  rw [after2_2]
  frame_out
  rw [pay2_apply]
  unfold narrow iblk2
  show @Eq (Ideal .f32) _ _
  refine Finset.sum_congr rfl fun k _ => ?_
  congr 1 <;> blk_ext [(index2 t).1, (index2 t).2.1, (index2 t).2.2]

/-! ## The contents between the regions -/

variable (m : (ℓ : Loc nD τ sig) → Buf (Elt Ideal) ℓ) (ρ : Dev nD → PrngReg)

/-- The stream after the first sub-layer, the second's input and routing, and the picked tokens, of the arguments. -/
abbrev streamAt (c : Dev nD) : Vec Ideal S8x2048x2048 .f32 := stream (m ((c : Thread nD τ).loc main_arg0)) (m ((c : Thread nD τ).loc main_arg1)) (m ((c : Thread nD τ).loc main_arg2)) (m ((c : Thread nD τ).loc main_arg3)) (m ((c : Thread nD τ).loc main_arg4))
abbrev inputAt (c : Dev nD) : Vec Ideal S16384x2048 .f32 := input (streamAt m c) (m ((c : Thread nD τ).loc main_arg2))
abbrev routingAt (c : Dev nD) : Vec Ideal S16x16384 .f32 := routing (inputAt m c) (m ((c : Thread nD τ).loc main_arg7)) (m ((c : Thread nD τ).loc main_arg8))
abbrev pickedAt (c : Dev nD) : Vec Ideal S16x2048x2048 .f32 := gathered (inputAt m c) (picks (routingAt m c))

theorem entry0 (c : Dev nD) : V1 m ρ c main_v84 = pickedAt m c ∧ V1 m ρ c main_v85 = m ((c : Thread nD τ).loc main_arg9) := by
  obtain ⟨-, -, -, -, h84, h85⟩ := before (W0 m ρ c)
  exact ⟨h84, h85⟩

theorem gate (c : Dev nD) : W2 m ρ c (Proc.devRef .tc main_v86) = wide (pickedAt m c) (m ((c : Thread nD τ).loc main_arg9)) := by
  rw [show W2 m ρ c (Proc.devRef .tc main_v86) = (dat0 (V1 m ρ) c).arrAt 2 cfg0.N from W2_arr m ρ c 2, region0,
    (entry0 m ρ c).1, (entry0 m ρ c).2]

theorem entry1 (c : Dev nD) : V4 m ρ c main_v84 = pickedAt m c ∧ V4 m ρ c main_v88 = m ((c : Thread nD τ).loc main_arg10) := by
  constructor
  · show W4 m ρ c (Proc.devRef .tc main_v84) = _
    rw [W4_of m ρ c main_v84 (by decide), W3_of m ρ c main_v84 (by decide), W2_of m ρ c main_v84 (by decide)]
    exact (entry0 m ρ c).1
  · show StableHlo.after hostOps1_1 _ _ = _
    unfold hostOps1_1
    after_results
    rw [W2_args m ρ c main_arg10 (by decide)]
    rfl

theorem up (c : Dev nD) : W5 m ρ c (Proc.devRef .tc main_v89) = wide (pickedAt m c) (m ((c : Thread nD τ).loc main_arg10)) := by
  rw [show W5 m ρ c (Proc.devRef .tc main_v89) = (dat1 (V4 m ρ) c).arrAt 2 cfg1.N from W5_arr m ρ c 2, region1,
    (entry1 m ρ c).1, (entry1 m ρ c).2]

theorem silu (c : Dev nD) : W5 m ρ c (Proc.devRef .tc main_v87)
    = mulf (F := Ideal) (φ := .f32) (W2 m ρ c (Proc.devRef .tc main_v86)) (Host.divf (broadcastInDim S16x2048x1024 ![] bcast_S_S16x2048x1024 (constant (F := Ideal) S_ .f32 0x3F800000#32))
    (addf (broadcastInDim S16x2048x1024 ![] bcast_S_S16x2048x1024 (constant (F := Ideal) S_ .f32 0x3F800000#32)) (Host.exp (Host.negf (W2 m ρ c (Proc.devRef .tc main_v86)))))) := by
  rw [W5_of_ne m ρ c main_v87 (by decide), W4_of m ρ c main_v87 (by decide)]
  show StableHlo.after hostOps1 _ _ = _
  simp only [hostOps1, StableHlo.TRef.binary, StableHlo.TRef.nullary, StableHlo.TRef.unary, StableHlo.TRef.toBuf, StableHlo.TRef.ofBuf, cast_eq]
  after_results

theorem entry2 (c : Dev nD) : V6 m ρ c main_v91 = hidden (wide (pickedAt m c) (m ((c : Thread nD τ).loc main_arg9))) (wide (pickedAt m c) (m ((c : Thread nD τ).loc main_arg10)))
    ∧ V6 m ρ c main_v92 = m ((c : Thread nD τ).loc main_arg11) := by
  constructor
  · show StableHlo.after hostOps2 _ _ = _
    unfold hostOps2
    after_results
    rw [silu, up, gate]
    rfl
  · show StableHlo.after hostOps2 _ _ = _
    unfold hostOps2
    after_results
    rw [W5_args m ρ c main_arg11 (by decide)]
    rfl

/-- The experts' outputs for their tokens. -/
def outputs (x : Vec Ideal S16x2048x2048 .f32) (wg wu : Vec Ideal S16x2048x1024 .f32) (wd : Vec Ideal S16x1024x2048 .f32) : Vec Ideal S16x2048x2048 .f32 :=
  narrow (hidden (wide x wg) (wide x wu)) wd

theorem down (c : Dev nD) : W7 m ρ c (Proc.devRef .tc main_v93) = outputs (pickedAt m c) (m ((c : Thread nD τ).loc main_arg9)) (m ((c : Thread nD τ).loc main_arg10)) (m ((c : Thread nD τ).loc main_arg11)) := by
  rw [show W7 m ρ c (Proc.devRef .tc main_v93) = (dat2 (V6 m ρ) c).arrAt 2 cfg2.N from W7_arr m ρ c 2, region2,
    (entry2 m ρ c).1, (entry2 m ρ c).2]
  rfl

/-- What no region and no line between them writes. -/
theorem kept (c : Dev nD) : W7 m ρ c (Proc.devRef .tc main_v35) = W1 m ρ c (Proc.devRef .tc main_v35)
    ∧ W7 m ρ c (Proc.devRef .tc main_v3) = W1 m ρ c (Proc.devRef .tc main_v3)
    ∧ W7 m ρ c (Proc.devRef .tc main_values) = W1 m ρ c (Proc.devRef .tc main_values)
    ∧ W7 m ρ c (Proc.devRef .tc main_indices) = W1 m ρ c (Proc.devRef .tc main_indices) := by
  have h (r : Ref sig .tc) (h0 : ∀ w, Pipeline.arrRef spec0 w ≠ r) (h1 : r ∉ hostOps1_W) (h2 : r ∉ hostOps1_1_W)
      (h3 : ∀ w, Pipeline.arrRef spec1 w ≠ r) (h4 : r ∉ hostOps2_W) (h5 : ∀ w, Pipeline.arrRef spec2 w ≠ r) :
      W7 m ρ c (Proc.devRef .tc r) = W1 m ρ c (Proc.devRef .tc r) := by
    rw [W7_of_ne m ρ c r h5, W6_of m ρ c r h4, W5_of_ne m ρ c r h3, W4_of m ρ c r h2, W3_of m ρ c r h1, W2_of_ne m ρ c r h0]
  exact ⟨h _ (by decide) (by decide) (by decide) (by decide) (by decide) (by decide), h _ (by decide) (by decide) (by decide) (by decide) (by decide) (by decide),
    h _ (by decide) (by decide) (by decide) (by decide) (by decide) (by decide), h _ (by decide) (by decide) (by decide) (by decide) (by decide) (by decide)⟩

/-- The layer's second half on the stream `s` after the first sub-layer. -/
def secondHalf (s : Vec Ideal S8x2048x2048 .f32) (mod : Vec Ideal S8x1x12288 .f32) (g b : Vec Ideal S2048 .f32) (wr : Vec Ideal S2048x16 .f32)
    (br : Vec Ideal S16 .f32) (wg wu : Vec Ideal S16x2048x1024 .f32) (wd : Vec Ideal S16x1024x2048 .f32) : Vec Ideal S8x2048x2048 .f32 :=
  affine (residual s (unflat (scattered (weighted (outputs (gathered (input s mod) (picks (routing (input s mod) wr br))) wg wu wd)
    (greatest (routing (input s mod) wr br))) (picks (routing (input s mod) wr br)))) (gate2 mod)) g b

/-- The layer's output as a function of the arguments. -/
def value (x : Vec Ideal S8x2048x2048 .f32) (y : Vec Ideal S16384x2048 .f32) (mod : Vec Ideal S8x1x12288 .f32) (g1 b1 g2 b2 : Vec Ideal S2048 .f32)
    (wr : Vec Ideal S2048x16 .f32) (br : Vec Ideal S16 .f32) (wg wu : Vec Ideal S16x2048x1024 .f32) (wd : Vec Ideal S16x1024x2048 .f32) : Vec Ideal S8x2048x2048 .f32 :=
  secondHalf (stream x y mod g1 b1) mod g2 b2 wr br wg wu wd

theorem result (c : Dev nD) : W8 m ρ c (Proc.devRef .tc main_v138)
    = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  obtain ⟨k35, k3, kv, ki⟩ := kept m ρ c
  obtain ⟨b35, b3, bv, bi, -, -⟩ := before (W0 m ρ c)
  show StableHlo.after hostOps3 (W7 m ρ c) (Proc.devRef .tc main_v138) = _
  rw [Cert.SampleResidual.after, k35, k3, kv, ki, down, W7_args m ρ c main_arg5 (by decide), W7_args m ρ c main_arg6 (by decide),
    show W1 m ρ c (Proc.devRef .tc main_v35) = _ from b35, show W1 m ρ c (Proc.devRef .tc main_v3) = _ from b3,
    show W1 m ρ c (Proc.devRef .tc main_values) = _ from bv, show W1 m ρ c (Proc.devRef .tc main_indices) = _ from bi]
  rfl

/-! ## The run -/

/-- The run with the result named. -/
theorem run : θ_run defs (onTc (τ := τ) (main (F := Ideal))) ⟨m, fun _ => 0, ρ⟩ (fun r => ∀ c : Dev nD,
      r.2.mem ((c : Thread nD τ).loc main_v138)
        = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)) :=
  (θ_run defs _ _).mono (fun _ h c => ⟨(h.1 c _ (mem_uc main_v138 (by decide))).trans (result m ρ c),
    (h.1 c _ (mem_uc main_arg0 (by decide))).trans (W8_main_arg0 m ρ c),
    (h.1 c _ (mem_uc main_arg1 (by decide))).trans (W8_main_arg1 m ρ c),
    (h.1 c _ (mem_uc main_arg2 (by decide))).trans (W8_main_arg2 m ρ c),
    (h.1 c _ (mem_uc main_arg3 (by decide))).trans (W8_main_arg3 m ρ c),
    (h.1 c _ (mem_uc main_arg4 (by decide))).trans (W8_main_arg4 m ρ c),
    (h.1 c _ (mem_uc main_arg5 (by decide))).trans (W8_main_arg5 m ρ c),
    (h.1 c _ (mem_uc main_arg6 (by decide))).trans (W8_main_arg6 m ρ c),
    (h.1 c _ (mem_uc main_arg7 (by decide))).trans (W8_main_arg7 m ρ c),
    (h.1 c _ (mem_uc main_arg8 (by decide))).trans (W8_main_arg8 m ρ c),
    (h.1 c _ (mem_uc main_arg9 (by decide))).trans (W8_main_arg9 m ρ c),
    (h.1 c _ (mem_uc main_arg10 (by decide))).trans (W8_main_arg10 m ρ c),
    (h.1 c _ (mem_uc main_arg11 (by decide))).trans (W8_main_arg11 m ρ c)⟩) (Cert.SampleExpertsRun.run_all m ρ)

/-! ## The reference -/

theorem wide_reference (x : Vec Ideal S16x2048x2048 .f32) (w : Vec Ideal S16x2048x1024 .f32) :
    Host.dotGeneral (F := Ideal) (φ₁ := .f32) (φ₂ := .f32) Cert.Reference5Ideal.dot_S16x2048x2048_S16x2048x1024_S16x2048x1024_2_1_1_2_0_0 none x w = wide x w := by
  funext i
  unfold wide
  pointwise

theorem narrow_reference (x : Vec Ideal S16x2048x1024 .f32) (w : Vec Ideal S16x1024x2048 .f32) :
    Host.dotGeneral (F := Ideal) (φ₁ := .f32) (φ₂ := .f32) Cert.Reference5Ideal.dot_S16x2048x1024_S16x1024x2048_S16x2048x2048_2_1_1_2_0_0 none x w = narrow x w := by
  funext i
  unfold narrow
  pointwise

variable (V : Valuation Cert.Reference5Ideal.τ Cert.Reference5Ideal.sig (Elt Ideal))

/-- The reference's stages are the same lines. -/
theorem reference_stream : Cert.Reference5Ideal.Value.res_main_v37 V = stream (V (Proc.devRef .tc Cert.Reference5Ideal.main_arg0)) (V (Proc.devRef .tc Cert.Reference5Ideal.main_arg1)) (V (Proc.devRef .tc Cert.Reference5Ideal.main_arg2)) (V (Proc.devRef .tc Cert.Reference5Ideal.main_arg3)) (V (Proc.devRef .tc Cert.Reference5Ideal.main_arg4)) := by
  have h : Cert.Reference5Ideal.Value.res_main_v13 V = residual (V (Proc.devRef .tc Cert.Reference5Ideal.main_arg0)) (unflat (V (Proc.devRef .tc Cert.Reference5Ideal.main_arg1))) (gate1 (V (Proc.devRef .tc Cert.Reference5Ideal.main_arg2))) := rfl
  unfold Cert.Reference5Ideal.Value.res_main_v37 Cert.Reference5Ideal.Value.res_main_v19 Cert.Reference5Ideal.Value.res_main_v17
  rw [h]
  rfl

theorem reference_input : Cert.Reference5Ideal.Value.res_main_v62 V = input (Cert.Reference5Ideal.Value.res_main_v37 V) (V (Proc.devRef .tc Cert.Reference5Ideal.main_arg2)) := by
  unfold Cert.Reference5Ideal.Value.res_main_v62 Cert.Reference5Ideal.Value.res_main_v43 Cert.Reference5Ideal.Value.res_main_v41
  rfl

theorem reference_routing : Cert.Reference5Ideal.Value.res_main_v78 V = routing (Cert.Reference5Ideal.Value.res_main_v62 V) (V (Proc.devRef .tc Cert.Reference5Ideal.main_arg7)) (V (Proc.devRef .tc Cert.Reference5Ideal.main_arg8)) := by
  unfold Cert.Reference5Ideal.Value.res_main_v78 Cert.Reference5Ideal.Value.res_main_v73 Cert.Reference5Ideal.Value.res_main_v66
  rfl

theorem reference_picked : Cert.Reference5Ideal.Value.res_main_v85 V = gathered (Cert.Reference5Ideal.Value.res_main_v62 V) (picks (Cert.Reference5Ideal.Value.res_main_v78 V)) := by
  unfold Cert.Reference5Ideal.Value.res_main_v85 Cert.Reference5Ideal.Value.res_main_indices
  rfl

theorem reference_sum : Cert.Reference5Ideal.Value.res_main_v111 V
    = residual (Cert.Reference5Ideal.Value.res_main_v37 V) (unflat (scattered (weighted (outputs (Cert.Reference5Ideal.Value.res_main_v85 V) (V (Proc.devRef .tc Cert.Reference5Ideal.main_arg9)) (V (Proc.devRef .tc Cert.Reference5Ideal.main_arg10)) (V (Proc.devRef .tc Cert.Reference5Ideal.main_arg11))) (greatest (Cert.Reference5Ideal.Value.res_main_v78 V))) (picks (Cert.Reference5Ideal.Value.res_main_v78 V)))) (gate2 (V (Proc.devRef .tc Cert.Reference5Ideal.main_arg2))) := by
  unfold Cert.Reference5Ideal.Value.res_main_v111 Cert.Reference5Ideal.Value.res_main_v95 Cert.Reference5Ideal.Value.res_main_v86 Cert.Reference5Ideal.Value.res_main_indices
  rw [wide_reference, wide_reference, narrow_reference]
  rfl

/-- So the last normalization of the reference's sum is the layer's output. -/
theorem reference_value : affine (Cert.Reference5Ideal.Value.res_main_v111 V) (V (Proc.devRef .tc Cert.Reference5Ideal.main_arg5)) (V (Proc.devRef .tc Cert.Reference5Ideal.main_arg6)) = value (V (Proc.devRef .tc Cert.Reference5Ideal.main_arg0)) (V (Proc.devRef .tc Cert.Reference5Ideal.main_arg1)) (V (Proc.devRef .tc Cert.Reference5Ideal.main_arg2)) (V (Proc.devRef .tc Cert.Reference5Ideal.main_arg3)) (V (Proc.devRef .tc Cert.Reference5Ideal.main_arg4)) (V (Proc.devRef .tc Cert.Reference5Ideal.main_arg5)) (V (Proc.devRef .tc Cert.Reference5Ideal.main_arg6)) (V (Proc.devRef .tc Cert.Reference5Ideal.main_arg7)) (V (Proc.devRef .tc Cert.Reference5Ideal.main_arg8)) (V (Proc.devRef .tc Cert.Reference5Ideal.main_arg9)) (V (Proc.devRef .tc Cert.Reference5Ideal.main_arg10)) (V (Proc.devRef .tc Cert.Reference5Ideal.main_arg11)) := by
  rw [reference_sum, reference_picked, reference_routing, reference_input, reference_stream]
  rfl

end Cert.SampleExperts

end
-- ==== Proof.MergeRun.lean ====
/- The launch of `Kernel4Ideal`, its four regions among the host operations: every execution ends with every buffer at the
   contents of the last boundary (`W8`), at any float values. The generated frame keeps of this only the arguments. -/
module

public import proofs.«01_k».proof.Proof.Gen.Kernel4Ideal.Frame

@[expose] public section

noncomputable section

namespace Cert.MergeRun

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The resources the launch runs over. -/
abbrev Res (F : FTy → Type) [FloatOps F] := MT nD τ sig Unit (Elt F) ℕ (UR sig nD τ) ℕ

set_option backward.isDefEq.respectTransparency.types false in
/-- Every weakly fair execution ends with every buffer at the last boundary's contents and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W8 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (Res F))
            ⊢ BI.own (emb₁ (initOf (Pipeline.cells cfgs cellOf_inj) (Pipeline.launchToks cfgs cellOf_inj))) from .rfl)
        iexact Hu
      iapply (show (BI.emp : sProp (Res F)) ⊢ bigSep Finset.univ (fun _ : Dev nD => (BI.emp : sProp (Res F))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

end Cert.MergeRun

end
-- ==== Proof.Merge.lean ====
/- The gated merge and the output projection: `Kernel4Ideal` multiplies each branch by its weights, gates the three
   products, adds them and multiplies the sum by the output weights. Each product is done block by block over the whole
   inner axis, so it is the plain product, and the program's result is `Reference4Ideal`'s. -/
module

public import proofs.«01_k».proof.Proof.MergeRun
public import proofs.«01_k».proof.Proof.Gen.Reference4Ideal.Run
public import Idealize.ShloMosaic.Lib.Pipeline.ValueKit
public import Idealize.ShloMosaic.Lib.Pointwise
public import Idealize.ShloMosaic.Lib.ValueIdx
public import Idealize.ShloMosaic.PureOps.Ideal.Laws

@[expose] public section

noncomputable section

namespace Cert.Merge

open Cert.Kernel4Ideal Cert.Kernel4Ideal.Gen Idealize.ShloMosaic Idealize.ShloMosaic.TcCoe Idealize.SL.Sem
open Idealize.ShloMosaic.Pipeline (Dat)

/-! ## The products and the gates -/

/-- A branch's tokens by its weights. -/
def branch (x : Vec Ideal S20480x1024 .f32) (w : Vec Ideal S1024x2048 .f32) : Vec Ideal S20480x2048 .f32 :=
  fun i => ∑ k : Fin 1024, x (ix2 (i 0) k) * w (ix2 k (i 1))

/-- The merged tokens by the output weights. -/
def outer (x : Vec Ideal S20480x2048 .f32) (w : Vec Ideal S2048x2048 .f32) : Vec Ideal S20480x2048 .f32 :=
  fun i => ∑ k : Fin 2048, x (ix2 (i 0) k) * w (ix2 k (i 1))

/-- The logistic function of a gate, as both programs spell it. -/
def gate (g : Vec Ideal S20480x2048 .f32) : Vec Ideal S20480x2048 .f32 :=
  Host.divf (F := Ideal) (φ := .f32) (broadcastInDim S20480x2048 ![] bcast_S_S20480x2048 (constant (F := Ideal) S_ .f32 0x3F800000#32))
    (addf (broadcastInDim S20480x2048 ![] bcast_S_S20480x2048 (constant (F := Ideal) S_ .f32 0x3F800000#32)) (Host.exp (Host.negf g)))

theorem pay0_apply (x : Vec Ideal S1024x1024 .bf16) (w : Vec Ideal S1024x512 .bf16) (y : S1024x512.Idx) :
    k0_pay1 (F := Ideal) x w y = ∑ k : Fin 1024, x (ix2 (y 0) k) * w (ix2 k (y 1)) := by
  unfold k0_pay1
  pointwise

theorem pay1_apply (x : Vec Ideal S1024x1024 .bf16) (w : Vec Ideal S1024x512 .bf16) (y : S1024x512.Idx) :
    k1_pay1 (F := Ideal) x w y = ∑ k : Fin 1024, x (ix2 (y 0) k) * w (ix2 k (y 1)) := by
  unfold k1_pay1
  pointwise

theorem pay2_apply (x : Vec Ideal S1024x1024 .bf16) (w : Vec Ideal S1024x512 .bf16) (y : S1024x512.Idx) :
    k2_pay1 (F := Ideal) x w y = ∑ k : Fin 1024, x (ix2 (y 0) k) * w (ix2 k (y 1)) := by
  unfold k2_pay1
  pointwise

theorem pay3_apply (x : Vec Ideal S1024x2048 .bf16) (w : Vec Ideal S2048x512 .bf16) (y : S1024x512.Idx) :
    k3_pay1 (F := Ideal) x w y = ∑ k : Fin 2048, x (ix2 (y 0) k) * w (ix2 k (y 1)) := by
  unfold k3_pay1
  pointwise

/-! ## Which block each window is on at a point: the rows advance every four points, the columns at every point -/

theorem index0 (t : Fin grid0.N) : win0_0.index t = ![t.val / 4, 0] ∧ win0_1.index t = ![0, t.val % 4]
    ∧ win0_2.index t = ![t.val / 4, t.val % 4] := by revert t; decide +kernel
theorem index1 (t : Fin grid1.N) : win1_0.index t = ![t.val / 4, 0] ∧ win1_1.index t = ![0, t.val % 4]
    ∧ win1_2.index t = ![t.val / 4, t.val % 4] := by revert t; decide +kernel
theorem index2 (t : Fin grid2.N) : win2_0.index t = ![t.val / 4, 0] ∧ win2_1.index t = ![0, t.val % 4]
    ∧ win2_2.index t = ![t.val / 4, t.val % 4] := by revert t; decide +kernel
theorem index3 (t : Fin grid3.N) : win3_0.index t = ![t.val / 4, 0] ∧ win3_1.index t = ![0, t.val % 4]
    ∧ win3_2.index t = ![t.val / 4, t.val % 4] := by revert t; decide +kernel

/-! ## What each region leaves in its output array, from any contents `V` at its entry -/

variable (V : (c : Dev nD) → (b : Ref sig .tc) → Buf (Elt Ideal) ((c : Thread nD τ).loc b))

theorem region0 (c : Dev nD) : (dat0 V c).arrAt 2 cfg0.N = branch (V c main_v6) (V c main_v7) := by
  refine (dat0 V c).arrAt_eq_of_covers 2 _ (by decide +kernel) fun t hf y => ?_
  blk_simp
  rw [after0_2]
  frame_out
  rw [pay0_apply]
  unfold branch iblk0
  show @Eq (Ideal .f32) _ _
  refine Finset.sum_congr rfl fun k _ => ?_
  congr 1 <;> blk_ext [(index0 t).1, (index0 t).2.1, (index0 t).2.2]

theorem region1 (c : Dev nD) : (dat1 V c).arrAt 2 cfg1.N = branch (V c main_v16) (V c main_v17) := by
  refine (dat1 V c).arrAt_eq_of_covers 2 _ (by decide +kernel) fun t hf y => ?_
  blk_simp
  rw [after1_2]
  frame_out
  rw [pay1_apply]
  unfold branch iblk1
  show @Eq (Ideal .f32) _ _
  refine Finset.sum_congr rfl fun k _ => ?_
  congr 1 <;> blk_ext [(index1 t).1, (index1 t).2.1, (index1 t).2.2]

theorem region2 (c : Dev nD) : (dat2 V c).arrAt 2 cfg2.N = branch (V c main_v27) (V c main_v28) := by
  refine (dat2 V c).arrAt_eq_of_covers 2 _ (by decide +kernel) fun t hf y => ?_
  blk_simp
  rw [after2_2]
  frame_out
  rw [pay2_apply]
  unfold branch iblk2
  show @Eq (Ideal .f32) _ _
  refine Finset.sum_congr rfl fun k _ => ?_
  congr 1 <;> blk_ext [(index2 t).1, (index2 t).2.1, (index2 t).2.2]

theorem region3 (c : Dev nD) : (dat3 V c).arrAt 2 cfg3.N = outer (V c main_v32) (V c main_v33) := by
  refine (dat3 V c).arrAt_eq_of_covers 2 _ (by decide +kernel) fun t hf y => ?_
  blk_simp
  rw [after3_2]
  frame_out
  rw [pay3_apply]
  unfold outer iblk3
  show @Eq (Ideal .f32) _ _
  refine Finset.sum_congr rfl fun k _ => ?_
  congr 1 <;> blk_ext [(index3 t).1, (index3 t).2.1, (index3 t).2.2]

/-! ## The contents between the regions -/

variable (m : (ℓ : Loc nD τ sig) → Buf (Elt Ideal) ℓ) (ρ : Dev nD → PrngReg)

theorem entry0 (c : Dev nD) :
    V1 m ρ c main_v6 = m ((c : Thread nD τ).loc main_arg3)
    ∧ V1 m ρ c main_v7 = m ((c : Thread nD τ).loc main_arg6)
    ∧ V1 m ρ c main_v5 = gate (m ((c : Thread nD τ).loc main_arg0)) := by
  refine ⟨?_, ?_, ?_⟩
  · show StableHlo.after hostOps0 _ _ = _
    unfold hostOps0
    after_results
    rfl
  · show StableHlo.after hostOps0 _ _ = _
    unfold hostOps0
    after_results
    rfl
  · show StableHlo.after hostOps0 _ _ = _
    unfold hostOps0
    after_results
    rfl

theorem after0_branch (c : Dev nD) : W2 m ρ c (Proc.devRef .tc main_v8) = branch (m ((c : Thread nD τ).loc main_arg3)) (m ((c : Thread nD τ).loc main_arg6)) := by
  rw [show W2 m ρ c (Proc.devRef .tc main_v8) = (dat0 (V1 m ρ) c).arrAt 2 cfg0.N from W2_arr m ρ c 2, region0,
    (entry0 m ρ c).1, (entry0 m ρ c).2.1]

theorem after0_gate (c : Dev nD) : W2 m ρ c (Proc.devRef .tc main_v5) = gate (m ((c : Thread nD τ).loc main_arg0)) :=
  (W2_of_ne m ρ c main_v5 (by decide)).trans (entry0 m ρ c).2.2

theorem entry1 (c : Dev nD) :
    V3 m ρ c main_v16 = m ((c : Thread nD τ).loc main_arg4)
    ∧ V3 m ρ c main_v17 = m ((c : Thread nD τ).loc main_arg7)
    ∧ V3 m ρ c main_v15 = gate (m ((c : Thread nD τ).loc main_arg1))
    ∧ V3 m ρ c main_v9 = mulf (F := Ideal) (φ := .f32) (gate (m ((c : Thread nD τ).loc main_arg0))) (branch (m ((c : Thread nD τ).loc main_arg3)) (m ((c : Thread nD τ).loc main_arg6))) := by
  refine ⟨?_, ?_, ?_, ?_⟩
  · show StableHlo.after hostOps1 _ _ = _
    unfold hostOps1
    after_results
    rw [W2_args m ρ c main_arg4 (by decide)]
    rfl
  · show StableHlo.after hostOps1 _ _ = _
    unfold hostOps1
    after_results
    rw [W2_args m ρ c main_arg7 (by decide)]
    rfl
  · show StableHlo.after hostOps1 _ _ = _
    unfold hostOps1
    after_results
    rw [W2_args m ρ c main_arg1 (by decide)]
    rfl
  · show StableHlo.after hostOps1 _ _ = _
    unfold hostOps1
    after_results
    rw [after0_gate m ρ c, after0_branch m ρ c]

theorem after1_branch (c : Dev nD) : W4 m ρ c (Proc.devRef .tc main_v18) = branch (m ((c : Thread nD τ).loc main_arg4)) (m ((c : Thread nD τ).loc main_arg7)) := by
  rw [show W4 m ρ c (Proc.devRef .tc main_v18) = (dat1 (V3 m ρ) c).arrAt 2 cfg1.N from W4_arr m ρ c 2, region1,
    (entry1 m ρ c).1, (entry1 m ρ c).2.1]

theorem after1_gate (c : Dev nD) : W4 m ρ c (Proc.devRef .tc main_v15) = gate (m ((c : Thread nD τ).loc main_arg1)) :=
  (W4_of_ne m ρ c main_v15 (by decide)).trans (entry1 m ρ c).2.2.1

theorem after1_sum (c : Dev nD) : W4 m ρ c (Proc.devRef .tc main_v9) = mulf (F := Ideal) (φ := .f32) (gate (m ((c : Thread nD τ).loc main_arg0))) (branch (m ((c : Thread nD τ).loc main_arg3)) (m ((c : Thread nD τ).loc main_arg6))) :=
  (W4_of_ne m ρ c main_v9 (by decide)).trans (entry1 m ρ c).2.2.2

theorem entry2 (c : Dev nD) :
    V5 m ρ c main_v27 = m ((c : Thread nD τ).loc main_arg5)
    ∧ V5 m ρ c main_v28 = m ((c : Thread nD τ).loc main_arg8)
    ∧ V5 m ρ c main_v26 = gate (m ((c : Thread nD τ).loc main_arg2))
    ∧ V5 m ρ c main_v20 = addf (F := Ideal) (φ := .f32) (mulf (gate (m ((c : Thread nD τ).loc main_arg0))) (branch (m ((c : Thread nD τ).loc main_arg3)) (m ((c : Thread nD τ).loc main_arg6)))) (mulf (gate (m ((c : Thread nD τ).loc main_arg1))) (branch (m ((c : Thread nD τ).loc main_arg4)) (m ((c : Thread nD τ).loc main_arg7)))) := by
  refine ⟨?_, ?_, ?_, ?_⟩
  · show StableHlo.after hostOps2 _ _ = _
    unfold hostOps2
    after_results
    rw [W4_args m ρ c main_arg5 (by decide)]
    rfl
  · show StableHlo.after hostOps2 _ _ = _
    unfold hostOps2
    after_results
    rw [W4_args m ρ c main_arg8 (by decide)]
    rfl
  · show StableHlo.after hostOps2 _ _ = _
    unfold hostOps2
    after_results
    rw [W4_args m ρ c main_arg2 (by decide)]
    rfl
  · show StableHlo.after hostOps2 _ _ = _
    unfold hostOps2
    after_results
    rw [after1_gate m ρ c, after1_branch m ρ c, after1_sum m ρ c]

theorem after2_branch (c : Dev nD) : W6 m ρ c (Proc.devRef .tc main_v29) = branch (m ((c : Thread nD τ).loc main_arg5)) (m ((c : Thread nD τ).loc main_arg8)) := by
  rw [show W6 m ρ c (Proc.devRef .tc main_v29) = (dat2 (V5 m ρ) c).arrAt 2 cfg2.N from W6_arr m ρ c 2, region2,
    (entry2 m ρ c).1, (entry2 m ρ c).2.1]

theorem after2_gate (c : Dev nD) : W6 m ρ c (Proc.devRef .tc main_v26) = gate (m ((c : Thread nD τ).loc main_arg2)) :=
  (W6_of_ne m ρ c main_v26 (by decide)).trans (entry2 m ρ c).2.2.1

theorem after2_sum (c : Dev nD) : W6 m ρ c (Proc.devRef .tc main_v20)
    = addf (F := Ideal) (φ := .f32) (mulf (gate (m ((c : Thread nD τ).loc main_arg0))) (branch (m ((c : Thread nD τ).loc main_arg3)) (m ((c : Thread nD τ).loc main_arg6)))) (mulf (gate (m ((c : Thread nD τ).loc main_arg1))) (branch (m ((c : Thread nD τ).loc main_arg4)) (m ((c : Thread nD τ).loc main_arg7)))) :=
  (W6_of_ne m ρ c main_v20 (by decide)).trans (entry2 m ρ c).2.2.2

theorem entry3 (c : Dev nD) :
    V7 m ρ c main_v32 = addf (F := Ideal) (φ := .f32) (addf (mulf (gate (m ((c : Thread nD τ).loc main_arg0))) (branch (m ((c : Thread nD τ).loc main_arg3)) (m ((c : Thread nD τ).loc main_arg6)))) (mulf (gate (m ((c : Thread nD τ).loc main_arg1))) (branch (m ((c : Thread nD τ).loc main_arg4)) (m ((c : Thread nD τ).loc main_arg7))))) (mulf (gate (m ((c : Thread nD τ).loc main_arg2))) (branch (m ((c : Thread nD τ).loc main_arg5)) (m ((c : Thread nD τ).loc main_arg8))))
    ∧ V7 m ρ c main_v33 = m ((c : Thread nD τ).loc main_arg9) := by
  refine ⟨?_, ?_⟩
  · show StableHlo.after hostOps3 _ _ = _
    unfold hostOps3
    after_results
    rw [after2_gate m ρ c, after2_branch m ρ c, after2_sum m ρ c]
    rfl
  · show StableHlo.after hostOps3 _ _ = _
    unfold hostOps3
    after_results
    rw [W6_args m ρ c main_arg9 (by decide)]
    rfl

/-- The merged and projected branches as a function of the arguments. -/
def value (g₁ g₂ g₃ : Vec Ideal S20480x2048 .f32) (y₁ y₂ y₃ : Vec Ideal S20480x1024 .f32) (w₁ w₂ w₃ : Vec Ideal S1024x2048 .f32)
    (w : Vec Ideal S2048x2048 .f32) : Vec Ideal S20480x2048 .f32 :=
  outer (addf (F := Ideal) (φ := .f32) (addf (mulf (gate g₁) (branch y₁ w₁)) (mulf (gate g₂) (branch y₂ w₂))) (mulf (gate g₃) (branch y₃ w₃))) w

theorem result (c : Dev nD) : W8 m ρ c (Proc.devRef .tc main_v34)
    = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [show W8 m ρ c (Proc.devRef .tc main_v34) = (dat3 (V7 m ρ) c).arrAt 2 cfg3.N from W8_arr m ρ c 2, region3,
    (entry3 m ρ c).1, (entry3 m ρ c).2]
  rfl

/-- The run with the result named. -/
theorem run : θ_run defs (onTc (τ := τ) (main (F := Ideal))) ⟨m, fun _ => 0, ρ⟩ (fun r => ∀ c : Dev nD,
      r.2.mem ((c : Thread nD τ).loc main_v34)
        = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)) :=
  (θ_run defs _ _).mono (fun _ h c => ⟨(h.1 c _ (mem_uc main_v34 (by decide))).trans (result m ρ c),
    (h.1 c _ (mem_uc main_arg0 (by decide))).trans (W8_main_arg0 m ρ c),
    (h.1 c _ (mem_uc main_arg1 (by decide))).trans (W8_main_arg1 m ρ c),
    (h.1 c _ (mem_uc main_arg2 (by decide))).trans (W8_main_arg2 m ρ c),
    (h.1 c _ (mem_uc main_arg3 (by decide))).trans (W8_main_arg3 m ρ c),
    (h.1 c _ (mem_uc main_arg4 (by decide))).trans (W8_main_arg4 m ρ c),
    (h.1 c _ (mem_uc main_arg5 (by decide))).trans (W8_main_arg5 m ρ c),
    (h.1 c _ (mem_uc main_arg6 (by decide))).trans (W8_main_arg6 m ρ c),
    (h.1 c _ (mem_uc main_arg7 (by decide))).trans (W8_main_arg7 m ρ c),
    (h.1 c _ (mem_uc main_arg8 (by decide))).trans (W8_main_arg8 m ρ c),
    (h.1 c _ (mem_uc main_arg9 (by decide))).trans (W8_main_arg9 m ρ c)⟩) (Cert.MergeRun.run_all m ρ)

/-! ## The reference -/

theorem branch_reference (x : Vec Ideal S20480x1024 .f32) (w : Vec Ideal S1024x2048 .f32) :
    Host.dotGeneral (F := Ideal) (φ₁ := .f32) (φ₂ := .f32) Cert.Reference4Ideal.dot_S20480x1024_S1024x2048_S20480x2048_1_0_0_1_n_n none x w = branch x w := by
  funext i
  unfold branch
  pointwise

theorem outer_reference (x : Vec Ideal S20480x2048 .f32) (w : Vec Ideal S2048x2048 .f32) :
    Host.dotGeneral (F := Ideal) (φ₁ := .f32) (φ₂ := .f32) Cert.Reference4Ideal.dot_S20480x2048_S2048x2048_S20480x2048_1_0_0_1_n_n none x w = outer x w := by
  funext i
  unfold outer
  pointwise

end Cert.Merge

end
-- ==== Proof.BranchRun.lean ====
/- The run of the mLSTM branch's kernel body: from its windows' blocks, and the scratch of the chunk outputs at any contents,
   what its stores leave in each output. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.Branch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces each output's staging buffer ends with (last store first), with the proof that the body runs from the inputs
    at their blocks and the scratch `arg15` at `f15` to a state that has them. -/
def bodyRun (c : Dev nD) (i : grid0.Coords) (arg2 : Memref sig .tc .vmem S256x128 .f32) (harg2 : arg2.IsWhole) (arg3 : Memref sig .tc .vmem S256x128 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x1x4x8x128 .f32) (harg6 : arg6.IsWhole) (arg7 : Memref sig .tc .vmem S1x2x1x128x256 .f32) (harg7 : arg7.IsWhole) (arg8 : Memref sig .tc .vmem S1x2x1x1x128 .f32) (harg8 : arg8.IsWhole) (arg9 : Memref sig .tc .vmem S1x2x1x1x128 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x2x1x128x256 .f32) (harg12 : arg12.IsWhole) (arg13 : Memref sig .tc .vmem S1x2x1x1x128 .f32) (harg13 : arg13.IsWhole) (arg14 : Memref sig .tc .vmem S1x2x1x1x128 .f32) (harg14 : arg14.IsWhole) (arg15 : Memref sig .tc .vmem S2x256x256 .f32) (harg15 : arg15.IsWhole) (arg16 : Memref sig .tc .vmem S2x128x256 .f32) (harg16 : arg16.IsWhole) (arg17 : Memref sig .tc .vmem S2x1x128 .f32) (harg17 : arg17.IsWhole) (arg18 : Memref sig .tc .vmem S2x1x128 .f32) (harg18 : arg18.IsWhole)
    (x0 : Vec F S256x128 .f32) (x1 : Vec F S256x128 .f32) (x2 : Vec F S256x256 .f32) (x3 : Vec F S256x256 .f32) (x4 : Vec F S1x1x4x8x128 .f32) (x5 : Vec F S1x2x1x128x256 .f32) (x6 : Vec F S1x2x1x1x128 .f32) (x7 : Vec F S1x2x1x1x128 .f32) (x8 : Vec F S1x256 .f32)
    (f15 : Buf (Elt F) (arg15.view.loc (c : Thread nD τ))) :
    Σ' (L9 : List (View.Piece (Elt F) S256x256 .f32)), Σ' (L10 : List (View.Piece (Elt F) S1x2x1x128x256 .f32)), Σ' (L11 : List (View.Piece (Elt F) S1x2x1x1x128 .f32)), { L12 : List (View.Piece (Elt F) S1x2x1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (arg15.view.loc (c : Thread nD τ) ↦[arg15.view.set]{fullShare} f15) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_mlstm_branch i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0_mlstm_branch_eq_skeleton]; unfold cc0_mlstm_branch_skel
    simp only [k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, HS0, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    isplitl [H11]; · iexists _; iexact H11
    isplitl [H12]; · iexists _; iexact H12
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Branch

end
-- ==== Proof.BranchTrip.lean ====
/- One trip of the mLSTM branch's loop over its four chunks, as a pure function: what the two directions' steps leave of the
   chunk outputs, the matrix state, the normaliser and the stabiliser they carry. -/
module

public import proofs.«01_k».proof.Proof.BranchRun
public import proofs.«01_k».proof.Proof.Gen.KernelIdeal.Skeleton
public import proofs.«01_k».proof.Proof.Gen.KernelIdeal.Loops
public import Idealize.ShloMosaic.Lib.VecWindow
public import Idealize.ShloMosaic.Lib.Pointwise

@[expose] public section

set_option maxRecDepth 16384

noncomputable section

namespace Cert.Branch

open Cert.KernelIdeal Cert.KernelIdeal.Gen
open Idealize.ShloMosaic Idealize.ShloMosaic.TcCoe Idealize.ShloMosaic.Tactic

variable {F : FTy → Type} [FloatOps F]

/-- The scratch the loop carries: the chunk outputs of the two directions, their matrix states, normalisers, stabilisers. -/
structure Held (F : FTy → Type) where
  H : Vec F S2x256x256 .f32
  C : Vec F S2x128x256 .f32
  N : Vec F S2x1x128 .f32
  M : Vec F S2x1x128 .f32

/-- Chunk `o`'s rows of the queries or keys. -/
def rowsQ (x : Vec F S256x128 .f32) (o : Fin 4) : Vec F S64x128 .f32 :=
  fun y => x (ix2 ⟨64 * o.val + (y 0).val, by have : (y 0).val < 64 := (y 0).isLt; omega⟩ (y 1))

/-- Chunk `o`'s rows of the values. -/
def rowsV (x : Vec F S256x256 .f32) (o : Fin 4) : Vec F S64x256 .f32 :=
  fun y => x (ix2 ⟨64 * o.val + (y 0).val, by have : (y 0).val < 64 := (y 0).isLt; omega⟩ (y 1))

/-- Chunk `o`'s rows of gates. -/
def gateAt (x : Vec F S1x1x4x8x128 .f32) (o : Fin 4) : Vec F S1x1x1x8x128 .f32 :=
  fun y => x (ix5 0 0 o (y 3) (y 4))

/-- Direction `d`'s half of the matrix states. -/
def halfC (x : Vec F S2x128x256 .f32) (d : Fin 2) : Vec F S1x128x256 .f32 := fun y => x (ix3 d (y 1) (y 2))

/-- Direction `d`'s half of the normalisers, or of the stabilisers. -/
def halfN (x : Vec F S2x1x128 .f32) (d : Fin 2) : Vec F S1x1x128 .f32 := fun y => x (ix3 d (y 1) (y 2))

/-- The forward direction's chunk output. -/
def fwdOut (q k : Vec F S64x128 .f32) (v : Vec F S64x256 .f32) (g : Vec F S1x1x1x8x128 .f32) (C : Vec F S1x128x256 .f32)
    (N M : Vec F S1x1x128 .f32) : FVec F S1x64x256 .f32 :=
  k0_pay30 q (k0_pay16 v (k0_pay12 k0_pay69 k0_pay70 g) (k0_pay13 q) (k0_pay14 k) (constant S64x64 .f32 0x00000000#32))
    (k0_pay17 (k0_pay12 k0_pay69 k0_pay70 g) (k0_pay13 q) (k0_pay14 k) (constant S64x64 .f32 0x00000000#32))
    (k0_pay22 N) (k0_pay25 (k0_pay8 k0_pay69 g) (k0_pay11 k0_pay69 k0_pay70 g) M)
    (k0_pay26 (k0_pay8 k0_pay69 g) (k0_pay11 k0_pay69 k0_pay70 g) M) (k0_pay27 (k0_pay8 k0_pay69 g) (k0_pay11 k0_pay69 k0_pay70 g) M)
    (k0_pay28 q (k0_pay8 k0_pay69 g) (k0_pay11 k0_pay69 k0_pay70 g) C M) (k0_pay29 (k0_pay8 k0_pay69 g) (k0_pay11 k0_pay69 k0_pay70 g) M)

/-- The forward direction's next matrix state. -/
def fwdC (k : Vec F S64x128 .f32) (v : Vec F S64x256 .f32) (g : Vec F S1x1x1x8x128 .f32) (C : Vec F S1x128x256 .f32)
    (M : Vec F S1x1x128 .f32) : FVec F S1x128x256 .f32 :=
  k0_pay34 (k0_pay6 g) (k0_pay7 g) (k0_pay19 (k0_pay2 k) v (k0_pay6 g) (k0_pay7 g) (k0_pay8 k0_pay69 g) (k0_pay9 k0_pay69 g))
    (k0_pay21 C) (k0_pay23 M)

/-- The forward direction's next normaliser. -/
def fwdN (k : Vec F S64x128 .f32) (g : Vec F S1x1x1x8x128 .f32) (N M : Vec F S1x1x128 .f32) : FVec F S1x1x128 .f32 :=
  k0_pay35 (k0_pay6 g) (k0_pay7 g) (k0_pay20 (k0_pay2 k) (k0_pay6 g) (k0_pay7 g) (k0_pay8 k0_pay69 g) (k0_pay9 k0_pay69 g))
    (k0_pay22 N) (k0_pay23 M)

/-- The forward direction's next stabiliser. -/
def fwdM (g : Vec F S1x1x1x8x128 .f32) (M : Vec F S1x1x128 .f32) : FVec F S1x1x128 .f32 :=
  k0_pay36 (k0_pay31 (k0_pay6 g) (k0_pay7 g) (k0_pay23 M))

/-- The backward direction's chunk output. -/
def bwdOut (q k : Vec F S64x128 .f32) (v : Vec F S64x256 .f32) (g : Vec F S1x1x1x8x128 .f32) (C : Vec F S1x128x256 .f32)
    (N M : Vec F S1x1x128 .f32) : FVec F S1x64x256 .f32 :=
  k0_pay63 q (k0_pay49 q (k0_pay37 k) v (k0_pay45 k0_pay69 k0_pay71 g) (k0_pay47 k0_pay69 k0_pay71 g))
    (k0_pay50 q (k0_pay37 k) (k0_pay45 k0_pay69 k0_pay71 g) (k0_pay47 k0_pay69 k0_pay71 g))
    (k0_pay55 N) (k0_pay58 (k0_pay43 k0_pay69 g) (k0_pay46 k0_pay69 k0_pay71 g) M)
    (k0_pay59 (k0_pay43 k0_pay69 g) (k0_pay46 k0_pay69 k0_pay71 g) M) (k0_pay60 (k0_pay43 k0_pay69 g) (k0_pay46 k0_pay69 k0_pay71 g) M)
    (k0_pay61 q) (k0_pay62 C)

/-- The backward direction's next matrix state. -/
def bwdC (k : Vec F S64x128 .f32) (v : Vec F S64x256 .f32) (g : Vec F S1x1x1x8x128 .f32) (C : Vec F S1x128x256 .f32)
    (M : Vec F S1x1x128 .f32) : FVec F S1x128x256 .f32 :=
  k0_pay67 (k0_pay41 g) (k0_pay42 g) (k0_pay52 (k0_pay37 k) v (k0_pay41 g) (k0_pay42 g) (k0_pay43 k0_pay69 g) (k0_pay44 k0_pay69 g))
    (k0_pay54 C) (k0_pay56 M)

/-- The backward direction's next normaliser. -/
def bwdN (k : Vec F S64x128 .f32) (g : Vec F S1x1x1x8x128 .f32) (N M : Vec F S1x1x128 .f32) : FVec F S1x1x128 .f32 :=
  k0_pay75 (k0_pay68 (k0_pay41 g) (k0_pay42 g) (k0_pay53 (k0_pay37 k) (k0_pay41 g) (k0_pay42 g) (k0_pay43 k0_pay69 g) (k0_pay44 k0_pay69 g))
    (k0_pay55 N) (k0_pay56 M))

/-- The backward direction's next stabiliser. -/
def bwdM (g : Vec F S1x1x1x8x128 .f32) (M : Vec F S1x1x128 .f32) : FVec F S1x1x128 .f32 :=
  k0_pay76 (k0_pay64 (k0_pay41 g) (k0_pay42 g) (k0_pay56 M))

/-- One trip: the forward direction takes chunk `a`, the backward direction chunk `b`. -/
def step (x0 x1 : Vec F S256x128 .f32) (x2 : Vec F S256x256 .f32) (x4 : Vec F S1x1x4x8x128 .f32) (a b : Fin 4) (s : Held F) : Held F where
  H := VecWindow.put (VecWindow.put s.H ![0, 64 * a.val, 0] ![1, 64, 256]
      (fwdOut (rowsQ x0 a) (rowsQ x1 a) (rowsV x2 a) (gateAt x4 a) (halfC s.C 0) (halfN s.N 0) (halfN s.M 0)))
    ![1, 64 * b.val, 0] ![1, 64, 256]
      (bwdOut (rowsQ x0 b) (rowsQ x1 b) (rowsV x2 b) (gateAt x4 b) (halfC s.C 1) (halfN s.N 1) (halfN s.M 1))
  C := VecWindow.put (VecWindow.put s.C ![0, 0, 0] ![1, 128, 256]
      (fwdC (rowsQ x1 a) (rowsV x2 a) (gateAt x4 a) (halfC s.C 0) (halfN s.M 0))) ![1, 0, 0] ![1, 128, 256]
      (bwdC (rowsQ x1 b) (rowsV x2 b) (gateAt x4 b) (halfC s.C 1) (halfN s.M 1))
  N := VecWindow.put (VecWindow.put s.N ![0, 0, 0] ![1, 1, 128]
      (fwdN (rowsQ x1 a) (gateAt x4 a) (halfN s.N 0) (halfN s.M 0))) ![1, 0, 0] ![1, 1, 128]
      (bwdN (rowsQ x1 b) (gateAt x4 b) (halfN s.N 1) (halfN s.M 1))
  M := VecWindow.put (VecWindow.put s.M ![0, 0, 0] ![1, 1, 128]
      (fwdM (gateAt x4 a) (halfN s.M 0))) ![1, 0, 0] ![1, 1, 128] (bwdM (gateAt x4 b) (halfN s.M 1))

/-- What the scratch holds after `n` trips. -/
def heldAt (x0 x1 : Vec F S256x128 .f32) (x2 : Vec F S256x256 .f32) (x4 : Vec F S1x1x4x8x128 .f32) (s : Held F) : ℕ → Held F
  | 0 => s
  | n + 1 => step x0 x1 x2 x4 ⟨n % 4, Nat.mod_lt _ (by decide)⟩ ⟨(3 - n) % 4, Nat.mod_lt _ (by decide)⟩ (heldAt x0 x1 x2 x4 s n)

section Reads

variable {sg : RefSig} {κ : Kind} {sp : Space}

theorem readAt_rowsQ (v : View sg κ sp S256x128 .f32) (f : v.ty.Contents (Elt F)) (off : Fin 2 → ℕ) (inb) (o : Fin 4)
    (h : off = ![64 * o.val, 0]) :
    v.readAt (Elt F) (Rect.unit (s := S256x128) off S64x128.size inb).toLoadRect f = rowsQ (v.read (Elt F) f) o := by
  subst h
  funext y
  exact congrArg (v.read (Elt F) f) (funext fun a => Fin.ext (by
    fin_cases a
    · show 64 * o.val + 1 * (y 0).val = 64 * o.val + (y 0).val; omega
    · show 0 + 1 * (y 1).val = (y 1).val; omega))

theorem readAt_rowsV (v : View sg κ sp S256x256 .f32) (f : v.ty.Contents (Elt F)) (off : Fin 2 → ℕ) (inb) (o : Fin 4)
    (h : off = ![64 * o.val, 0]) :
    v.readAt (Elt F) (Rect.unit (s := S256x256) off S64x256.size inb).toLoadRect f = rowsV (v.read (Elt F) f) o := by
  subst h
  funext y
  exact congrArg (v.read (Elt F) f) (funext fun a => Fin.ext (by
    fin_cases a
    · show 64 * o.val + 1 * (y 0).val = 64 * o.val + (y 0).val; omega
    · show 0 + 1 * (y 1).val = (y 1).val; omega))

theorem readAt_gateAt (v : View sg κ sp S1x1x4x8x128 .f32) (f : v.ty.Contents (Elt F)) (off : Fin 5 → ℕ) (inb) (o : Fin 4)
    (h : off = ![0, 0, o.val, 0, 0]) :
    v.readAt (Elt F) (Rect.unit (s := S1x1x4x8x128) off S1x1x1x8x128.size inb).toLoadRect f = gateAt (v.read (Elt F) f) o := by
  subst h
  funext y
  have h0 : (y 0).val < 1 := (y 0).isLt
  have h1 : (y 1).val < 1 := (y 1).isLt
  have h2 : (y 2).val < 1 := (y 2).isLt
  exact congrArg (v.read (Elt F) f) (funext fun a => Fin.ext (by
    fin_cases a
    · show 0 + 1 * (y 0).val = 0; omega
    · show 0 + 1 * (y 1).val = 0; omega
    · show o.val + 1 * (y 2).val = o.val; omega
    · show 0 + 1 * (y 3).val = (y 3).val; omega
    · show 0 + 1 * (y 4).val = (y 4).val; omega))

theorem readAt_halfC (v : View sg κ sp S2x128x256 .f32) (f : v.ty.Contents (Elt F)) (d : Fin 2) (off : Fin 3 → ℕ) (inb)
    (h : off = ![d.val, 0, 0]) :
    v.readAt (Elt F) (Rect.unit (s := S2x128x256) off S1x128x256.size inb).toLoadRect f = halfC (v.read (Elt F) f) d := by
  subst h
  funext y
  have h0 : (y 0).val < 1 := (y 0).isLt
  exact congrArg (v.read (Elt F) f) (funext fun a => Fin.ext (by
    fin_cases a
    · show d.val + 1 * (y 0).val = d.val; omega
    · show 0 + 1 * (y 1).val = (y 1).val; omega
    · show 0 + 1 * (y 2).val = (y 2).val; omega))

theorem readAt_halfN (v : View sg κ sp S2x1x128 .f32) (f : v.ty.Contents (Elt F)) (d : Fin 2) (off : Fin 3 → ℕ) (inb)
    (h : off = ![d.val, 0, 0]) :
    v.readAt (Elt F) (Rect.unit (s := S2x1x128) off S1x1x128.size inb).toLoadRect f = halfN (v.read (Elt F) f) d := by
  subst h
  funext y
  have h0 : (y 0).val < 1 := (y 0).isLt
  exact congrArg (v.read (Elt F) f) (funext fun a => Fin.ext (by
    fin_cases a
    · show d.val + 1 * (y 0).val = d.val; omega
    · show 0 + 1 * (y 1).val = (y 1).val; omega
    · show 0 + 1 * (y 2).val = (y 2).val; omega))

end Reads

section Trip

variable (c : Dev nD) (i : grid0.Coords)
  (arg2 : Memref sig .tc .vmem S256x128 .f32) (harg2 : arg2.IsWhole) (arg3 : Memref sig .tc .vmem S256x128 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x1x4x8x128 .f32) (harg6 : arg6.IsWhole) (arg7 : Memref sig .tc .vmem S1x2x1x128x256 .f32) (harg7 : arg7.IsWhole) (arg8 : Memref sig .tc .vmem S1x2x1x1x128 .f32) (harg8 : arg8.IsWhole) (arg9 : Memref sig .tc .vmem S1x2x1x1x128 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x2x1x128x256 .f32) (harg12 : arg12.IsWhole) (arg13 : Memref sig .tc .vmem S1x2x1x1x128 .f32) (harg13 : arg13.IsWhole) (arg14 : Memref sig .tc .vmem S1x2x1x1x128 .f32) (harg14 : arg14.IsWhole) (arg15 : Memref sig .tc .vmem S2x256x256 .f32) (harg15 : arg15.IsWhole) (arg16 : Memref sig .tc .vmem S2x128x256 .f32) (harg16 : arg16.IsWhole) (arg17 : Memref sig .tc .vmem S2x1x128 .f32) (harg17 : arg17.IsWhole) (arg18 : Memref sig .tc .vmem S2x1x128 .f32) (harg18 : arg18.IsWhole)
  (X2 : BufTy.Contents (Elt F) arg2.view.ty) (X3 : BufTy.Contents (Elt F) arg3.view.ty) (X4 : BufTy.Contents (Elt F) arg4.view.ty)
  (X6 : BufTy.Contents (Elt F) arg6.view.ty)

/-- What the four scratch buffers hold, read as vectors. -/
def heldOf (f15 : BufTy.Contents (Elt F) arg15.view.ty) (f16 : BufTy.Contents (Elt F) arg16.view.ty)
    (f17 : BufTy.Contents (Elt F) arg17.view.ty) (f18 : BufTy.Contents (Elt F) arg18.view.ty) : Held F :=
  ⟨arg15.view.read (Elt F) f15, arg16.view.read (Elt F) f16, arg17.view.read (Elt F) f17, arg18.view.read (Elt F) f18⟩

set_option maxHeartbeats 4000000 in
/-- A trip's stores take what the scratch holds to the pure step of it. -/
theorem heldOf_trip (k : Fin k0_t1_loop.trips) (a b : Fin 4) (ha : a.val = k.val) (hb : b.val = 3 - k.val)
    (f15 : BufTy.Contents (Elt F) arg15.view.ty) (f16 : BufTy.Contents (Elt F) arg16.view.ty)
    (f17 : BufTy.Contents (Elt F) arg17.view.ty) (f18 : BufTy.Contents (Elt F) arg18.view.ty) :
    heldOf arg15 arg16 arg17 arg18
        (arg15.view.writes (Elt F) f15 (tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X6 k f15 f16 f17 f18).1)
        (arg16.view.writes (Elt F) f16 (tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X6 k f15 f16 f17 f18).2.1)
        (arg17.view.writes (Elt F) f17 (tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X6 k f15 f16 f17 f18).2.2.1)
        (arg18.view.writes (Elt F) f18 (tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X6 k f15 f16 f17 f18).2.2.2)
      = step (arg2.view.read (Elt F) X2) (arg3.view.read (Elt F) X3) (arg4.view.read (Elt F) X4) (arg6.view.read (Elt F) X6) a b
          (heldOf arg15 arg16 arg17 arg18 f15 f16 f17 f18) := by
  have hk4 : k.val < 4 := k.isLt
  have o1 : k0_off1 k = ![64 * a.val, 0] := by rw [k0_off1_eq, ha]
  have o2 : k0_off2 k = ![64 * a.val, 0] := by rw [k0_off2_eq, ha]
  have o3 : k0_off3 k = ![0, 0, a.val, 0, 0] := by rw [k0_off3_eq, ha]
  have o4 : k0_off4 k = ![0, 64 * a.val, 0] := by rw [k0_off4_eq, ha]
  have e5 : 192 - 64 * k.val = 64 * b.val := by omega
  have o5 : k0_off5 k = ![64 * b.val, 0] := by rw [k0_off5_eq, e5]
  have o6 : k0_off6 k = ![64 * b.val, 0] := by rw [k0_off6_eq, e5]
  have o7 : k0_off7 k = ![0, 0, b.val, 0, 0] := by rw [k0_off7_eq, hb]
  have o8 : k0_off8 k = ![1, 64 * b.val, 0] := by rw [k0_off8_eq, e5]
  unfold tripL_k0_t1 trip_k0_t1
  dsimp only
  sl_unfold_words
  unfold heldOf step
  rw [← readAt_rowsQ arg2.view X2 (k0_off1 k) (k0_off1_inb k) a o1, ← readAt_rowsQ arg3.view X3 (k0_off1 k) (k0_off1_inb k) a o1,
    ← readAt_rowsV arg4.view X4 (k0_off2 k) (k0_off2_inb k) a o2, ← readAt_gateAt arg6.view X6 (k0_off3 k) (k0_off3_inb k) a o3,
    ← readAt_rowsQ arg2.view X2 (k0_off5 k) (k0_off5_inb k) b o5, ← readAt_rowsQ arg3.view X3 (k0_off5 k) (k0_off5_inb k) b o5,
    ← readAt_rowsV arg4.view X4 (k0_off6 k) (k0_off6_inb k) b o6, ← readAt_gateAt arg6.view X6 (k0_off7 k) (k0_off7_inb k) b o7,
    ← readAt_halfC arg16.view f16 0 ![0, 0, 0] inb_S2x128x256_S1x128x256_0_0_0 rfl,
    ← readAt_halfC arg16.view f16 1 ![1, 0, 0] inb_S2x128x256_S1x128x256_1_0_0 rfl,
    ← readAt_halfN arg17.view f17 0 ![0, 0, 0] inb_S2x1x128_S1x1x128_0_0_0 rfl,
    ← readAt_halfN arg17.view f17 1 ![1, 0, 0] inb_S2x1x128_S1x1x128_1_0_0 rfl,
    ← readAt_halfN arg18.view f18 0 ![0, 0, 0] inb_S2x1x128_S1x1x128_0_0_0 rfl,
    ← readAt_halfN arg18.view f18 1 ![1, 0, 0] inb_S2x1x128_S1x1x128_1_0_0 rfl]
  simp only [Held.mk.injEq]
  refine ⟨?_, ?_, ?_, ?_⟩
  · exact (View.read_writes_cons_put _ _ _ _ _ o8).trans
      (congrArg (fun z => VecWindow.put z _ _ _) (View.read_writes_cons_put _ _ _ _ _ o4))
  · exact (View.read_writes_cons_put _ _ _ _ _ rfl).trans
      (congrArg (fun z => VecWindow.put z _ _ _) (View.read_writes_cons_put _ _ _ _ _ rfl))
  · exact (View.read_writes_cons_put _ _ _ _ _ rfl).trans
      (congrArg (fun z => VecWindow.put z _ _ _) (View.read_writes_cons_put _ _ _ _ _ rfl))
  · exact (View.read_writes_cons_put _ _ _ _ _ rfl).trans
      (congrArg (fun z => VecWindow.put z _ _ _) (View.read_writes_cons_put _ _ _ _ _ rfl))

end Trip

end Cert.Branch
end
-- ==== Proof.BranchHeld.lean ====
/- What the mLSTM branch's body leaves in its outputs, as pure functions of its windows' blocks: the two directions' carried
   states chunk by chunk, and from them the gated and normalised output block and the three final states. -/
module

public import proofs.«01_k».proof.Proof.BranchTrip

@[expose] public section

set_option maxRecDepth 16384

noncomputable section

namespace Cert.Branch

open Cert.KernelIdeal Cert.KernelIdeal.Gen
open Idealize.ShloMosaic Idealize.ShloMosaic.TcCoe Idealize.ShloMosaic.Tactic

variable {F : FTy → Type} [FloatOps F]

/-- What one direction carries from chunk to chunk: matrix state, normaliser, stabiliser. -/
structure Carry (F : FTy → Type) where
  C : Vec F S1x128x256 .f32
  N : Vec F S1x1x128 .f32
  M : Vec F S1x1x128 .f32

section Pure

variable (x0 x1 : Vec F S256x128 .f32) (x2 : Vec F S256x256 .f32) (x4 : Vec F S1x1x4x8x128 .f32)

/-- The chunk the forward direction takes at trip `n`. -/
def fwdIx (n : ℕ) : Fin 4 := ⟨n % 4, Nat.mod_lt _ (by decide)⟩

/-- The chunk the backward direction takes at trip `n`. -/
def bwdIx (n : ℕ) : Fin 4 := ⟨(3 - n) % 4, Nat.mod_lt _ (by decide)⟩

/-- The forward direction's carry before trip `n`. -/
def fwdAt (s : Carry F) : ℕ → Carry F
  | 0 => s
  | n + 1 => ⟨fwdC (rowsQ x1 (fwdIx n)) (rowsV x2 (fwdIx n)) (gateAt x4 (fwdIx n)) (fwdAt s n).C (fwdAt s n).M,
      fwdN (rowsQ x1 (fwdIx n)) (gateAt x4 (fwdIx n)) (fwdAt s n).N (fwdAt s n).M, fwdM (gateAt x4 (fwdIx n)) (fwdAt s n).M⟩

/-- The backward direction's carry before trip `n`. -/
def bwdAt (s : Carry F) : ℕ → Carry F
  | 0 => s
  | n + 1 => ⟨bwdC (rowsQ x1 (bwdIx n)) (rowsV x2 (bwdIx n)) (gateAt x4 (bwdIx n)) (bwdAt s n).C (bwdAt s n).M,
      bwdN (rowsQ x1 (bwdIx n)) (gateAt x4 (bwdIx n)) (bwdAt s n).N (bwdAt s n).M, bwdM (gateAt x4 (bwdIx n)) (bwdAt s n).M⟩

/-- The forward direction's output of trip `n`. -/
def fwdH (s : Carry F) (n : ℕ) : FVec F S1x64x256 .f32 :=
  fwdOut (rowsQ x0 (fwdIx n)) (rowsQ x1 (fwdIx n)) (rowsV x2 (fwdIx n)) (gateAt x4 (fwdIx n)) (fwdAt x1 x2 x4 s n).C
    (fwdAt x1 x2 x4 s n).N (fwdAt x1 x2 x4 s n).M

/-- The backward direction's output of trip `n`. -/
def bwdH (s : Carry F) (n : ℕ) : FVec F S1x64x256 .f32 :=
  bwdOut (rowsQ x0 (bwdIx n)) (rowsQ x1 (bwdIx n)) (rowsV x2 (bwdIx n)) (gateAt x4 (bwdIx n)) (bwdAt x1 x2 x4 s n).C
    (bwdAt x1 x2 x4 s n).N (bwdAt x1 x2 x4 s n).M

/-- Direction `d`'s half of the scratch, as a carry. -/
def half (s : Held F) (d : Fin 2) : Carry F := ⟨halfC s.C d, halfN s.N d, halfN s.M d⟩

theorem put_half (b c : ℕ) {α : Type} (x : (⟨3, ![2, b, c]⟩ : Shape).Idx → α) (u w : (⟨3, ![1, b, c]⟩ : Shape).Idx → α) (d : Fin 2)
    (y : (⟨3, ![1, b, c]⟩ : Shape).Idx) :
    VecWindow.put (s := ⟨3, ![2, b, c]⟩) (VecWindow.put (s := ⟨3, ![2, b, c]⟩) x ![0, 0, 0] ![1, b, c] u) ![1, 0, 0] ![1, b, c] w
        (ix3 d (y 1) (y 2))
      = if d = 0 then u y else w y := by
  have h0 : (y 0).val < 1 := (y 0).isLt
  have h1 : (y 1).val < b := (y 1).isLt
  have h2 : (y 2).val < c := (y 2).isLt
  fin_cases d
  · unfold VecWindow.put
    rw [dif_neg (fun h => absurd (show (1 : ℕ) ≤ 0 from (h 0).1) (by decide)), dif_pos (fun a => by
      fin_cases a
      · exact ⟨Nat.le_refl 0, Nat.zero_lt_one⟩
      · exact ⟨Nat.zero_le _, by show (y 1).val < 0 + b; omega⟩
      · exact ⟨Nat.zero_le _, by show (y 2).val < 0 + c; omega⟩)]
    exact congrArg u (funext fun a => Fin.ext (by
      fin_cases a
      · show 0 - 0 = (y 0).val; omega
      · show (y 1).val - 0 = (y 1).val; omega
      · show (y 2).val - 0 = (y 2).val; omega))
  · unfold VecWindow.put
    rw [dif_pos (fun a => by
      fin_cases a
      · exact ⟨Nat.le_refl 1, Nat.lt_succ_self 1⟩
      · exact ⟨Nat.zero_le _, by show (y 1).val < 0 + b; omega⟩
      · exact ⟨Nat.zero_le _, by show (y 2).val < 0 + c; omega⟩)]
    exact congrArg w (funext fun a => Fin.ext (by
      fin_cases a
      · show 1 - 1 = (y 0).val; omega
      · show (y 1).val - 0 = (y 1).val; omega
      · show (y 2).val - 0 = (y 2).val; omega))

/-- The two halves step on their own. -/
theorem half_heldAt (s : Held F) (n : ℕ) :
    half (heldAt x0 x1 x2 x4 s n) 0 = fwdAt x1 x2 x4 (half s 0) n ∧ half (heldAt x0 x1 x2 x4 s n) 1 = bwdAt x1 x2 x4 (half s 1) n := by
  induction n with
  | zero => exact ⟨rfl, rfl⟩
  | succ n ih =>
    obtain ⟨e0, e1⟩ := ih
    constructor
    · unfold fwdAt
      rw [← e0]
      show Carry.mk (halfC (step x0 x1 x2 x4 _ _ (heldAt x0 x1 x2 x4 s n)).C 0) (halfN (step x0 x1 x2 x4 _ _ (heldAt x0 x1 x2 x4 s n)).N 0)
        (halfN (step x0 x1 x2 x4 _ _ (heldAt x0 x1 x2 x4 s n)).M 0) = _
      unfold step
      dsimp only
      exact congr (congr (congrArg Carry.mk (funext fun y => (put_half 128 256 _ _ _ 0 y).trans (if_pos rfl)))
        (funext fun y => (put_half 1 128 _ _ _ 0 y).trans (if_pos rfl))) (funext fun y => (put_half 1 128 _ _ _ 0 y).trans (if_pos rfl))
    · unfold bwdAt
      rw [← e1]
      show Carry.mk (halfC (step x0 x1 x2 x4 _ _ (heldAt x0 x1 x2 x4 s n)).C 1) (halfN (step x0 x1 x2 x4 _ _ (heldAt x0 x1 x2 x4 s n)).N 1)
        (halfN (step x0 x1 x2 x4 _ _ (heldAt x0 x1 x2 x4 s n)).M 1) = _
      unfold step
      dsimp only
      exact congr (congr (congrArg Carry.mk (funext fun y => (put_half 128 256 _ _ _ 1 y).trans (if_neg (by decide))))
        (funext fun y => (put_half 1 128 _ _ _ 1 y).trans (if_neg (by decide)))) (funext fun y => (put_half 1 128 _ _ _ 1 y).trans (if_neg (by decide)))

theorem put_hit {α : Type} (x : S2x256x256.Idx → α) (d : ℕ) (dd : Fin 2) (hd : dd.val = d) (o : ℕ) (w : S1x64x256.Idx → α) (R : Fin 256) (r : Fin 64)
    (e : Fin 256) (hr : R.val = o + r.val) :
    VecWindow.put (s := S2x256x256) x ![d, o, 0] ![1, 64, 256] w (ix3 dd R e) = w (ix3 0 r e) := by
  subst hd
  have hr' := r.isLt
  unfold VecWindow.put
  rw [dif_pos (fun a => by
    fin_cases a
    · exact ⟨Nat.le_refl _, Nat.lt_succ_self _⟩
    · exact ⟨by show o ≤ R.val; omega, by show R.val < o + 64; omega⟩
    · exact ⟨Nat.zero_le _, by show e.val < 0 + 256; omega⟩)]
  exact congrArg w (funext fun a => Fin.ext (by
    fin_cases a
    · show dd.val - dd.val = 0; omega
    · show R.val - o = r.val; omega
    · show e.val - 0 = e.val; omega))

theorem put_miss {α : Type} (x : S2x256x256.Idx → α) (d o : ℕ) (w : S1x64x256.Idx → α) (dd : Fin 2) (R : Fin 256)
    (e : Fin 256) (h : dd.val ≠ d ∨ R.val < o ∨ o + 64 ≤ R.val) :
    VecWindow.put (s := S2x256x256) x ![d, o, 0] ![1, 64, 256] w (ix3 dd R e) = x (ix3 dd R e) := by
  unfold VecWindow.put
  exact dif_neg fun hh => by
    have h0 := hh (0 : Fin 3)
    have h1 := hh (1 : Fin 3)
    have a0 : d ≤ dd.val ∧ dd.val < d + 1 := h0
    have a1 : o ≤ R.val ∧ R.val < o + 64 := h1
    omega

/-- Row `64 t + r` of the forward direction's outputs, once trip `t` is done. -/
theorem fwd_row (s : Held F) (t : ℕ) (ht : t < 4) (r : Fin 64) (e : Fin 256) (n : ℕ) (htn : t < n) (hn : n ≤ 4) :
    (heldAt x0 x1 x2 x4 s n).H (ix3 0 ⟨64 * t + r.val, by omega⟩ e) = fwdH x0 x1 x2 x4 (half s 0) t (ix3 0 r e) := by
  induction n with
  | zero => omega
  | succ n ih =>
    have e0 := (half_heldAt x0 x1 x2 x4 s n).1
    have hr := r.isLt
    have hmod : n % 4 = n := Nat.mod_eq_of_lt (by omega)
    unfold heldAt step
    dsimp only
    refine (put_miss _ 1 _ _ 0 _ e (Or.inl (by decide))).trans ?_
    by_cases htn' : t = n
    · subst htn'
      refine (put_hit _ 0 0 rfl _ _ _ r e (by show 64 * t + r.val = 64 * (t % 4) + r.val; omega)).trans ?_
      unfold fwdH
      rw [← e0]
      rfl
    · exact (put_miss _ 0 _ _ 0 _ e (Or.inr (by
        show 64 * t + r.val < 64 * (n % 4) ∨ 64 * (n % 4) + 64 ≤ 64 * t + r.val
        omega))).trans (ih (by omega) (by omega))

/-- Row `64 (3 - t) + r` of the backward direction's outputs, once trip `t` is done. -/
theorem bwd_row (s : Held F) (t : ℕ) (ht : t < 4) (r : Fin 64) (e : Fin 256) (n : ℕ) (htn : t < n) (hn : n ≤ 4) :
    (heldAt x0 x1 x2 x4 s n).H (ix3 1 ⟨64 * (3 - t) + r.val, by omega⟩ e) = bwdH x0 x1 x2 x4 (half s 1) t (ix3 0 r e) := by
  induction n with
  | zero => omega
  | succ n ih =>
    have e0 := (half_heldAt x0 x1 x2 x4 s n).2
    have hr := r.isLt
    have hmod : (3 - n) % 4 = 3 - n := Nat.mod_eq_of_lt (by omega)
    unfold heldAt step
    dsimp only
    by_cases htn' : t = n
    · subst htn'
      refine (put_hit _ 1 1 rfl _ _ _ r e (by show 64 * (3 - t) + r.val = 64 * ((3 - t) % 4) + r.val; omega)).trans ?_
      unfold bwdH
      rw [← e0]
      rfl
    · refine (put_miss _ 1 _ _ 1 _ e (Or.inr (by
        show 64 * (3 - t) + r.val < 64 * ((3 - n) % 4) ∨ 64 * ((3 - n) % 4) + 64 ≤ 64 * (3 - t) + r.val
        omega))).trans ?_
      exact (put_miss _ 0 _ _ 1 _ e (Or.inl (by decide))).trans (ih (by omega) (by omega))

variable (x3 : Vec F S256x256 .f32) (x5 : Vec F S1x2x1x128x256 .f32) (x6 x7 : Vec F S1x2x1x1x128 .f32) (x8 : Vec F S1x256 .f32)

/-- Direction `d`'s initial carry. -/
def carry0 (d : Fin 2) : Carry F := ⟨halfC (k0_pay72 x5) d, halfN (k0_pay73 x6) d, halfN (k0_pay74 x7) d⟩

/-- All of the forward direction's outputs. -/
def allFwd : Vec F S1x256x256 .f32 := fun y =>
  fwdH x0 x1 x2 x4 (carry0 x5 x6 x7 0) ((y 1).val / 64) (ix3 0 ⟨(y 1).val % 64, Nat.mod_lt _ (by decide)⟩ (y 2))

/-- All of the backward direction's outputs. -/
def allBwd : Vec F S1x256x256 .f32 := fun y =>
  bwdH x0 x1 x2 x4 (carry0 x5 x6 x7 1) (3 - (y 1).val / 64) (ix3 0 ⟨(y 1).val % 64, Nat.mod_lt _ (by decide)⟩ (y 2))

/-- The output block: the directions' sum, normalised by rows and gated. -/
def outY : FVec F S256x256 .f32 := k0_pay78 (k0_pay77 (allFwd x0 x1 x2 x4 x5 x6 x7)) (allBwd x0 x1 x2 x4 x5 x6 x7) x8 x3

/-- The final matrix states. -/
def outC : FVec F S1x2x1x128x256 .f32 := k0_pay79 fun y =>
  if (y 0).val = 0 then (fwdAt x1 x2 x4 (carry0 x5 x6 x7 0) 4).C (ix3 0 (y 1) (y 2)) else (bwdAt x1 x2 x4 (carry0 x5 x6 x7 1) 4).C (ix3 0 (y 1) (y 2))

/-- The final normalisers. -/
def outN : FVec F S1x2x1x1x128 .f32 := k0_pay80 fun y =>
  if (y 0).val = 0 then (fwdAt x1 x2 x4 (carry0 x5 x6 x7 0) 4).N (ix3 0 (y 1) (y 2)) else (bwdAt x1 x2 x4 (carry0 x5 x6 x7 1) 4).N (ix3 0 (y 1) (y 2))

/-- The final stabilisers. -/
def outM : FVec F S1x2x1x1x128 .f32 := k0_pay1 fun y =>
  if (y 0).val = 0 then (fwdAt x1 x2 x4 (carry0 x5 x6 x7 0) 4).M (ix3 0 (y 1) (y 2)) else (bwdAt x1 x2 x4 (carry0 x5 x6 x7 1) 4).M (ix3 0 (y 1) (y 2))

theorem join_halfC (x : Vec F S2x128x256 .f32) : x = fun y => if (y 0).val = 0 then halfC x 0 (ix3 0 (y 1) (y 2)) else halfC x 1 (ix3 0 (y 1) (y 2)) := by
  funext y
  have e : ix3 (n0 := 2) (n1 := 128) (n2 := 256) (y 0) (y 1) (y 2) = y := ix3_eta y
  have h2 : (y 0).val < 2 := (y 0).isLt
  by_cases h : (y 0).val = 0
  · have h1 : y 0 = (0 : Fin 2) := Fin.ext h
    rw [if_pos h, ← e, h1]; rfl
  · have h1 : y 0 = (1 : Fin 2) := Fin.ext (by show (y 0).val = 1; omega)
    rw [if_neg h, ← e, h1]; rfl

theorem join_halfN (x : Vec F S2x1x128 .f32) : x = fun y => if (y 0).val = 0 then halfN x 0 (ix3 0 (y 1) (y 2)) else halfN x 1 (ix3 0 (y 1) (y 2)) := by
  funext y
  have e : ix3 (n0 := 2) (n1 := 1) (n2 := 128) (y 0) (y 1) (y 2) = y := ix3_eta y
  have h2 : (y 0).val < 2 := (y 0).isLt
  by_cases h : (y 0).val = 0
  · have h1 : y 0 = (0 : Fin 2) := Fin.ext h
    rw [if_pos h, ← e, h1]; rfl
  · have h1 : y 0 = (1 : Fin 2) := Fin.ext (by show (y 0).val = 1; omega)
    rw [if_neg h, ← e, h1]; rfl

/-- The scratch at loop entry: the outputs at anything, the states at their blocks. -/
def held0 (H : Vec F S2x256x256 .f32) : Held F := ⟨H, k0_pay72 x5, k0_pay73 x6, k0_pay74 x7⟩

theorem heldC (H : Vec F S2x256x256 .f32) : k0_pay79 (heldAt x0 x1 x2 x4 (held0 x5 x6 x7 H) 4).C = outC x1 x2 x4 x5 x6 x7 := by
  obtain ⟨e0, e1⟩ := half_heldAt x0 x1 x2 x4 (held0 x5 x6 x7 H) 4
  exact congrArg k0_pay79 ((join_halfC _).trans (funext fun y => ite_congr rfl
    (fun _ => congrArg (fun z : Carry F => z.C (ix3 0 (y 1) (y 2))) e0) (fun _ => congrArg (fun z : Carry F => z.C (ix3 0 (y 1) (y 2))) e1)))

theorem heldN (H : Vec F S2x256x256 .f32) : k0_pay80 (heldAt x0 x1 x2 x4 (held0 x5 x6 x7 H) 4).N = outN x1 x2 x4 x5 x6 x7 := by
  obtain ⟨e0, e1⟩ := half_heldAt x0 x1 x2 x4 (held0 x5 x6 x7 H) 4
  exact congrArg k0_pay80 ((join_halfN _).trans (funext fun y => ite_congr rfl
    (fun _ => congrArg (fun z : Carry F => z.N (ix3 0 (y 1) (y 2))) e0) (fun _ => congrArg (fun z : Carry F => z.N (ix3 0 (y 1) (y 2))) e1)))

theorem heldM (H : Vec F S2x256x256 .f32) : k0_pay1 (heldAt x0 x1 x2 x4 (held0 x5 x6 x7 H) 4).M = outM x1 x2 x4 x5 x6 x7 := by
  obtain ⟨e0, e1⟩ := half_heldAt x0 x1 x2 x4 (held0 x5 x6 x7 H) 4
  exact congrArg k0_pay1 ((join_halfN _).trans (funext fun y => ite_congr rfl
    (fun _ => congrArg (fun z : Carry F => z.M (ix3 0 (y 1) (y 2))) e0) (fun _ => congrArg (fun z : Carry F => z.M (ix3 0 (y 1) (y 2))) e1)))

/-- The forward half of the outputs after the loop. -/
theorem heldH0 (H : Vec F S2x256x256 .f32) :
    (fun y : S1x256x256.Idx => (heldAt x0 x1 x2 x4 (held0 x5 x6 x7 H) 4).H (ix3 0 (y 1) (y 2))) = allFwd x0 x1 x2 x4 x5 x6 x7 := by
  funext y
  have h1 : (y 1).val < 256 := (y 1).isLt
  refine Eq.trans (congrArg _ (congrArg (fun z => ix3 0 z (y 2)) (Fin.ext ?_)))
    (fwd_row x0 x1 x2 x4 (held0 x5 x6 x7 H) ((y 1).val / 64) (by omega) ⟨(y 1).val % 64, Nat.mod_lt _ (by decide)⟩ (y 2) 4 (by omega) le_rfl)
  show (y 1).val = 64 * ((y 1).val / 64) + (y 1).val % 64
  omega

/-- The backward half of the outputs after the loop. -/
theorem heldH1 (H : Vec F S2x256x256 .f32) :
    (fun y : S1x256x256.Idx => (heldAt x0 x1 x2 x4 (held0 x5 x6 x7 H) 4).H (ix3 1 (y 1) (y 2))) = allBwd x0 x1 x2 x4 x5 x6 x7 := by
  funext y
  have h1 : (y 1).val < 256 := (y 1).isLt
  refine Eq.trans (congrArg _ (congrArg (fun z => ix3 1 z (y 2)) (Fin.ext ?_)))
    (bwd_row x0 x1 x2 x4 (held0 x5 x6 x7 H) (3 - (y 1).val / 64) (by omega) ⟨(y 1).val % 64, Nat.mod_lt _ (by decide)⟩ (y 2) 4 (by omega) le_rfl)
  show (y 1).val = 64 * (3 - (3 - (y 1).val / 64)) + (y 1).val % 64
  omega

end Pure

section Loop

variable (c : Dev nD) (i : grid0.Coords)
  (arg2 : Memref sig .tc .vmem S256x128 .f32) (harg2 : arg2.IsWhole) (arg3 : Memref sig .tc .vmem S256x128 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x1x4x8x128 .f32) (harg6 : arg6.IsWhole) (arg7 : Memref sig .tc .vmem S1x2x1x128x256 .f32) (harg7 : arg7.IsWhole) (arg8 : Memref sig .tc .vmem S1x2x1x1x128 .f32) (harg8 : arg8.IsWhole) (arg9 : Memref sig .tc .vmem S1x2x1x1x128 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x2x1x128x256 .f32) (harg12 : arg12.IsWhole) (arg13 : Memref sig .tc .vmem S1x2x1x1x128 .f32) (harg13 : arg13.IsWhole) (arg14 : Memref sig .tc .vmem S1x2x1x1x128 .f32) (harg14 : arg14.IsWhole) (arg15 : Memref sig .tc .vmem S2x256x256 .f32) (harg15 : arg15.IsWhole) (arg16 : Memref sig .tc .vmem S2x128x256 .f32) (harg16 : arg16.IsWhole) (arg17 : Memref sig .tc .vmem S2x1x128 .f32) (harg17 : arg17.IsWhole) (arg18 : Memref sig .tc .vmem S2x1x128 .f32) (harg18 : arg18.IsWhole)
  (X2 : BufTy.Contents (Elt F) arg2.view.ty) (X3 : BufTy.Contents (Elt F) arg3.view.ty) (X4 : BufTy.Contents (Elt F) arg4.view.ty)
  (X6 : BufTy.Contents (Elt F) arg6.view.ty) (G15 : BufTy.Contents (Elt F) arg15.view.ty) (G16 : BufTy.Contents (Elt F) arg16.view.ty)
  (G17 : BufTy.Contents (Elt F) arg17.view.ty) (G18 : BufTy.Contents (Elt F) arg18.view.ty)

/-- After `n` trips the scratch holds the pure iterate. -/
theorem heldOf_pb (n : ℕ) (hn : n ≤ 4) :
    heldOf arg15 arg16 arg17 arg18
        (arg15.view.writes (Elt F) G15 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X6 G15 G16 G17 G18 n).1)
        (arg16.view.writes (Elt F) G16 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X6 G15 G16 G17 G18 n).2.1)
        (arg17.view.writes (Elt F) G17 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X6 G15 G16 G17 G18 n).2.2.1)
        (arg18.view.writes (Elt F) G18 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X6 G15 G16 G17 G18 n).2.2.2)
      = heldAt (arg2.view.read (Elt F) X2) (arg3.view.read (Elt F) X3) (arg4.view.read (Elt F) X4) (arg6.view.read (Elt F) X6)
          (heldOf arg15 arg16 arg17 arg18 G15 G16 G17 G18) n := by
  induction n with
  | zero => rfl
  | succ n ih =>
    have hk : n < k0_t1_loop.trips := hn
    rw [pb_k0_t1_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X6 G15 G16 G17 G18 ⟨n, hk⟩]
    dsimp only
    rw [View.writes_append, View.writes_append, View.writes_append, View.writes_append]
    unfold heldAt
    rw [← ih (by omega)]
    exact heldOf_trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X2 X3 X4 X6 ⟨n, hk⟩ ⟨n % 4, Nat.mod_lt _ (by decide)⟩ ⟨(3 - n) % 4, Nat.mod_lt _ (by decide)⟩
      (Nat.mod_eq_of_lt (by omega)) (Nat.mod_eq_of_lt (by omega)) _ _ _ _

end Loop

theorem readAt_halfH {sg : RefSig} {κ : Kind} {sp : Space} (v : View sg κ sp S2x256x256 .f32) (f : v.ty.Contents (Elt F)) (d : Fin 2)
    (off : Fin 3 → ℕ) (inb) (h : off = ![d.val, 0, 0]) :
    v.readAt (Elt F) (Rect.unit (s := S2x256x256) off S1x256x256.size inb).toLoadRect f
      = fun y : S1x256x256.Idx => v.read (Elt F) f (ix3 d (y 1) (y 2)) := by
  subst h
  funext y
  have h0 : (y 0).val < 1 := (y 0).isLt
  exact congrArg (v.read (Elt F) f) (funext fun a => Fin.ext (by
    fin_cases a
    · show d.val + 1 * (y 0).val = d.val; omega
    · show 0 + 1 * (y 1).val = (y 1).val; omega
    · show 0 + 1 * (y 2).val = (y 2).val; omega))

section Body

variable (c : Dev nD) (i : grid0.Coords)
  (arg2 : Memref sig .tc .vmem S256x128 .f32) (harg2 : arg2.IsWhole) (arg3 : Memref sig .tc .vmem S256x128 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S1x1x4x8x128 .f32) (harg6 : arg6.IsWhole) (arg7 : Memref sig .tc .vmem S1x2x1x128x256 .f32) (harg7 : arg7.IsWhole) (arg8 : Memref sig .tc .vmem S1x2x1x1x128 .f32) (harg8 : arg8.IsWhole) (arg9 : Memref sig .tc .vmem S1x2x1x1x128 .f32) (harg9 : arg9.IsWhole) (arg10 : Memref sig .tc .vmem S1x256 .f32) (harg10 : arg10.IsWhole) (arg11 : Memref sig .tc .vmem S256x256 .f32) (harg11 : arg11.IsWhole) (arg12 : Memref sig .tc .vmem S1x2x1x128x256 .f32) (harg12 : arg12.IsWhole) (arg13 : Memref sig .tc .vmem S1x2x1x1x128 .f32) (harg13 : arg13.IsWhole) (arg14 : Memref sig .tc .vmem S1x2x1x1x128 .f32) (harg14 : arg14.IsWhole) (arg15 : Memref sig .tc .vmem S2x256x256 .f32) (harg15 : arg15.IsWhole) (arg16 : Memref sig .tc .vmem S2x128x256 .f32) (harg16 : arg16.IsWhole) (arg17 : Memref sig .tc .vmem S2x1x128 .f32) (harg17 : arg17.IsWhole) (arg18 : Memref sig .tc .vmem S2x1x128 .f32) (harg18 : arg18.IsWhole)
  (x0 x1 : Vec F S256x128 .f32) (x2 x3 : Vec F S256x256 .f32) (x4 : Vec F S1x1x4x8x128 .f32) (x5 : Vec F S1x2x1x128x256 .f32)
  (x6 x7 : Vec F S1x2x1x1x128 .f32) (x8 : Vec F S1x256 .f32) (f15 : Buf (Elt F) (arg15.view.loc (c : Thread nD τ)))

set_option maxHeartbeats 4000000 in
/-- The output blocks the body's stores leave. -/
theorem read_bodyRun (g11 : BufTy.Contents (Elt F) arg11.view.ty) (g12 : BufTy.Contents (Elt F) arg12.view.ty)
    (g13 : BufTy.Contents (Elt F) arg13.view.ty) (g14 : BufTy.Contents (Elt F) arg14.view.ty) :
    arg11.view.read (Elt F) (arg11.view.writes (Elt F) g11 (bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 f15).1) = outY x0 x1 x2 x4 x3 x5 x6 x7 x8
      ∧ arg12.view.read (Elt F) (arg12.view.writes (Elt F) g12 (bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 f15).2.1) = outC x1 x2 x4 x5 x6 x7
      ∧ arg13.view.read (Elt F) (arg13.view.writes (Elt F) g13 (bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 f15).2.2.1) = outN x1 x2 x4 x5 x6 x7
      ∧ arg14.view.read (Elt F) (arg14.view.writes (Elt F) g14 (bodyRun (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 f15).2.2.2.1) = outM x1 x2 x4 x5 x6 x7 := by
  have hl := heldOf_pb c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (harg2.unread x0) (harg3.unread x1) (harg4.unread x2) (harg6.unread x4) f15
    (arg16.view.writes (Elt F) arg16.view.junk (bodyRun.sl.HS1_1 c arg7 harg7 x5))
    (arg17.view.writes (Elt F) arg17.view.junk (bodyRun.sl.HS2_1 c arg8 harg8 x6))
    (arg18.view.writes (Elt F) arg18.view.junk (bodyRun.sl.HS3_1 c arg9 harg9 x7)) 4 le_rfl
  rw [harg2.read_unread, harg3.read_unread, harg4.read_unread, harg6.read_unread] at hl
  have h0 : heldOf arg15 arg16 arg17 arg18 f15 (arg16.view.writes (Elt F) arg16.view.junk (bodyRun.sl.HS1_1 c arg7 harg7 x5))
      (arg17.view.writes (Elt F) arg17.view.junk (bodyRun.sl.HS2_1 c arg8 harg8 x6))
      (arg18.view.writes (Elt F) arg18.view.junk (bodyRun.sl.HS3_1 c arg9 harg9 x7)) = held0 x5 x6 x7 (arg15.view.read (Elt F) f15) := by
    unfold heldOf held0 bodyRun.sl.HS1_1 bodyRun.sl.HS2_1 bodyRun.sl.HS3_1
    sl_unfold_words
    rw [View.read_writes_full, View.read_writes_full, View.read_writes_full, View.readAt_full, View.readAt_full, View.readAt_full,
      harg7.read_unread, harg8.read_unread, harg9.read_unread]
  rw [h0] at hl
  unfold bodyRun
  dsimp only
  refine ⟨?_, ?_, ?_, ?_⟩
  · refine (View.read_writes_full _ _ _ _ _).trans ?_
    unfold outY
    refine congr (congr (congr (congrArg k0_pay78 ?_) ?_) ?_) ?_
    · rw [← heldH0 x0 x1 x2 x4 x5 x6 x7 (arg15.view.read (Elt F) f15), ← hl]
      unfold bodyRun.sl.r bodyRun.sl.v21
      exact congrArg k0_pay77 (readAt_halfH arg15.view _ 0 _ _ rfl)
    · rw [← heldH1 x0 x1 x2 x4 x5 x6 x7 (arg15.view.read (Elt F) f15), ← hl]
      unfold bodyRun.sl.v23
      exact readAt_halfH arg15.view _ 1 _ _ rfl
    · exact (View.readAt_full _ _ _).trans (harg10.read_unread x8)
    · exact (View.readAt_full _ _ _).trans (harg5.read_unread x3)
  · refine (View.read_writes_full _ _ _ _ _).trans ?_
    rw [← heldC x0 x1 x2 x4 x5 x6 x7 (arg15.view.read (Elt F) f15), ← hl]
    refine congrArg k0_pay79 ?_
    unfold bodyRun.sl.v44 View.readCov
    rw [View.readAt_full, View.writes_append]
    rfl
  · refine (View.read_writes_full _ _ _ _ _).trans ?_
    rw [← heldN x0 x1 x2 x4 x5 x6 x7 (arg15.view.read (Elt F) f15), ← hl]
    refine congrArg k0_pay80 ?_
    unfold bodyRun.sl.v48 View.readCov
    rw [View.readAt_full, View.writes_append]
    rfl
  · refine (View.read_writes_full _ _ _ _ _).trans ?_
    rw [← heldM x0 x1 x2 x4 x5 x6 x7 (arg15.view.read (Elt F) f15), ← hl]
    refine congrArg k0_pay1 ?_
    unfold bodyRun.sl.v52 View.readCov
    rw [View.readAt_full, View.writes_append]
    rfl

end Body

end Cert.Branch
end
-- ==== Proof.BranchFrame.lean ====
/- The whole run of the mLSTM branch's program: every grid point's body leaves its output blocks at the pure functions of
   its input blocks, so the launch ends with each output array built of those blocks and the arguments as they were. -/
module

public import proofs.«01_k».proof.Proof.BranchHeld
public import Idealize.ShloMosaic.Lib.Claim

@[expose] public section

set_option maxRecDepth 16384

noncomputable section

namespace Cert.Branch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The buffer each window is staged in at a grid point, and that it is whole. -/

abbrev stg0 (t : Fin cfg0.N) : Memref sig .tc .vmem S256x128 .f32 := win0_0.stage (cfg0.slots t 0)
theorem whole0 (t : Fin cfg0.N) : (stg0 t).IsWhole := hstage0_0 ((cfg0.slots t 0).cast nbuf0_0)
abbrev stg1 (t : Fin cfg0.N) : Memref sig .tc .vmem S256x128 .f32 := win0_1.stage (cfg0.slots t 1)
theorem whole1 (t : Fin cfg0.N) : (stg1 t).IsWhole := hstage0_1 ((cfg0.slots t 1).cast nbuf0_1)
abbrev stg2 (t : Fin cfg0.N) : Memref sig .tc .vmem S256x256 .f32 := win0_2.stage (cfg0.slots t 2)
theorem whole2 (t : Fin cfg0.N) : (stg2 t).IsWhole := hstage0_2 ((cfg0.slots t 2).cast nbuf0_2)
abbrev stg3 (t : Fin cfg0.N) : Memref sig .tc .vmem S256x256 .f32 := win0_3.stage (cfg0.slots t 3)
theorem whole3 (t : Fin cfg0.N) : (stg3 t).IsWhole := hstage0_3 ((cfg0.slots t 3).cast nbuf0_3)
abbrev stg4 (t : Fin cfg0.N) : Memref sig .tc .vmem S1x1x4x8x128 .f32 := win0_4.stage (cfg0.slots t 4)
theorem whole4 (t : Fin cfg0.N) : (stg4 t).IsWhole := hstage0_4 ((cfg0.slots t 4).cast nbuf0_4)
abbrev stg5 (t : Fin cfg0.N) : Memref sig .tc .vmem S1x2x1x128x256 .f32 := win0_5.stage (cfg0.slots t 5)
theorem whole5 (t : Fin cfg0.N) : (stg5 t).IsWhole := hstage0_5 ((cfg0.slots t 5).cast nbuf0_5)
abbrev stg6 (t : Fin cfg0.N) : Memref sig .tc .vmem S1x2x1x1x128 .f32 := win0_6.stage (cfg0.slots t 6)
theorem whole6 (t : Fin cfg0.N) : (stg6 t).IsWhole := hstage0_6 ((cfg0.slots t 6).cast nbuf0_6)
abbrev stg7 (t : Fin cfg0.N) : Memref sig .tc .vmem S1x2x1x1x128 .f32 := win0_7.stage (cfg0.slots t 7)
theorem whole7 (t : Fin cfg0.N) : (stg7 t).IsWhole := hstage0_7 ((cfg0.slots t 7).cast nbuf0_7)
abbrev stg8 (t : Fin cfg0.N) : Memref sig .tc .vmem S1x256 .f32 := win0_8.stage (cfg0.slots t 8)
theorem whole8 (t : Fin cfg0.N) : (stg8 t).IsWhole := hstage0_8 ((cfg0.slots t 8).cast nbuf0_8)
abbrev stg9 (t : Fin cfg0.N) : Memref sig .tc .vmem S256x256 .f32 := win0_9.stage (cfg0.slots t 9)
theorem whole9 (t : Fin cfg0.N) : (stg9 t).IsWhole := hstage0_9 ((cfg0.slots t 9).cast nbuf0_9)
abbrev stg10 (t : Fin cfg0.N) : Memref sig .tc .vmem S1x2x1x128x256 .f32 := win0_10.stage (cfg0.slots t 10)
theorem whole10 (t : Fin cfg0.N) : (stg10 t).IsWhole := hstage0_10 ((cfg0.slots t 10).cast nbuf0_10)
abbrev stg11 (t : Fin cfg0.N) : Memref sig .tc .vmem S1x2x1x1x128 .f32 := win0_11.stage (cfg0.slots t 11)
theorem whole11 (t : Fin cfg0.N) : (stg11 t).IsWhole := hstage0_11 ((cfg0.slots t 11).cast nbuf0_11)
abbrev stg12 (t : Fin cfg0.N) : Memref sig .tc .vmem S1x2x1x1x128 .f32 := win0_12.stage (cfg0.slots t 12)
theorem whole12 (t : Fin cfg0.N) : (stg12 t).IsWhole := hstage0_12 ((cfg0.slots t 12).cast nbuf0_12)

/-! The scratch buffers. -/
abbrev scr0 : Memref sig .tc .vmem S2x256x256 .f32 := Memref.whole cc0_scratch0
abbrev scr1 : Memref sig .tc .vmem S2x128x256 .f32 := Memref.whole cc0_scratch1
abbrev scr2 : Memref sig .tc .vmem S2x1x128 .f32 := Memref.whole cc0_scratch2
abbrev scr3 : Memref sig .tc .vmem S2x1x128 .f32 := Memref.whole cc0_scratch3

/-- What a body is handed beside its windows: the four scratch buffers at some contents, and the generator's register. -/
theorem rest_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d)) ∗ (∃ r, prngReg c r)) := by
  unfold Pipeline.ΦA; rw [scopedRest0_eq]; simp only [scr0, scr1, scr2, scr3, owns_whole]; rfl

/-! The blocks a grid point leaves in the outputs. -/
abbrev yAt (c : Dev nD) (t : Fin cfg0.N) : Vec F S256x256 .f32 :=
  outY (iblk m c 0 t) (iblk m c 1 t) (iblk m c 2 t) (iblk m c 4 t) (iblk m c 3 t) (iblk m c 5 t) (iblk m c 6 t) (iblk m c 7 t) (iblk m c 8 t)
abbrev cAt (c : Dev nD) (t : Fin cfg0.N) : Vec F S1x2x1x128x256 .f32 :=
  outC (iblk m c 1 t) (iblk m c 2 t) (iblk m c 4 t) (iblk m c 5 t) (iblk m c 6 t) (iblk m c 7 t)
abbrev nAt (c : Dev nD) (t : Fin cfg0.N) : Vec F S1x2x1x1x128 .f32 :=
  outN (iblk m c 1 t) (iblk m c 2 t) (iblk m c 4 t) (iblk m c 5 t) (iblk m c 6 t) (iblk m c 7 t)
abbrev mAt (c : Dev nD) (t : Fin cfg0.N) : Vec F S1x2x1x1x128 .f32 :=
  outM (iblk m c 1 t) (iblk m c 2 t) (iblk m c 4 t) (iblk m c 5 t) (iblk m c 6 t) (iblk m c 7 t)

/-- The launch's data: the arrays as the region finds them, each window's block after each point, shares as the windows
    share the array of projections, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => yAt m c t
    | ⟨10, _⟩ => cAt m c t
    | ⟨11, _⟩ => nAt m c t
    | ⟨12, _⟩ => mAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = yAt m c t := by dsimp only [dats]
theorem after10 (c : Dev nD) (t : Fin cfg0.N) : (dats m 0 c).after 10 t = cAt m c t := by dsimp only [dats]
theorem after11 (c : Dev nD) (t : Fin cfg0.N) : (dats m 0 c).after 11 t = nAt m c t := by dsimp only [dats]
theorem after12 (c : Dev nD) (t : Fin cfg0.N) : (dats m 0 c).after 12 t = mAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-- What the body holds when it is called at point `t`. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d))
    ∗ (∃ d, owns (c : Thread nD τ) (stg12 t) fullShare ((dats m 0 c).before 12 t d)))

/-- What the body holds when it is done. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ owns (c : Thread nD τ) (stg8 t) fullShare ((dats m 0 c).after 8 t)
    ∗ owns (c : Thread nD τ) (stg9 t) fullShare ((dats m 0 c).after 9 t)
    ∗ owns (c : Thread nD τ) (stg10 t) fullShare ((dats m 0 c).after 10 t)
    ∗ owns (c : Thread nD τ) (stg11 t) fullShare ((dats m 0 c).after 11 t)
    ∗ owns (c : Thread nD τ) (stg12 t) fullShare ((dats m 0 c).after 12 t))

set_option maxHeartbeats 1600000 in
/-- The body at any point: it runs from its windows' blocks and the scratch at whatever it holds, and leaves the outputs at
    the point's blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = (dats m 0 c).Φ t.castSucc from rfl,
    show (dats m 0 c).owesAt () t.succ = (dats m 0 c).owesAt () t.castSucc from rfl, after0, after1, after2, after3, after4, after5, after6, after7, after8, after9, after10, after11, after12]
  rw [show (dats m 0 c).Φ t.castSucc = Pipeline.ΦA spec0 c from rfl, rest_eq]
  unfold owns
  iintro ⟨⟨⟨⟨%ds0, %f15, %hf15, HS0⟩, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((bodyRun c (grid0.coords t) _ _ _ _ _ _ _ _ _ _ _ _ _ _ _ _ _ _ _ _ _ _ _ _ _ _ scr0 _ _ _ _ _ _ _ (iblk m c 0 t) (iblk m c 1 t) (iblk m c 2 t) (iblk m c 3 t) (iblk m c 4 t) (iblk m c 5 t) (iblk m c 6 t) (iblk m c 7 t) (iblk m c 8 t) f15).2.2.2.2 Set.univ _)
  unfold owns
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  iintro ⟨H0, H1, H2, H3, H4, H5, H6, H7, H8, ⟨%e9, H9⟩, ⟨%e10, H10⟩, ⟨%e11, H11⟩, ⟨%e12, H12⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr
    swap; · iexact H9
    ipureintro; exact (read_bodyRun c (grid0.coords t) _ _ _ _ _ _ _ _ _ _ _ _ _ _ _ _ _ _ _ _ _ _ _ _ _ _ scr0 _ _ _ _ _ _ _ (iblk m c 0 t) (iblk m c 1 t) (iblk m c 2 t) (iblk m c 3 t) (iblk m c 4 t) (iblk m c 5 t) (iblk m c 6 t) (iblk m c 7 t) (iblk m c 8 t) f15 e9 (View.junk _) (View.junk _) (View.junk _)).1
  isplitl [H10]
  · iexists _; isplitr
    swap; · iexact H10
    ipureintro; exact (read_bodyRun c (grid0.coords t) _ _ _ _ _ _ _ _ _ _ _ _ _ _ _ _ _ _ _ _ _ _ _ _ _ _ scr0 _ _ _ _ _ _ _ (iblk m c 0 t) (iblk m c 1 t) (iblk m c 2 t) (iblk m c 3 t) (iblk m c 4 t) (iblk m c 5 t) (iblk m c 6 t) (iblk m c 7 t) (iblk m c 8 t) f15 (View.junk _) e10 (View.junk _) (View.junk _)).2.1
  isplitl [H11]
  · iexists _; isplitr
    swap; · iexact H11
    ipureintro; exact (read_bodyRun c (grid0.coords t) _ _ _ _ _ _ _ _ _ _ _ _ _ _ _ _ _ _ _ _ _ _ _ _ _ _ scr0 _ _ _ _ _ _ _ (iblk m c 0 t) (iblk m c 1 t) (iblk m c 2 t) (iblk m c 3 t) (iblk m c 4 t) (iblk m c 5 t) (iblk m c 6 t) (iblk m c 7 t) (iblk m c 8 t) f15 (View.junk _) (View.junk _) e11 (View.junk _)).2.2.1
  iexists _; isplitr
  swap; · iexact H12
  ipureintro; exact (read_bodyRun c (grid0.coords t) _ _ _ _ _ _ _ _ _ _ _ _ _ _ _ _ _ _ _ _ _ _ _ _ _ _ scr0 _ _ _ _ _ _ _ (iblk m c 0 t) (iblk m c 1 t) (iblk m c 2 t) (iblk m c 3 t) (iblk m c 4 t) (iblk m c 5 t) (iblk m c 6 t) (iblk m c 7 t) (iblk m c 8 t) f15 (View.junk _) (View.junk _) (View.junk _) e12).2.2.2

theorem body_row (t : Fin cfg0.N) :
    defs₀ (F := F) .tc cfg0.body (cfg0.bodyArgs t (cfg0.slots t)) = bodyAt0 t := by
  unfold defs₀; rw [Defs.onTc_tc]

/-- What the launch asks of the body, at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The launch: it ends, every array as the data say, every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiet m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run m ρ)

/-- The frame claim, over any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_quiet m ρ))

/-- The run with each result named by the launch's data, and the arguments as they were. -/
theorem results : θ_run defs (onTc (τ := τ) (main (F := F))) ⟨m, fun _ => 0, ρ⟩ (fun r => ∀ c : Dev nD,
      r.2.mem ((c.tc : Thread nD τ).loc main_v72_0) = (dats m 0 c).arrAt 9 cfg0.N
      ∧ r.2.mem ((c.tc : Thread nD τ).loc main_v72_1) = (dats m 0 c).arrAt 10 cfg0.N
      ∧ r.2.mem ((c.tc : Thread nD τ).loc main_v72_2) = (dats m 0 c).arrAt 11 cfg0.N
      ∧ r.2.mem ((c.tc : Thread nD τ).loc main_v72_3) = (dats m 0 c).arrAt 12 cfg0.N) :=
  (θ_run defs _ _).mono (fun _ h c => ⟨(h c).1 9, (h c).1 10, (h c).1 11, (h c).1 12⟩) (run m ρ)

end Cert.Branch

end
-- ==== Proof.BranchSpec.lean ====
/- The mLSTM recurrence as plain mathematics: one chunk of 64 tokens of one head in one direction, as functions of row and
   feature; what the chunk adds to the carried state, and what it outputs; and that reading a chunk's rows the other way round,
   with the causal order turned round too, changes neither. -/
module

public import Idealize.ShloMosaic.PureOps.Ideal.Laws

@[expose] public section

noncomputable section

namespace Cert.Branch

open Idealize.ShloMosaic

/-- A number: an extended real. -/
abbrev Val : Type := Ideal .f32

/-- Minus infinity, as the programs spell it. -/
def negInf : Val := Ideal.ofBits .f32 0xFF800000#32

/-- What the queries' partners, the keys, are scaled by. -/
def scale : Val := Ideal.ofBits .f32 0x3DB504F3#32

/-- One chunk of one head: queries, scaled keys, values, the running log forget gate `b` and the log input gate `i`; the whole
    chunk's log forget gate `bl` and the greatest log weight `wm` of its rows. -/
@[ext] structure Chunk where
  q : Fin 64 → Fin 128 → Val
  k : Fin 64 → Fin 128 → Val
  v : Fin 64 → Fin 256 → Val
  b : Fin 64 → Val
  i : Fin 64 → Val
  bl : Val
  wm : Val

/-- What is carried from chunk to chunk: matrix state, normaliser, stabiliser. -/
@[ext] structure State where
  C : Fin 128 → Fin 256 → Val
  n : Fin 128 → Val
  m : Val

/-- Row `c` is seen from row `r`: it comes no later. -/
def sees (r c : Fin 64) : Bool := decide (c ≤ r)

/-- The same for rows in the opposite order. -/
def seesBack (r c : Fin 64) : Bool := decide (r ≤ c)

namespace Chunk

variable (p : Fin 64 → Fin 64 → Bool) (x : Chunk) (s : State)

/-- The log weight of row `c` in row `r`'s sum. -/
def dlog (r c : Fin 64) : Val := if p r c then x.b r - x.b c + x.i c else negInf
def dmax (r : Fin 64) : Val := Finset.univ.fold max negInf fun c => x.dlog p r c
def pw (r c : Fin 64) : Val := Ideal.exp (x.dlog p r c - x.dmax p r) * ∑ d, x.q r d * x.k c d
/-- The chunk's own numerator and denominator. -/
def num (r : Fin 64) (e : Fin 256) : Val := ∑ c, x.pw p r c * x.v c e
def den (r : Fin 64) : Val := ∑ c, x.pw p r c
/-- The weighted keys, and what the chunk adds to the state. -/
def ew (c : Fin 64) (d : Fin 128) : Val := Ideal.exp (x.bl - x.b c + x.i c - x.wm) * x.k c d
def dC (d : Fin 128) (e : Fin 256) : Val := ∑ c, x.ew c d * x.v c e
def dN (d : Fin 128) : Val := ∑ c, x.ew c d
def nextM : Val := max (x.bl + s.m) x.wm
/-- The state after the chunk. -/
def next : State where
  C d e := Ideal.exp (x.bl + s.m - x.nextM s) * s.C d e + Ideal.exp (x.wm - x.nextM s) * x.dC d e
  n d := Ideal.exp (x.bl + s.m - x.nextM s) * s.n d + Ideal.exp (x.wm - x.nextM s) * x.dN d
  m := x.nextM s
/-- The row's stabiliser, and the weights of the carried and of the chunk's own part. -/
def mt (r : Fin 64) : Val := max (x.b r + s.m) (x.dmax p r)
def wi (r : Fin 64) : Val := Ideal.exp (x.b r + s.m - x.mt p s r)
def wa (r : Fin 64) : Val := Ideal.exp (x.dmax p r - x.mt p s r)
/-- The chunk's output. -/
def out (r : Fin 64) (e : Fin 256) : Val :=
  Ideal.div (x.wi p s r * (∑ d, x.q r d * s.C d e) + x.wa p s r * x.num p r e)
    (max (FloatOps.absf (x.wi p s r * (∑ d, x.q r d * s.n d) + x.wa p s r * x.den p r : Val)) (Ideal.exp (-x.mt p s r)))

/-- The chunk with its rows in the opposite order. -/
def rev : Chunk := ⟨fun r => x.q r.rev, fun r => x.k r.rev, fun r => x.v r.rev, fun r => x.b r.rev, fun r => x.i r.rev, x.bl, x.wm⟩

theorem sum_rev (f : Fin 64 → Val) : ∑ c : Fin 64, f c.rev = ∑ c, f c := Equiv.sum_comp Fin.revPerm f

theorem fold_rev (f : Fin 64 → Val) : (Finset.univ.fold max negInf fun c => f (Fin.rev c)) = Finset.univ.fold max negInf f := by
  have h : (Finset.univ : Finset (Fin 64)) = Finset.univ.map Fin.revPerm.toEmbedding := by simp
  conv_rhs => rw [h, Finset.fold_map]
  rfl

theorem dlog_rev (r c : Fin 64) : x.rev.dlog seesBack r c = x.dlog sees r.rev c.rev := by
  have h : seesBack r c = sees r.rev c.rev := by
    unfold seesBack sees
    exact decide_eq_decide.2 Fin.rev_le_rev.symm
  unfold dlog
  rw [h]
  rfl

theorem dmax_rev (r : Fin 64) : x.rev.dmax seesBack r = x.dmax sees r.rev := by
  unfold dmax
  rw [← fold_rev fun c => x.dlog sees r.rev c]
  exact congrArg (fun f => Finset.univ.fold max negInf f) (funext fun c => x.dlog_rev r c)

theorem pw_rev (r c : Fin 64) : x.rev.pw seesBack r c = x.pw sees r.rev c.rev := by
  unfold pw
  rw [dlog_rev, dmax_rev]
  rfl

theorem num_rev (r : Fin 64) (e : Fin 256) : x.rev.num seesBack r e = x.num sees r.rev e := by
  unfold num
  rw [← sum_rev fun c => x.pw sees r.rev c * x.v c e]
  exact Finset.sum_congr rfl fun c _ => by rw [pw_rev]; rfl

theorem den_rev (r : Fin 64) : x.rev.den seesBack r = x.den sees r.rev := by
  unfold den
  rw [← sum_rev fun c => x.pw sees r.rev c]
  exact Finset.sum_congr rfl fun c _ => by rw [pw_rev]

theorem dC_rev : x.rev.dC = x.dC := by
  funext d e
  unfold dC
  rw [← sum_rev fun c => x.ew c d * x.v c e]
  rfl

theorem dN_rev : x.rev.dN = x.dN := by
  funext d
  unfold dN
  rw [← sum_rev fun c => x.ew c d]
  rfl

/-- The order of a chunk's rows does not matter to the state. -/
theorem next_rev : x.rev.next s = x.next s := by
  unfold next
  rw [dC_rev, dN_rev]
  rfl

/-- Rows in the opposite order give the rows of the output in the opposite order. -/
theorem out_rev (r : Fin 64) (e : Fin 256) : x.rev.out seesBack s r e = x.out sees s r.rev e := by
  unfold out wi wa mt
  rw [num_rev, den_rev, dmax_rev]
  rfl

end Chunk

/-- The states a sequence of chunks goes through. -/
def stateAt (xs : ℕ → Chunk) (s : State) : ℕ → State
  | 0 => s
  | t + 1 => (xs t).next (stateAt xs s t)

/-- Chunk `t`'s output in the sequence. -/
def outAt (xs : ℕ → Chunk) (s : State) (t : ℕ) (r : Fin 64) (e : Fin 256) : Val := (xs t).out sees (stateAt xs s t) r e

/-- Entry `e` of a head's row: normalised by the row's root mean square, weighted, and gated by the logistic of `o`. -/
def gated (z w o : Fin 256 → Val) (e : Fin 256) : Val :=
  z e * Ideal.rsqrt (Ideal.div (∑ x, z x * z x) (Ideal.ofBits .f32 0x43800000#32) + Ideal.ofBits .f32 0x358637BD#32) * w e
    * Ideal.logistic (o e)

end Cert.Branch
end
-- ==== Proof.BranchChunk.lean ====
/- What the mLSTM branch's kernel computes of one chunk, at the extended reals: its payload operations are the chunk's
   mathematics, forward with the rows as they stand, backward with the causal order turned round. -/
module

public import proofs.«01_k».proof.Proof.BranchHeld
public import proofs.«01_k».proof.Proof.BranchSpec
public import Idealize.ShloMosaic.Lib.Pointwise

@[expose] public section

set_option maxRecDepth 16384

noncomputable section

namespace Cert.Branch

open Cert.KernelIdeal Cert.KernelIdeal.Gen
open Idealize.ShloMosaic Idealize.ShloMosaic.TcCoe Idealize.ShloMosaic.Tactic

/-- A row number as a lane of the gates' rows. -/
abbrev lane (r : Fin 64) : Fin 128 := ⟨r.val, by omega⟩

/-- The chunk in the windows' rows: the gates are in rows `jb` and `ji`, the chunk's own two numbers at the head of `jl`, `jw`. -/
def chunkOf (jb ji jl jw : Fin 8) (q k : Vec Ideal S64x128 .f32) (v : Vec Ideal S64x256 .f32) (g : Vec Ideal S1x1x1x8x128 .f32) : Chunk where
  q r d := q (ix2 r d)
  k r d := k (ix2 r d) * scale
  v r e := v (ix2 r e)
  b r := g (ix5 0 0 0 jb (lane r))
  i r := g (ix5 0 0 0 ji (lane r))
  bl := g (ix5 0 0 0 jl 0)
  wm := g (ix5 0 0 0 jw 0)

/-- The carried state in the scratch's halves. -/
def stateOf (s : Carry Ideal) : State := ⟨fun d e => s.C (ix3 0 d e), fun d => s.N (ix3 0 0 d), s.M (ix3 0 0 0)⟩

theorem select_eq (r x : Fin 64) (a : Val) (b : Val) :
    Scalar.select (IntOp.cmpi CmpIPredicate.eq (BitVec.ofNat 32 r.val) (BitVec.ofNat 32 x.val)) a b = if r = x then a else b := by
  have h : IntOp.cmpi CmpIPredicate.eq (BitVec.ofNat 32 r.val) (BitVec.ofNat 32 x.val) = if r = x then 1#1 else 0#1 := by
    revert r x; decide +kernel
  rw [h]
  split <;> rfl

theorem select_ge (r x : Fin 64) (a : Val) (b : Val) :
    Scalar.select (IntOp.cmpi CmpIPredicate.sge (BitVec.ofNat 32 r.val) (BitVec.ofNat 32 x.val)) a b = if sees r x then a else b := by
  have h : IntOp.cmpi CmpIPredicate.sge (BitVec.ofNat 32 r.val) (BitVec.ofNat 32 x.val) = if sees r x then 1#1 else 0#1 := by
    revert r x; decide +kernel
  rw [h]
  split <;> rfl

theorem select_le (r x : Fin 64) (a : Val) (b : Val) :
    Scalar.select (IntOp.cmpi CmpIPredicate.sle (BitVec.ofNat 32 r.val) (BitVec.ofNat 32 x.val)) a b = if seesBack r x then a else b := by
  have h : IntOp.cmpi CmpIPredicate.sle (BitVec.ofNat 32 r.val) (BitVec.ofNat 32 x.val) = if seesBack r x then 1#1 else 0#1 := by
    revert r x; decide +kernel
  rw [h]
  split <;> rfl

theorem pick (f : Fin 64 → Val) (r : Fin 64) :
    ∑ x : Fin 64, Scalar.select (IntOp.cmpi CmpIPredicate.eq (BitVec.ofNat 32 r.val) (BitVec.ofNat 32 x.val)) (f x) 0 = f r := by
  simp only [select_eq]
  rw [Finset.sum_ite_eq Finset.univ r f, if_pos (Finset.mem_univ r)]

section Fwd

variable (q k : Vec Ideal S64x128 .f32) (v : Vec Ideal S64x256 .f32) (g : Vec Ideal S1x1x1x8x128 .f32) (s : Carry Ideal)

/-- What the forward direction reads. -/
abbrev fwdChunk : Chunk := chunkOf 0 1 4 6 q k v g

theorem f8 (r : Fin 64) : k0_pay8 (F := Ideal) k0_pay69 g (ix2 r 0) = (fwdChunk q k v g).b r := by
  pointwise [k0_pay8, k0_pay69, k0_pay4, k0_pay3]
  exact pick (fun x => g (ix5 0 0 0 0 (lane x))) r

theorem f9 (r : Fin 64) : k0_pay9 (F := Ideal) k0_pay69 g (ix2 r 0) = (fwdChunk q k v g).i r := by
  pointwise [k0_pay9, k0_pay69, k0_pay5, k0_pay3]
  exact pick (fun x => g (ix5 0 0 0 1 (lane x))) r

theorem f10 (r c : Fin 64) : k0_pay10 (F := Ideal) k0_pay69 k0_pay70 g (ix2 r c) = (fwdChunk q k v g).dlog sees r c := by
  pointwise [k0_pay10, k0_pay70, k0_pay5, k0_pay4, k0_pay3]
  rw [f8 q k v, select_ge]
  rfl

theorem f11 (r : Fin 64) : k0_pay11 (F := Ideal) k0_pay69 k0_pay70 g (ix2 r 0) = (fwdChunk q k v g).dmax sees r := by
  pointwise [k0_pay11]
  simp only [f10 q k v]
  rfl

theorem f15 (r c : Fin 64) : k0_pay15 (k0_pay12 k0_pay69 k0_pay70 g) (k0_pay13 q) (k0_pay14 k) (constant S64x64 .f32 0x00000000#32) (ix2 r c)
    = (fwdChunk q k v g).pw sees r c := by
  pointwise [k0_pay15, k0_pay12, k0_pay13, k0_pay14, k0_pay2]
  rw [f10 q k v, f11 q k v]
  rfl

theorem f16 (r : Fin 64) (e : Fin 256) :
    k0_pay16 v (k0_pay12 k0_pay69 k0_pay70 g) (k0_pay13 q) (k0_pay14 k) (constant S64x64 .f32 0x00000000#32) (ix2 r e)
      = (fwdChunk q k v g).num sees r e := by
  pointwise [k0_pay16]
  simp only [f15 q k v]
  rfl

theorem f17 (r : Fin 64) :
    k0_pay17 (k0_pay12 k0_pay69 k0_pay70 g) (k0_pay13 q) (k0_pay14 k) (constant S64x64 .f32 0x00000000#32) (ix2 r 0)
      = (fwdChunk q k v g).den sees r := by
  pointwise [k0_pay17]
  simp only [f15 q k v]
  rfl

theorem f18 (c : Fin 64) (d : Fin 128) :
    k0_pay18 (k0_pay2 k) (k0_pay6 g) (k0_pay7 g) (k0_pay8 k0_pay69 g) (k0_pay9 k0_pay69 g) (ix2 c d) = (fwdChunk q k v g).ew c d := by
  pointwise [k0_pay18, k0_pay2, k0_pay6, k0_pay7, k0_pay3]
  rw [f8 q k v, f9 q k v]
  rfl

theorem f19 (d : Fin 128) (e : Fin 256) :
    k0_pay19 (k0_pay2 k) v (k0_pay6 g) (k0_pay7 g) (k0_pay8 k0_pay69 g) (k0_pay9 k0_pay69 g) (ix2 d e) = (fwdChunk q k v g).dC d e := by
  pointwise [k0_pay19]
  simp only [f18 q k v]
  rfl

theorem f20 (d : Fin 128) :
    k0_pay20 (k0_pay2 k) (k0_pay6 g) (k0_pay7 g) (k0_pay8 k0_pay69 g) (k0_pay9 k0_pay69 g) (ix2 0 d) = (fwdChunk q k v g).dN d := by
  pointwise [k0_pay20]
  simp only [f18 q k v]
  rfl

theorem f25 (r : Fin 64) :
    k0_pay25 (k0_pay8 k0_pay69 g) (k0_pay11 k0_pay69 k0_pay70 g) s.M (ix2 r 0) = (fwdChunk q k v g).mt sees (stateOf s) r := by
  pointwise [k0_pay25, k0_pay24, k0_pay23]
  rw [f8 q k v, f11 q k v]
  rfl

theorem f26 (r : Fin 64) :
    k0_pay26 (k0_pay8 k0_pay69 g) (k0_pay11 k0_pay69 k0_pay70 g) s.M (ix2 r 0) = (fwdChunk q k v g).wi sees (stateOf s) r := by
  pointwise [k0_pay26]
  rw [f25 q k v]
  pointwise [k0_pay24, k0_pay23]
  rw [f8 q k v]
  rfl

theorem f27 (r : Fin 64) :
    k0_pay27 (k0_pay8 k0_pay69 g) (k0_pay11 k0_pay69 k0_pay70 g) s.M (ix2 r 0) = (fwdChunk q k v g).wa sees (stateOf s) r := by
  pointwise [k0_pay27]
  rw [f25 q k v, f11 q k v]
  rfl

theorem fwdOut_apply (r : Fin 64) (e : Fin 256) : fwdOut q k v g s.C s.N s.M (ix3 0 r e) = (fwdChunk q k v g).out sees (stateOf s) r e := by
  unfold fwdOut
  pointwise [k0_pay30, k0_pay28, k0_pay29, k0_pay22, k0_pay21]
  simp only [f16 q k v, f17 q k v, f25 q k v, f26 q k v, f27 q k v]
  rw [zero_sub]
  rfl

theorem fwdM_apply (hl : ∀ l, g (ix5 0 0 0 4 l) = g (ix5 0 0 0 4 0)) (hw : ∀ l, g (ix5 0 0 0 6 l) = g (ix5 0 0 0 6 0))
    (hM : ∀ l, s.M (ix3 0 0 l) = s.M (ix3 0 0 0)) (l : Fin 128) : fwdM g s.M (ix3 0 0 l) = (fwdChunk q k v g).nextM (stateOf s) := by
  unfold fwdM
  pointwise [k0_pay36, k0_pay31, k0_pay23, k0_pay6, k0_pay7, k0_pay3]
  rw [hl l, hw l, hM l]
  rfl

theorem f6 (l : Fin 128) : k0_pay6 g (ix2 0 l) = g (ix5 0 0 0 4 l) := by
  pointwise [k0_pay6, k0_pay3]

theorem f7 (l : Fin 128) : k0_pay7 g (ix2 0 l) = g (ix5 0 0 0 6 l) := by
  pointwise [k0_pay7, k0_pay3]

theorem fwdC_apply (d : Fin 128) (e : Fin 256) : fwdC k v g s.C s.M (ix3 0 d e) = ((fwdChunk q k v g).next (stateOf s)).C d e := by
  unfold fwdC
  pointwise [k0_pay34, k0_pay32, k0_pay33, k0_pay31, k0_pay21, k0_pay23]
  simp only [f6, f7, f19 q k v]
  rfl

theorem fwdN_apply (hl : ∀ l, g (ix5 0 0 0 4 l) = g (ix5 0 0 0 4 0)) (hw : ∀ l, g (ix5 0 0 0 6 l) = g (ix5 0 0 0 6 0))
    (hM : ∀ l, s.M (ix3 0 0 l) = s.M (ix3 0 0 0)) (d : Fin 128) : fwdN k g s.N s.M (ix3 0 0 d) = ((fwdChunk q k v g).next (stateOf s)).n d := by
  unfold fwdN
  pointwise [k0_pay35, k0_pay32, k0_pay33, k0_pay31, k0_pay22, k0_pay23]
  simp only [f6, f7, f20 q k v]
  rw [hl d, hw d, hM d]
  rfl

end Fwd

section Bwd

variable (q k : Vec Ideal S64x128 .f32) (v : Vec Ideal S64x256 .f32) (g : Vec Ideal S1x1x1x8x128 .f32) (s : Carry Ideal)

/-- What the backward direction reads, its rows in the tokens' order. -/
abbrev bwdChunk : Chunk := chunkOf 2 3 5 7 q k v g

theorem b41 (l : Fin 128) : k0_pay41 g (ix2 0 l) = g (ix5 0 0 0 5 l) := by
  pointwise [k0_pay41, k0_pay38]

theorem b42 (l : Fin 128) : k0_pay42 g (ix2 0 l) = g (ix5 0 0 0 7 l) := by
  pointwise [k0_pay42, k0_pay38]

theorem b43 (r : Fin 64) : k0_pay43 (F := Ideal) k0_pay69 g (ix2 r 0) = (bwdChunk q k v g).b r := by
  pointwise [k0_pay43, k0_pay69, k0_pay39, k0_pay38]
  exact pick (fun x => g (ix5 0 0 0 2 (lane x))) r

theorem b44 (r : Fin 64) : k0_pay44 (F := Ideal) k0_pay69 g (ix2 r 0) = (bwdChunk q k v g).i r := by
  pointwise [k0_pay44, k0_pay69, k0_pay40, k0_pay38]
  exact pick (fun x => g (ix5 0 0 0 3 (lane x))) r

theorem b45 (r c : Fin 64) : k0_pay45 (F := Ideal) k0_pay69 k0_pay71 g (ix2 r c) = (bwdChunk q k v g).dlog seesBack r c := by
  pointwise [k0_pay45, k0_pay71, k0_pay39, k0_pay40, k0_pay38]
  rw [b43 q k v, select_le]
  rfl

theorem b46 (r : Fin 64) : k0_pay46 (F := Ideal) k0_pay69 k0_pay71 g (ix2 r 0) = (bwdChunk q k v g).dmax seesBack r := by
  pointwise [k0_pay46]
  simp only [b45 q k v]
  rfl

theorem b48 (r c : Fin 64) : k0_pay48 q (k0_pay37 k) (k0_pay45 k0_pay69 k0_pay71 g) (k0_pay47 k0_pay69 k0_pay71 g) (ix2 r c)
    = (bwdChunk q k v g).pw seesBack r c := by
  pointwise [k0_pay48, k0_pay47, k0_pay37]
  rw [b45 q k v, b46 q k v]
  rfl

theorem b49 (r : Fin 64) (e : Fin 256) :
    k0_pay49 q (k0_pay37 k) v (k0_pay45 k0_pay69 k0_pay71 g) (k0_pay47 k0_pay69 k0_pay71 g) (ix2 r e) = (bwdChunk q k v g).num seesBack r e := by
  pointwise [k0_pay49]
  simp only [b48 q k v]
  rfl

theorem b50 (r : Fin 64) :
    k0_pay50 q (k0_pay37 k) (k0_pay45 k0_pay69 k0_pay71 g) (k0_pay47 k0_pay69 k0_pay71 g) (ix2 r 0) = (bwdChunk q k v g).den seesBack r := by
  pointwise [k0_pay50]
  simp only [b48 q k v]
  rfl

theorem b51 (c : Fin 64) (d : Fin 128) :
    k0_pay51 (k0_pay37 k) (k0_pay41 g) (k0_pay42 g) (k0_pay43 k0_pay69 g) (k0_pay44 k0_pay69 g) (ix2 c d) = (bwdChunk q k v g).ew c d := by
  pointwise [k0_pay51, k0_pay37]
  rw [b41, b42, b43 q k v, b44 q k v]
  rfl

theorem b52 (d : Fin 128) (e : Fin 256) :
    k0_pay52 (k0_pay37 k) v (k0_pay41 g) (k0_pay42 g) (k0_pay43 k0_pay69 g) (k0_pay44 k0_pay69 g) (ix2 d e) = (bwdChunk q k v g).dC d e := by
  pointwise [k0_pay52]
  simp only [b51 q k v]
  rfl

theorem b53 (d : Fin 128) :
    k0_pay53 (k0_pay37 k) (k0_pay41 g) (k0_pay42 g) (k0_pay43 k0_pay69 g) (k0_pay44 k0_pay69 g) (ix2 0 d) = (bwdChunk q k v g).dN d := by
  pointwise [k0_pay53]
  simp only [b51 q k v]
  rfl

theorem b58 (r : Fin 64) :
    k0_pay58 (k0_pay43 k0_pay69 g) (k0_pay46 k0_pay69 k0_pay71 g) s.M (ix2 r 0) = (bwdChunk q k v g).mt seesBack (stateOf s) r := by
  pointwise [k0_pay58, k0_pay57, k0_pay56]
  rw [b43 q k v, b46 q k v]
  rfl

theorem b59 (r : Fin 64) :
    k0_pay59 (k0_pay43 k0_pay69 g) (k0_pay46 k0_pay69 k0_pay71 g) s.M (ix2 r 0) = (bwdChunk q k v g).wi seesBack (stateOf s) r := by
  pointwise [k0_pay59]
  rw [b58 q k v]
  pointwise [k0_pay57, k0_pay56]
  rw [b43 q k v]
  rfl

theorem b60 (r : Fin 64) :
    k0_pay60 (k0_pay43 k0_pay69 g) (k0_pay46 k0_pay69 k0_pay71 g) s.M (ix2 r 0) = (bwdChunk q k v g).wa seesBack (stateOf s) r := by
  pointwise [k0_pay60]
  rw [b58 q k v, b46 q k v]
  rfl

theorem bwdOut_apply (r : Fin 64) (e : Fin 256) : bwdOut q k v g s.C s.N s.M (ix3 0 r e) = (bwdChunk q k v g).rev.out sees (stateOf s) r.rev e := by
  have h : (bwdChunk q k v g).rev.rev = bwdChunk q k v g := by simp only [Chunk.rev, Fin.rev_rev]
  rw [← Chunk.out_rev, h]
  unfold bwdOut
  pointwise [k0_pay63, k0_pay61, k0_pay62, k0_pay54, k0_pay55]
  simp only [b49 q k v, b50 q k v, b58 q k v, b59 q k v, b60 q k v]
  rw [zero_sub]
  rfl

theorem bwdM_apply (hl : ∀ l, g (ix5 0 0 0 5 l) = g (ix5 0 0 0 5 0)) (hw : ∀ l, g (ix5 0 0 0 7 l) = g (ix5 0 0 0 7 0))
    (hM : ∀ l, s.M (ix3 0 0 l) = s.M (ix3 0 0 0)) (l : Fin 128) : bwdM g s.M (ix3 0 0 l) = (bwdChunk q k v g).nextM (stateOf s) := by
  unfold bwdM
  pointwise [k0_pay76, k0_pay64, k0_pay56]
  rw [b41, b42, hl l, hw l, hM l]
  rfl

theorem bwdC_apply (d : Fin 128) (e : Fin 256) : bwdC k v g s.C s.M (ix3 0 d e) = ((bwdChunk q k v g).next (stateOf s)).C d e := by
  unfold bwdC
  pointwise [k0_pay67, k0_pay65, k0_pay66, k0_pay64, k0_pay54, k0_pay56]
  simp only [b41, b42, b52 q k v]
  rfl

theorem bwdN_apply (hl : ∀ l, g (ix5 0 0 0 5 l) = g (ix5 0 0 0 5 0)) (hw : ∀ l, g (ix5 0 0 0 7 l) = g (ix5 0 0 0 7 0))
    (hM : ∀ l, s.M (ix3 0 0 l) = s.M (ix3 0 0 0)) (d : Fin 128) : bwdN k g s.N s.M (ix3 0 0 d) = ((bwdChunk q k v g).next (stateOf s)).n d := by
  unfold bwdN
  pointwise [k0_pay75, k0_pay68, k0_pay65, k0_pay66, k0_pay64, k0_pay55, k0_pay56]
  simp only [b41, b42, b53 q k v]
  rw [hl d, hw d, hM d]
  rfl

end Bwd

end Cert.Branch
end
-- ==== Proof.BranchBlock.lean ====
/- What the mLSTM branch's body leaves of one batch element and head, at the extended reals: the two directions' recurrences
   over the block's four chunks, backward with chunks and rows taken from the end. -/
module

public import proofs.«01_k».proof.Proof.BranchChunk

@[expose] public section

set_option maxRecDepth 16384

noncomputable section

namespace Cert.Branch

open Cert.KernelIdeal Cert.KernelIdeal.Gen
open Idealize.ShloMosaic Idealize.ShloMosaic.TcCoe Idealize.ShloMosaic.Tactic

variable (x0 x1 : Vec Ideal S256x128 .f32) (x2 : Vec Ideal S256x256 .f32) (x4 : Vec Ideal S1x1x4x8x128 .f32)

/-- The forward direction's chunks, as it reads them. -/
def chunksF (t : ℕ) : Chunk :=
  chunkOf 0 1 4 6 (rowsQ x0 (fwdIx t)) (rowsQ x1 (fwdIx t)) (rowsV x2 (fwdIx t)) (gateAt x4 (fwdIx t))

/-- The backward direction's chunks, as it reads them. -/
def chunksB (t : ℕ) : Chunk :=
  (chunkOf 2 3 5 7 (rowsQ x0 (bwdIx t)) (rowsQ x1 (bwdIx t)) (rowsV x2 (bwdIx t)) (gateAt x4 (bwdIx t))).rev

/-- The gates' rows of whole-chunk numbers hold one number each. -/
def Flat (x4 : Vec Ideal S1x1x4x8x128 .f32) : Prop := ∀ (o : Fin 4) (j : Fin 8) (l : Fin 128), 4 ≤ j.val → x4 (ix5 0 0 o j l) = x4 (ix5 0 0 o j 0)

/-- A carry's stabiliser is one number, in every lane. -/
def Carry.Flat (s : Carry Ideal) : Prop := ∀ l, s.M (ix3 0 0 l) = s.M (ix3 0 0 0)

variable (hx : Flat x4) (s : Carry Ideal) (hs : s.Flat)

include hx hs

theorem fwdAt_flat (n : ℕ) : (fwdAt x1 x2 x4 s n).Flat := by
  induction n with
  | zero => exact hs
  | succ n ih =>
    have h := fwdM_apply (rowsQ x1 (fwdIx n)) (rowsQ x1 (fwdIx n)) (rowsV x2 (fwdIx n)) (gateAt x4 (fwdIx n)) (fwdAt x1 x2 x4 s n)
      (fun l => hx _ 4 l (by decide)) (fun l => hx _ 6 l (by decide)) ih
    exact fun l => (h l).trans (h 0).symm

theorem bwdAt_flat (n : ℕ) : (bwdAt x1 x2 x4 s n).Flat := by
  induction n with
  | zero => exact hs
  | succ n ih =>
    have h := bwdM_apply (rowsQ x1 (bwdIx n)) (rowsQ x1 (bwdIx n)) (rowsV x2 (bwdIx n)) (gateAt x4 (bwdIx n)) (bwdAt x1 x2 x4 s n)
      (fun l => hx _ 5 l (by decide)) (fun l => hx _ 7 l (by decide)) ih
    exact fun l => (h l).trans (h 0).symm

theorem stateOf_fwdAt (n : ℕ) : stateOf (fwdAt x1 x2 x4 s n) = stateAt (chunksF x0 x1 x2 x4) (stateOf s) n := by
  induction n with
  | zero => rfl
  | succ n ih =>
    have hf := fwdAt_flat x1 x2 x4 hx s hs n
    show _ = (chunksF x0 x1 x2 x4 n).next (stateAt (chunksF x0 x1 x2 x4) (stateOf s) n)
    rw [← ih]
    apply State.ext
    · funext d e
      exact fwdC_apply (rowsQ x0 (fwdIx n)) _ _ _ _ d e
    · funext d
      exact fwdN_apply (rowsQ x0 (fwdIx n)) _ (rowsV x2 (fwdIx n)) _ _ (fun l => hx _ 4 l (by decide)) (fun l => hx _ 6 l (by decide)) hf d
    · exact fwdM_apply (rowsQ x0 (fwdIx n)) (rowsQ x1 (fwdIx n)) (rowsV x2 (fwdIx n)) _ _ (fun l => hx _ 4 l (by decide))
        (fun l => hx _ 6 l (by decide)) hf 0

theorem stateOf_bwdAt (n : ℕ) : stateOf (bwdAt x1 x2 x4 s n) = stateAt (chunksB x0 x1 x2 x4) (stateOf s) n := by
  induction n with
  | zero => rfl
  | succ n ih =>
    have hf := bwdAt_flat x1 x2 x4 hx s hs n
    show _ = (chunksB x0 x1 x2 x4 n).next (stateAt (chunksB x0 x1 x2 x4) (stateOf s) n)
    rw [← ih]
    unfold chunksB
    rw [Chunk.next_rev]
    apply State.ext
    · funext d e
      exact bwdC_apply (rowsQ x0 (bwdIx n)) _ _ _ _ d e
    · funext d
      exact bwdN_apply (rowsQ x0 (bwdIx n)) _ (rowsV x2 (bwdIx n)) _ _ (fun l => hx _ 5 l (by decide)) (fun l => hx _ 7 l (by decide)) hf d
    · exact bwdM_apply (rowsQ x0 (bwdIx n)) (rowsQ x1 (bwdIx n)) (rowsV x2 (bwdIx n)) _ _ (fun l => hx _ 5 l (by decide))
        (fun l => hx _ 7 l (by decide)) hf 0

theorem fwdH_apply (n : ℕ) (r : Fin 64) (e : Fin 256) :
    fwdH x0 x1 x2 x4 s n (ix3 0 r e) = outAt (chunksF x0 x1 x2 x4) (stateOf s) n r e := by
  unfold outAt
  rw [← stateOf_fwdAt x0 x1 x2 x4 hx s hs n]
  exact fwdOut_apply _ _ _ _ _ r e

theorem bwdH_apply (n : ℕ) (r : Fin 64) (e : Fin 256) :
    bwdH x0 x1 x2 x4 s n (ix3 0 r e) = outAt (chunksB x0 x1 x2 x4) (stateOf s) n r.rev e := by
  unfold outAt
  rw [← stateOf_bwdAt x0 x1 x2 x4 hx s hs n]
  exact bwdOut_apply _ _ _ _ _ r e

omit hx hs

variable (x3 : Vec Ideal S256x256 .f32) (x5 : Vec Ideal S1x2x1x128x256 .f32) (x6 x7 : Vec Ideal S1x2x1x1x128 .f32) (x8 : Vec Ideal S1x256 .f32)

/-- Direction `d`'s initial state. -/
def state0 (d : Fin 2) : State := ⟨fun a e => x5 (ix5 0 d 0 a e), fun a => x6 (ix5 0 d 0 0 a), x7 (ix5 0 d 0 0 0)⟩

theorem stateOf_carry0 (d : Fin 2) : stateOf (carry0 x5 x6 x7 d) = state0 x5 x6 x7 d := by
  apply State.ext
  · funext a e
    show k0_pay72 x5 (ix3 d a e) = x5 (ix5 0 d 0 a e)
    pointwise [k0_pay72]
  · funext a
    show k0_pay73 x6 (ix3 d 0 a) = x6 (ix5 0 d 0 0 a)
    pointwise [k0_pay73]
  · show k0_pay74 x7 (ix3 d 0 0) = x7 (ix5 0 d 0 0 0)
    pointwise [k0_pay74]

theorem carry0_flat (h7 : ∀ (d : Fin 2) (l : Fin 128), x7 (ix5 0 d 0 0 l) = x7 (ix5 0 d 0 0 0)) (d : Fin 2) :
    (carry0 x5 x6 x7 d).Flat := by
  have h : ∀ l : Fin 128, k0_pay74 x7 (ix3 d 0 l) = x7 (ix5 0 d 0 0 l) := fun l => by pointwise [k0_pay74]
  exact fun l => (h l).trans ((h7 d l).trans (h 0).symm)

/-- The chunks of direction `d`. -/
def chunks (d : Fin 2) : ℕ → Chunk := if d.val = 0 then chunksF x0 x1 x2 x4 else chunksB x0 x1 x2 x4

/-- Row `r`'s sum of the two directions' outputs. -/
def both (r e : Fin 256) : Val :=
  outAt (chunks x0 x1 x2 x4 0) (state0 x5 x6 x7 0) (r.val / 64) ⟨r.val % 64, Nat.mod_lt _ (by decide)⟩ e
    + outAt (chunks x0 x1 x2 x4 1) (state0 x5 x6 x7 1) (3 - r.val / 64) (Fin.rev ⟨r.val % 64, Nat.mod_lt _ (by decide)⟩) e

variable (h7 : ∀ (d : Fin 2) (l : Fin 128), x7 (ix5 0 d 0 0 l) = x7 (ix5 0 d 0 0 0))

include hx h7

theorem outC_apply (d : Fin 2) (a : Fin 128) (e : Fin 256) :
    outC x1 x2 x4 x5 x6 x7 (ix5 0 d 0 a e) = (stateAt (chunks x0 x1 x2 x4 d) (state0 x5 x6 x7 d) 4).C a e := by
  have hf := congrFun (congrFun (congrArg State.C (stateOf_fwdAt x0 x1 x2 x4 hx _ (carry0_flat x5 x6 x7 h7 0) 4)) a) e
  have hb := congrFun (congrFun (congrArg State.C (stateOf_bwdAt x0 x1 x2 x4 hx _ (carry0_flat x5 x6 x7 h7 1) 4)) a) e
  rw [stateOf_carry0] at hf hb
  unfold outC
  pointwise [k0_pay79]
  fin_cases d
  · exact hf
  · exact hb

theorem outN_apply (d : Fin 2) (a : Fin 128) :
    outN x1 x2 x4 x5 x6 x7 (ix5 0 d 0 0 a) = (stateAt (chunks x0 x1 x2 x4 d) (state0 x5 x6 x7 d) 4).n a := by
  have hf := congrFun (congrArg State.n (stateOf_fwdAt x0 x1 x2 x4 hx _ (carry0_flat x5 x6 x7 h7 0) 4)) a
  have hb := congrFun (congrArg State.n (stateOf_bwdAt x0 x1 x2 x4 hx _ (carry0_flat x5 x6 x7 h7 1) 4)) a
  rw [stateOf_carry0] at hf hb
  unfold outN
  pointwise [k0_pay80]
  fin_cases d
  · exact hf
  · exact hb

theorem outM_apply (d : Fin 2) (l : Fin 128) :
    outM x1 x2 x4 x5 x6 x7 (ix5 0 d 0 0 l) = (stateAt (chunks x0 x1 x2 x4 d) (state0 x5 x6 x7 d) 4).m := by
  have hf := congrArg State.m (stateOf_fwdAt x0 x1 x2 x4 hx _ (carry0_flat x5 x6 x7 h7 0) 4)
  have hb := congrArg State.m (stateOf_bwdAt x0 x1 x2 x4 hx _ (carry0_flat x5 x6 x7 h7 1) 4)
  rw [stateOf_carry0] at hf hb
  unfold outM
  pointwise [k0_pay1]
  fin_cases d
  · exact (fwdAt_flat x1 x2 x4 hx _ (carry0_flat x5 x6 x7 h7 0) 4 l).trans hf
  · exact (bwdAt_flat x1 x2 x4 hx _ (carry0_flat x5 x6 x7 h7 1) 4 l).trans hb

theorem outY_apply (r e : Fin 256) :
    outY x0 x1 x2 x4 x3 x5 x6 x7 x8 (ix2 r e)
      = gated (both x0 x1 x2 x4 x5 x6 x7 r) (fun e => x8 (ix2 0 e)) (fun e => x3 (ix2 r e)) e := by
  have hz : ∀ e, allFwd x0 x1 x2 x4 x5 x6 x7 (ix3 0 r e) + allBwd x0 x1 x2 x4 x5 x6 x7 (ix3 0 r e)
      = both x0 x1 x2 x4 x5 x6 x7 r e := by
    intro e
    unfold both
    rw [← stateOf_carry0, ← stateOf_carry0]
    exact congrArg₂ (· + ·) (fwdH_apply x0 x1 x2 x4 hx _ (carry0_flat x5 x6 x7 h7 0) _ _ e)
      (bwdH_apply x0 x1 x2 x4 hx _ (carry0_flat x5 x6 x7 h7 1) _ _ e)
  unfold outY
  pointwise [k0_pay78, k0_pay77]
  simp only [hz]
  rfl

end Cert.Branch
end
-- ==== Proof.BranchDir.lean ====
/- One direction of the mLSTM as the reference computes it, over whole arrays (batch element, head, chunk, row, feature), and
   that at the extended reals it is the chunks' mathematics, chunk after chunk. -/
module

public import proofs.«01_k».proof.Proof.BranchChunk
public import proofs.«01_k».proof.Proof.Gen.ReferenceIdeal.Read
public import Idealize.ShloMosaic.Lib.Pointwise

@[expose] public section

set_option maxRecDepth 16384

noncomputable section

namespace Cert.BranchDir

open Cert.ReferenceIdeal Cert.ReferenceIdeal.Gen Cert.Branch
open Idealize.ShloMosaic Idealize.ShloMosaic.TcCoe Idealize.ShloMosaic.Tactic

/-! ## The arrays -/

/-- The running sums along the rows of a chunk. -/
def rCum (x : Vec Ideal S16x4x4x64 .f32) : Vec Ideal S16x4x4x64 .f32 :=
  Host.reduceWindowAdd (F := Ideal) (φ := .f32) ![1, 1, 1, 64] ![1, 1, 1, 1] ![0, 0, 0, 63] ![0, 0, 0, 0] x
    (broadcastInDim S_ ![] bcast_S_S_ (constant (F := Ideal) S_ .f32 0x00000000#32))
    reduceWindows_S16x4x4x64_S16x4x4x64_w1s1p0_0_w1s1p0_0_w1s1p0_0_w64s1p63_0 h_S_

variable (q k : Vec Ideal S16x4x4x64x128 .f32) (v : Vec Ideal S16x4x4x64x256 .f32) (i b : Vec Ideal S16x4x4x64 .f32)

/-- A number of each row along the rows seen from it, and the same across. -/
def rDown (x : Vec Ideal S16x4x4x64 .f32) : Vec Ideal S16x4x4x64x64 .f32 :=
  broadcastInDim S16x4x4x64x64 ![0, 1, 2, 3, 4] bcast_S16x4x4x64x1_S16x4x4x64x64_0_1_2_3_4
    (broadcastInDim S16x4x4x64x1 ![0, 1, 2, 3] bcast_S16x4x4x64_S16x4x4x64x1_0_1_2_3 x)
def rAcross (x : Vec Ideal S16x4x4x64 .f32) : Vec Ideal S16x4x4x64x64 .f32 :=
  broadcastInDim S16x4x4x64x64 ![0, 1, 2, 3, 4] bcast_S16x4x4x1x64_S16x4x4x64x64_0_1_2_3_4
    (broadcastInDim S16x4x4x1x64 ![0, 1, 2, 4] bcast_S16x4x4x64_S16x4x4x1x64_0_1_2_4 x)
/-- A number of each row along the row's features. -/
def rKeys (x : Vec Ideal S16x4x4x64 .f32) : Vec Ideal S16x4x4x64x128 .f32 :=
  broadcastInDim S16x4x4x64x128 ![0, 1, 2, 3, 4] bcast_S16x4x4x64x1_S16x4x4x64x128_0_1_2_3_4
    (broadcastInDim S16x4x4x64x1 ![0, 1, 2, 3] bcast_S16x4x4x64_S16x4x4x64x1_0_1_2_3 x)
def rVals (x : Vec Ideal S16x4x4x64 .f32) : Vec Ideal S16x4x4x64x256 .f32 :=
  broadcastInDim S16x4x4x64x256 ![0, 1, 2, 3, 4] bcast_S16x4x4x64x1_S16x4x4x64x256_0_1_2_3_4
    (broadcastInDim S16x4x4x64x1 ![0, 1, 2, 3] bcast_S16x4x4x64_S16x4x4x64x1_0_1_2_3 x)
/-- A number of each chunk along its rows. -/
def rRows (x : Vec Ideal S16x4x4 .f32) : Vec Ideal S16x4x4x64 .f32 :=
  broadcastInDim S16x4x4x64 ![0, 1, 2, 3] bcast_S16x4x4x1_S16x4x4x64_0_1_2_3
    (broadcastInDim S16x4x4x1 ![0, 1, 2] bcast_S16x4x4_S16x4x4x1_0_1_2 x)

/-- The lower triangle. -/
def rMask : Vec Ideal S64x64 .i1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))

def rDlog : Vec Ideal S16x4x4x64x64 .f32 :=
  select (broadcastInDim S16x4x4x64x64 ![3, 4] bcast_S64x64_S16x4x4x64x64_3_4 rMask)
    (addf (F := Ideal) (φ := .f32) (subf (F := Ideal) (φ := .f32) (rDown b) (rAcross b)) (rAcross i))
    (broadcastInDim S16x4x4x64x64 ![] bcast_S_S16x4x4x64x64 (id (constant (F := Ideal) S_ .f32 0xFF800000#32)))
def rDmax : Vec Ideal S16x4x4x64 .f32 :=
  Host.reduce (FloatOps.maximumf (F := Ideal) (φ := .f32)) (rDlog i b) (constant (F := Ideal) S_ .f32 0xFF800000#32) reducesTo_S16x4x4x64x64_S16x4x4x64_d4 h_S_
def rPw : Vec Ideal S16x4x4x64x64 .f32 :=
  mulf (F := Ideal) (φ := .f32) (Host.exp (F := Ideal) (φ := .f32) (subf (F := Ideal) (φ := .f32) (rDlog i b) (rDown (rDmax i b))))
    (Host.dotGeneral (F := Ideal) (φ₁ := .f32) (φ₂ := .f32) dot_S16x4x4x64x128_S16x4x4x64x128_S16x4x4x64x64_4_4_3_3_012_012 none q k)
def rNum : Vec Ideal S16x4x4x64x256 .f32 :=
  Host.dotGeneral (F := Ideal) (φ₁ := .f32) (φ₂ := .f32) dot_S16x4x4x64x64_S16x4x4x64x256_S16x4x4x64x256_4_3_3_4_012_012 none (rPw q k i b) v
def rDen : Vec Ideal S16x4x4x64 .f32 :=
  Host.reduceAdd (F := Ideal) (φ := .f32) (rPw q k i b) (constant (F := Ideal) S_ .f32 0x00000000#32) reducesTo_S16x4x4x64x64_S16x4x4x64_d4 h_S_
def rBl : Vec Ideal S16x4x4 .f32 :=
  shapeCast _ (extractStridedSlice S16x4x4x1 ![0, 0, 0, 63] b slices_S16x4x4x64_S16x4x4x1_0_0_0_63) shapeCasts_S16x4x4x1_S16x4x4
def rWlog : Vec Ideal S16x4x4x64 .f32 :=
  addf (F := Ideal) (φ := .f32) (subf (F := Ideal) (φ := .f32) (rRows (rBl b)) b) i
def rWm : Vec Ideal S16x4x4 .f32 :=
  Host.reduce (FloatOps.maximumf (F := Ideal) (φ := .f32)) (rWlog i b) (constant (F := Ideal) S_ .f32 0xFF800000#32) reducesTo_S16x4x4x64_S16x4x4_d3 h_S_
def rEw : Vec Ideal S16x4x4x64x128 .f32 :=
  mulf (F := Ideal) (φ := .f32) (rKeys (Host.exp (F := Ideal) (φ := .f32) (subf (F := Ideal) (φ := .f32) (rWlog i b) (rRows (rWm i b))))) k
def rDC : Vec Ideal S16x4x4x128x256 .f32 :=
  Host.dotGeneral (F := Ideal) (φ₁ := .f32) (φ₂ := .f32) dot_S16x4x4x64x128_S16x4x4x64x256_S16x4x4x128x256_3_3_4_4_012_012 none (rEw k i b) v
def rDN : Vec Ideal S16x4x4x128 .f32 :=
  Host.reduceAdd (F := Ideal) (φ := .f32) (rEw k i b) (constant (F := Ideal) S_ .f32 0x00000000#32) reducesTo_S16x4x4x64x128_S16x4x4x128_d3 h_S_

/-! ## One step of the recurrence -/

section Step

variable (bl wm m : Vec Ideal S16x4 .f32) (dC C : Vec Ideal S16x4x128x256 .f32) (dN n : Vec Ideal S16x4x128 .f32)

def sM : Vec Ideal S16x4 .f32 := maximumf (F := Ideal) (φ := .f32) (addf (F := Ideal) (φ := .f32) bl m) wm
def sOld : Vec Ideal S16x4 .f32 := Host.exp (F := Ideal) (φ := .f32) (subf (F := Ideal) (φ := .f32) (addf (F := Ideal) (φ := .f32) bl m) (sM bl wm m))
def sNew : Vec Ideal S16x4 .f32 := Host.exp (F := Ideal) (φ := .f32) (subf (F := Ideal) (φ := .f32) wm (sM bl wm m))
def sMat (x : Vec Ideal S16x4 .f32) : Vec Ideal S16x4x128x256 .f32 :=
  broadcastInDim S16x4x128x256 ![0, 1, 2, 3] bcast_S16x4x1x1_S16x4x128x256_0_1_2_3 (broadcastInDim S16x4x1x1 ![0, 1] bcast_S16x4_S16x4x1x1_0_1 x)
def sVec (x : Vec Ideal S16x4 .f32) : Vec Ideal S16x4x128 .f32 :=
  broadcastInDim S16x4x128 ![0, 1, 2] bcast_S16x4x1_S16x4x128_0_1_2 (broadcastInDim S16x4x1 ![0, 1] bcast_S16x4_S16x4x1_0_1 x)
def sC : Vec Ideal S16x4x128x256 .f32 :=
  addf (F := Ideal) (φ := .f32) (mulf (F := Ideal) (φ := .f32) (sMat (sOld bl wm m)) C) (mulf (F := Ideal) (φ := .f32) (sMat (sNew bl wm m)) dC)
def sN : Vec Ideal S16x4x128 .f32 :=
  addf (F := Ideal) (φ := .f32) (mulf (F := Ideal) (φ := .f32) (sVec (sOld bl wm m)) n) (mulf (F := Ideal) (φ := .f32) (sVec (sNew bl wm m)) dN)

theorem sM_apply (β : Fin 16) (h : Fin 4) : sM bl wm m (ix2 β h) = max (bl (ix2 β h) + m (ix2 β h)) (wm (ix2 β h)) := by
  pointwise [sM]
theorem sC_apply (β : Fin 16) (h : Fin 4) (a : Fin 128) (e : Fin 256) : sC bl wm m dC C (ix4 β h a e)
    = Ideal.exp (bl (ix2 β h) + m (ix2 β h) - sM bl wm m (ix2 β h)) * C (ix4 β h a e)
      + Ideal.exp (wm (ix2 β h) - sM bl wm m (ix2 β h)) * dC (ix4 β h a e) := by
  pointwise [sC, sMat, sOld, sNew]
theorem sN_apply (β : Fin 16) (h : Fin 4) (a : Fin 128) : sN bl wm m dN n (ix3 β h a)
    = Ideal.exp (bl (ix2 β h) + m (ix2 β h) - sM bl wm m (ix2 β h)) * n (ix3 β h a)
      + Ideal.exp (wm (ix2 β h) - sM bl wm m (ix2 β h)) * dN (ix3 β h a) := by
  pointwise [sN, sVec, sOld, sNew]

end Step

/-! ## The arrays, read as chunks -/

/-- Chunk `t` of batch element `β` and head `h`. -/
def chunkAt (β : Fin 16) (h : Fin 4) (t : Fin 4) : Chunk where
  q r d := q (ix5 β h t r d)
  k r d := k (ix5 β h t r d)
  v r e := v (ix5 β h t r e)
  b r := b (ix4 β h t r)
  i r := i (ix4 β h t r)
  bl := b (ix4 β h t 63)
  wm := Finset.univ.fold max negInf fun r : Fin 64 => b (ix4 β h t 63) - b (ix4 β h t r) + i (ix4 β h t r)

variable (β : Fin 16) (h t : Fin 4)

theorem mask_apply (r c : Fin 64) (x y : Val) : Scalar.select (rMask (ix2 r c)) x y = if sees r c then x else y := by
  have hm : rMask (ix2 r c) = if sees r c then 1#1 else 0#1 := by
    pointwise [rMask]
    revert r c; decide +kernel
  rw [hm]
  split <;> rfl

theorem dlog_apply (r c : Fin 64) : rDlog i b (ix5 β h t r c) = (chunkAt q k v i b β h t).dlog sees r c := by
  pointwise [rDlog, rDown, rAcross]
  rw [mask_apply]
  rfl

theorem dmax_apply (r : Fin 64) : rDmax i b (ix4 β h t r) = (chunkAt q k v i b β h t).dmax sees r := by
  pointwise [rDmax]
  simp only [dlog_apply q k v]
  rfl

theorem pw_apply (r c : Fin 64) : rPw q k i b (ix5 β h t r c) = (chunkAt q k v i b β h t).pw sees r c := by
  pointwise [rPw, rDown]
  rw [dlog_apply q k v, dmax_apply q k v]
  rfl

theorem num_apply (r : Fin 64) (e : Fin 256) : rNum q k v i b (ix5 β h t r e) = (chunkAt q k v i b β h t).num sees r e := by
  pointwise [rNum]
  simp only [pw_apply q k v]
  rfl

theorem den_apply (r : Fin 64) : rDen q k i b (ix4 β h t r) = (chunkAt q k v i b β h t).den sees r := by
  pointwise [rDen]
  simp only [pw_apply q k v]
  rfl

theorem bl_apply : rBl b (ix3 β h t) = (chunkAt q k v i b β h t).bl := by
  pointwise [rBl]
  rfl

theorem wm_apply : rWm i b (ix3 β h t) = (chunkAt q k v i b β h t).wm := by
  pointwise [rWm, rWlog, rRows, rBl]
  rfl

theorem ew_apply (c : Fin 64) (d : Fin 128) : rEw k i b (ix5 β h t c d) = (chunkAt q k v i b β h t).ew c d := by
  pointwise [rEw, rKeys, rWlog, rRows]
  rw [bl_apply q k v i, wm_apply q k v]
  rfl

theorem dC_apply (d : Fin 128) (e : Fin 256) : rDC k v i b (ix5 β h t d e) = (chunkAt q k v i b β h t).dC d e := by
  pointwise [rDC]
  simp only [ew_apply q k v]
  rfl

theorem dN_apply (d : Fin 128) : rDN k i b (ix4 β h t d) = (chunkAt q k v i b β h t).dN d := by
  pointwise [rDN]
  simp only [ew_apply q k v]
  rfl

/-! ## The states -/

/-- A number of each head, its vector, its matrix: those of chunk `t`. -/
def numAt (x : Vec Ideal S16x4x4 .f32) : Fin 4 → Vec Ideal S16x4 .f32 :=
  ![shapeCast _ (extractStridedSlice S16x4x1 ![0, 0, 0] x slices_S16x4x4_S16x4x1_0_0_0) shapeCasts_S16x4x1_S16x4,
    shapeCast _ (extractStridedSlice S16x4x1 ![0, 0, 1] x slices_S16x4x4_S16x4x1_0_0_1) shapeCasts_S16x4x1_S16x4,
    shapeCast _ (extractStridedSlice S16x4x1 ![0, 0, 2] x slices_S16x4x4_S16x4x1_0_0_2) shapeCasts_S16x4x1_S16x4,
    shapeCast _ (extractStridedSlice S16x4x1 ![0, 0, 3] x slices_S16x4x4_S16x4x1_0_0_3) shapeCasts_S16x4x1_S16x4]
def vecAt (x : Vec Ideal S16x4x4x128 .f32) : Fin 4 → Vec Ideal S16x4x128 .f32 :=
  ![shapeCast _ (extractStridedSlice S16x4x1x128 ![0, 0, 0, 0] x slices_S16x4x4x128_S16x4x1x128_0_0_0_0) shapeCasts_S16x4x1x128_S16x4x128,
    shapeCast _ (extractStridedSlice S16x4x1x128 ![0, 0, 1, 0] x slices_S16x4x4x128_S16x4x1x128_0_0_1_0) shapeCasts_S16x4x1x128_S16x4x128,
    shapeCast _ (extractStridedSlice S16x4x1x128 ![0, 0, 2, 0] x slices_S16x4x4x128_S16x4x1x128_0_0_2_0) shapeCasts_S16x4x1x128_S16x4x128,
    shapeCast _ (extractStridedSlice S16x4x1x128 ![0, 0, 3, 0] x slices_S16x4x4x128_S16x4x1x128_0_0_3_0) shapeCasts_S16x4x1x128_S16x4x128]
def matAt (x : Vec Ideal S16x4x4x128x256 .f32) : Fin 4 → Vec Ideal S16x4x128x256 .f32 :=
  ![shapeCast _ (extractStridedSlice S16x4x1x128x256 ![0, 0, 0, 0, 0] x slices_S16x4x4x128x256_S16x4x1x128x256_0_0_0_0_0) shapeCasts_S16x4x1x128x256_S16x4x128x256,
    shapeCast _ (extractStridedSlice S16x4x1x128x256 ![0, 0, 1, 0, 0] x slices_S16x4x4x128x256_S16x4x1x128x256_0_0_1_0_0) shapeCasts_S16x4x1x128x256_S16x4x128x256,
    shapeCast _ (extractStridedSlice S16x4x1x128x256 ![0, 0, 2, 0, 0] x slices_S16x4x4x128x256_S16x4x1x128x256_0_0_2_0_0) shapeCasts_S16x4x1x128x256_S16x4x128x256,
    shapeCast _ (extractStridedSlice S16x4x1x128x256 ![0, 0, 3, 0, 0] x slices_S16x4x4x128x256_S16x4x1x128x256_0_0_3_0_0) shapeCasts_S16x4x1x128x256_S16x4x128x256]

theorem numAt_apply (x : Vec Ideal S16x4x4 .f32) : numAt x t (ix2 β h) = x (ix3 β h t) := by
  fin_cases t <;> pointwise [numAt]
theorem vecAt_apply (x : Vec Ideal S16x4x4x128 .f32) (a : Fin 128) : vecAt x t (ix3 β h a) = x (ix4 β h t a) := by
  fin_cases t <;> pointwise [vecAt]
theorem matAt_apply (x : Vec Ideal S16x4x4x128x256 .f32) (a : Fin 128) (e : Fin 256) : matAt x t (ix4 β h a e) = x (ix5 β h t a e) := by
  fin_cases t <;> pointwise [matAt]

/-- The states of every head. -/
structure Held where
  C : Vec Ideal S16x4x128x256 .f32
  n : Vec Ideal S16x4x128 .f32
  m : Vec Ideal S16x4 .f32

/-- A number below four. -/
abbrev four (n : ℕ) : Fin 4 := ⟨n % 4, Nat.mod_lt _ (by decide)⟩

variable (s : Held)

/-- The states before chunk `n`. -/
def heldAt : ℕ → Held
  | 0 => s
  | n + 1 =>
    ⟨sC (numAt (rBl b) (four n)) (numAt (rWm i b) (four n)) (heldAt n).m (matAt (rDC k v i b) (four n)) (heldAt n).C,
     sN (numAt (rBl b) (four n)) (numAt (rWm i b) (four n)) (heldAt n).m (vecAt (rDN k i b) (four n)) (heldAt n).n,
     sM (numAt (rBl b) (four n)) (numAt (rWm i b) (four n)) (heldAt n).m⟩

/-- One head's state. -/
def Held.at (s : Held) (β : Fin 16) (h : Fin 4) : State := ⟨fun a e => s.C (ix4 β h a e), fun a => s.n (ix3 β h a), s.m (ix2 β h)⟩

/-- One head's chunks. -/
def chunksAt (β : Fin 16) (h : Fin 4) (n : ℕ) : Chunk := chunkAt q k v i b β h (four n)

theorem heldAt_apply (n : ℕ) : (heldAt k v i b s n).at β h = stateAt (chunksAt q k v i b β h) (s.at β h) n := by
  induction n with
  | zero => rfl
  | succ n ih =>
    show _ = (chunksAt q k v i b β h n).next (stateAt (chunksAt q k v i b β h) (s.at β h) n)
    rw [← ih]
    have hm : (heldAt k v i b s (n + 1)).m (ix2 β h) = (chunksAt q k v i b β h n).nextM ((heldAt k v i b s n).at β h) := by
      show sM _ _ _ _ = _
      rw [sM_apply, numAt_apply, numAt_apply, bl_apply q k v i, wm_apply q k v]
      rfl
    apply State.ext
    · funext a e
      show sC _ _ _ _ _ _ = _
      rw [sC_apply, numAt_apply, numAt_apply, matAt_apply, bl_apply q k v i, wm_apply q k v, dC_apply q]
      exact congrArg (fun x => Ideal.exp (_ - x) * _ + Ideal.exp (_ - x) * _) hm
    · funext a
      show sN _ _ _ _ _ _ = _
      rw [sN_apply, numAt_apply, numAt_apply, vecAt_apply, bl_apply q k v i, wm_apply q k v, dN_apply q k v]
      exact congrArg (fun x => Ideal.exp (_ - x) * _ + Ideal.exp (_ - x) * _) hm
    · exact hm

/-! ## The output -/

/-- The states before each chunk, side by side. -/
def matStack (x : Fin 4 → Vec Ideal S16x4x128x256 .f32) : Vec Ideal S16x4x4x128x256 .f32 :=
  concatenate S16x4x4x128x256 2
    [⟨S16x4x1x128x256, broadcastInDim S16x4x1x128x256 ![0, 1, 3, 4] bcast_S16x4x128x256_S16x4x1x128x256_0_1_3_4 (x 0)⟩,
     ⟨S16x4x1x128x256, broadcastInDim S16x4x1x128x256 ![0, 1, 3, 4] bcast_S16x4x128x256_S16x4x1x128x256_0_1_3_4 (x 1)⟩,
     ⟨S16x4x1x128x256, broadcastInDim S16x4x1x128x256 ![0, 1, 3, 4] bcast_S16x4x128x256_S16x4x1x128x256_0_1_3_4 (x 2)⟩,
     ⟨S16x4x1x128x256, broadcastInDim S16x4x1x128x256 ![0, 1, 3, 4] bcast_S16x4x128x256_S16x4x1x128x256_0_1_3_4 (x 3)⟩]
    concatenates_S16x4x1x128x256_S16x4x1x128x256_S16x4x1x128x256_S16x4x1x128x256_S16x4x4x128x256_d2
def vecStack (x : Fin 4 → Vec Ideal S16x4x128 .f32) : Vec Ideal S16x4x4x128 .f32 :=
  concatenate S16x4x4x128 2
    [⟨S16x4x1x128, broadcastInDim S16x4x1x128 ![0, 1, 3] bcast_S16x4x128_S16x4x1x128_0_1_3 (x 0)⟩,
     ⟨S16x4x1x128, broadcastInDim S16x4x1x128 ![0, 1, 3] bcast_S16x4x128_S16x4x1x128_0_1_3 (x 1)⟩,
     ⟨S16x4x1x128, broadcastInDim S16x4x1x128 ![0, 1, 3] bcast_S16x4x128_S16x4x1x128_0_1_3 (x 2)⟩,
     ⟨S16x4x1x128, broadcastInDim S16x4x1x128 ![0, 1, 3] bcast_S16x4x128_S16x4x1x128_0_1_3 (x 3)⟩]
    concatenates_S16x4x1x128_S16x4x1x128_S16x4x1x128_S16x4x1x128_S16x4x4x128_d2
def numStack (x : Fin 4 → Vec Ideal S16x4 .f32) : Vec Ideal S16x4x4 .f32 :=
  concatenate S16x4x4 2
    [⟨S16x4x1, broadcastInDim S16x4x1 ![0, 1] bcast_S16x4_S16x4x1_0_1 (x 0)⟩, ⟨S16x4x1, broadcastInDim S16x4x1 ![0, 1] bcast_S16x4_S16x4x1_0_1 (x 1)⟩,
     ⟨S16x4x1, broadcastInDim S16x4x1 ![0, 1] bcast_S16x4_S16x4x1_0_1 (x 2)⟩, ⟨S16x4x1, broadcastInDim S16x4x1 ![0, 1] bcast_S16x4_S16x4x1_0_1 (x 3)⟩]
    concatenates_S16x4x1_S16x4x1_S16x4x1_S16x4x1_S16x4x4_d2

theorem matStack_apply (x : Fin 4 → Vec Ideal S16x4x128x256 .f32) (a : Fin 128) (e : Fin 256) :
    matStack x (ix5 β h t a e) = x t (ix4 β h a e) := by
  fin_cases t <;> pointwise [matStack]
theorem vecStack_apply (x : Fin 4 → Vec Ideal S16x4x128 .f32) (a : Fin 128) : vecStack x (ix4 β h t a) = x t (ix3 β h a) := by
  fin_cases t <;> pointwise [vecStack]
theorem numStack_apply (x : Fin 4 → Vec Ideal S16x4 .f32) : numStack x (ix3 β h t) = x t (ix2 β h) := by
  fin_cases t <;> pointwise [numStack]

section Out

variable (num : Vec Ideal S16x4x4x64x256 .f32) (den dmax : Vec Ideal S16x4x4x64 .f32) (C : Vec Ideal S16x4x4x128x256 .f32)
  (n : Vec Ideal S16x4x4x128 .f32) (m : Vec Ideal S16x4x4 .f32)

def oLog : Vec Ideal S16x4x4x64 .f32 := addf (F := Ideal) (φ := .f32) b (rRows m)
def oMt : Vec Ideal S16x4x4x64 .f32 := maximumf (F := Ideal) (φ := .f32) (oLog b m) dmax
def oWi : Vec Ideal S16x4x4x64 .f32 := Host.exp (F := Ideal) (φ := .f32) (subf (F := Ideal) (φ := .f32) (oLog b m) (oMt b dmax m))
def oWa : Vec Ideal S16x4x4x64 .f32 := Host.exp (F := Ideal) (φ := .f32) (subf (F := Ideal) (φ := .f32) dmax (oMt b dmax m))
def oNum : Vec Ideal S16x4x4x64x256 .f32 :=
  addf (F := Ideal) (φ := .f32)
    (mulf (F := Ideal) (φ := .f32) (rVals (oWi b dmax m))
      (Host.dotGeneral (F := Ideal) (φ₁ := .f32) (φ₂ := .f32) dot_S16x4x4x64x128_S16x4x4x128x256_S16x4x4x64x256_4_3_3_4_012_012 none q C))
    (mulf (F := Ideal) (φ := .f32) (rVals (oWa b dmax m)) num)
def oDen : Vec Ideal S16x4x4x64 .f32 :=
  addf (F := Ideal) (φ := .f32)
    (mulf (F := Ideal) (φ := .f32) (oWi b dmax m)
      (Host.dotGeneral (F := Ideal) (φ₁ := .f32) (φ₂ := .f32) dot_S16x4x4x64x128_S16x4x4x128_S16x4x4x64_4_3_3_n_012_012 none q n))
    (mulf (F := Ideal) (φ := .f32) (oWa b dmax m) den)
def oH : Vec Ideal S16x4x4x64x256 .f32 :=
  Host.divf (F := Ideal) (φ := .f32) (oNum q b num dmax C m)
    (rVals (maximumf (F := Ideal) (φ := .f32) (Host.absf (F := Ideal) (φ := .f32) (oDen q b den dmax n m))
      (Host.exp (F := Ideal) (φ := .f32) (Host.negf (F := Ideal) (φ := .f32) (oMt b dmax m)))))

end Out

/-- The direction's output. -/
def outOf : Vec Ideal S16x4x4x64x256 .f32 :=
  oH q b (rNum q k v i b) (rDen q k i b) (rDmax i b) (matStack fun t => (heldAt k v i b s t).C) (vecStack fun t => (heldAt k v i b s t).n)
    (numStack fun t => (heldAt k v i b s t).m)

theorem outOf_apply (r : Fin 64) (e : Fin 256) :
    outOf q k v i b s (ix5 β h t r e) = outAt (chunksAt q k v i b β h) (s.at β h) t.val r e := by
  have ht : four t.val = t := Fin.ext (Nat.mod_eq_of_lt t.isLt)
  unfold outAt
  rw [← heldAt_apply, show chunksAt q k v i b β h t.val = chunkAt q k v i b β h t from by unfold chunksAt; rw [ht]]
  pointwise [outOf, oH, oNum, oDen, rVals, oWi, oWa, oMt, oLog, rRows]
  simp only [matStack_apply, vecStack_apply, numStack_apply, num_apply, dmax_apply q k v, den_apply q k v]
  rfl

end Cert.BranchDir
end
-- ==== Proof.BranchTokens.lean ====
/- The chunks of the mLSTM in terms of the branch's arguments: which rows and columns of the projections a batch element, a
   head and a direction read, the gates of their tokens, and the running sums of the forget gates within a chunk. -/
module

public import proofs.«01_k».proof.Proof.BranchDir

@[expose] public section

set_option maxRecDepth 16384

noncomputable section

namespace Cert.Branch

open Cert.ReferenceIdeal Cert.ReferenceIdeal.Gen
open Idealize.ShloMosaic Idealize.ShloMosaic.TcCoe Idealize.ShloMosaic.Tactic

/-- The window of a running sum: sixty-four rows. -/
abbrev sumWindow : Shape := ⟨4, ![1, 1, 1, 64]⟩

/-- The running sum of a chunk's row of numbers: over the window of sixty-four rows that ends at row `r`, rows before the first
    counting nothing. -/
def cum (f : Fin 64 → Val) (r : Fin 64) : Val :=
  (List.finRange sumWindow.numel).foldl (fun a n =>
    a + if h : 63 ≤ r.val + (sumWindow.rowMajor.symm n 3).val ∧ r.val + (sumWindow.rowMajor.symm n 3).val - 63 < 64 then f ⟨_, h.2⟩
      else Ideal.ofBits .f32 0x00000000#32) (Ideal.ofBits .f32 0x00000000#32)

theorem cum_apply (x : Vec Ideal S16x4x4x64 .f32) (β : Fin 16) (h t : Fin 4) (r : Fin 64) :
    BranchDir.rCum x (ix4 β h t r) = cum (fun j => x (ix4 β h t j)) r := by
  show List.foldl _ _ _ = List.foldl _ _ _
  congr 1
  funext a n
  dsimp only
  congr 1
  have h0 : (sumWindow.rowMajor.symm n 0).val < 1 := (sumWindow.rowMajor.symm n 0).isLt
  have h1 : (sumWindow.rowMajor.symm n 1).val < 1 := (sumWindow.rowMajor.symm n 1).isLt
  have h2 : (sumWindow.rowMajor.symm n 2).val < 1 := (sumWindow.rowMajor.symm n 2).isLt
  by_cases hc : 63 ≤ r.val + (sumWindow.rowMajor.symm n 3).val ∧ r.val + (sumWindow.rowMajor.symm n 3).val - 63 < 64
  · rw [dif_pos hc, dif_pos]
    · refine congrArg x (funext fun a => ?_)
      fin_cases a
      · exact Fin.ext (show β.val * 1 + (sumWindow.rowMajor.symm n 0).val - 0 = β.val by omega)
      · exact Fin.ext (show h.val * 1 + (sumWindow.rowMajor.symm n 1).val - 0 = h.val by omega)
      · exact Fin.ext (show t.val * 1 + (sumWindow.rowMajor.symm n 2).val - 0 = t.val by omega)
      · exact Fin.ext (show r.val * 1 + (sumWindow.rowMajor.symm n 3).val - 63 = r.val + (sumWindow.rowMajor.symm n 3).val - 63 by omega)
    · intro a
      fin_cases a
      · exact show 0 ≤ β.val * 1 + (sumWindow.rowMajor.symm n 0).val ∧ β.val * 1 + (sumWindow.rowMajor.symm n 0).val - 0 < 16 by omega
      · exact show 0 ≤ h.val * 1 + (sumWindow.rowMajor.symm n 1).val ∧ h.val * 1 + (sumWindow.rowMajor.symm n 1).val - 0 < 4 by omega
      · exact show 0 ≤ t.val * 1 + (sumWindow.rowMajor.symm n 2).val ∧ t.val * 1 + (sumWindow.rowMajor.symm n 2).val - 0 < 4 by omega
      · exact show 63 ≤ r.val * 1 + (sumWindow.rowMajor.symm n 3).val ∧ r.val * 1 + (sumWindow.rowMajor.symm n 3).val - 63 < 64 by omega
  · rw [dif_neg hc, dif_neg]
    · rfl
    · intro hall
      have := hall 3
      exact hc (show 63 ≤ r.val + (sumWindow.rowMajor.symm n 3).val ∧ r.val + (sumWindow.rowMajor.symm n 3).val - 63 < 64 from by
        have h3 : 63 ≤ r.val * 1 + (sumWindow.rowMajor.symm n 3).val ∧ r.val * 1 + (sumWindow.rowMajor.symm n 3).val - 63 < 64 := this
        omega)

/-- The token in row `r` of chunk `t`, of the sequence read in direction `d`. -/
def tok (d : Fin 2) (t : Fin 4) (r : Fin 64) : Fin 256 :=
  if d.val = 0 then ⟨64 * t.val + r.val, by omega⟩ else ⟨255 - (64 * t.val + r.val), by omega⟩

/-- The projections' row of token `j` of batch element `β`. -/
abbrev row (β : Fin 16) (j : Fin 256) : Fin 20480 := ⟨256 * β.val + j.val, by omega⟩

/-- Direction `d`'s chunk `t` of batch element `β` and head `h`: from the projections `A`, the log input gates `IG` and the log
    forget gates `LF`. -/
def chunkIn (A : Vec Ideal S20480x16384 .f32) (IG LF : Vec Ideal S16x256x2x4 .f32) (d : Fin 2) (β : Fin 16) (h t : Fin 4) : Chunk where
  q r a := A (ix2 (row β (tok d t r)) ⟨4096 + 128 * h.val + a.val, by omega⟩)
  k r a := A (ix2 (row β (tok d t r)) ⟨4608 + 128 * h.val + a.val, by omega⟩) * scale
  v r e := A (ix2 (row β (tok d t r)) ⟨5120 + 256 * h.val + e.val, by omega⟩)
  b := cum fun j => LF (ix4 β (tok d t j) d h)
  i r := IG (ix4 β (tok d t r) d h)
  bl := cum (fun j => LF (ix4 β (tok d t j) d h)) 63
  wm := Finset.univ.fold max negInf fun r : Fin 64 =>
    cum (fun j => LF (ix4 β (tok d t j) d h)) 63 - cum (fun j => LF (ix4 β (tok d t j) d h)) r + IG (ix4 β (tok d t r) d h)

end Cert.Branch
end
-- ==== Proof.BranchRef.lean ====
/- The reference of the mLSTM branch: each direction's arrays are the chunks of the arguments' tokens, so its results are the two
   recurrences' outputs and last states. -/
module

public import proofs.«01_k».proof.Proof.BranchTokens

@[expose] public section

set_option maxRecDepth 16384

noncomputable section

namespace Cert.BranchRef

open Cert.ReferenceIdeal Cert.ReferenceIdeal.Gen Cert.ReferenceIdeal.Read Cert.Branch Cert.BranchDir
open Idealize.ShloMosaic Idealize.ShloMosaic.TcCoe Idealize.ShloMosaic.Tactic

/-! ## The gates of a direction's tokens, chunk by chunk -/

def gates0 (x : Vec Ideal S16x256x2x4 .f32) : Vec Ideal S16x4x4x64 .f32 :=
  transpose S16x4x4x64 [0, 3, 1, 2]
    (shapeCast S16x4x64x4 (shapeCast S16x256x4 (extractStridedSlice S16x256x1x4 ![0, 0, 0, 0] x slices_S16x256x2x4_S16x256x1x4_0_0_0_0)
      shapeCasts_S16x256x1x4_S16x256x4) shapeCasts_S16x256x4_S16x4x64x4) transposes_S16x4x64x4_S16x4x4x64_0_3_1_2
def gates1 (x : Vec Ideal S16x256x2x4 .f32) : Vec Ideal S16x4x4x64 .f32 :=
  transpose S16x4x4x64 [0, 3, 1, 2]
    (shapeCast S16x4x64x4 (Host.reverse [1] (shapeCast S16x256x4 (extractStridedSlice S16x256x1x4 ![0, 0, 1, 0] x slices_S16x256x2x4_S16x256x1x4_0_0_1_0)
      shapeCasts_S16x256x1x4_S16x256x4)) shapeCasts_S16x256x4_S16x4x64x4) transposes_S16x4x64x4_S16x4x4x64_0_3_1_2

variable (β : Fin 16) (h t : Fin 4)

theorem gates0_apply (x : Vec Ideal S16x256x2x4 .f32) (r : Fin 64) : gates0 x (ix4 β h t r) = x (ix4 β (tok 0 t r) 0 h) := by
  pointwise [gates0]
  exact congrArg (fun j => x (ix4 β j 0 h)) (Fin.ext (show t.val * 64 + r.val = 64 * t.val + r.val by omega))

theorem gates1_apply (x : Vec Ideal S16x256x2x4 .f32) (r : Fin 64) : gates1 x (ix4 β h t r) = x (ix4 β (tok 1 t r) 1 h) := by
  pointwise [gates1]
  exact congrArg (fun j => x (ix4 β j 1 h)) (Fin.ext (show 256 - (t.val * 64 + r.val + 1) = 255 - (64 * t.val + r.val) by omega))

/-! ## The features of a direction's tokens, chunk by chunk -/

def keys0 (x : Vec Ideal S16x256x4x128 .f32) : Vec Ideal S16x4x4x64x128 .f32 :=
  transpose S16x4x4x64x128 [0, 3, 1, 2, 4] (shapeCast S16x4x64x4x128 x shapeCasts_S16x256x4x128_S16x4x64x4x128)
    transposes_S16x4x64x4x128_S16x4x4x64x128_0_3_1_2_4
def vals0 (x : Vec Ideal S16x256x4x256 .f32) : Vec Ideal S16x4x4x64x256 .f32 :=
  transpose S16x4x4x64x256 [0, 3, 1, 2, 4] (shapeCast S16x4x64x4x256 x shapeCasts_S16x256x4x256_S16x4x64x4x256)
    transposes_S16x4x64x4x256_S16x4x4x64x256_0_3_1_2_4

theorem keys0_apply (x : Vec Ideal S16x256x4x128 .f32) (r : Fin 64) (a : Fin 128) :
    keys0 x (ix5 β h t r a) = x (ix4 β (tok 0 t r) h a) := by
  pointwise [keys0]
  exact congrArg (fun j => x (ix4 β j h a)) (Fin.ext (show t.val * 64 + r.val = 64 * t.val + r.val by omega))

theorem keys1_apply (x : Vec Ideal S16x256x4x128 .f32) (r : Fin 64) (a : Fin 128) :
    keys0 (Host.reverse [1] x) (ix5 β h t r a) = x (ix4 β (tok 1 t r) h a) := by
  pointwise [keys0]
  exact congrArg (fun j => x (ix4 β j h a)) (Fin.ext (show 256 - (t.val * 64 + r.val + 1) = 255 - (64 * t.val + r.val) by omega))

theorem vals0_apply (x : Vec Ideal S16x256x4x256 .f32) (r : Fin 64) (a : Fin 256) :
    vals0 x (ix5 β h t r a) = x (ix4 β (tok 0 t r) h a) := by
  pointwise [vals0]
  exact congrArg (fun j => x (ix4 β j h a)) (Fin.ext (show t.val * 64 + r.val = 64 * t.val + r.val by omega))

theorem vals1_apply (x : Vec Ideal S16x256x4x256 .f32) (r : Fin 64) (a : Fin 256) :
    vals0 (Host.reverse [1] x) (ix5 β h t r a) = x (ix4 β (tok 1 t r) h a) := by
  pointwise [vals0]
  exact congrArg (fun j => x (ix4 β j h a)) (Fin.ext (show 256 - (t.val * 64 + r.val + 1) = 255 - (64 * t.val + r.val) by omega))

variable (x0 : Vec Ideal S20480x16384 .f32) (x1 : Vec Ideal S20480x128 .f32) (x2 x3 : Vec Ideal S2x4 .f32)
  (x4 : Vec Ideal S16x2x4x128x256 .f32) (x5 : Vec Ideal S16x2x4x128 .f32) (x6 : Vec Ideal S16x2x4 .f32) (x7 : Vec Ideal S256 .f32)

theorem q_apply (j : Fin 256) (a : Fin 128) :
    val_main_v10 (F := Ideal) x0 (ix4 β j h a) = x0 (ix2 (row β j) ⟨4096 + 128 * h.val + a.val, by omega⟩) := by
  pointwise [val_main_v10, val_main_v4, val_main_v1, val_main_v0]
  exact congrArg₂ (fun i j => x0 (ix2 i j)) (Fin.ext (show β.val * 256 + j.val = 256 * β.val + j.val by omega))
    (Fin.ext (show 4096 + (h.val * 128 + a.val) = 4096 + 128 * h.val + a.val by omega))

theorem k_apply (j : Fin 256) (a : Fin 128) :
    val_main_v13 (F := Ideal) x0 (ix4 β j h a) = x0 (ix2 (row β j) ⟨4608 + 128 * h.val + a.val, by omega⟩) * scale := by
  pointwise [val_main_v13, val_main_v12, val_main_cst, val_main_v11, val_main_v5, val_main_v1, val_main_v0]
  exact congrArg₂ (fun i j => x0 (ix2 i j) * scale) (Fin.ext (show β.val * 256 + j.val = 256 * β.val + j.val by omega))
    (Fin.ext (show 4608 + (h.val * 128 + a.val) = 4608 + 128 * h.val + a.val by omega))

theorem v_apply (j : Fin 256) (a : Fin 256) :
    val_main_v14 (F := Ideal) x0 (ix4 β j h a) = x0 (ix2 (row β j) ⟨5120 + 256 * h.val + a.val, by omega⟩) := by
  pointwise [val_main_v14, val_main_v6, val_main_v1, val_main_v0]
  exact congrArg₂ (fun i j => x0 (ix2 i j)) (Fin.ext (show β.val * 256 + j.val = 256 * β.val + j.val by omega))
    (Fin.ext (show 5120 + (h.val * 256 + a.val) = 5120 + 256 * h.val + a.val by omega))

/-! ## The two directions -/

/-- The log input gates and the log forget gates of the tokens. -/
abbrev IG : Vec Ideal S16x256x2x4 .f32 := val_main_v18 (F := Ideal) x1 x2
abbrev LF : Vec Ideal S16x256x2x4 .f32 := val_main_v23 (F := Ideal) x1 x3

theorem fwd_chunk (i l : Vec Ideal S16x256x2x4 .f32) :
    chunkAt (keys0 (val_main_v10 (F := Ideal) x0)) (keys0 (val_main_v13 (F := Ideal) x0)) (vals0 (val_main_v14 (F := Ideal) x0)) (gates0 i) (rCum (gates0 l)) β h t
      = chunkIn x0 i l 0 β h t := by
  unfold chunkAt
  simp only [keys0_apply, vals0_apply, gates0_apply, cum_apply, q_apply, k_apply, v_apply]
  rfl

theorem bwd_chunk (i l : Vec Ideal S16x256x2x4 .f32) :
    chunkAt (keys0 (Host.reverse [1] (val_main_v10 (F := Ideal) x0))) (keys0 (Host.reverse [1] (val_main_v13 (F := Ideal) x0)))
        (vals0 (Host.reverse [1] (val_main_v14 (F := Ideal) x0))) (gates1 i) (rCum (gates1 l)) β h t
      = chunkIn x0 i l 1 β h t := by
  unfold chunkAt
  simp only [gates1_apply, cum_apply]
  apply Chunk.ext
  · exact funext fun r => funext fun a => (keys1_apply β h t _ r a).trans (q_apply β h x0 _ a)
  · exact funext fun r => funext fun a => (keys1_apply β h t _ r a).trans (k_apply β h x0 _ a)
  · exact funext fun r => funext fun e => (vals1_apply β h t _ r e).trans (v_apply β h x0 _ e)
  all_goals rfl

/-- Direction `d`'s initial state of a head. -/
def stateIn (d : Fin 2) (β : Fin 16) (h : Fin 4) : State := ⟨fun a e => x4 (ix5 β d h a e), fun a => x5 (ix4 β d h a), x6 (ix3 β d h)⟩

/-- The two directions' initial states, of every head. -/
abbrev held0 : Held := ⟨val_main_v29 (F := Ideal) x4, val_main_v31 (F := Ideal) x5, val_main_v33 (F := Ideal) x6⟩
abbrev held1 : Held := ⟨val_main_v251 (F := Ideal) x4, val_main_v253 (F := Ideal) x5, val_main_v255 (F := Ideal) x6⟩

theorem held0_at : (held0 x4 x5 x6).at β h = stateIn x4 x5 x6 0 β h := by
  apply State.ext
  · funext a e
    show val_main_v29 (F := Ideal) x4 (ix4 β h a e) = x4 (ix5 β 0 h a e)
    pointwise [val_main_v29, val_main_v28]
  · funext a
    show val_main_v31 (F := Ideal) x5 (ix3 β h a) = x5 (ix4 β 0 h a)
    pointwise [val_main_v31, val_main_v30]
  · show val_main_v33 (F := Ideal) x6 (ix2 β h) = x6 (ix3 β 0 h)
    pointwise [val_main_v33, val_main_v32]

theorem held1_at : (held1 x4 x5 x6).at β h = stateIn x4 x5 x6 1 β h := by
  apply State.ext
  · funext a e
    show val_main_v251 (F := Ideal) x4 (ix4 β h a e) = x4 (ix5 β 1 h a e)
    pointwise [val_main_v251, val_main_v250]
  · funext a
    show val_main_v253 (F := Ideal) x5 (ix3 β h a) = x5 (ix4 β 1 h a)
    pointwise [val_main_v253, val_main_v252]
  · show val_main_v255 (F := Ideal) x6 (ix2 β h) = x6 (ix3 β 1 h)
    pointwise [val_main_v255, val_main_v254]

/-- The states of every head in a direction, before chunk `n`, and the direction's outputs. -/
abbrev states0 (n : ℕ) : Held :=
  heldAt (keys0 (val_main_v13 (F := Ideal) x0)) (vals0 (val_main_v14 (F := Ideal) x0)) (gates0 (IG x1 x2)) (rCum (gates0 (LF x1 x3))) (held0 x4 x5 x6) n
abbrev states1 (n : ℕ) : Held :=
  heldAt (keys0 (Host.reverse [1] (val_main_v13 (F := Ideal) x0))) (vals0 (Host.reverse [1] (val_main_v14 (F := Ideal) x0))) (gates1 (IG x1 x2))
    (rCum (gates1 (LF x1 x3))) (held1 x4 x5 x6) n

/-- Direction `d`'s chunks and states. -/
def chunksIn (d : Fin 2) (β : Fin 16) (h : Fin 4) (n : ℕ) : Chunk := chunkIn x0 (IG x1 x2) (LF x1 x3) d β h (four n)
def lastIn (d : Fin 2) (β : Fin 16) (h : Fin 4) : State := stateAt (chunksIn x0 x1 x2 x3 d β h) (stateIn x4 x5 x6 d β h) 4

theorem states0_last : (states0 x0 x1 x2 x3 x4 x5 x6 4).at β h = lastIn x0 x1 x2 x3 x4 x5 x6 0 β h := by
  rw [heldAt_apply (keys0 (val_main_v10 (F := Ideal) x0)), held0_at]
  exact congrArg (fun f => stateAt f _ 4) (funext fun n => fwd_chunk β h (four n) x0 _ _)

theorem states1_last : (states1 x0 x1 x2 x3 x4 x5 x6 4).at β h = lastIn x0 x1 x2 x3 x4 x5 x6 1 β h := by
  rw [heldAt_apply (keys0 (Host.reverse [1] (val_main_v10 (F := Ideal) x0))), held1_at]
  exact congrArg (fun f => stateAt f _ 4) (funext fun n => bwd_chunk β h (four n) x0 _ _)

set_option maxRecDepth 100000 in
theorem fwd_out : val_main_v238 (F := Ideal) x0 x1 x2 x3 x4 x5 x6
    = outOf (keys0 (val_main_v10 (F := Ideal) x0)) (keys0 (val_main_v13 (F := Ideal) x0)) (vals0 (val_main_v14 (F := Ideal) x0)) (gates0 (IG x1 x2))
        (rCum (gates0 (LF x1 x3))) (held0 x4 x5 x6) := rfl

set_option maxRecDepth 100000 in
theorem bwd_out : val_main_v460 (F := Ideal) x0 x1 x2 x3 x4 x5 x6
    = outOf (keys0 (Host.reverse [1] (val_main_v10 (F := Ideal) x0))) (keys0 (Host.reverse [1] (val_main_v13 (F := Ideal) x0)))
        (vals0 (Host.reverse [1] (val_main_v14 (F := Ideal) x0))) (gates1 (IG x1 x2)) (rCum (gates1 (LF x1 x3))) (held1 x4 x5 x6) := rfl

set_option maxRecDepth 100000 in
theorem fwd_last : val_main_v189 (F := Ideal) x0 x1 x2 x3 x4 x6 = (states0 x0 x1 x2 x3 x4 x5 x6 4).C
    ∧ val_main_v196 (F := Ideal) x0 x1 x2 x3 x5 x6 = (states0 x0 x1 x2 x3 x4 x5 x6 4).n
    ∧ val_main_v177 (F := Ideal) x1 x2 x3 x6 = (states0 x0 x1 x2 x3 x4 x5 x6 4).m := ⟨rfl, rfl, rfl⟩

set_option maxRecDepth 100000 in
theorem bwd_last : val_main_v411 (F := Ideal) x0 x1 x2 x3 x4 x6 = (states1 x0 x1 x2 x3 x4 x5 x6 4).C
    ∧ val_main_v418 (F := Ideal) x0 x1 x2 x3 x5 x6 = (states1 x0 x1 x2 x3 x4 x5 x6 4).n
    ∧ val_main_v399 (F := Ideal) x1 x2 x3 x6 = (states1 x0 x1 x2 x3 x4 x5 x6 4).m := ⟨rfl, rfl, rfl⟩

end Cert.BranchRef
end
-- ==== Proof.BranchOut.lean ====
/- The results of the mLSTM branch's reference, at each index: the gated outputs of a head's two recurrences, and their last
   states. -/
module

public import proofs.«01_k».proof.Proof.BranchRef

@[expose] public section

set_option maxRecDepth 16384

noncomputable section

namespace Cert.BranchRef

open Cert.ReferenceIdeal Cert.ReferenceIdeal.Gen Cert.ReferenceIdeal.Read Cert.Branch Cert.BranchDir
open Idealize.ShloMosaic Idealize.ShloMosaic.TcCoe Idealize.ShloMosaic.Tactic

/-! ## The two directions' outputs, in the order of the tokens -/

def merged (f b : Vec Ideal S16x4x4x64x256 .f32) : Vec Ideal S16x256x4x256 .f32 :=
  addf (F := Ideal) (φ := .f32)
    (shapeCast S16x256x4x256 (transpose S16x4x64x4x256 [0, 2, 3, 1, 4] f transposes_S16x4x4x64x256_S16x4x64x4x256_0_2_3_1_4)
      shapeCasts_S16x4x64x4x256_S16x256x4x256)
    (Host.reverse [1] (shapeCast S16x256x4x256 (transpose S16x4x64x4x256 [0, 2, 3, 1, 4] b transposes_S16x4x4x64x256_S16x4x64x4x256_0_2_3_1_4)
      shapeCasts_S16x4x64x4x256_S16x256x4x256))

variable (β : Fin 16) (h : Fin 4)

theorem merged_apply (f b : Vec Ideal S16x4x4x64x256 .f32) (r e : Fin 256) :
    merged f b (ix4 β r h e) = f (ix5 β h ⟨r.val / 64, by omega⟩ ⟨r.val % 64, by omega⟩ e)
      + b (ix5 β h ⟨(255 - r.val) / 64, by omega⟩ ⟨(255 - r.val) % 64, by omega⟩ e) := by
  pointwise [merged]
  exact congrArg (_ + ·) (congrArg₂ (fun t j => b (ix5 β h t j e))
    (Fin.ext (show (256 - (r.val + 1)) / 64 = (255 - r.val) / 64 by omega)) (Fin.ext (show (256 - (r.val + 1)) % 64 = (255 - r.val) % 64 by omega)))

/-- A row of a head, normalised, weighed and gated. -/
def tailed (z : Vec Ideal S16x256x4x256 .f32) (w : Vec Ideal S256 .f32) (o : Vec Ideal S16x256x4x256 .f32) : Vec Ideal S16x256x4x256 .f32 :=
  let c (x : BitVec 32) := constant (F := Ideal) S_ .f32 x
  mulf (F := Ideal) (φ := .f32)
    (mulf (F := Ideal) (φ := .f32)
      (mulf (F := Ideal) (φ := .f32) z
        (broadcastInDim S16x256x4x256 ![0, 1, 2, 3] bcast_S16x256x4x1_S16x256x4x256_0_1_2_3
          (Host.rsqrt (F := Ideal) (φ := .f32) (addf (F := Ideal) (φ := .f32)
            (Host.divf (F := Ideal) (φ := .f32)
              (broadcastInDim S16x256x4x1 ![0, 1, 2] bcast_S16x256x4_S16x256x4x1_0_1_2
                (Host.reduceAdd (F := Ideal) (φ := .f32) (mulf (F := Ideal) (φ := .f32) z z) (c 0x00000000#32) reducesTo_S16x256x4x256_S16x256x4_d3 h_S_))
              (broadcastInDim S16x256x4x1 ![] bcast_S_S16x256x4x1 (c 0x43800000#32)))
            (broadcastInDim S16x256x4x1 ![] bcast_S_S16x256x4x1 (c 0x358637BD#32))))))
      (broadcastInDim S16x256x4x256 ![0, 1, 2, 3] bcast_S1x1x1x256_S16x256x4x256_0_1_2_3 (broadcastInDim S1x1x1x256 ![3] bcast_S256_S1x1x1x256_3 w)))
    (Host.divf (F := Ideal) (φ := .f32) (broadcastInDim S16x256x4x256 ![] bcast_S_S16x256x4x256 (c 0x3F800000#32))
      (addf (F := Ideal) (φ := .f32) (broadcastInDim S16x256x4x256 ![] bcast_S_S16x256x4x256 (c 0x3F800000#32))
        (Host.exp (F := Ideal) (φ := .f32) (Host.negf (F := Ideal) (φ := .f32) o))))

theorem tailed_apply (z : Vec Ideal S16x256x4x256 .f32) (w : Vec Ideal S256 .f32) (o : Vec Ideal S16x256x4x256 .f32) (r e : Fin 256) :
    tailed z w o (ix4 β r h e) = gated (fun e => z (ix4 β r h e)) (fun e => w (ix1 e)) (fun e => o (ix4 β r h e)) e := by
  pointwise [tailed]
  rfl

variable (x0 : Vec Ideal S20480x16384 .f32) (x1 : Vec Ideal S20480x128 .f32) (x2 x3 : Vec Ideal S2x4 .f32)
  (x4 : Vec Ideal S16x2x4x128x256 .f32) (x5 : Vec Ideal S16x2x4x128 .f32) (x6 : Vec Ideal S16x2x4 .f32) (x7 : Vec Ideal S256 .f32)

theorem o_apply (j e : Fin 256) :
    val_main_v478 (F := Ideal) x0 (ix4 β j h e) = x0 (ix2 (row β j) ⟨6144 + 256 * h.val + e.val, by omega⟩) := by
  pointwise [val_main_v478, val_main_v7, val_main_v1, val_main_v0]
  exact congrArg₂ (fun i j => x0 (ix2 i j)) (Fin.ext (show β.val * 256 + j.val = 256 * β.val + j.val by omega))
    (Fin.ext (show 6144 + (h.val * 256 + e.val) = 6144 + 256 * h.val + e.val by omega))

set_option maxRecDepth 100000 in
theorem y_eq : val_main_v485 (F := Ideal) x0 x1 x2 x3 x4 x5 x6 x7
    = tailed (merged (val_main_v238 (F := Ideal) x0 x1 x2 x3 x4 x5 x6) (val_main_v460 (F := Ideal) x0 x1 x2 x3 x4 x5 x6)) x7 (val_main_v478 (F := Ideal) x0) := rfl

def pairC (a b : Vec Ideal S16x4x128x256 .f32) : Vec Ideal S16x2x4x128x256 .f32 :=
  concatenate S16x2x4x128x256 1 [⟨S16x1x4x128x256, broadcastInDim S16x1x4x128x256 ![0, 2, 3, 4] bcast_S16x4x128x256_S16x1x4x128x256_0_2_3_4 a⟩, ⟨S16x1x4x128x256, broadcastInDim S16x1x4x128x256 ![0, 2, 3, 4] bcast_S16x4x128x256_S16x1x4x128x256_0_2_3_4 b⟩] concatenates_S16x1x4x128x256_S16x1x4x128x256_S16x2x4x128x256_d1

theorem pairC_apply (a b : Vec Ideal S16x4x128x256 .f32) (d : Fin 2) (i : Fin 128) (e : Fin 256) :
    pairC a b (ix5 β d h i e) = if d.val = 0 then a (ix4 β h i e) else b (ix4 β h i e) := by
  fin_cases d <;> pointwise [pairC] <;> rfl

def pairN (a b : Vec Ideal S16x4x128 .f32) : Vec Ideal S16x2x4x1x128 .f32 :=
  broadcastInDim S16x2x4x1x128 ![0, 1, 2, 4] bcast_S16x2x4x128_S16x2x4x1x128_0_1_2_4
    (concatenate S16x2x4x128 1 [⟨S16x1x4x128, broadcastInDim S16x1x4x128 ![0, 2, 3] bcast_S16x4x128_S16x1x4x128_0_2_3 a⟩, ⟨S16x1x4x128, broadcastInDim S16x1x4x128 ![0, 2, 3] bcast_S16x4x128_S16x1x4x128_0_2_3 b⟩] concatenates_S16x1x4x128_S16x1x4x128_S16x2x4x128_d1)

theorem pairN_apply (a b : Vec Ideal S16x4x128 .f32) (d : Fin 2) (i : Fin 128) :
    pairN a b (ix5 β d h 0 i) = if d.val = 0 then a (ix3 β h i) else b (ix3 β h i) := by
  fin_cases d <;> pointwise [pairN] <;> rfl

def pairM (a b : Vec Ideal S16x4 .f32) : Vec Ideal S16x2x4x1x128 .f32 :=
  broadcastInDim S16x2x4x1x128 ![0, 1, 2, 3, 4] bcast_S16x2x4x1x1_S16x2x4x1x128_0_1_2_3_4
    (broadcastInDim S16x2x4x1x1 ![0, 1, 2] bcast_S16x2x4_S16x2x4x1x1_0_1_2
      (concatenate S16x2x4 1 [⟨S16x1x4, broadcastInDim S16x1x4 ![0, 2] bcast_S16x4_S16x1x4_0_2 a⟩, ⟨S16x1x4, broadcastInDim S16x1x4 ![0, 2] bcast_S16x4_S16x1x4_0_2 b⟩] concatenates_S16x1x4_S16x1x4_S16x2x4_d1))

theorem pairM_apply (a b : Vec Ideal S16x4 .f32) (d : Fin 2) (l : Fin 128) :
    pairM a b (ix5 β d h 0 l) = if d.val = 0 then a (ix2 β h) else b (ix2 β h) := by
  fin_cases d <;> pointwise [pairM] <;> rfl

/-! ## The results -/

/-- Row `r` of a head: the sum of the two directions' outputs for that token. -/
def bothIn (β : Fin 16) (h : Fin 4) (r e : Fin 256) : Val :=
  outAt (chunksIn x0 x1 x2 x3 0 β h) (stateIn x4 x5 x6 0 β h) (r.val / 64) ⟨r.val % 64, Nat.mod_lt _ (by decide)⟩ e
    + outAt (chunksIn x0 x1 x2 x3 1 β h) (stateIn x4 x5 x6 1 β h) (3 - r.val / 64) (Fin.rev ⟨r.val % 64, Nat.mod_lt _ (by decide)⟩) e

theorem fwd_out_apply (t : Fin 4) (r : Fin 64) (e : Fin 256) : val_main_v238 (F := Ideal) x0 x1 x2 x3 x4 x5 x6 (ix5 β h t r e)
    = outAt (chunksIn x0 x1 x2 x3 0 β h) (stateIn x4 x5 x6 0 β h) t.val r e := by
  rw [fwd_out, outOf_apply, held0_at]
  exact congrArg (fun f => outAt f _ t.val r e) (funext fun n => fwd_chunk β h (four n) x0 _ _)

theorem bwd_out_apply (t : Fin 4) (r : Fin 64) (e : Fin 256) : val_main_v460 (F := Ideal) x0 x1 x2 x3 x4 x5 x6 (ix5 β h t r e)
    = outAt (chunksIn x0 x1 x2 x3 1 β h) (stateIn x4 x5 x6 1 β h) t.val r e := by
  rw [bwd_out, outOf_apply, held1_at]
  exact congrArg (fun f => outAt f _ t.val r e) (funext fun n => bwd_chunk β h (four n) x0 _ _)

theorem y_apply (r e : Fin 256) : val_main_v486 (F := Ideal) x0 x1 x2 x3 x4 x5 x6 x7 (ix2 ⟨256 * β.val + r.val, by omega⟩ ⟨256 * h.val + e.val, by omega⟩)
    = gated (bothIn x0 x1 x2 x3 x4 x5 x6 β h r) (fun e => x7 (ix1 e)) (fun e => x0 (ix2 (row β r) ⟨6144 + 256 * h.val + e.val, by omega⟩)) e := by
  have hy : ∀ y : Vec Ideal S16x256x4x256 .f32, shapeCast S4096x1024 y shapeCasts_S16x256x4x256_S4096x1024
      (ix2 ⟨256 * β.val + r.val, by omega⟩ ⟨256 * h.val + e.val, by omega⟩) = y (ix4 β r h e) := by
    intro y
    pointwise
  have hz : ∀ e, merged (val_main_v238 (F := Ideal) x0 x1 x2 x3 x4 x5 x6) (val_main_v460 (F := Ideal) x0 x1 x2 x3 x4 x5 x6) (ix4 β r h e)
      = bothIn x0 x1 x2 x3 x4 x5 x6 β h r e := by
    intro e
    rw [merged_apply, fwd_out_apply, bwd_out_apply]
    exact congrArg (_ + ·) (congrArg₂ (fun t j => outAt _ _ t j e) (show (255 - r.val) / 64 = 3 - r.val / 64 by omega)
      (Fin.ext (show (255 - r.val) % 64 = 64 - (r.val % 64 + 1) by omega)))
  refine (hy _).trans ?_
  rw [y_eq, tailed_apply]
  simp only [hz, o_apply]

variable (d : Fin 2)

theorem C_apply (a : Fin 128) (e : Fin 256) : val_main_v489 (F := Ideal) x0 x1 x2 x3 x4 x6 (ix5 β d h a e)
    = (lastIn x0 x1 x2 x3 x4 x5 x6 d β h).C a e := by
  refine (pairC_apply β h _ _ d a e).trans ?_
  rw [(fwd_last x0 x1 x2 x3 x4 x5 x6).1, (bwd_last x0 x1 x2 x3 x4 x5 x6).1]
  fin_cases d
  · exact congrArg (fun s => s.C a e) (states0_last β h x0 x1 x2 x3 x4 x5 x6)
  · exact congrArg (fun s => s.C a e) (states1_last β h x0 x1 x2 x3 x4 x5 x6)

theorem n_apply (a : Fin 128) : val_main_v496 (F := Ideal) x0 x1 x2 x3 x5 x6 (ix5 β d h 0 a)
    = (lastIn x0 x1 x2 x3 x4 x5 x6 d β h).n a := by
  refine (pairN_apply β h _ _ d a).trans ?_
  rw [(fwd_last x0 x1 x2 x3 x4 x5 x6).2.1, (bwd_last x0 x1 x2 x3 x4 x5 x6).2.1]
  fin_cases d
  · exact congrArg (fun s => s.n a) (states0_last β h x0 x1 x2 x3 x4 x5 x6)
  · exact congrArg (fun s => s.n a) (states1_last β h x0 x1 x2 x3 x4 x5 x6)

theorem m_apply (l : Fin 128) : val_main_v498 (F := Ideal) x1 x2 x3 x6 (ix5 β d h 0 l)
    = (lastIn x0 x1 x2 x3 x4 x5 x6 d β h).m := by
  refine (pairM_apply β h _ _ d l).trans ?_
  rw [(fwd_last x0 x1 x2 x3 x4 x5 x6).2.2, (bwd_last x0 x1 x2 x3 x4 x5 x6).2.2]
  fin_cases d
  · exact congrArg State.m (states0_last β h x0 x1 x2 x3 x4 x5 x6)
  · exact congrArg State.m (states1_last β h x0 x1 x2 x3 x4 x5 x6)

end Cert.BranchRef
end
-- ==== Proof.BranchHost.lean ====
/- The host's preparation of the mLSTM branch's gates: the running sums of each chunk's log forget gates, forward and from the
   end, the log input gates, and each chunk's two own numbers, one row each of the gates' array. -/
module

public import proofs.«01_k».proof.Proof.BranchBlock
public import proofs.«01_k».proof.Proof.BranchOut

@[expose] public section

set_option maxRecDepth 16384

noncomputable section

namespace Cert.Branch

open Cert.KernelIdeal Cert.KernelIdeal.Gen
open Idealize.ShloMosaic Idealize.ShloMosaic.TcCoe Idealize.ShloMosaic.Tactic
open Cert.BranchDir (rCum)

/-! ## The arrays the host makes -/

/-- A direction's gates, chunk by chunk, the tokens in their own order. -/
def part0 (x : Vec Ideal S16x256x2x4 .f32) : Vec Ideal S16x4x4x64 .f32 :=
  transpose S16x4x4x64 [0, 3, 1, 2]
    (shapeCast S16x4x64x4 (shapeCast S16x256x4 (extractStridedSlice S16x256x1x4 ![0, 0, 0, 0] x slices_S16x256x2x4_S16x256x1x4_0_0_0_0)
      shapeCasts_S16x256x1x4_S16x256x4) shapeCasts_S16x256x4_S16x4x64x4) transposes_S16x4x64x4_S16x4x4x64_0_3_1_2
def part1 (x : Vec Ideal S16x256x2x4 .f32) : Vec Ideal S16x4x4x64 .f32 :=
  transpose S16x4x4x64 [0, 3, 1, 2]
    (shapeCast S16x4x64x4 (shapeCast S16x256x4 (extractStridedSlice S16x256x1x4 ![0, 0, 1, 0] x slices_S16x256x2x4_S16x256x1x4_0_0_1_0)
      shapeCasts_S16x256x1x4_S16x256x4) shapeCasts_S16x256x4_S16x4x64x4) transposes_S16x4x64x4_S16x4x4x64_0_3_1_2

/-- The running sums from a chunk's end. -/
def back (x : Vec Ideal S16x4x4x64 .f32) : Vec Ideal S16x4x4x64 .f32 := Host.reverse [3] (rCum (Host.reverse [3] x))

/-- A chunk's last and first number. -/
def edge0 (x : Vec Ideal S16x4x4x64 .f32) : Vec Ideal S16x4x4 .f32 :=
  shapeCast S16x4x4 (extractStridedSlice S16x4x4x1 ![0, 0, 0, 63] x slices_S16x4x4x64_S16x4x4x1_0_0_0_63) shapeCasts_S16x4x4x1_S16x4x4
def edge1 (x : Vec Ideal S16x4x4x64 .f32) : Vec Ideal S16x4x4 .f32 :=
  shapeCast S16x4x4 (extractStridedSlice S16x4x4x1 ![0, 0, 0, 0] x slices_S16x4x4x64_S16x4x4x1_0_0_0_0) shapeCasts_S16x4x4x1_S16x4x4

/-- A chunk's greatest weight at its far edge. -/
def most (e : Vec Ideal S16x4x4 .f32) (b i : Vec Ideal S16x4x4x64 .f32) : Vec Ideal S16x4x4 .f32 :=
  Host.reduce (FloatOps.maximumf (F := Ideal) (φ := .f32))
    (addf (F := Ideal) (φ := .f32) (subf (F := Ideal) (φ := .f32)
      (broadcastInDim S16x4x4x64 ![0, 1, 2, 3] bcast_S16x4x4x1_S16x4x4x64_0_1_2_3 (broadcastInDim S16x4x4x1 ![0, 1, 2] bcast_S16x4x4_S16x4x4x1_0_1_2 e)) b) i)
    (constant (F := Ideal) S_ .f32 0xFF800000#32) reducesTo_S16x4x4x64_S16x4x4_d3 h_S_

/-- A row of gates, the lanes past the chunk's rows holding nothing of it. -/
def padded (x : Vec Ideal S16x4x4x64 .f32) : Vec Ideal S16x4x4x128 .f32 :=
  pad S16x4x4x128 ![0, 0, 0, 0] ![0, 0, 0, 64] ![0, 0, 0, 0] x (sitofp (F := Ideal) .f32 (constantI S_ 32 0#32)) pads_S16x4x4x64_S16x4x4x128_000_000_000_0640 h_S_

def lanes (x : Vec Ideal S16x4x4x128 .f32) : Vec Ideal S16x4x4x1x128 .f32 :=
  broadcastInDim S16x4x4x1x128 ![0, 1, 2, 4] bcast_S16x4x4x128_S16x4x4x1x128_0_1_2_4 x

/-- A chunk's own number, in every lane. -/
def spread (x : Vec Ideal S16x4x4 .f32) : Vec Ideal S16x4x4x1x128 .f32 :=
  lanes (broadcastInDim S16x4x4x128 ![0, 1, 2, 3] bcast_S16x4x4x1_S16x4x4x128_0_1_2_3 (broadcastInDim S16x4x4x1 ![0, 1, 2] bcast_S16x4x4_S16x4x4x1_0_1_2 x))

/-- The eight rows of gates, side by side. -/
def rows (bf fi bb bi lf lb wf wb : Vec Ideal S16x4x4x1x128 .f32) : Vec Ideal S16x4x4x8x128 .f32 :=
  concatenate S16x4x4x8x128 3 [⟨S16x4x4x1x128, bf⟩, ⟨S16x4x4x1x128, fi⟩, ⟨S16x4x4x1x128, bb⟩, ⟨S16x4x4x1x128, bi⟩, ⟨S16x4x4x1x128, lf⟩, ⟨S16x4x4x1x128, lb⟩, ⟨S16x4x4x1x128, wf⟩, ⟨S16x4x4x1x128, wb⟩]
    concatenates_S16x4x4x1x128_S16x4x4x1x128_S16x4x4x1x128_S16x4x4x1x128_S16x4x4x1x128_S16x4x4x1x128_S16x4x4x1x128_S16x4x4x1x128_S16x4x4x8x128_d3

/-- The gates' array, from the log input gates `i` and the log forget gates `l` of both directions. -/
def gateRows (i l : Vec Ideal S16x256x2x4 .f32) : Vec Ideal S16x4x4x8x128 .f32 :=
  rows (lanes (padded (rCum (part0 l)))) (lanes (padded (part0 i))) (lanes (padded (back (part1 l)))) (lanes (padded (part1 i)))
    (spread (edge0 (rCum (part0 l)))) (spread (edge1 (back (part1 l))))
    (spread (most (edge0 (rCum (part0 l))) (rCum (part0 l)) (part0 i))) (spread (most (edge1 (back (part1 l))) (back (part1 l)) (part1 i)))

/-! ## The host's lines, a stretch at a time -/

variable (X : Valuation τ sig (Elt Ideal))

abbrev stretch1 : Valuation τ sig (Elt Ideal) := StableHlo.after hostOps0_1 (StableHlo.after hostOps0 X)
abbrev stretch2 : Valuation τ sig (Elt Ideal) := StableHlo.after hostOps0_7 (StableHlo.after hostOps0_6 (StableHlo.after hostOps0_5 (StableHlo.after hostOps0_4
  (StableHlo.after hostOps0_3 (StableHlo.after hostOps0_2 X)))))
abbrev stretch3 : Valuation τ sig (Elt Ideal) := StableHlo.after hostOps0_8 X
abbrev stretch4 : Valuation τ sig (Elt Ideal) := StableHlo.after hostOps0_15 (StableHlo.after hostOps0_14 (StableHlo.after hostOps0_13 (StableHlo.after hostOps0_12
  (StableHlo.after hostOps0_11 (StableHlo.after hostOps0_10 (StableHlo.after hostOps0_9 X))))))
abbrev stretch5 : Valuation τ sig (Elt Ideal) := StableHlo.after hostOps0_16 X

theorem stretch1_i : stretch1 X (Proc.devRef .tc main_v7)
    = BranchRef.IG (X (Proc.devRef .tc main_arg1)) (X (Proc.devRef .tc main_arg2)) := by
  dsimp only [stretch1]
  simp only [hostOps0, hostOps0_1, StableHlo.TRef.binary, StableHlo.TRef.nullary, StableHlo.TRef.unary, StableHlo.TRef.ternary, StableHlo.TRef.toBuf, StableHlo.TRef.ofBuf, cast_eq]
  after_results
  rfl

theorem stretch1_l : stretch1 X (Proc.devRef .tc main_v12)
    = BranchRef.LF (X (Proc.devRef .tc main_arg1)) (X (Proc.devRef .tc main_arg3)) := by
  dsimp only [stretch1]
  simp only [hostOps0, hostOps0_1, StableHlo.TRef.binary, StableHlo.TRef.nullary, StableHlo.TRef.unary, StableHlo.TRef.ternary, StableHlo.TRef.toBuf, StableHlo.TRef.ofBuf, cast_eq]
  after_results
  rfl

theorem stretch2_all : stretch2 X (Proc.devRef .tc main_v16) = part0 (X (Proc.devRef .tc main_v7))
    ∧ stretch2 X (Proc.devRef .tc main_v20) = part1 (X (Proc.devRef .tc main_v7))
    ∧ stretch2 X (Proc.devRef .tc main_v25) = rCum (part0 (X (Proc.devRef .tc main_v12)))
    ∧ stretch2 X (Proc.devRef .tc main_v32) = back (part1 (X (Proc.devRef .tc main_v12))) := by
  dsimp only [stretch2]
  simp only [hostOps0_2, hostOps0_3, hostOps0_4, hostOps0_5, hostOps0_6, hostOps0_7, StableHlo.TRef.binary, StableHlo.TRef.nullary, StableHlo.TRef.unary, StableHlo.TRef.toBuf, StableHlo.TRef.ofBuf, cast_eq]
  refine ⟨?_, ?_, ?_, ?_⟩ <;> after_results <;> rfl

theorem stretch3_all : stretch3 X (Proc.devRef .tc main_v16) = X (Proc.devRef .tc main_v16)
    ∧ stretch3 X (Proc.devRef .tc main_v20) = X (Proc.devRef .tc main_v20)
    ∧ stretch3 X (Proc.devRef .tc main_v25) = X (Proc.devRef .tc main_v25)
    ∧ stretch3 X (Proc.devRef .tc main_v32) = X (Proc.devRef .tc main_v32)
    ∧ stretch3 X (Proc.devRef .tc main_v34) = edge0 (X (Proc.devRef .tc main_v25))
    ∧ stretch3 X (Proc.devRef .tc main_v36) = edge1 (X (Proc.devRef .tc main_v32))
    ∧ stretch3 X (Proc.devRef .tc main_v41) = most (edge0 (X (Proc.devRef .tc main_v25))) (X (Proc.devRef .tc main_v25)) (X (Proc.devRef .tc main_v16))
    ∧ stretch3 X (Proc.devRef .tc main_v46) = most (edge1 (X (Proc.devRef .tc main_v32))) (X (Proc.devRef .tc main_v32)) (X (Proc.devRef .tc main_v20))
    ∧ stretch3 X (Proc.devRef .tc main_c) = constantI S_ 32 0#32 := by
  dsimp only [stretch3]
  simp only [hostOps0_8]
  refine ⟨?_, ?_, ?_, ?_, ?_, ?_, ?_, ?_, ?_⟩ <;> after_results <;> rfl

theorem stretch4_all (hc : X (Proc.devRef .tc main_c) = constantI S_ 32 0#32) : stretch4 X (Proc.devRef .tc main_v47) = padded (X (Proc.devRef .tc main_v25))
    ∧ stretch4 X (Proc.devRef .tc main_v48) = padded (X (Proc.devRef .tc main_v16))
    ∧ stretch4 X (Proc.devRef .tc main_v49) = padded (X (Proc.devRef .tc main_v32))
    ∧ stretch4 X (Proc.devRef .tc main_v50) = padded (X (Proc.devRef .tc main_v20))
    ∧ stretch4 X (Proc.devRef .tc main_v34) = X (Proc.devRef .tc main_v34)
    ∧ stretch4 X (Proc.devRef .tc main_v36) = X (Proc.devRef .tc main_v36)
    ∧ stretch4 X (Proc.devRef .tc main_v41) = X (Proc.devRef .tc main_v41)
    ∧ stretch4 X (Proc.devRef .tc main_v46) = X (Proc.devRef .tc main_v46) := by
  dsimp only [stretch4]
  simp only [hostOps0_9, hostOps0_10, hostOps0_11, hostOps0_12, hostOps0_13, hostOps0_14, hostOps0_15, StableHlo.TRef.binary, StableHlo.TRef.nullary, StableHlo.TRef.unary, StableHlo.TRef.toBuf, StableHlo.TRef.ofBuf, cast_eq]
  refine ⟨?_, ?_, ?_, ?_, ?_, ?_, ?_, ?_⟩ <;> after_results
  · rw [hc]; rfl
  all_goals rfl

theorem stretch5_gates : stretch5 X (Proc.devRef .tc main_v67)
    = rows (lanes (X (Proc.devRef .tc main_v47))) (lanes (X (Proc.devRef .tc main_v48))) (lanes (X (Proc.devRef .tc main_v49))) (lanes (X (Proc.devRef .tc main_v50)))
        (spread (X (Proc.devRef .tc main_v34))) (spread (X (Proc.devRef .tc main_v36))) (spread (X (Proc.devRef .tc main_v41))) (spread (X (Proc.devRef .tc main_v46))) := by
  dsimp only [stretch5]
  simp only [hostOps0_16]
  after_results
  rfl

/-! ## What the region finds -/

variable (m : (ℓ : Loc nD τ sig) → Buf (Elt Ideal) ℓ) (c : Dev nD)

theorem V_eq (b : Ref sig .tc) : V m c b = stretch5 (stretch4 (stretch3 (stretch2 (stretch1 fun b => m (c, b))))) (Proc.devRef .tc b) := rfl

theorem V_gates : V m c main_v67
    = gateRows (BranchRef.IG (m ((c : Thread nD τ).loc main_arg1)) (m ((c : Thread nD τ).loc main_arg2)))
        (BranchRef.LF (m ((c : Thread nD τ).loc main_arg1)) (m ((c : Thread nD τ).loc main_arg3))) := by
  rw [V_eq, stretch5_gates]
  generalize h1 : stretch1 (fun b => m (c, b)) = X1
  have hi := stretch1_i fun b => m (c, b)
  have hl := stretch1_l fun b => m (c, b)
  rw [h1] at hi hl
  obtain ⟨a16, a20, a25, a32⟩ := stretch2_all X1
  rw [hi] at a16 a20
  rw [hl] at a25 a32
  generalize stretch2 X1 = X2 at *
  obtain ⟨b16, b20, b25, b32, b34, b36, b41, b46, bc⟩ := stretch3_all X2
  rw [a16] at b16 b41
  rw [a20] at b20 b46
  rw [a25] at b25 b34 b41
  rw [a32] at b32 b36 b46
  generalize stretch3 X2 = X3 at *
  obtain ⟨c47, c48, c49, c50, c34, c36, c41, c46⟩ := stretch4_all X3 bc
  rw [c47, c48, c49, c50, c34, c36, c41, c46, b16, b20, b25, b32, b34, b36, b41, b46]
  rfl

end Cert.Branch
end
-- ==== Proof.BranchGates.lean ====
/- The kernel's chunks of one batch element and head are the tokens' chunks: what each row of the gates' array holds, and the
   windows' rows of features. -/
module

public import proofs.«01_k».proof.Proof.BranchHost

@[expose] public section

set_option maxRecDepth 16384
set_option backward.proofsInPublic true

noncomputable section

namespace Cert.Branch

open Cert.KernelIdeal Cert.KernelIdeal.Gen
open Idealize.ShloMosaic Idealize.ShloMosaic.TcCoe Idealize.ShloMosaic.Tactic
open Cert.BranchDir (rCum four)

variable (β : Fin 16) (h t : Fin 4)

theorem part0_apply (x : Vec Ideal S16x256x2x4 .f32) (r : Fin 64) : part0 x (ix4 β h t r) = x (ix4 β ⟨64 * t.val + r.val, by omega⟩ 0 h) := by
  pointwise [part0]
  exact congrArg (fun j => x (ix4 β j 0 h)) (Fin.ext (show t.val * 64 + r.val = 64 * t.val + r.val by omega))

theorem part1_apply (x : Vec Ideal S16x256x2x4 .f32) (r : Fin 64) : part1 x (ix4 β h t r) = x (ix4 β ⟨64 * t.val + r.val, by omega⟩ 1 h) := by
  pointwise [part1]
  exact congrArg (fun j => x (ix4 β j 1 h)) (Fin.ext (show t.val * 64 + r.val = 64 * t.val + r.val by omega))

theorem flip_apply (x : Vec Ideal S16x4x4x64 .f32) (r : Fin 64) : Host.reverse [3] x (ix4 β h t r) = x (ix4 β h t r.rev) := by
  pointwise
  rfl

theorem back_apply (x : Vec Ideal S16x4x4x64 .f32) (r : Fin 64) : back x (ix4 β h t r) = cum (fun j => x (ix4 β h t j.rev)) r.rev := by
  unfold back
  rw [flip_apply, cum_apply]
  exact congrArg (fun f => cum f r.rev) (funext fun j => flip_apply β h t x j)

theorem edge0_apply (x : Vec Ideal S16x4x4x64 .f32) : edge0 x (ix3 β h t) = x (ix4 β h t 63) := by
  pointwise [edge0]

theorem edge1_apply (x : Vec Ideal S16x4x4x64 .f32) : edge1 x (ix3 β h t) = x (ix4 β h t 0) := by
  pointwise [edge1]

theorem most_apply (e : Vec Ideal S16x4x4 .f32) (b i : Vec Ideal S16x4x4x64 .f32) : most e b i (ix3 β h t)
    = Finset.univ.fold max negInf fun r : Fin 64 => e (ix3 β h t) - b (ix4 β h t r) + i (ix4 β h t r) := by
  pointwise [most]
  rfl

theorem padded_apply (x : Vec Ideal S16x4x4x64 .f32) (r : Fin 64) : lanes (padded x) (ix5 β h t 0 (lane r)) = x (ix4 β h t r) := by
  pointwise [lanes, padded]

theorem spread_apply (x : Vec Ideal S16x4x4 .f32) (l : Fin 128) : spread x (ix5 β h t 0 l) = x (ix3 β h t) := by
  pointwise [spread, lanes]

theorem rows_apply (a0 a1 a2 a3 a4 a5 a6 a7 : Vec Ideal S16x4x4x1x128 .f32) (j : Fin 8) (n : Fin 128) :
    rows a0 a1 a2 a3 a4 a5 a6 a7 (ix5 β h t j n) = (![a0, a1, a2, a3, a4, a5, a6, a7] j) (ix5 β h t 0 n) := by
  fin_cases j <;> pointwise [rows] <;> rfl

/-- The last four rows, of chunks' own numbers. -/
theorem rows_spread (a0 a1 a2 a3 : Vec Ideal S16x4x4x1x128 .f32) (y4 y5 y6 y7 : Vec Ideal S16x4x4 .f32) (n : Fin 128) :
    rows a0 a1 a2 a3 (spread y4) (spread y5) (spread y6) (spread y7) (ix5 β h t 4 n) = y4 (ix3 β h t)
    ∧ rows a0 a1 a2 a3 (spread y4) (spread y5) (spread y6) (spread y7) (ix5 β h t 5 n) = y5 (ix3 β h t)
    ∧ rows a0 a1 a2 a3 (spread y4) (spread y5) (spread y6) (spread y7) (ix5 β h t 6 n) = y6 (ix3 β h t)
    ∧ rows a0 a1 a2 a3 (spread y4) (spread y5) (spread y6) (spread y7) (ix5 β h t 7 n) = y7 (ix3 β h t) :=
  ⟨(rows_apply β h t _ _ _ _ _ _ _ _ 4 n).trans (spread_apply β h t y4 n), (rows_apply β h t _ _ _ _ _ _ _ _ 5 n).trans (spread_apply β h t y5 n),
    (rows_apply β h t _ _ _ _ _ _ _ _ 6 n).trans (spread_apply β h t y6 n), (rows_apply β h t _ _ _ _ _ _ _ _ 7 n).trans (spread_apply β h t y7 n)⟩

theorem rows_flat (a0 a1 a2 a3 : Vec Ideal S16x4x4x1x128 .f32) (y4 y5 y6 y7 : Vec Ideal S16x4x4 .f32) (j : Fin 8) (hj : 4 ≤ j.val) (n : Fin 128) :
    rows a0 a1 a2 a3 (spread y4) (spread y5) (spread y6) (spread y7) (ix5 β h t j n)
      = rows a0 a1 a2 a3 (spread y4) (spread y5) (spread y6) (spread y7) (ix5 β h t j 0) := by
  obtain ⟨p4, p5, p6, p7⟩ := rows_spread β h t a0 a1 a2 a3 y4 y5 y6 y7 n
  obtain ⟨q4, q5, q6, q7⟩ := rows_spread β h t a0 a1 a2 a3 y4 y5 y6 y7 0
  fin_cases j
  iterate 4 exact absurd hj (by decide)
  · exact p4.trans q4.symm
  · exact p5.trans q5.symm
  · exact p6.trans q6.symm
  · exact p7.trans q7.symm

/-! ## A block's chunks -/

variable (A : Vec Ideal S20480x16384 .f32) (i l : Vec Ideal S16x256x2x4 .f32)
  (x0 x1 : Vec Ideal S256x128 .f32) (x2 : Vec Ideal S256x256 .f32) (x4 : Vec Ideal S1x1x4x8x128 .f32)
  (hq : ∀ r a, x0 (ix2 r a) = A (ix2 (row β r) ⟨4096 + 128 * h.val + a.val, by omega⟩))
  (hk : ∀ r a, x1 (ix2 r a) = A (ix2 (row β r) ⟨4608 + 128 * h.val + a.val, by omega⟩))
  (hv : ∀ r e, x2 (ix2 r e) = A (ix2 (row β r) ⟨5120 + 256 * h.val + e.val, by omega⟩))
  (hg : ∀ o j n, x4 (ix5 0 0 o j n) = gateRows i l (ix5 β h o j n))

include hg in
theorem flat_of : Flat x4 := by
  intro o j n hj
  rw [hg, hg]
  exact rows_flat β h o _ _ _ _ _ _ _ _ j hj n

include hq hk hv hg

theorem chunksF_eq (n : ℕ) : chunksF x0 x1 x2 x4 n = chunkIn A i l 0 β h (four n) := by
  have hb : ∀ r, x4 (ix5 0 0 (four n) 0 (lane r)) = cum (fun j => l (ix4 β (tok 0 (four n) j) 0 h)) r := by
    intro r
    rw [hg]; unfold gateRows; rw [rows_apply]
    refine (padded_apply β h _ _ r).trans ?_
    rw [cum_apply]
    exact congrArg (fun f => cum f r) (funext fun j => part0_apply β h _ l j)
  have hi : ∀ r, x4 (ix5 0 0 (four n) 1 (lane r)) = i (ix4 β (tok 0 (four n) r) 0 h) := by
    intro r
    rw [hg]; unfold gateRows; rw [rows_apply]
    exact (padded_apply β h _ _ r).trans (part0_apply β h _ i r)
  have hl : rCum (part0 l) (ix4 β h (four n) 63) = cum (fun j => l (ix4 β (tok 0 (four n) j) 0 h)) 63 := by
    rw [cum_apply]
    exact congrArg (fun f => cum f 63) (funext fun j => part0_apply β h _ l j)
  apply Chunk.ext
  · exact funext fun r => funext fun a => hq _ a
  · exact funext fun r => funext fun a => congrArg (· * scale) (hk _ a)
  · exact funext fun r => funext fun e => hv _ e
  · exact funext hb
  · exact funext hi
  · show x4 (ix5 0 0 (four n) 4 0) = _
    rw [hg]; unfold gateRows
    exact (rows_spread β h _ _ _ _ _ _ _ _ _ 0).1.trans ((edge0_apply β h _ _).trans hl)
  · show x4 (ix5 0 0 (four n) 6 0) = _
    rw [hg]; unfold gateRows
    refine (rows_spread β h _ _ _ _ _ _ _ _ _ 0).2.2.1.trans ((most_apply β h _ _ _ _).trans ?_)
    rw [edge0_apply, hl]
    unfold chunkIn
    dsimp only
    refine congrArg (fun f => (Finset.univ : Finset (Fin 64)).fold max negInf f) (funext fun r => ?_)
    rw [part0_apply, cum_apply]
    exact congrArg (fun f => _ - cum f r + _) (funext fun j => part0_apply β h _ l j)

theorem chunksB_eq (n : ℕ) (hn : n < 4) : chunksB x0 x1 x2 x4 n = chunkIn A i l 1 β h (four n) := by
  have hbf : ∀ j : Fin 64, part1 l (ix4 β h (bwdIx n) j.rev) = l (ix4 β (tok 1 (four n) j) 1 h) := by
    intro j
    rw [part1_apply]
    exact congrArg (fun y => l (ix4 β y 1 h)) (Fin.ext (show 64 * ((3 - n) % 4) + (64 - (j.val + 1)) = 255 - (64 * (n % 4) + j.val) by omega))
  have hif : ∀ j : Fin 64, part1 i (ix4 β h (bwdIx n) j.rev) = i (ix4 β (tok 1 (four n) j) 1 h) := by
    intro j
    rw [part1_apply]
    exact congrArg (fun y => i (ix4 β y 1 h)) (Fin.ext (show 64 * ((3 - n) % 4) + (64 - (j.val + 1)) = 255 - (64 * (n % 4) + j.val) by omega))
  have hrow : ∀ j : Fin 64, (⟨64 * ((3 - n) % 4) + (Fin.rev j).val, by omega⟩ : Fin 256) = tok 1 (four n) j := fun j =>
    Fin.ext (show 64 * ((3 - n) % 4) + (64 - (j.val + 1)) = 255 - (64 * (n % 4) + j.val) by omega)
  have hbk : ∀ r : Fin 64, back (part1 l) (ix4 β h (bwdIx n) r.rev) = cum (fun j => l (ix4 β (tok 1 (four n) j) 1 h)) r := by
    intro r
    rw [back_apply, Fin.rev_rev]
    exact congrArg (fun f => cum f r) (funext hbf)
  have hl : back (part1 l) (ix4 β h (bwdIx n) 0) = cum (fun j => l (ix4 β (tok 1 (four n) j) 1 h)) 63 := hbk 63
  apply Chunk.ext
  · exact funext fun r => funext fun a => (hq _ a).trans (congrArg (fun y => A (ix2 (row β y) _)) (hrow r))
  · exact funext fun r => funext fun a => congrArg (· * scale) ((hk _ a).trans (congrArg (fun y => A (ix2 (row β y) _)) (hrow r)))
  · exact funext fun r => funext fun e => (hv _ e).trans (congrArg (fun y => A (ix2 (row β y) _)) (hrow r))
  · funext r
    show x4 (ix5 0 0 (bwdIx n) 2 (lane r.rev)) = _
    rw [hg]; unfold gateRows; rw [rows_apply]
    exact (padded_apply β h _ _ r.rev).trans (hbk r)
  · funext r
    show x4 (ix5 0 0 (bwdIx n) 3 (lane r.rev)) = _
    rw [hg]; unfold gateRows; rw [rows_apply]
    exact (padded_apply β h _ _ r.rev).trans (hif r)
  · show x4 (ix5 0 0 (bwdIx n) 5 0) = _
    rw [hg]; unfold gateRows
    exact (rows_spread β h _ _ _ _ _ _ _ _ _ 0).2.1.trans ((edge1_apply β h _ _).trans hl)
  · show x4 (ix5 0 0 (bwdIx n) 7 0) = _
    rw [hg]; unfold gateRows
    refine (rows_spread β h _ _ _ _ _ _ _ _ _ 0).2.2.2.trans ((most_apply β h _ _ _ _).trans ?_)
    rw [edge1_apply, hl]
    refine (Chunk.fold_rev _).symm.trans ?_
    unfold chunkIn
    dsimp only
    refine congrArg (fun f => (Finset.univ : Finset (Fin 64)).fold max negInf f) (funext fun r => ?_)
    rw [hbk, hif]

theorem chunks_eq (d : Fin 2) (n : ℕ) (hn : n < 4) : chunks x0 x1 x2 x4 d n = chunkIn A i l d β h (four n) := by
  fin_cases d
  · exact chunksF_eq β h A i l x0 x1 x2 x4 hq hk hv hg n
  · exact chunksB_eq β h A i l x0 x1 x2 x4 hq hk hv hg n hn

omit hq hk hv hg

/-- A state depends on the chunks before it only. -/
theorem stateAt_congr (xs ys : ℕ → Chunk) (s : State) (n : ℕ) (he : ∀ t, t < n → xs t = ys t) : stateAt xs s n = stateAt ys s n := by
  induction n with
  | zero => rfl
  | succ n ih =>
    unfold stateAt
    rw [he n (Nat.lt_succ_self n), ih fun t ht => he t (Nat.lt_succ_of_lt ht)]

theorem outAt_congr (xs ys : ℕ → Chunk) (s : State) (n : ℕ) (he : ∀ t, t ≤ n → xs t = ys t) (r : Fin 64) (e : Fin 256) :
    outAt xs s n r e = outAt ys s n r e := by
  unfold outAt
  rw [he n le_rfl, stateAt_congr xs ys s n fun t ht => he t (Nat.le_of_lt ht)]

end Cert.Branch
end
-- ==== Proof.BranchArray.lean ====
/- The arrays the mLSTM branch's kernel leaves: block by block they are the reference's results of the same arguments. -/
module

public import proofs.«01_k».proof.Proof.BranchFrame
public import proofs.«01_k».proof.Proof.BranchGates
public import Idealize.ShloMosaic.Lib.Pipeline.ValueKit

@[expose] public section

set_option maxRecDepth 16384

noncomputable section

namespace Cert.Branch

open Cert.KernelIdeal Cert.KernelIdeal.Gen
open Idealize.ShloMosaic Idealize.ShloMosaic.TcCoe Idealize.ShloMosaic.Tactic
open Idealize.ShloMosaic.Pipeline (Dat Cfg Window)
open Cert.BranchDir (four)

/-! ## The blocks -/

/-- The batch element and the head of a grid point. -/
def elt (t : Fin grid0.N) : Fin 16 := ⟨t.val / 4, by have : t.val < 64 := t.isLt; omega⟩
def head (t : Fin grid0.N) : Fin 4 := ⟨t.val % 4, Nat.mod_lt _ (by decide)⟩

theorem index_in (t : Fin grid0.N) : win0_0.index t = ![t.val / 4, 32 + t.val % 4] ∧ win0_1.index t = ![t.val / 4, 36 + t.val % 4]
    ∧ win0_2.index t = ![t.val / 4, 20 + t.val % 4] ∧ win0_3.index t = ![t.val / 4, 24 + t.val % 4]
    ∧ win0_4.index t = ![t.val / 4, t.val % 4, 0, 0, 0] ∧ win0_5.index t = ![t.val / 4, 0, t.val % 4, 0, 0]
    ∧ win0_6.index t = ![t.val / 4, 0, t.val % 4, 0, 0] ∧ win0_7.index t = ![t.val / 4, 0, t.val % 4, 0, 0] ∧ win0_8.index t = ![0, 0] := by
  revert t; decide +kernel
theorem index_out (t : Fin grid0.N) : win0_9.index t = ![t.val / 4, t.val % 4] ∧ win0_10.index t = ![t.val / 4, 0, t.val % 4, 0, 0]
    ∧ win0_11.index t = ![t.val / 4, 0, t.val % 4, 0, 0] ∧ win0_12.index t = ![t.val / 4, 0, t.val % 4, 0, 0] := by
  revert t; decide +kernel

variable (m : (ℓ : Loc nD τ sig) → Buf (Elt Ideal) ℓ) (c : Dev nD)

/-! ## The small arrays the host makes of the initial states and of the norm's weights -/

def norms (x : Vec Ideal S16x2x4x128 .f32) : Vec Ideal S16x2x4x1x128 .f32 :=
  broadcastInDim S16x2x4x1x128 ![0, 1, 2, 4] bcast_S16x2x4x128_S16x2x4x1x128_0_1_2_4 x
def maxima (x : Vec Ideal S16x2x4 .f32) : Vec Ideal S16x2x4x1x128 .f32 :=
  broadcastInDim S16x2x4x1x128 ![0, 1, 2, 3, 4] bcast_S16x2x4x1x1_S16x2x4x1x128_0_1_2_3_4 (broadcastInDim S16x2x4x1x1 ![0, 1, 2] bcast_S16x2x4_S16x2x4x1x1_0_1_2 x)
def weights (x : Vec Ideal S256 .f32) : Vec Ideal S1x256 .f32 := shapeCast S1x256 x shapeCasts_S256_S1x256

theorem norms_apply (x : Vec Ideal S16x2x4x128 .f32) (β : Fin 16) (d : Fin 2) (h : Fin 4) (a : Fin 128) :
    norms x (ix5 β d h 0 a) = x (ix4 β d h a) := by pointwise [norms]
theorem maxima_apply (x : Vec Ideal S16x2x4 .f32) (β : Fin 16) (d : Fin 2) (h : Fin 4) (l : Fin 128) :
    maxima x (ix5 β d h 0 l) = x (ix3 β d h) := by pointwise [maxima]
theorem weights_apply (x : Vec Ideal S256 .f32) (e : Fin 256) : weights x (ix2 0 e) = x (ix1 e) := by pointwise [weights]

theorem stretch5_small (X : Valuation τ sig (Elt Ideal)) :
    stretch5 X (Proc.devRef .tc main_v69) = maxima (stretch5 X (Proc.devRef .tc main_arg6))
    ∧ stretch5 X (Proc.devRef .tc main_v70) = norms (stretch5 X (Proc.devRef .tc main_arg5))
    ∧ stretch5 X (Proc.devRef .tc main_v71) = weights (stretch5 X (Proc.devRef .tc main_arg7)) := by
  dsimp only [stretch5]
  simp only [hostOps0_16]
  refine ⟨?_, ?_, ?_⟩ <;> after_results <;> rfl

theorem V_maxima : V m c main_v69 = maxima (m ((c : Thread nD τ).loc main_arg6)) :=
  (stretch5_small _).1.trans (congrArg maxima (V_main_arg6 m c))
theorem V_norms : V m c main_v70 = norms (m ((c : Thread nD τ).loc main_arg5)) :=
  (stretch5_small _).2.1.trans (congrArg norms (V_main_arg5 m c))
theorem V_weights : V m c main_v71 = weights (m ((c : Thread nD τ).loc main_arg7)) :=
  (stretch5_small _).2.2.trans (congrArg weights (V_main_arg7 m c))

/-! ## The input windows' blocks -/

variable (t : Fin cfg0.N)

theorem block0 (r : Fin 256) (a : Fin 128) : iblk m c 0 t (ix2 r a)
    = m ((c : Thread nD τ).loc main_arg0) (ix2 (row (elt t) r) ⟨4096 + 128 * (head t).val + a.val, by omega⟩) := by
  unfold iblk
  rw [show V m c (Pipeline.arrRef spec0 0) = m ((c : Thread nD τ).loc main_arg0) from V_main_arg0 m c]
  blk_ext [(index_in t).1, elt, head]

theorem block1 (r : Fin 256) (a : Fin 128) : iblk m c 1 t (ix2 r a)
    = m ((c : Thread nD τ).loc main_arg0) (ix2 (row (elt t) r) ⟨4608 + 128 * (head t).val + a.val, by omega⟩) := by
  unfold iblk
  rw [show V m c (Pipeline.arrRef spec0 1) = m ((c : Thread nD τ).loc main_arg0) from V_main_arg0 m c]
  blk_ext [(index_in t).2.1, elt, head]

theorem block2 (r e : Fin 256) : iblk m c 2 t (ix2 r e)
    = m ((c : Thread nD τ).loc main_arg0) (ix2 (row (elt t) r) ⟨5120 + 256 * (head t).val + e.val, by omega⟩) := by
  unfold iblk
  rw [show V m c (Pipeline.arrRef spec0 2) = m ((c : Thread nD τ).loc main_arg0) from V_main_arg0 m c]
  blk_ext [(index_in t).2.2.1, elt, head]

theorem block3 (r e : Fin 256) : iblk m c 3 t (ix2 r e)
    = m ((c : Thread nD τ).loc main_arg0) (ix2 (row (elt t) r) ⟨6144 + 256 * (head t).val + e.val, by omega⟩) := by
  unfold iblk
  rw [show V m c (Pipeline.arrRef spec0 3) = m ((c : Thread nD τ).loc main_arg0) from V_main_arg0 m c]
  blk_ext [(index_in t).2.2.2.1, elt, head]

/-- The two gates of the tokens, from the program's arguments. -/
abbrev iOf : Vec Ideal S16x256x2x4 .f32 := BranchRef.IG (m ((c : Thread nD τ).loc main_arg1)) (m ((c : Thread nD τ).loc main_arg2))
abbrev lOf : Vec Ideal S16x256x2x4 .f32 := BranchRef.LF (m ((c : Thread nD τ).loc main_arg1)) (m ((c : Thread nD τ).loc main_arg3))

theorem block4 (o : Fin 4) (j : Fin 8) (n : Fin 128) : iblk m c 4 t (ix5 0 0 o j n)
    = gateRows (iOf m c) (lOf m c) (ix5 (elt t) (head t) o j n) := by
  unfold iblk
  rw [show V m c (Pipeline.arrRef spec0 4) = _ from V_gates m c]
  generalize gateRows (iOf m c) (lOf m c) = g
  blk_ext [(index_in t).2.2.2.2.1, elt, head]

theorem block5 (d : Fin 2) (a : Fin 128) (e : Fin 256) : iblk m c 5 t (ix5 0 d 0 a e)
    = m ((c : Thread nD τ).loc main_arg4) (ix5 (elt t) d (head t) a e) := by
  unfold iblk
  rw [show V m c (Pipeline.arrRef spec0 5) = m ((c : Thread nD τ).loc main_arg4) from V_main_arg4 m c]
  blk_ext [(index_in t).2.2.2.2.2.1, elt, head]

theorem block6 (d : Fin 2) (a : Fin 128) : iblk m c 6 t (ix5 0 d 0 0 a)
    = m ((c : Thread nD τ).loc main_arg5) (ix4 (elt t) d (head t) a) := by
  refine Eq.trans ?_ (norms_apply _ (elt t) d (head t) a)
  unfold iblk
  rw [show V m c (Pipeline.arrRef spec0 6) = _ from V_norms m c]
  generalize norms (m ((c : Thread nD τ).loc main_arg5)) = g
  blk_ext [(index_in t).2.2.2.2.2.2.1, elt, head]

theorem block7 (d : Fin 2) (l : Fin 128) : iblk m c 7 t (ix5 0 d 0 0 l)
    = m ((c : Thread nD τ).loc main_arg6) (ix3 (elt t) d (head t)) := by
  refine Eq.trans ?_ (maxima_apply _ (elt t) d (head t) l)
  unfold iblk
  rw [show V m c (Pipeline.arrRef spec0 7) = _ from V_maxima m c]
  generalize maxima (m ((c : Thread nD τ).loc main_arg6)) = g
  blk_ext [(index_in t).2.2.2.2.2.2.2.1, elt, head]

theorem block8 (e : Fin 256) : iblk m c 8 t (ix2 0 e) = m ((c : Thread nD τ).loc main_arg7) (ix1 e) := by
  refine Eq.trans ?_ (weights_apply _ e)
  unfold iblk
  rw [show V m c (Pipeline.arrRef spec0 8) = _ from V_weights m c]
  generalize weights (m ((c : Thread nD τ).loc main_arg7)) = g
  blk_ext [(index_in t).2.2.2.2.2.2.2.2]

/-! ## What each grid point leaves -/

theorem state_of (x5 : Vec Ideal S1x2x1x128x256 .f32) (x6 x7 : Vec Ideal S1x2x1x1x128 .f32) (y5 : Vec Ideal S16x2x4x128x256 .f32) (y6 : Vec Ideal S16x2x4x128 .f32)
    (y7 : Vec Ideal S16x2x4 .f32) (d : Fin 2) (β : Fin 16) (h : Fin 4) (h5 : ∀ a e, x5 (ix5 0 d 0 a e) = y5 (ix5 β d h a e))
    (h6 : ∀ a, x6 (ix5 0 d 0 0 a) = y6 (ix4 β d h a)) (h7 : x7 (ix5 0 d 0 0 0) = y7 (ix3 β d h)) :
    state0 x5 x6 x7 d = BranchRef.stateIn y5 y6 y7 d β h :=
  State.ext (funext fun a => funext fun e => h5 a e) (funext fun a => h6 a) h7

abbrev chunksOf (d : Fin 2) : ℕ → Chunk := chunks (iblk m c 0 t) (iblk m c 1 t) (iblk m c 2 t) (iblk m c 4 t) d
abbrev argChunks (d : Fin 2) : ℕ → Chunk := BranchRef.chunksIn (m ((c : Thread nD τ).loc main_arg0)) (m ((c : Thread nD τ).loc main_arg1))
  (m ((c : Thread nD τ).loc main_arg2)) (m ((c : Thread nD τ).loc main_arg3)) d (elt t) (head t)
abbrev argState (d : Fin 2) : State := BranchRef.stateIn (m ((c : Thread nD τ).loc main_arg4)) (m ((c : Thread nD τ).loc main_arg5))
  (m ((c : Thread nD τ).loc main_arg6)) d (elt t) (head t)

theorem block_flat : Flat (iblk m c 4 t) := flat_of (elt t) (head t) (iOf m c) (lOf m c) _ (block4 m c t)

theorem block7_flat (d : Fin 2) (l : Fin 128) : iblk m c 7 t (ix5 0 d 0 0 l) = iblk m c 7 t (ix5 0 d 0 0 0) :=
  (block7 m c t d l).trans (block7 m c t d 0).symm

theorem chunksOf_eq (d : Fin 2) (n : ℕ) (hn : n < 4) : chunksOf m c t d n = argChunks m c t d n :=
  chunks_eq (elt t) (head t) (m ((c : Thread nD τ).loc main_arg0)) (iOf m c) (lOf m c) _ _ _ _ (block0 m c t) (block1 m c t) (block2 m c t) (block4 m c t) d n hn

theorem state_eq (d : Fin 2) : state0 (iblk m c 5 t) (iblk m c 6 t) (iblk m c 7 t) d = argState m c t d :=
  state_of _ _ _ _ _ _ d (elt t) (head t) (block5 m c t d) (block6 m c t d) (block7 m c t d 0)

abbrev argLast (d : Fin 2) : State := BranchRef.lastIn (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))
  (m ((c : Thread nD τ).loc main_arg6)) d (elt t) (head t)

theorem last_eq (d : Fin 2) : stateAt (chunksOf m c t d) (state0 (iblk m c 5 t) (iblk m c 6 t) (iblk m c 7 t) d) 4 = argLast m c t d := by
  rw [state_eq]
  exact stateAt_congr _ _ _ 4 fun n hn => chunksOf_eq m c t d n hn

theorem cAt_apply (d : Fin 2) (a : Fin 128) (e : Fin 256) : cAt m c t (ix5 0 d 0 a e) = (argLast m c t d).C a e := by
  rw [← last_eq]
  exact outC_apply (x0 := iblk m c 0 t) (x1 := iblk m c 1 t) (x2 := iblk m c 2 t) (x4 := iblk m c 4 t) (hx := block_flat m c t) (h7 := block7_flat m c t) ..

theorem nAt_apply (d : Fin 2) (a : Fin 128) : nAt m c t (ix5 0 d 0 0 a) = (argLast m c t d).n a := by
  rw [← last_eq]
  exact outN_apply (x0 := iblk m c 0 t) (x1 := iblk m c 1 t) (x2 := iblk m c 2 t) (x4 := iblk m c 4 t) (hx := block_flat m c t) (h7 := block7_flat m c t) ..

theorem mAt_apply (d : Fin 2) (l : Fin 128) : mAt m c t (ix5 0 d 0 0 l) = (argLast m c t d).m := by
  rw [← last_eq]
  exact outM_apply (x0 := iblk m c 0 t) (x1 := iblk m c 1 t) (x2 := iblk m c 2 t) (x4 := iblk m c 4 t) (hx := block_flat m c t) (h7 := block7_flat m c t) ..

abbrev argBoth : Fin 256 → Fin 256 → Val := BranchRef.bothIn (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))
  (m ((c : Thread nD τ).loc main_arg6)) (elt t) (head t)

theorem both_eq (r e : Fin 256) : both (iblk m c 0 t) (iblk m c 1 t) (iblk m c 2 t) (iblk m c 4 t) (iblk m c 5 t) (iblk m c 6 t) (iblk m c 7 t) r e
    = argBoth m c t r e := by
  unfold both
  rw [state_eq, state_eq]
  exact congrArg₂ (· + ·) (outAt_congr _ _ _ _ (fun n hn => chunksOf_eq m c t 0 n (by omega)) _ e)
    (outAt_congr _ _ _ _ (fun n hn => chunksOf_eq m c t 1 n (by omega)) _ e)

theorem yAt_apply (r e : Fin 256) : yAt m c t (ix2 r e) = gated (argBoth m c t r) (fun e => m ((c : Thread nD τ).loc main_arg7) (ix1 e))
    (fun e => m ((c : Thread nD τ).loc main_arg0) (ix2 (row (elt t) r) ⟨6144 + 256 * (head t).val + e.val, by omega⟩)) e := by
  refine Eq.trans (outY_apply (x0 := iblk m c 0 t) (x1 := iblk m c 1 t) (x2 := iblk m c 2 t) (x4 := iblk m c 4 t) (hx := block_flat m c t)
    (h7 := block7_flat m c t) ..) ?_
  rw [show both (iblk m c 0 t) (iblk m c 1 t) (iblk m c 2 t) (iblk m c 4 t) (iblk m c 5 t) (iblk m c 6 t) (iblk m c 7 t) r = argBoth m c t r from
    funext fun e => both_eq m c t r e]
  exact congrArg₂ (fun w o => gated _ w o e) (funext fun e => block8 m c t e) (funext fun e => block3 m c t r e)

end Cert.Branch
end
-- ==== Proof.Branch.lean ====
/- The mLSTM branch: the kernel's results are the reference's, of the same arguments. -/
module

public import proofs.«01_k».proof.Proof.BranchArray
public import proofs.«01_k».proof.Proof.Gen.ReferenceIdeal.Run
public import Idealize.ShloMosaic.Lib.ValueIdx

@[expose] public section

set_option maxRecDepth 16384

noncomputable section

namespace Cert.Branch

open Cert.KernelIdeal Cert.KernelIdeal.Gen
open Idealize.ShloMosaic Idealize.ShloMosaic.TcCoe Idealize.ShloMosaic.Tactic Idealize.SL.Sem
open Idealize.ShloMosaic.Pipeline (Dat Cfg Window)
open Cert.ReferenceIdeal.Read (val_main_v486 val_main_v489 val_main_v496 val_main_v498)

variable (m : (ℓ : Loc nD τ sig) → Buf (Elt Ideal) ℓ) (c : Dev nD)

/-- An index of a state's block, by its free coordinates. -/
theorem eq_ix_C (z : S1x2x1x128x256.Idx) : ∃ d a e, z = ix5 0 d 0 a e := by
  refine ⟨z 1, z 3, z 4, funext fun a => ?_⟩
  fin_cases a
  · exact Subsingleton.elim (α := Fin 1) _ _
  · rfl
  · exact Subsingleton.elim (α := Fin 1) _ _
  · rfl
  · rfl

theorem eq_ix_n (z : S1x2x1x1x128.Idx) : ∃ d a, z = ix5 0 d 0 0 a := by
  refine ⟨z 1, z 4, funext fun a => ?_⟩
  fin_cases a
  · exact Subsingleton.elim (α := Fin 1) _ _
  · rfl
  · exact Subsingleton.elim (α := Fin 1) _ _
  · exact Subsingleton.elim (α := Fin 1) _ _
  · rfl

theorem eq_ix_y (z : S256x256.Idx) : ∃ r e, z = ix2 r e := by
  refine ⟨z 0, z 1, funext fun a => ?_⟩
  fin_cases a <;> rfl

/-! ## The four result arrays -/

/-- The reference's result C, of the program's arguments. -/
abbrev ref_C := val_main_v489 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6))

theorem arr_C : (dats m 0 c).arrAt 10 cfg0.N = ref_C m c := by
  refine (dats m 0 c).arrAt_eq_of_covers 10 _ (by decide +kernel) fun t hf y => ?_
  obtain ⟨v, hv⟩ : ∃ v, v = ref_C m c := ⟨_, rfl⟩
  rw [← hv]
  have hz : ∀ z : S1x2x1x128x256.Idx, cAt m c t z = v (((View.whole main_v72_1).slice (win0_10.rect t)).emb z) := by
    intro z
    obtain ⟨d, a, e, rfl⟩ := eq_ix_C z
    refine (cAt_apply m c t d a e).trans (((congrFun hv _).trans (BranchRef.C_apply (elt t) (head t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) d a e)).symm.trans ?_)
    blk_ext [(index_out t).2.1, elt, head]
  blk_simp
  rw [after10]
  frame_out
  exact hz y

/-- The reference's result n, of the program's arguments. -/
abbrev ref_n := val_main_v496 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6))

theorem arr_n : (dats m 0 c).arrAt 11 cfg0.N = ref_n m c := by
  refine (dats m 0 c).arrAt_eq_of_covers 11 _ (by decide +kernel) fun t hf y => ?_
  obtain ⟨v, hv⟩ : ∃ v, v = ref_n m c := ⟨_, rfl⟩
  rw [← hv]
  have hz : ∀ z : S1x2x1x1x128.Idx, nAt m c t z = v (((View.whole main_v72_2).slice (win0_11.rect t)).emb z) := by
    intro z
    obtain ⟨d, a, rfl⟩ := eq_ix_n z
    refine (nAt_apply m c t d a).trans (((congrFun hv _).trans (BranchRef.n_apply (elt t) (head t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) d a)).symm.trans ?_)
    blk_ext [(index_out t).2.2.1, elt, head]
  blk_simp
  rw [after11]
  frame_out
  exact hz y

/-- The reference's result m, of the program's arguments. -/
abbrev ref_m := val_main_v498 (F := Ideal) (m ((c : Thread nD τ).loc main_arg1)) (m ((c : Thread nD τ).loc main_arg2)) (m ((c : Thread nD τ).loc main_arg3)) (m ((c : Thread nD τ).loc main_arg6))

theorem arr_m : (dats m 0 c).arrAt 12 cfg0.N = ref_m m c := by
  refine (dats m 0 c).arrAt_eq_of_covers 12 _ (by decide +kernel) fun t hf y => ?_
  obtain ⟨v, hv⟩ : ∃ v, v = ref_m m c := ⟨_, rfl⟩
  rw [← hv]
  have hz : ∀ z : S1x2x1x1x128.Idx, mAt m c t z = v (((View.whole main_v72_3).slice (win0_12.rect t)).emb z) := by
    intro z
    obtain ⟨d, a, rfl⟩ := eq_ix_n z
    refine (mAt_apply m c t d a).trans (((congrFun hv _).trans (BranchRef.m_apply (elt t) (head t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) d a)).symm.trans ?_)
    blk_ext [(index_out t).2.2.2, elt, head]
  blk_simp
  rw [after12]
  frame_out
  exact hz y

/-- The reference's result y, of the program's arguments. -/
abbrev ref_y := val_main_v486 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem arr_y : (dats m 0 c).arrAt 9 cfg0.N = ref_y m c := by
  refine (dats m 0 c).arrAt_eq_of_covers 9 _ (by decide +kernel) fun t hf y => ?_
  obtain ⟨v, hv⟩ : ∃ v, v = ref_y m c := ⟨_, rfl⟩
  rw [← hv]
  have hz : ∀ z : S256x256.Idx, yAt m c t z = v (((View.whole main_v72_0).slice (win0_9.rect t)).emb z) := by
    intro z
    obtain ⟨r, e, rfl⟩ := eq_ix_y z
    refine (yAt_apply m c t r e).trans (((congrFun hv _).trans (BranchRef.y_apply (elt t) (head t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r e)).symm.trans ?_)
    blk_ext [(index_out t).1, elt, head]
  blk_simp
  rw [after9]
  frame_out
  exact hz y

/-- The kernel's run, each result being the reference's. -/
theorem run_value (ρ : Dev nD → PrngReg) : θ_run defs (onTc (τ := τ) (main (F := Ideal))) ⟨m, fun _ => 0, ρ⟩ (fun r => ∀ c : Dev nD,
      r.2.mem ((c.tc : Thread nD τ).loc main_v72_0) = ref_y m c
      ∧ r.2.mem ((c.tc : Thread nD τ).loc main_v72_1) = ref_C m c
      ∧ r.2.mem ((c.tc : Thread nD τ).loc main_v72_2) = ref_n m c
      ∧ r.2.mem ((c.tc : Thread nD τ).loc main_v72_3) = ref_m m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h.1 c).1.trans (arr_y m c), (h.1 c).2.1.trans (arr_C m c), (h.1 c).2.2.1.trans (arr_n m c),
    (h.1 c).2.2.2.trans (arr_m m c), h.2 c⟩) (θ_run_and (results m ρ) (unchanged m ρ))

end Cert.Branch
end
-- ==== Proof.lean ====
/- The certificate: for each program its frame, and for each pair that the kernel computes what the reference computes. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.InProj
public import proofs.«01_k».proof.Proof.Experts
public import proofs.«01_k».proof.Proof.SampleExperts
public import proofs.«01_k».proof.Proof.Merge
public import proofs.«01_k».proof.Proof.Gen.ReferenceIdeal.Read
public import proofs.«01_k».proof.Proof.BranchFloatFrame
public import proofs.«01_k».proof.Proof.BranchFrame
public import proofs.«01_k».proof.Proof.Branch
public import Idealize.ShloMosaic.Adequacy
public import Idealize.ShloMosaic.Init

@[expose] public section

noncomputable section

namespace Cert.Proof

open Idealize.ShloMosaic Idealize.SL.Sem

theorem frame_reference : Cert.quiescent_ReferenceIdeal := fun m ρ _ =>
  (θ_run Cert.ReferenceIdeal.defs _ _).mono (fun _ h => ⟨fun c => (h c).2.2.2.2, Idealize.ShloMosaic.sem_eq_zero_of_no_sems (by decide) _⟩)
    (Cert.ReferenceIdeal.Value.run m ρ)

theorem frame_reference2 : Cert.quiescent_Reference2Ideal := fun m ρ _ =>
  (θ_run Cert.Reference2Ideal.defs _ _).mono (fun _ h => ⟨fun c => (h c).2.2, Idealize.ShloMosaic.sem_eq_zero_of_no_sems (by decide) _⟩)
    (Cert.Reference2Ideal.Value.run m ρ)

theorem frame_reference3 : Cert.quiescent_Reference3Ideal := fun m ρ _ =>
  (θ_run Cert.Reference3Ideal.defs _ _).mono (fun _ h => ⟨fun c => (h c).2, Idealize.ShloMosaic.sem_eq_zero_of_no_sems (by decide) _⟩)
    (Cert.Reference3Ideal.Value.run m ρ)

theorem frame_reference4 : Cert.quiescent_Reference4Ideal := fun m ρ _ =>
  (θ_run Cert.Reference4Ideal.defs _ _).mono (fun _ h => ⟨fun c => (h c).2, Idealize.ShloMosaic.sem_eq_zero_of_no_sems (by decide) _⟩)
    (Cert.Reference4Ideal.Value.run m ρ)

theorem frame_reference5 : Cert.quiescent_Reference5Ideal := fun m ρ _ =>
  (θ_run Cert.Reference5Ideal.defs _ _).mono (fun _ h => ⟨fun c => (h c).2, Idealize.ShloMosaic.sem_eq_zero_of_no_sems (by decide) _⟩)
    (Cert.Reference5Ideal.Value.run m ρ)

/-- The mLSTM branch: both programs end with the same gated read-outs and the same three last states. -/
theorem algebraic : Cert.algebraic_KernelIdeal_ReferenceIdeal := by
  intro m ρ m' ρ' _ hagree
  refine ⟨_, _, _, _, Cert.Branch.run_value m ρ, (θ_run Cert.ReferenceIdeal.defs _ _).mono (fun _ h c =>
    ⟨(h c).1.trans ((Cert.ReferenceIdeal.Read.val_main_v486_eq _).trans ?_), (h c).2.1.trans ((Cert.ReferenceIdeal.Read.val_main_v489_eq _).trans ?_),
      (h c).2.2.1.trans ((Cert.ReferenceIdeal.Read.val_main_v496_eq _).trans ?_),
      (h c).2.2.2.1.trans ((Cert.ReferenceIdeal.Read.val_main_v498_eq _).trans ?_), (h c).2.2.2.2⟩)
    (Cert.ReferenceIdeal.Value.run m' ρ')⟩
  all_goals
    obtain ⟨h0, h1, h2, h3, h4, h5, h6, h7⟩ := hagree c
    simp only [Cert.Branch.ref_y, Cert.Branch.ref_C, Cert.Branch.ref_n, Cert.Branch.ref_m, ← h0, ← h1, ← h2, ← h3, ← h4, ← h5, ← h6, ← h7]

/-- The way into the mixer: both programs end with the products of both batches' tokens by the two groups of columns. -/
theorem algebraic2 : Cert.algebraic_Kernel2Ideal_Reference2Ideal := by
  intro m ρ m' ρ' _ hagree
  refine ⟨_, _, Cert.InProj.run m ρ, (θ_run Cert.Reference2Ideal.defs _ _).mono (fun _ h c => ⟨(h c).1.trans ?_, (h c).2.1.trans ?_, (h c).2.2⟩)
    (Cert.Reference2Ideal.Value.run m' ρ')⟩
  all_goals obtain ⟨h0, h1, h2, h3, h4⟩ := hagree c
  · exact Cert.InProj.agree_big m m' c h0 h1 h2 h3 h4
  · exact Cert.InProj.agree_small m m' c h0 h1 h2 h3 h4

set_option maxHeartbeats 2000000 in
/-- The second half: both programs end with the experts' weighted outputs added to the stream. -/
theorem algebraic3 : Cert.algebraic_Kernel3Ideal_Reference3Ideal := by
  intro m ρ m' ρ' _ hagree
  refine ⟨_, Cert.Experts.run m ρ, (θ_run Cert.Reference3Ideal.defs _ _).mono (fun _ h c => ⟨(h c).1.trans ?_, (h c).2⟩)
    (Cert.Reference3Ideal.Value.run m' ρ')⟩
  obtain ⟨h0, h1, h2, h3, h4, h5, h6, h7, h8, h9, h10, h11⟩ := hagree c
  rw [← h0, ← h1, ← h2, ← h3, ← h4, ← h5, ← h6, ← h7, ← h8, ← h9, ← h10, ← h11]
  refine Eq.trans ?_ (Cert.Experts.reference_value (StableHlo.launchContents m' c))
  unfold Cert.Reference3Ideal.Value.res_main_v117 Cert.Reference3Ideal.Value.res_main_v115
  rfl

/-- The merge: both programs end with the projected sum of the gated branches. -/
theorem algebraic4 : Cert.algebraic_Kernel4Ideal_Reference4Ideal := by
  intro m ρ m' ρ' _ hagree
  refine ⟨_, Cert.Merge.run m ρ, (θ_run Cert.Reference4Ideal.defs _ _).mono (fun _ h c => ⟨(h c).1.trans ?_, (h c).2⟩)
    (Cert.Reference4Ideal.Value.run m' ρ')⟩
  obtain ⟨h0, h1, h2, h3, h4, h5, h6, h7, h8, h9⟩ := hagree c
  rw [h0, h1, h2, h3, h4, h5, h6, h7, h8, h9, Cert.Merge.branch_reference, Cert.Merge.branch_reference, Cert.Merge.branch_reference,
    Cert.Merge.outer_reference]
  rfl

set_option maxHeartbeats 2000000 in
/-- The second half for the sample batch: both programs end with the experts' weighted outputs added to the stream. -/
theorem algebraic5 : Cert.algebraic_Kernel5Ideal_Reference5Ideal := by
  intro m ρ m' ρ' _ hagree
  refine ⟨_, Cert.SampleExperts.run m ρ, (θ_run Cert.Reference5Ideal.defs _ _).mono (fun _ h c => ⟨(h c).1.trans ?_, (h c).2⟩)
    (Cert.Reference5Ideal.Value.run m' ρ')⟩
  obtain ⟨h0, h1, h2, h3, h4, h5, h6, h7, h8, h9, h10, h11⟩ := hagree c
  rw [← h0, ← h1, ← h2, ← h3, ← h4, ← h5, ← h6, ← h7, ← h8, ← h9, ← h10, ← h11]
  refine Eq.trans ?_ (Cert.SampleExperts.reference_value (StableHlo.launchContents m' c))
  unfold Cert.Reference5Ideal.Value.res_main_v117 Cert.Reference5Ideal.Value.res_main_v115
  rfl

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  fun m ρ _ => Cert.BranchFloat.frame m ρ,
  fun m ρ _ => Cert.Branch.frame m ρ,
  frame_reference,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  trivial,
  algebraic,
  trivial,
  algebraic2,
  trivial,
  algebraic3,
  trivial,
  algebraic4,
  trivial,
  algebraic5⟩

end Cert.Proof

end
